-- ==== Defs.lean ====
def Pre_Kernel [hPre_tokens_in_range : Cert.Pre_tokens_in_range.Facts] (m : (ℓ : Loc Cert.Kernel.nD Cert.Kernel.τ Cert.Kernel.sig) → Buf (Elt Bits) ℓ) : Prop :=
  ∀ c : Dev Cert.Kernel.nD,
    (Cert.Pre_tokens_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Dlog [hPre_tokens_distinct : Cert.Pre_tokens_distinct.Facts] (m : (ℓ : Loc Cert.Dlog.nD Cert.Dlog.τ Cert.Dlog.sig) → Buf (Elt Bits) ℓ) : Prop :=
  ∀ c : Dev Cert.Dlog.nD,
    (Cert.Pre_tokens_distinct.fn (F := Bits) (m ((c.tc : Thread Cert.Dlog.nD Cert.Dlog.τ).loc Cert.Dlog.main_arg0)) (m ((c.tc : Thread Cert.Dlog.nD Cert.Dlog.τ).loc Cert.Dlog.main_arg1)) (m ((c.tc : Thread Cert.Dlog.nD Cert.Dlog.τ).loc Cert.Dlog.main_arg2))) = (fun _ => 1#1)

def Pre_DlogIdeal [hPre_tokens_distinct : Cert.Pre_tokens_distinct.Facts] (m : (ℓ : Loc Cert.DlogIdeal.nD Cert.DlogIdeal.τ Cert.DlogIdeal.sig) → Buf (Elt Ideal) ℓ) : Prop :=
  ∀ c : Dev Cert.DlogIdeal.nD,
    (Cert.Pre_tokens_distinct.fn (F := Ideal) (m ((c.tc : Thread Cert.DlogIdeal.nD Cert.DlogIdeal.τ).loc Cert.DlogIdeal.main_arg0)) (m ((c.tc : Thread Cert.DlogIdeal.nD Cert.DlogIdeal.τ).loc Cert.DlogIdeal.main_arg1)) (m ((c.tc : Thread Cert.DlogIdeal.nD Cert.DlogIdeal.τ).loc Cert.DlogIdeal.main_arg2))) = (fun _ => 1#1)

def Pre_DlogReferenceIdeal [hPre_tokens_distinct : Cert.Pre_tokens_distinct.Facts] (m : (ℓ : Loc Cert.DlogReferenceIdeal.nD Cert.DlogReferenceIdeal.τ Cert.DlogReferenceIdeal.sig) → Buf (Elt Ideal) ℓ) : Prop :=
  ∀ c : Dev Cert.DlogReferenceIdeal.nD,
    (Cert.Pre_tokens_distinct.fn (F := Ideal) (m ((c.tc : Thread Cert.DlogReferenceIdeal.nD Cert.DlogReferenceIdeal.τ).loc Cert.DlogReferenceIdeal.main_arg0)) (m ((c.tc : Thread Cert.DlogReferenceIdeal.nD Cert.DlogReferenceIdeal.τ).loc Cert.DlogReferenceIdeal.main_arg1)) (m ((c.tc : Thread Cert.DlogReferenceIdeal.nD Cert.DlogReferenceIdeal.τ).loc Cert.DlogReferenceIdeal.main_arg2))) = (fun _ => 1#1)

def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_AmaxReferenceIdeal (m : (ℓ : Loc Cert.AmaxReferenceIdeal.nD Cert.AmaxReferenceIdeal.τ Cert.AmaxReferenceIdeal.sig) → Buf (Elt Ideal) ℓ) : Prop :=
  True

def quiescent_Kernel [hKernel : Cert.Kernel.Facts] [hPre_tokens_in_range : Cert.Pre_tokens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Dlog [hDlog : Cert.Dlog.Facts] [hPre_tokens_distinct : Cert.Pre_tokens_distinct.Facts] : Prop :=
  ∀ (m : (ℓ : Loc Cert.Dlog.nD Cert.Dlog.τ Cert.Dlog.sig) → Buf (Elt Bits) ℓ) (g : Dev Cert.Dlog.nD → PrngReg), Pre_Dlog m →
    θ_run (Cert.Dlog.defs (F := Bits)) (onTc (τ := Cert.Dlog.τ) (Cert.Dlog.main (F := Bits))) ⟨m, fun _ => 0, g⟩ (fun r => (∀ c : Dev Cert.Dlog.nD,
      r.2.mem ((c.tc : Thread Cert.Dlog.nD Cert.Dlog.τ).loc Cert.Dlog.main_arg0) = m ((c.tc : Thread Cert.Dlog.nD Cert.Dlog.τ).loc Cert.Dlog.main_arg0)
      ∧ r.2.mem ((c.tc : Thread Cert.Dlog.nD Cert.Dlog.τ).loc Cert.Dlog.main_arg1) = m ((c.tc : Thread Cert.Dlog.nD Cert.Dlog.τ).loc Cert.Dlog.main_arg1)
      ∧ r.2.mem ((c.tc : Thread Cert.Dlog.nD Cert.Dlog.τ).loc Cert.Dlog.main_arg2) = m ((c.tc : Thread Cert.Dlog.nD Cert.Dlog.τ).loc Cert.Dlog.main_arg2))
      ∧ r.2.sem = fun _ => 0)

def quiescent_DlogIdeal [hDlogIdeal : Cert.DlogIdeal.Facts] [hPre_tokens_distinct : Cert.Pre_tokens_distinct.Facts] : Prop :=
  ∀ (m : (ℓ : Loc Cert.DlogIdeal.nD Cert.DlogIdeal.τ Cert.DlogIdeal.sig) → Buf (Elt Ideal) ℓ) (g : Dev Cert.DlogIdeal.nD → PrngReg), Pre_DlogIdeal m →
    θ_run (Cert.DlogIdeal.defs (F := Ideal)) (onTc (τ := Cert.DlogIdeal.τ) (Cert.DlogIdeal.main (F := Ideal))) ⟨m, fun _ => 0, g⟩ (fun r => (∀ c : Dev Cert.DlogIdeal.nD,
      r.2.mem ((c.tc : Thread Cert.DlogIdeal.nD Cert.DlogIdeal.τ).loc Cert.DlogIdeal.main_arg0) = m ((c.tc : Thread Cert.DlogIdeal.nD Cert.DlogIdeal.τ).loc Cert.DlogIdeal.main_arg0)
      ∧ r.2.mem ((c.tc : Thread Cert.DlogIdeal.nD Cert.DlogIdeal.τ).loc Cert.DlogIdeal.main_arg1) = m ((c.tc : Thread Cert.DlogIdeal.nD Cert.DlogIdeal.τ).loc Cert.DlogIdeal.main_arg1)
      ∧ r.2.mem ((c.tc : Thread Cert.DlogIdeal.nD Cert.DlogIdeal.τ).loc Cert.DlogIdeal.main_arg2) = m ((c.tc : Thread Cert.DlogIdeal.nD Cert.DlogIdeal.τ).loc Cert.DlogIdeal.main_arg2))
      ∧ r.2.sem = fun _ => 0)

def quiescent_DlogReferenceIdeal [hDlogReferenceIdeal : Cert.DlogReferenceIdeal.Facts] [hPre_tokens_distinct : Cert.Pre_tokens_distinct.Facts] : Prop :=
  ∀ (m : (ℓ : Loc Cert.DlogReferenceIdeal.nD Cert.DlogReferenceIdeal.τ Cert.DlogReferenceIdeal.sig) → Buf (Elt Ideal) ℓ) (g : Dev Cert.DlogReferenceIdeal.nD → PrngReg), Pre_DlogReferenceIdeal m →
    θ_run (Cert.DlogReferenceIdeal.defs (F := Ideal)) (onTc (τ := Cert.DlogReferenceIdeal.τ) (Cert.DlogReferenceIdeal.main (F := Ideal))) ⟨m, fun _ => 0, g⟩ (fun r => (∀ c : Dev Cert.DlogReferenceIdeal.nD,
      r.2.mem ((c.tc : Thread Cert.DlogReferenceIdeal.nD Cert.DlogReferenceIdeal.τ).loc Cert.DlogReferenceIdeal.main_arg0) = m ((c.tc : Thread Cert.DlogReferenceIdeal.nD Cert.DlogReferenceIdeal.τ).loc Cert.DlogReferenceIdeal.main_arg0)
      ∧ r.2.mem ((c.tc : Thread Cert.DlogReferenceIdeal.nD Cert.DlogReferenceIdeal.τ).loc Cert.DlogReferenceIdeal.main_arg1) = m ((c.tc : Thread Cert.DlogReferenceIdeal.nD Cert.DlogReferenceIdeal.τ).loc Cert.DlogReferenceIdeal.main_arg1)
      ∧ r.2.mem ((c.tc : Thread Cert.DlogReferenceIdeal.nD Cert.DlogReferenceIdeal.τ).loc Cert.DlogReferenceIdeal.main_arg2) = m ((c.tc : Thread Cert.DlogReferenceIdeal.nD Cert.DlogReferenceIdeal.τ).loc Cert.DlogReferenceIdeal.main_arg2))
      ∧ r.2.sem = fun _ => 0)

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ r.2.sem = fun _ => 0)

def quiescent_AmaxReferenceIdeal [hAmaxReferenceIdeal : Cert.AmaxReferenceIdeal.Facts] : Prop :=
  ∀ (m : (ℓ : Loc Cert.AmaxReferenceIdeal.nD Cert.AmaxReferenceIdeal.τ Cert.AmaxReferenceIdeal.sig) → Buf (Elt Ideal) ℓ) (g : Dev Cert.AmaxReferenceIdeal.nD → PrngReg), Pre_AmaxReferenceIdeal m →
    θ_run (Cert.AmaxReferenceIdeal.defs (F := Ideal)) (onTc (τ := Cert.AmaxReferenceIdeal.τ) (Cert.AmaxReferenceIdeal.main (F := Ideal))) ⟨m, fun _ => 0, g⟩ (fun r => (∀ c : Dev Cert.AmaxReferenceIdeal.nD,
      r.2.mem ((c.tc : Thread Cert.AmaxReferenceIdeal.nD Cert.AmaxReferenceIdeal.τ).loc Cert.AmaxReferenceIdeal.main_arg0) = m ((c.tc : Thread Cert.AmaxReferenceIdeal.nD Cert.AmaxReferenceIdeal.τ).loc Cert.AmaxReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_0) = v0 c
          ∧ r.2.mem ((c.tc : Thread Cert.ReferenceIdeal.nD Cert.ReferenceIdeal.τ).loc Cert.ReferenceIdeal.main_v10_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Dlog_DlogIdeal : Prop :=
  True

def algebraic_DlogIdeal_DlogReferenceIdeal [hDlogIdeal : Cert.DlogIdeal.Facts] [hDlogReferenceIdeal : Cert.DlogReferenceIdeal.Facts] [hPre_tokens_distinct : Cert.Pre_tokens_distinct.Facts] : Prop :=
  ∀ (m : (ℓ : Loc Cert.DlogIdeal.nD Cert.DlogIdeal.τ Cert.DlogIdeal.sig) → Buf (Elt Ideal) ℓ) (g : Dev Cert.DlogIdeal.nD → PrngReg)
    (m' : (ℓ : Loc Cert.DlogReferenceIdeal.nD Cert.DlogReferenceIdeal.τ Cert.DlogReferenceIdeal.sig) → Buf (Elt Ideal) ℓ) (g' : Dev Cert.DlogReferenceIdeal.nD → PrngReg), Pre_DlogIdeal m →
    (∀ c : Dev Cert.DlogIdeal.nD,
      m' ((c.tc : Thread Cert.DlogReferenceIdeal.nD Cert.DlogReferenceIdeal.τ).loc Cert.DlogReferenceIdeal.main_arg0) = m ((c.tc : Thread Cert.DlogIdeal.nD Cert.DlogIdeal.τ).loc Cert.DlogIdeal.main_arg0)
      ∧ m' ((c.tc : Thread Cert.DlogReferenceIdeal.nD Cert.DlogReferenceIdeal.τ).loc Cert.DlogReferenceIdeal.main_arg1) = m ((c.tc : Thread Cert.DlogIdeal.nD Cert.DlogIdeal.τ).loc Cert.DlogIdeal.main_arg1)
      ∧ m' ((c.tc : Thread Cert.DlogReferenceIdeal.nD Cert.DlogReferenceIdeal.τ).loc Cert.DlogReferenceIdeal.main_arg2) = m ((c.tc : Thread Cert.DlogIdeal.nD Cert.DlogIdeal.τ).loc Cert.DlogIdeal.main_arg2)) →
    ∃ (v0 : (c : Dev Cert.DlogIdeal.nD) → Buf (Elt Ideal) ((c.tc : Thread Cert.DlogIdeal.nD Cert.DlogIdeal.τ).loc Cert.DlogIdeal.main_v0)),
      θ_run (Cert.DlogIdeal.defs (F := Ideal)) (onTc (τ := Cert.DlogIdeal.τ) (Cert.DlogIdeal.main (F := Ideal))) ⟨m, fun _ => 0, g⟩ (fun r => ∀ c : Dev Cert.DlogIdeal.nD,
          r.2.mem ((c.tc : Thread Cert.DlogIdeal.nD Cert.DlogIdeal.τ).loc Cert.DlogIdeal.main_v0) = v0 c
          ∧ r.2.mem ((c.tc : Thread Cert.DlogIdeal.nD Cert.DlogIdeal.τ).loc Cert.DlogIdeal.main_arg0) = m ((c.tc : Thread Cert.DlogIdeal.nD Cert.DlogIdeal.τ).loc Cert.DlogIdeal.main_arg0)
          ∧ r.2.mem ((c.tc : Thread Cert.DlogIdeal.nD Cert.DlogIdeal.τ).loc Cert.DlogIdeal.main_arg1) = m ((c.tc : Thread Cert.DlogIdeal.nD Cert.DlogIdeal.τ).loc Cert.DlogIdeal.main_arg1)
          ∧ r.2.mem ((c.tc : Thread Cert.DlogIdeal.nD Cert.DlogIdeal.τ).loc Cert.DlogIdeal.main_arg2) = m ((c.tc : Thread Cert.DlogIdeal.nD Cert.DlogIdeal.τ).loc Cert.DlogIdeal.main_arg2))
      ∧ θ_run (Cert.DlogReferenceIdeal.defs (F := Ideal)) (onTc (τ := Cert.DlogReferenceIdeal.τ) (Cert.DlogReferenceIdeal.main (F := Ideal))) ⟨m', fun _ => 0, g'⟩ (fun r => ∀ c : Dev Cert.DlogReferenceIdeal.nD,
          r.2.mem ((c.tc : Thread Cert.DlogReferenceIdeal.nD Cert.DlogReferenceIdeal.τ).loc Cert.DlogReferenceIdeal.main_v18) = v0 c
          ∧ r.2.mem ((c.tc : Thread Cert.DlogReferenceIdeal.nD Cert.DlogReferenceIdeal.τ).loc Cert.DlogReferenceIdeal.main_arg0) = m' ((c.tc : Thread Cert.DlogReferenceIdeal.nD Cert.DlogReferenceIdeal.τ).loc Cert.DlogReferenceIdeal.main_arg0)
          ∧ r.2.mem ((c.tc : Thread Cert.DlogReferenceIdeal.nD Cert.DlogReferenceIdeal.τ).loc Cert.DlogReferenceIdeal.main_arg1) = m' ((c.tc : Thread Cert.DlogReferenceIdeal.nD Cert.DlogReferenceIdeal.τ).loc Cert.DlogReferenceIdeal.main_arg1)
          ∧ r.2.mem ((c.tc : Thread Cert.DlogReferenceIdeal.nD Cert.DlogReferenceIdeal.τ).loc Cert.DlogReferenceIdeal.main_arg2) = m' ((c.tc : Thread Cert.DlogReferenceIdeal.nD Cert.DlogReferenceIdeal.τ).loc Cert.DlogReferenceIdeal.main_arg2))

def preserves_Amax_AmaxIdeal : Prop :=
  True

def algebraic_AmaxIdeal_AmaxReferenceIdeal [hAmaxIdeal : Cert.AmaxIdeal.Facts] [hAmaxReferenceIdeal : Cert.AmaxReferenceIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.AmaxReferenceIdeal.nD Cert.AmaxReferenceIdeal.τ Cert.AmaxReferenceIdeal.sig) → Buf (Elt Ideal) ℓ) (g' : Dev Cert.AmaxReferenceIdeal.nD → PrngReg), Pre_AmaxIdeal m →
    (∀ c : Dev Cert.AmaxIdeal.nD,
      m' ((c.tc : Thread Cert.AmaxReferenceIdeal.nD Cert.AmaxReferenceIdeal.τ).loc Cert.AmaxReferenceIdeal.main_arg0) = m ((c.tc : Thread Cert.AmaxIdeal.nD Cert.AmaxIdeal.τ).loc Cert.AmaxIdeal.main_arg0)) →
    ∃ (v0 : (c : Dev Cert.AmaxIdeal.nD) → Buf (Elt Ideal) ((c.tc : Thread Cert.AmaxIdeal.nD Cert.AmaxIdeal.τ).loc Cert.AmaxIdeal.main_v0)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v0) = v0 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ θ_run (Cert.AmaxReferenceIdeal.defs (F := Ideal)) (onTc (τ := Cert.AmaxReferenceIdeal.τ) (Cert.AmaxReferenceIdeal.main (F := Ideal))) ⟨m', fun _ => 0, g'⟩ (fun r => ∀ c : Dev Cert.AmaxReferenceIdeal.nD,
          r.2.mem ((c.tc : Thread Cert.AmaxReferenceIdeal.nD Cert.AmaxReferenceIdeal.τ).loc Cert.AmaxReferenceIdeal.main_v1) = v0 c
          ∧ r.2.mem ((c.tc : Thread Cert.AmaxReferenceIdeal.nD Cert.AmaxReferenceIdeal.τ).loc Cert.AmaxReferenceIdeal.main_arg0) = m' ((c.tc : Thread Cert.AmaxReferenceIdeal.nD Cert.AmaxReferenceIdeal.τ).loc Cert.AmaxReferenceIdeal.main_arg0))

def Claim : Prop :=
  ∃ (hKernel : Cert.Kernel.Facts) (hKernelIdeal : Cert.KernelIdeal.Facts) (hReferenceIdeal : Cert.ReferenceIdeal.Facts) (hDlog : Cert.Dlog.Facts) (hDlogIdeal : Cert.DlogIdeal.Facts) (hDlogReferenceIdeal : Cert.DlogReferenceIdeal.Facts) (hAmax : Cert.Amax.Facts) (hAmaxIdeal : Cert.AmaxIdeal.Facts) (hAmaxReferenceIdeal : Cert.AmaxReferenceIdeal.Facts) (hPre_tokens_in_range : Cert.Pre_tokens_in_range.Facts) (hPre_tokens_distinct : Cert.Pre_tokens_distinct.Facts),
    quiescent_Kernel (hKernel := hKernel) (hPre_tokens_in_range := hPre_tokens_in_range)
    ∧ quiescent_KernelIdeal (hKernelIdeal := hKernelIdeal) (hPre_tokens_in_range := hPre_tokens_in_range)
    ∧ quiescent_ReferenceIdeal (hReferenceIdeal := hReferenceIdeal) (hPre_tokens_in_range := hPre_tokens_in_range)
    ∧ quiescent_Dlog (hDlog := hDlog) (hPre_tokens_distinct := hPre_tokens_distinct)
    ∧ quiescent_DlogIdeal (hDlogIdeal := hDlogIdeal) (hPre_tokens_distinct := hPre_tokens_distinct)
    ∧ quiescent_DlogReferenceIdeal (hDlogReferenceIdeal := hDlogReferenceIdeal) (hPre_tokens_distinct := hPre_tokens_distinct)
    ∧ quiescent_Amax (hAmax := hAmax)
    ∧ quiescent_AmaxIdeal (hAmaxIdeal := hAmaxIdeal)
    ∧ quiescent_AmaxReferenceIdeal (hAmaxReferenceIdeal := hAmaxReferenceIdeal)
    ∧ preserves_Kernel_KernelIdeal
    ∧ algebraic_KernelIdeal_ReferenceIdeal (hKernelIdeal := hKernelIdeal) (hReferenceIdeal := hReferenceIdeal) (hPre_tokens_in_range := hPre_tokens_in_range)
    ∧ preserves_Dlog_DlogIdeal
    ∧ algebraic_DlogIdeal_DlogReferenceIdeal (hDlogIdeal := hDlogIdeal) (hDlogReferenceIdeal := hDlogReferenceIdeal) (hPre_tokens_distinct := hPre_tokens_distinct)
    ∧ preserves_Amax_AmaxIdeal
    ∧ algebraic_AmaxIdeal_AmaxReferenceIdeal (hAmaxIdeal := hAmaxIdeal) (hAmaxReferenceIdeal := hAmaxReferenceIdeal)
-- ==== Pre_tokens_distinct.lean ====
abbrev S16384x256 : Shape := ⟨2, ![16384, 256]⟩
abbrev S256x128 : Shape := ⟨2, ![256, 128]⟩
abbrev S256x128x1 : Shape := ⟨3, ![256, 128, 1]⟩
abbrev S256x1x128 : Shape := ⟨3, ![256, 1, 128]⟩
abbrev S256x128x128 : Shape := ⟨3, ![256, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S_ : Shape := ⟨0, ![]⟩

class Facts : Prop where
  bcast_S256x128_S256x128x1_0_1 : S256x128.BroadcastsInDim S256x128x1 (![0, 1] : Fin 2 → Fin S256x128x1.rank)
  bcast_S256x128_S256x1x128_0_2 : S256x128.BroadcastsInDim S256x1x128 (![0, 2] : Fin 2 → Fin S256x1x128.rank)
  bcast_S256x128x1_S256x128x128_0_1_2 : S256x128x1.BroadcastsInDim S256x128x128 (![0, 1, 2] : Fin 3 → Fin S256x128x128.rank)
  bcast_S256x1x128_S256x128x128_0_1_2 : S256x1x128.BroadcastsInDim S256x128x128 (![0, 1, 2] : Fin 3 → Fin S256x128x128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S128x128_S1x128x128_1_2 : S128x128.BroadcastsInDim S1x128x128 (![1, 2] : Fin 2 → Fin S1x128x128.rank)
  bcast_S1x128x128_S256x128x128_0_1_2 : S1x128x128.BroadcastsInDim S256x128x128 (![0, 1, 2] : Fin 3 → Fin S256x128x128.rank)
  bcast_S_S256x128 : S_.BroadcastsInDim S256x128 (![] : Fin 0 → Fin S256x128.rank)
  reducesTo_S256x128x128_S256x128_d2 : S256x128x128.ReducesTo [2] S256x128
  h_S_ : 0 < S_.numel

variable [Facts]

def fn_part1 {F : FTy → Type} [FloatOps F] (main_v19 : IVec S256x128 1) (main_v20 : FVec F S256x128 .f32) (main_cst : FVec F S_ .f32) : IVec S256x128 1 :=
  let main_v21 : FVec F S256x128 .f32 := broadcastInDim S256x128 ![] bcast_S_S256x128 main_cst
  let main_v22 : IVec S256x128 1 := cmpf .olt main_v20 main_v21
  let main_v23 : IVec S256x128 1 := andi main_v19 main_v22
  main_v23

def fn {F : FTy → Type} [FloatOps F] (main_arg0 : FVec F S16384x256 .f32) (main_arg1 : IVec S256x128 32) (main_arg2 : FVec F S256x128 .f32) : IVec S256x128 1 :=
  let main_v0 : IVec S256x128x1 32 := broadcastInDim S256x128x1 ![0, 1] bcast_S256x128_S256x128x1_0_1 main_arg1
  let main_v1 : IVec S256x1x128 32 := broadcastInDim S256x1x128 ![0, 2] bcast_S256x128_S256x1x128_0_2 main_arg1
  let main_v2 : IVec S256x128x128 32 := broadcastInDim S256x128x128 ![0, 1, 2] bcast_S256x128x1_S256x128x128_0_1_2 main_v0
  let main_v3 : IVec S256x128x128 32 := broadcastInDim S256x128x128 ![0, 1, 2] bcast_S256x1x128_S256x128x128_0_1_2 main_v1
  let main_v4 : IVec S256x128x128 1 := cmpi .eq main_v2 main_v3
  let main_v5 : IVec S128 32 := iotaInDim S128 32 0
  let main_v6 : IVec S128x1 32 := broadcastInDim S128x1 ![0] bcast_S128_S128x1_0 main_v5
  let main_v7 : IVec S128 32 := iotaInDim S128 32 0
  let main_v8 : IVec S1x128 32 := broadcastInDim S1x128 ![1] bcast_S128_S1x128_1 main_v7
  let main_v9 : IVec S128x128 32 := broadcastInDim S128x128 ![0, 1] bcast_S128x1_S128x128_0_1 main_v6
  let main_v10 : IVec S128x128 32 := broadcastInDim S128x128 ![0, 1] bcast_S1x128_S128x128_0_1 main_v8
  let main_v11 : IVec S128x128 1 := cmpi .ne main_v9 main_v10
  let main_v12 : IVec S1x128x128 1 := broadcastInDim S1x128x128 ![1, 2] bcast_S128x128_S1x128x128_1_2 main_v11
  let main_v13 : IVec S256x128x128 1 := broadcastInDim S256x128x128 ![0, 1, 2] bcast_S1x128x128_S256x128x128_0_1_2 main_v12
  let main_v14 : IVec S256x128x128 1 := andi main_v4 main_v13
  let main_c : IVec S_ 32 := constantI S_ 32 0#32
  let main_v15 : IVec S256x128 32 := broadcastInDim S256x128 ![] bcast_S_S256x128 main_c
  let main_v16 : IVec S256x128 1 := cmpi .sge main_arg1 main_v15
  let main_c_0 : IVec S_ 1 := constantI S_ 1 0#1
  let main_v17 : IVec S256x128 1 := (fun x v => Host.reduce IntOp.ori x v reducesTo_S256x128x128_S256x128_d2 h_S_) main_v14 main_c_0
  let main_v18 : IVec S256x128 1 := noti main_v17
  let main_v19 : IVec S256x128 1 := andi main_v16 main_v18
  let main_v20 : FVec F S256x128 .f32 := Host.absf main_arg2
  let main_cst : FVec F S_ .f32 := constant S_ .f32 0x7F800000#32
  fn_part1 (F := F) main_v19 main_v20 main_cst
-- ==== Pre_tokens_in_range.lean ====
abbrev S16384x7168 : Shape := ⟨2, ![16384, 7168]⟩
abbrev S256x128 : Shape := ⟨2, ![256, 128]⟩
abbrev S32768x7168 : Shape := ⟨2, ![32768, 7168]⟩
abbrev S_ : Shape := ⟨0, ![]⟩

class Facts : Prop where
  bcast_S_S256x128 : S_.BroadcastsInDim S256x128 (![] : Fin 0 → Fin S256x128.rank)

variable [Facts]

def fn {F : FTy → Type} [FloatOps F] (main_arg0 : IVec S16384x7168 8) (main_arg1 : IVec S256x128 32) (main_arg2 : FVec F S32768x7168 .fp8e4m3) (main_arg3 : FVec F S256x128 .f32) (main_arg4 : FVec F S256x128 .f32) (main_arg5 : FVec F S256x128 .f32) (main_arg6 : FVec F S256x128 .f32) : IVec S256x128 1 :=
  let main_c : IVec S_ 32 := constantI S_ 32 0#32
  let main_v0 : IVec S256x128 32 := broadcastInDim S256x128 ![] bcast_S_S256x128 main_c
  let main_v1 : IVec S256x128 1 := cmpi .sge main_arg1 main_v0
  let main_c_0 : IVec S_ 32 := constantI S_ 32 16384#32
  let main_v2 : IVec S256x128 32 := broadcastInDim S256x128 ![] bcast_S_S256x128 main_c_0
  let main_v3 : IVec S256x128 1 := cmpi .slt main_arg1 main_v2
  let main_v4 : IVec S256x128 1 := andi main_v1 main_v3
  main_v4
-- ==== Kernel.lean ====
abbrev S16384x7168 : Shape := ⟨2, ![16384, 7168]⟩
abbrev S256x128 : Shape := ⟨2, ![256, 128]⟩
abbrev S32768x7168 : Shape := ⟨2, ![32768, 7168]⟩
abbrev S32768 : Shape := ⟨1, ![32768]⟩
abbrev S_ : Shape := ⟨0, ![]⟩
abbrev S512x1024 : Shape := ⟨2, ![512, 1024]⟩
abbrev S1024x1024 : Shape := ⟨2, ![1024, 1024]⟩
abbrev S8x128 : Shape := ⟨2, ![8, 128]⟩
abbrev S65536x128 : Shape := ⟨2, ![65536, 128]⟩
abbrev S128x1024 : Shape := ⟨2, ![128, 1024]⟩
abbrev S32x128 : Shape := ⟨2, ![32, 128]⟩
abbrev S128x128 : Shape := ⟨2, ![128, 128]⟩
abbrev S1 : Shape := ⟨1, ![1]⟩
abbrev S2x128 : Shape := ⟨2, ![2, 128]⟩
abbrev S1x128 : Shape := ⟨2, ![1, 128]⟩
abbrev S128 : Shape := ⟨1, ![128]⟩

abbrev nBuf : Space → Nat
  | .hbm => 29
  | .vmem => 19
  | .smem => 1
  | _ => 0

abbrev bufTy : (tb : Table) → Fin (tcTables nBuf tb) → BufTy
  | .hbm, ⟨0, _⟩ => ⟨S16384x7168, .i8⟩
  | .hbm, ⟨1, _⟩ => ⟨S256x128, .i32⟩
  | .hbm, ⟨2, _⟩ => ⟨S32768x7168, .fp8e4m3⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i32⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S_, .i32⟩
  | .hbm, ⟨15, _⟩ => ⟨S32768, .i32⟩
  | .hbm, ⟨16, _⟩ => ⟨S32768, .i32⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S_, .i32⟩
  | .hbm, ⟨22, _⟩ => ⟨S32768, .i32⟩
  | .hbm, ⟨23, _⟩ => ⟨S32768, .i32⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S32768x7168, .fp8e5m2⟩
  | .hbm, ⟨28, _⟩ => ⟨S256x128, .f32⟩
  | .local _ .vmem, ⟨0, _⟩ => ⟨S512x1024, .i8⟩
  | .local _ .vmem, ⟨1, _⟩ => ⟨S512x1024, .i8⟩
  | .local _ .vmem, ⟨2, _⟩ => ⟨S1024x1024, .fp8e4m3⟩
  | .local _ .vmem, ⟨3, _⟩ => ⟨S1024x1024, .fp8e4m3⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S1024x1024, .fp8e5m2⟩
  | .local _ .vmem, ⟨13, _⟩ => ⟨S1024x1024, .fp8e5m2⟩
  | .local _ .vmem, ⟨14, _⟩ => ⟨S256x128, .f32⟩
  | .local _ .vmem, ⟨15, _⟩ => ⟨S65536x128, .i32⟩
  | .local _ .vmem, ⟨16, _⟩ => ⟨S256x128, .i32⟩
  | .local _ .vmem, ⟨17, _⟩ => ⟨S128x1024, .fp8e5m2⟩
  | .local _ .vmem, ⟨18, _⟩ => ⟨S256x128, .f32⟩
  | .local _ .smem, ⟨0, _⟩ => ⟨S32768, .i32⟩
  | _, _ => ⟨S16384x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v15_0 : Ref sig .tc := ⟨.hbm, 27, rfl⟩
abbrev main_v15_1 : Ref sig .tc := ⟨.hbm, 28, rfl⟩
abbrev main_v14 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c7_i32 : BitVec 32 := 7#32
  let v0 : BitVec 1 := Scalar.cmpi .slt arg0 c7_i32
  let v1 : BitVec 32 := Scalar.extui v0
  let c0_i32 : BitVec 32 := 0#32
  let v2 : BitVec 1 := Scalar.cmpi .ne v1 c0_i32
  v2

@[reducible] def k0_t1_loop : Scf.Loop 32 :=
  let c0_i32_7 : BitVec 32 := 0#32
  let c16_i32 : BitVec 32 := 16#32
  let v18 : BitVec 32 := Scalar.addi c0_i32_7 c16_i32
  let c1_i32_8 : BitVec 32 := 1#32
  ⟨c0_i32_7, v18, c1_i32_8⟩
def k0_off1 (k0_t1 : Fin k0_t1_loop.trips) : Fin 2 → Nat :=
  let c0_i32_7 : BitVec 32 := 0#32
  let c1_i32_8 : BitVec 32 := 1#32
  let arg15 : BitVec 32 := Scf.iv c0_i32_7 c1_i32_8 k0_t1
  let c32_i32 : BitVec 32 := 32#32
  let v19 : BitVec 32 := Scalar.muli arg15 c32_i32
  let v20 : Index := Scalar.indexCast v19
  let c0 : Index := 0#32
  ![v20.toNat, 0]
def k0_off2 (k0_t1 : Fin k0_t1_loop.trips) : Fin 2 → Nat :=
  let c0_i32_7 : BitVec 32 := 0#32
  let c1_i32_8 : BitVec 32 := 1#32
  let arg15 : BitVec 32 := Scf.iv c0_i32_7 c1_i32_8 k0_t1
  let c32_i32_10 : BitVec 32 := 32#32
  let v23 : BitVec 32 := Scalar.muli arg15 c32_i32_10
  let v24 : Index := Scalar.indexCast v23
  let c256 : Index := 256#32
  ![v24.toNat, 256]
def k0_off3 (k0_t1 : Fin k0_t1_loop.trips) : Fin 2 → Nat :=
  let c0_i32_7 : BitVec 32 := 0#32
  let c1_i32_8 : BitVec 32 := 1#32
  let arg15 : BitVec 32 := Scf.iv c0_i32_7 c1_i32_8 k0_t1
  let c32_i32_11 : BitVec 32 := 32#32
  let v27 : BitVec 32 := Scalar.muli arg15 c32_i32_11
  let v28 : Index := Scalar.indexCast v27
  let c512 : Index := 512#32
  ![v28.toNat, 512]
def k0_off4 (k0_t1 : Fin k0_t1_loop.trips) : Fin 2 → Nat :=
  let c0_i32_7 : BitVec 32 := 0#32
  let c1_i32_8 : BitVec 32 := 1#32
  let arg15 : BitVec 32 := Scf.iv c0_i32_7 c1_i32_8 k0_t1
  let c32_i32_12 : BitVec 32 := 32#32
  let v31 : BitVec 32 := Scalar.muli arg15 c32_i32_12
  let v32 : Index := Scalar.indexCast v31
  let c768 : Index := 768#32
  ![v32.toNat, 768]
def k0_mult1 (i : grid0.Coords) (k0_t1 : Fin k0_t1_loop.trips) : BitVec 32 :=
  let arg0 : BitVec 32 := BitVec.ofNat 32 (i 0).val
  let c1_i32 : BitVec 32 := 1#32
  let v14 : BitVec 32 := Scalar.andi arg0 c1_i32
  let c32768_i32 : BitVec 32 := 32768#32
  let v15 : BitVec 32 := Scalar.muli v14 c32768_i32
  let arg1 : BitVec 32 := BitVec.ofNat 32 (i 1).val
  let c1024_i32 : BitVec 32 := 1024#32
  let v16 : BitVec 32 := Scalar.muli arg1 c1024_i32
  let v17 : BitVec 32 := Scalar.addi v15 v16
  let c0_i32_7 : BitVec 32 := 0#32
  let c1_i32_8 : BitVec 32 := 1#32
  let arg15 : BitVec 32 := Scf.iv c0_i32_7 c1_i32_8 k0_t1
  let c64_i32 : BitVec 32 := 64#32
  let v83 : BitVec 32 := Scalar.muli arg15 c64_i32
  let v84 : BitVec 32 := Scalar.addi v17 v83
  let c0_i32_28 : BitVec 32 := 0#32
  let v85 : BitVec 32 := Scalar.addi v84 c0_i32_28
  v85
def k0_off5 (i : grid0.Coords) (k0_t1 : Fin k0_t1_loop.trips) (c0_i32_28 : BitVec 32) : Fin 2 → Nat :=
  let arg0 : BitVec 32 := BitVec.ofNat 32 (i 0).val
  let c1_i32 : BitVec 32 := 1#32
  let v14 : BitVec 32 := Scalar.andi arg0 c1_i32
  let c32768_i32 : BitVec 32 := 32768#32
  let v15 : BitVec 32 := Scalar.muli v14 c32768_i32
  let arg1 : BitVec 32 := BitVec.ofNat 32 (i 1).val
  let c1024_i32 : BitVec 32 := 1024#32
  let v16 : BitVec 32 := Scalar.muli arg1 c1024_i32
  let v17 : BitVec 32 := Scalar.addi v15 v16
  let c0_i32_7 : BitVec 32 := 0#32
  let c1_i32_8 : BitVec 32 := 1#32
  let arg15 : BitVec 32 := Scf.iv c0_i32_7 c1_i32_8 k0_t1
  let c64_i32 : BitVec 32 := 64#32
  let v83 : BitVec 32 := Scalar.muli arg15 c64_i32
  let v84 : BitVec 32 := Scalar.addi v17 v83
  let v85 : BitVec 32 := Scalar.addi v84 c0_i32_28
  let v86 : BitVec 32 := v85
  let v87 : Index := Scalar.indexCast v86
  let c0_29 : Index := 0#32
  ![v87.toNat, 0]
def k0_mult2 (i : grid0.Coords) (k0_t1 : Fin k0_t1_loop.trips) : BitVec 32 :=
  let arg0 : BitVec 32 := BitVec.ofNat 32 (i 0).val
  let c1_i32 : BitVec 32 := 1#32
  let v14 : BitVec 32 := Scalar.andi arg0 c1_i32
  let c32768_i32 : BitVec 32 := 32768#32
  let v15 : BitVec 32 := Scalar.muli v14 c32768_i32
  let arg1 : BitVec 32 := BitVec.ofNat 32 (i 1).val
  let c1024_i32 : BitVec 32 := 1024#32
  let v16 : BitVec 32 := Scalar.muli arg1 c1024_i32
  let v17 : BitVec 32 := Scalar.addi v15 v16
  let c0_i32_7 : BitVec 32 := 0#32
  let c1_i32_8 : BitVec 32 := 1#32
  let arg15 : BitVec 32 := Scf.iv c0_i32_7 c1_i32_8 k0_t1
  let c64_i32_30 : BitVec 32 := 64#32
  let v91 : BitVec 32 := Scalar.muli arg15 c64_i32_30
  let v92 : BitVec 32 := Scalar.addi v17 v91
  let c16_i32_31 : BitVec 32 := 16#32
  let v93 : BitVec 32 := Scalar.addi v92 c16_i32_31
  v93
def k0_mult3 (i : grid0.Coords) (k0_t1 : Fin k0_t1_loop.trips) : BitVec 32 :=
  let arg0 : BitVec 32 := BitVec.ofNat 32 (i 0).val
  let c1_i32 : BitVec 32 := 1#32
  let v14 : BitVec 32 := Scalar.andi arg0 c1_i32
  let c32768_i32 : BitVec 32 := 32768#32
  let v15 : BitVec 32 := Scalar.muli v14 c32768_i32
  let arg1 : BitVec 32 := BitVec.ofNat 32 (i 1).val
  let c1024_i32 : BitVec 32 := 1024#32
  let v16 : BitVec 32 := Scalar.muli arg1 c1024_i32
  let v17 : BitVec 32 := Scalar.addi v15 v16
  let c0_i32_7 : BitVec 32 := 0#32
  let c1_i32_8 : BitVec 32 := 1#32
  let arg15 : BitVec 32 := Scf.iv c0_i32_7 c1_i32_8 k0_t1
  let c64_i32_33 : BitVec 32 := 64#32
  let v99 : BitVec 32 := Scalar.muli arg15 c64_i32_33
  let v100 : BitVec 32 := Scalar.addi v17 v99
  let c32_i32_34 : BitVec 32 := 32#32
  let v101 : BitVec 32 := Scalar.addi v100 c32_i32_34
  v101
def k0_mult4 (i : grid0.Coords) (k0_t1 : Fin k0_t1_loop.trips) : BitVec 32 :=
  let arg0 : BitVec 32 := BitVec.ofNat 32 (i 0).val
  let c1_i32 : BitVec 32 := 1#32
  let v14 : BitVec 32 := Scalar.andi arg0 c1_i32
  let c32768_i32 : BitVec 32 := 32768#32
  let v15 : BitVec 32 := Scalar.muli v14 c32768_i32
  let arg1 : BitVec 32 := BitVec.ofNat 32 (i 1).val
  let c1024_i32 : BitVec 32 := 1024#32
  let v16 : BitVec 32 := Scalar.muli arg1 c1024_i32
  let v17 : BitVec 32 := Scalar.addi v15 v16
  let c0_i32_7 : BitVec 32 := 0#32
  let c1_i32_8 : BitVec 32 := 1#32
  let arg15 : BitVec 32 := Scf.iv c0_i32_7 c1_i32_8 k0_t1
  let c64_i32_36 : BitVec 32 := 64#32
  let v107 : BitVec 32 := Scalar.muli arg15 c64_i32_36
  let v108 : BitVec 32 := Scalar.addi v17 v107
  let c48_i32 : BitVec 32 := 48#32
  let v109 : BitVec 32 := Scalar.addi v108 c48_i32
  v109
def k0_off6 (k0_t1 : Fin k0_t1_loop.trips) : Fin 2 → Nat :=
  let c0_i32_7 : BitVec 32 := 0#32
  let c1_i32_8 : BitVec 32 := 1#32
  let arg15 : BitVec 32 := Scf.iv c0_i32_7 c1_i32_8 k0_t1
  let c32_i32_38 : BitVec 32 := 32#32
  let v115 : BitVec 32 := Scalar.muli arg15 c32_i32_38
  let v116 : Index := Scalar.indexCast v115
  let c128 : Index := 128#32
  ![v116.toNat, 128]
def k0_off7 (k0_t1 : Fin k0_t1_loop.trips) : Fin 2 → Nat :=
  let c0_i32_7 : BitVec 32 := 0#32
  let c1_i32_8 : BitVec 32 := 1#32
  let arg15 : BitVec 32 := Scf.iv c0_i32_7 c1_i32_8 k0_t1
  let c32_i32_39 : BitVec 32 := 32#32
  let v119 : BitVec 32 := Scalar.muli arg15 c32_i32_39
  let v120 : Index := Scalar.indexCast v119
  let c384 : Index := 384#32
  ![v120.toNat, 384]
def k0_off8 (k0_t1 : Fin k0_t1_loop.trips) : Fin 2 → Nat :=
  let c0_i32_7 : BitVec 32 := 0#32
  let c1_i32_8 : BitVec 32 := 1#32
  let arg15 : BitVec 32 := Scf.iv c0_i32_7 c1_i32_8 k0_t1
  let c32_i32_40 : BitVec 32 := 32#32
  let v123 : BitVec 32 := Scalar.muli arg15 c32_i32_40
  let v124 : Index := Scalar.indexCast v123
  let c640 : Index := 640#32
  ![v124.toNat, 640]
def k0_off9 (k0_t1 : Fin k0_t1_loop.trips) : Fin 2 → Nat :=
  let c0_i32_7 : BitVec 32 := 0#32
  let c1_i32_8 : BitVec 32 := 1#32
  let arg15 : BitVec 32 := Scf.iv c0_i32_7 c1_i32_8 k0_t1
  let c32_i32_41 : BitVec 32 := 32#32
  let v127 : BitVec 32 := Scalar.muli arg15 c32_i32_41
  let v128 : Index := Scalar.indexCast v127
  let c896 : Index := 896#32
  ![v128.toNat, 896]
def k0_mult5 (i : grid0.Coords) (k0_t1 : Fin k0_t1_loop.trips) : BitVec 32 :=
  let arg0 : BitVec 32 := BitVec.ofNat 32 (i 0).val
  let c1_i32 : BitVec 32 := 1#32
  let v14 : BitVec 32 := Scalar.andi arg0 c1_i32
  let c32768_i32 : BitVec 32 := 32768#32
  let v15 : BitVec 32 := Scalar.muli v14 c32768_i32
  let arg1 : BitVec 32 := BitVec.ofNat 32 (i 1).val
  let c1024_i32 : BitVec 32 := 1024#32
  let v16 : BitVec 32 := Scalar.muli arg1 c1024_i32
  let v17 : BitVec 32 := Scalar.addi v15 v16
  let c0_i32_7 : BitVec 32 := 0#32
  let c1_i32_8 : BitVec 32 := 1#32
  let arg15 : BitVec 32 := Scf.iv c0_i32_7 c1_i32_8 k0_t1
  let c64_i32_62 : BitVec 32 := 64#32
  let v179 : BitVec 32 := Scalar.muli arg15 c64_i32_62
  let v180 : BitVec 32 := Scalar.addi v17 v179
  let c8_i32_63 : BitVec 32 := 8#32
  let v181 : BitVec 32 := Scalar.addi v180 c8_i32_63
  v181
def k0_mult6 (i : grid0.Coords) (k0_t1 : Fin k0_t1_loop.trips) : BitVec 32 :=
  let arg0 : BitVec 32 := BitVec.ofNat 32 (i 0).val
  let c1_i32 : BitVec 32 := 1#32
  let v14 : BitVec 32 := Scalar.andi arg0 c1_i32
  let c32768_i32 : BitVec 32 := 32768#32
  let v15 : BitVec 32 := Scalar.muli v14 c32768_i32
  let arg1 : BitVec 32 := BitVec.ofNat 32 (i 1).val
  let c1024_i32 : BitVec 32 := 1024#32
  let v16 : BitVec 32 := Scalar.muli arg1 c1024_i32
  let v17 : BitVec 32 := Scalar.addi v15 v16
  let c0_i32_7 : BitVec 32 := 0#32
  let c1_i32_8 : BitVec 32 := 1#32
  let arg15 : BitVec 32 := Scf.iv c0_i32_7 c1_i32_8 k0_t1
  let c64_i32_65 : BitVec 32 := 64#32
  let v187 : BitVec 32 := Scalar.muli arg15 c64_i32_65
  let v188 : BitVec 32 := Scalar.addi v17 v187
  let c24_i32 : BitVec 32 := 24#32
  let v189 : BitVec 32 := Scalar.addi v188 c24_i32
  v189
def k0_mult7 (i : grid0.Coords) (k0_t1 : Fin k0_t1_loop.trips) : BitVec 32 :=
  let arg0 : BitVec 32 := BitVec.ofNat 32 (i 0).val
  let c1_i32 : BitVec 32 := 1#32
  let v14 : BitVec 32 := Scalar.andi arg0 c1_i32
  let c32768_i32 : BitVec 32 := 32768#32
  let v15 : BitVec 32 := Scalar.muli v14 c32768_i32
  let arg1 : BitVec 32 := BitVec.ofNat 32 (i 1).val
  let c1024_i32 : BitVec 32 := 1024#32
  let v16 : BitVec 32 := Scalar.muli arg1 c1024_i32
  let v17 : BitVec 32 := Scalar.addi v15 v16
  let c0_i32_7 : BitVec 32 := 0#32
  let c1_i32_8 : BitVec 32 := 1#32
  let arg15 : BitVec 32 := Scf.iv c0_i32_7 c1_i32_8 k0_t1
  let c64_i32_67 : BitVec 32 := 64#32
  let v195 : BitVec 32 := Scalar.muli arg15 c64_i32_67
  let v196 : BitVec 32 := Scalar.addi v17 v195
  let c40_i32 : BitVec 32 := 40#32
  let v197 : BitVec 32 := Scalar.addi v196 c40_i32
  v197
def k0_mult8 (i : grid0.Coords) (k0_t1 : Fin k0_t1_loop.trips) : BitVec 32 :=
  let arg0 : BitVec 32 := BitVec.ofNat 32 (i 0).val
  let c1_i32 : BitVec 32 := 1#32
  let v14 : BitVec 32 := Scalar.andi arg0 c1_i32
  let c32768_i32 : BitVec 32 := 32768#32
  let v15 : BitVec 32 := Scalar.muli v14 c32768_i32
  let arg1 : BitVec 32 := BitVec.ofNat 32 (i 1).val
  let c1024_i32 : BitVec 32 := 1024#32
  let v16 : BitVec 32 := Scalar.muli arg1 c1024_i32
  let v17 : BitVec 32 := Scalar.addi v15 v16
  let c0_i32_7 : BitVec 32 := 0#32
  let c1_i32_8 : BitVec 32 := 1#32
  let arg15 : BitVec 32 := Scf.iv c0_i32_7 c1_i32_8 k0_t1
  let c64_i32_69 : BitVec 32 := 64#32
  let v203 : BitVec 32 := Scalar.muli arg15 c64_i32_69
  let v204 : BitVec 32 := Scalar.addi v17 v203
  let c56_i32 : BitVec 32 := 56#32
  let v205 : BitVec 32 := Scalar.addi v204 c56_i32
  v205
def k0_cond3 (i : grid0.Coords) : BitVec 1 :=
  let arg0 : BitVec 32 := BitVec.ofNat 32 (i 0).val
  let c0_i32_3 : BitVec 32 := 0#32
  let v8 : BitVec 1 := Scalar.cmpi .sgt arg0 c0_i32_3
  let v9 : BitVec 32 := Scalar.extui v8
  let c0_i32_4 : BitVec 32 := 0#32
  let v10 : BitVec 1 := Scalar.cmpi .ne v9 c0_i32_4
  v10

@[reducible] def k0_t2_loop : Scf.Loop 32 :=
  let c0_i32_8 : BitVec 32 := 0#32
  let c8_i32 : BitVec 32 := 8#32
  let v20 : BitVec 32 := Scalar.addi c0_i32_8 c8_i32
  let c1_i32_9 : BitVec 32 := 1#32
  ⟨c0_i32_8, v20, c1_i32_9⟩
def k0_off10 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c0_i32_12 : BitVec 32 := 0#32
  let v24 : BitVec 32 := Scalar.addi v23 c0_i32_12
  let v25 : Index := Scalar.indexCast v24
  ![v25.toNat]
def k0_off11 (i : grid0.Coords) (v26 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v27 : BitVec 32 := Scalar.addi v16 v26
  let v28 : Index := Scalar.indexCast v27
  let c0 : Index := 0#32
  ![v28.toNat, 0]

def k0_chk1 (i : grid0.Coords) (v26 : BitVec 32) : Prop :=
  (∀ (k0_h3 : k0_cond3 i = 1#1), ∀ a, S2x128.size a = 0 ∨ (k0_off11 i v26) a + (![8, 1] : Fin 2 → Nat) a * (S2x128.size a - 1) < S65536x128.size a)
theorem k0_off11_inb : ∀ (i : grid0.Coords) (v26 : BitVec 32) (k0_hw1 : k0_chk1 i v26), ∀ (k0_h3 : k0_cond3 i = 1#1), ∀ a, S2x128.size a = 0 ∨ (k0_off11 i v26) a + (![8, 1] : Fin 2 → Nat) a * (S2x128.size a - 1) < S65536x128.size a := fun i v26 k0_hw1 k0_h3 => k0_hw1 k0_h3

def k0_off12 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c1_i32_15 : BitVec 32 := 1#32
  let v33 : BitVec 32 := Scalar.addi v23 c1_i32_15
  let v34 : Index := Scalar.indexCast v33
  ![v34.toNat]
def k0_off13 (i : grid0.Coords) (v35 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v36 : BitVec 32 := Scalar.addi v16 v35
  let v37 : Index := Scalar.indexCast v36
  let c0_16 : Index := 0#32
  ![v37.toNat, 0]

def k0_chk2 (i : grid0.Coords) (v35 : BitVec 32) : Prop :=
  (∀ (k0_h3 : k0_cond3 i = 1#1), ∀ a, S2x128.size a = 0 ∨ (k0_off13 i v35) a + (![8, 1] : Fin 2 → Nat) a * (S2x128.size a - 1) < S65536x128.size a)
theorem k0_off13_inb : ∀ (i : grid0.Coords) (v35 : BitVec 32) (k0_hw2 : k0_chk2 i v35), ∀ (k0_h3 : k0_cond3 i = 1#1), ∀ a, S2x128.size a = 0 ∨ (k0_off13 i v35) a + (![8, 1] : Fin 2 → Nat) a * (S2x128.size a - 1) < S65536x128.size a := fun i v35 k0_hw2 k0_h3 => k0_hw2 k0_h3

def k0_off14 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c2_i32 : BitVec 32 := 2#32
  let v42 : BitVec 32 := Scalar.addi v23 c2_i32
  let v43 : Index := Scalar.indexCast v42
  ![v43.toNat]
def k0_off15 (i : grid0.Coords) (v44 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v45 : BitVec 32 := Scalar.addi v16 v44
  let v46 : Index := Scalar.indexCast v45
  let c0_18 : Index := 0#32
  ![v46.toNat, 0]

def k0_chk3 (i : grid0.Coords) (v44 : BitVec 32) : Prop :=
  (∀ (k0_h3 : k0_cond3 i = 1#1), ∀ a, S2x128.size a = 0 ∨ (k0_off15 i v44) a + (![8, 1] : Fin 2 → Nat) a * (S2x128.size a - 1) < S65536x128.size a)
theorem k0_off15_inb : ∀ (i : grid0.Coords) (v44 : BitVec 32) (k0_hw3 : k0_chk3 i v44), ∀ (k0_h3 : k0_cond3 i = 1#1), ∀ a, S2x128.size a = 0 ∨ (k0_off15 i v44) a + (![8, 1] : Fin 2 → Nat) a * (S2x128.size a - 1) < S65536x128.size a := fun i v44 k0_hw3 k0_h3 => k0_hw3 k0_h3

def k0_off16 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c3_i32 : BitVec 32 := 3#32
  let v51 : BitVec 32 := Scalar.addi v23 c3_i32
  let v52 : Index := Scalar.indexCast v51
  ![v52.toNat]
def k0_off17 (i : grid0.Coords) (v53 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v54 : BitVec 32 := Scalar.addi v16 v53
  let v55 : Index := Scalar.indexCast v54
  let c0_20 : Index := 0#32
  ![v55.toNat, 0]

def k0_chk4 (i : grid0.Coords) (v53 : BitVec 32) : Prop :=
  (∀ (k0_h3 : k0_cond3 i = 1#1), ∀ a, S2x128.size a = 0 ∨ (k0_off17 i v53) a + (![8, 1] : Fin 2 → Nat) a * (S2x128.size a - 1) < S65536x128.size a)
theorem k0_off17_inb : ∀ (i : grid0.Coords) (v53 : BitVec 32) (k0_hw4 : k0_chk4 i v53), ∀ (k0_h3 : k0_cond3 i = 1#1), ∀ a, S2x128.size a = 0 ∨ (k0_off17 i v53) a + (![8, 1] : Fin 2 → Nat) a * (S2x128.size a - 1) < S65536x128.size a := fun i v53 k0_hw4 k0_h3 => k0_hw4 k0_h3

def k0_off18 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c4_i32 : BitVec 32 := 4#32
  let v60 : BitVec 32 := Scalar.addi v23 c4_i32
  let v61 : Index := Scalar.indexCast v60
  ![v61.toNat]
def k0_off19 (i : grid0.Coords) (v62 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v63 : BitVec 32 := Scalar.addi v16 v62
  let v64 : Index := Scalar.indexCast v63
  let c0_22 : Index := 0#32
  ![v64.toNat, 0]

def k0_chk5 (i : grid0.Coords) (v62 : BitVec 32) : Prop :=
  (∀ (k0_h3 : k0_cond3 i = 1#1), ∀ a, S2x128.size a = 0 ∨ (k0_off19 i v62) a + (![8, 1] : Fin 2 → Nat) a * (S2x128.size a - 1) < S65536x128.size a)
theorem k0_off19_inb : ∀ (i : grid0.Coords) (v62 : BitVec 32) (k0_hw5 : k0_chk5 i v62), ∀ (k0_h3 : k0_cond3 i = 1#1), ∀ a, S2x128.size a = 0 ∨ (k0_off19 i v62) a + (![8, 1] : Fin 2 → Nat) a * (S2x128.size a - 1) < S65536x128.size a := fun i v62 k0_hw5 k0_h3 => k0_hw5 k0_h3

def k0_off20 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c5_i32 : BitVec 32 := 5#32
  let v69 : BitVec 32 := Scalar.addi v23 c5_i32
  let v70 : Index := Scalar.indexCast v69
  ![v70.toNat]
def k0_off21 (i : grid0.Coords) (v71 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v72 : BitVec 32 := Scalar.addi v16 v71
  let v73 : Index := Scalar.indexCast v72
  let c0_24 : Index := 0#32
  ![v73.toNat, 0]

def k0_chk6 (i : grid0.Coords) (v71 : BitVec 32) : Prop :=
  (∀ (k0_h3 : k0_cond3 i = 1#1), ∀ a, S2x128.size a = 0 ∨ (k0_off21 i v71) a + (![8, 1] : Fin 2 → Nat) a * (S2x128.size a - 1) < S65536x128.size a)
theorem k0_off21_inb : ∀ (i : grid0.Coords) (v71 : BitVec 32) (k0_hw6 : k0_chk6 i v71), ∀ (k0_h3 : k0_cond3 i = 1#1), ∀ a, S2x128.size a = 0 ∨ (k0_off21 i v71) a + (![8, 1] : Fin 2 → Nat) a * (S2x128.size a - 1) < S65536x128.size a := fun i v71 k0_hw6 k0_h3 => k0_hw6 k0_h3

def k0_off22 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c6_i32 : BitVec 32 := 6#32
  let v78 : BitVec 32 := Scalar.addi v23 c6_i32
  let v79 : Index := Scalar.indexCast v78
  ![v79.toNat]
def k0_off23 (i : grid0.Coords) (v80 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v81 : BitVec 32 := Scalar.addi v16 v80
  let v82 : Index := Scalar.indexCast v81
  let c0_26 : Index := 0#32
  ![v82.toNat, 0]

def k0_chk7 (i : grid0.Coords) (v80 : BitVec 32) : Prop :=
  (∀ (k0_h3 : k0_cond3 i = 1#1), ∀ a, S2x128.size a = 0 ∨ (k0_off23 i v80) a + (![8, 1] : Fin 2 → Nat) a * (S2x128.size a - 1) < S65536x128.size a)
theorem k0_off23_inb : ∀ (i : grid0.Coords) (v80 : BitVec 32) (k0_hw7 : k0_chk7 i v80), ∀ (k0_h3 : k0_cond3 i = 1#1), ∀ a, S2x128.size a = 0 ∨ (k0_off23 i v80) a + (![8, 1] : Fin 2 → Nat) a * (S2x128.size a - 1) < S65536x128.size a := fun i v80 k0_hw7 k0_h3 => k0_hw7 k0_h3

def k0_off24 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c7_i32_28 : BitVec 32 := 7#32
  let v87 : BitVec 32 := Scalar.addi v23 c7_i32_28
  let v88 : Index := Scalar.indexCast v87
  ![v88.toNat]
def k0_off25 (i : grid0.Coords) (v89 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v90 : BitVec 32 := Scalar.addi v16 v89
  let v91 : Index := Scalar.indexCast v90
  let c0_29 : Index := 0#32
  ![v91.toNat, 0]

def k0_chk8 (i : grid0.Coords) (v89 : BitVec 32) : Prop :=
  (∀ (k0_h3 : k0_cond3 i = 1#1), ∀ a, S2x128.size a = 0 ∨ (k0_off25 i v89) a + (![8, 1] : Fin 2 → Nat) a * (S2x128.size a - 1) < S65536x128.size a)
theorem k0_off25_inb : ∀ (i : grid0.Coords) (v89 : BitVec 32) (k0_hw8 : k0_chk8 i v89), ∀ (k0_h3 : k0_cond3 i = 1#1), ∀ a, S2x128.size a = 0 ∨ (k0_off25 i v89) a + (![8, 1] : Fin 2 → Nat) a * (S2x128.size a - 1) < S65536x128.size a := fun i v89 k0_hw8 k0_h3 => k0_hw8 k0_h3

def k0_off26 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c8_i32_31 : BitVec 32 := 8#32
  let v96 : BitVec 32 := Scalar.addi v23 c8_i32_31
  let v97 : Index := Scalar.indexCast v96
  ![v97.toNat]
def k0_off27 (i : grid0.Coords) (v98 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v99 : BitVec 32 := Scalar.addi v16 v98
  let v100 : Index := Scalar.indexCast v99
  let c0_32 : Index := 0#32
  ![v100.toNat, 0]

def k0_chk9 (i : grid0.Coords) (v98 : BitVec 32) : Prop :=
  (∀ (k0_h3 : k0_cond3 i = 1#1), ∀ a, S2x128.size a = 0 ∨ (k0_off27 i v98) a + (![8, 1] : Fin 2 → Nat) a * (S2x128.size a - 1) < S65536x128.size a)
theorem k0_off27_inb : ∀ (i : grid0.Coords) (v98 : BitVec 32) (k0_hw9 : k0_chk9 i v98), ∀ (k0_h3 : k0_cond3 i = 1#1), ∀ a, S2x128.size a = 0 ∨ (k0_off27 i v98) a + (![8, 1] : Fin 2 → Nat) a * (S2x128.size a - 1) < S65536x128.size a := fun i v98 k0_hw9 k0_h3 => k0_hw9 k0_h3

def k0_off28 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c9_i32 : BitVec 32 := 9#32
  let v105 : BitVec 32 := Scalar.addi v23 c9_i32
  let v106 : Index := Scalar.indexCast v105
  ![v106.toNat]
def k0_off29 (i : grid0.Coords) (v107 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v108 : BitVec 32 := Scalar.addi v16 v107
  let v109 : Index := Scalar.indexCast v108
  let c0_34 : Index := 0#32
  ![v109.toNat, 0]

def k0_chk10 (i : grid0.Coords) (v107 : BitVec 32) : Prop :=
  (∀ (k0_h3 : k0_cond3 i = 1#1), ∀ a, S2x128.size a = 0 ∨ (k0_off29 i v107) a + (![8, 1] : Fin 2 → Nat) a * (S2x128.size a - 1) < S65536x128.size a)
theorem k0_off29_inb : ∀ (i : grid0.Coords) (v107 : BitVec 32) (k0_hw10 : k0_chk10 i v107), ∀ (k0_h3 : k0_cond3 i = 1#1), ∀ a, S2x128.size a = 0 ∨ (k0_off29 i v107) a + (![8, 1] : Fin 2 → Nat) a * (S2x128.size a - 1) < S65536x128.size a := fun i v107 k0_hw10 k0_h3 => k0_hw10 k0_h3

def k0_off30 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c10_i32 : BitVec 32 := 10#32
  let v114 : BitVec 32 := Scalar.addi v23 c10_i32
  let v115 : Index := Scalar.indexCast v114
  ![v115.toNat]
def k0_off31 (i : grid0.Coords) (v116 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v117 : BitVec 32 := Scalar.addi v16 v116
  let v118 : Index := Scalar.indexCast v117
  let c0_36 : Index := 0#32
  ![v118.toNat, 0]

def k0_chk11 (i : grid0.Coords) (v116 : BitVec 32) : Prop :=
  (∀ (k0_h3 : k0_cond3 i = 1#1), ∀ a, S2x128.size a = 0 ∨ (k0_off31 i v116) a + (![8, 1] : Fin 2 → Nat) a * (S2x128.size a - 1) < S65536x128.size a)
theorem k0_off31_inb : ∀ (i : grid0.Coords) (v116 : BitVec 32) (k0_hw11 : k0_chk11 i v116), ∀ (k0_h3 : k0_cond3 i = 1#1), ∀ a, S2x128.size a = 0 ∨ (k0_off31 i v116) a + (![8, 1] : Fin 2 → Nat) a * (S2x128.size a - 1) < S65536x128.size a := fun i v116 k0_hw11 k0_h3 => k0_hw11 k0_h3

def k0_off32 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c11_i32 : BitVec 32 := 11#32
  let v123 : BitVec 32 := Scalar.addi v23 c11_i32
  let v124 : Index := Scalar.indexCast v123
  ![v124.toNat]
def k0_off33 (i : grid0.Coords) (v125 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v126 : BitVec 32 := Scalar.addi v16 v125
  let v127 : Index := Scalar.indexCast v126
  let c0_38 : Index := 0#32
  ![v127.toNat, 0]

def k0_chk12 (i : grid0.Coords) (v125 : BitVec 32) : Prop :=
  (∀ (k0_h3 : k0_cond3 i = 1#1), ∀ a, S2x128.size a = 0 ∨ (k0_off33 i v125) a + (![8, 1] : Fin 2 → Nat) a * (S2x128.size a - 1) < S65536x128.size a)
theorem k0_off33_inb : ∀ (i : grid0.Coords) (v125 : BitVec 32) (k0_hw12 : k0_chk12 i v125), ∀ (k0_h3 : k0_cond3 i = 1#1), ∀ a, S2x128.size a = 0 ∨ (k0_off33 i v125) a + (![8, 1] : Fin 2 → Nat) a * (S2x128.size a - 1) < S65536x128.size a := fun i v125 k0_hw12 k0_h3 => k0_hw12 k0_h3

def k0_off34 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c12_i32 : BitVec 32 := 12#32
  let v132 : BitVec 32 := Scalar.addi v23 c12_i32
  let v133 : Index := Scalar.indexCast v132
  ![v133.toNat]
def k0_off35 (i : grid0.Coords) (v134 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v135 : BitVec 32 := Scalar.addi v16 v134
  let v136 : Index := Scalar.indexCast v135
  let c0_40 : Index := 0#32
  ![v136.toNat, 0]

def k0_chk13 (i : grid0.Coords) (v134 : BitVec 32) : Prop :=
  (∀ (k0_h3 : k0_cond3 i = 1#1), ∀ a, S2x128.size a = 0 ∨ (k0_off35 i v134) a + (![8, 1] : Fin 2 → Nat) a * (S2x128.size a - 1) < S65536x128.size a)
theorem k0_off35_inb : ∀ (i : grid0.Coords) (v134 : BitVec 32) (k0_hw13 : k0_chk13 i v134), ∀ (k0_h3 : k0_cond3 i = 1#1), ∀ a, S2x128.size a = 0 ∨ (k0_off35 i v134) a + (![8, 1] : Fin 2 → Nat) a * (S2x128.size a - 1) < S65536x128.size a := fun i v134 k0_hw13 k0_h3 => k0_hw13 k0_h3

def k0_off36 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c13_i32 : BitVec 32 := 13#32
  let v141 : BitVec 32 := Scalar.addi v23 c13_i32
  let v142 : Index := Scalar.indexCast v141
  ![v142.toNat]
def k0_off37 (i : grid0.Coords) (v143 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v144 : BitVec 32 := Scalar.addi v16 v143
  let v145 : Index := Scalar.indexCast v144
  let c0_42 : Index := 0#32
  ![v145.toNat, 0]

def k0_chk14 (i : grid0.Coords) (v143 : BitVec 32) : Prop :=
  (∀ (k0_h3 : k0_cond3 i = 1#1), ∀ a, S2x128.size a = 0 ∨ (k0_off37 i v143) a + (![8, 1] : Fin 2 → Nat) a * (S2x128.size a - 1) < S65536x128.size a)
theorem k0_off37_inb : ∀ (i : grid0.Coords) (v143 : BitVec 32) (k0_hw14 : k0_chk14 i v143), ∀ (k0_h3 : k0_cond3 i = 1#1), ∀ a, S2x128.size a = 0 ∨ (k0_off37 i v143) a + (![8, 1] : Fin 2 → Nat) a * (S2x128.size a - 1) < S65536x128.size a := fun i v143 k0_hw14 k0_h3 => k0_hw14 k0_h3

def k0_off38 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c14_i32 : BitVec 32 := 14#32
  let v150 : BitVec 32 := Scalar.addi v23 c14_i32
  let v151 : Index := Scalar.indexCast v150
  ![v151.toNat]
def k0_off39 (i : grid0.Coords) (v152 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v153 : BitVec 32 := Scalar.addi v16 v152
  let v154 : Index := Scalar.indexCast v153
  let c0_44 : Index := 0#32
  ![v154.toNat, 0]

def k0_chk15 (i : grid0.Coords) (v152 : BitVec 32) : Prop :=
  (∀ (k0_h3 : k0_cond3 i = 1#1), ∀ a, S2x128.size a = 0 ∨ (k0_off39 i v152) a + (![8, 1] : Fin 2 → Nat) a * (S2x128.size a - 1) < S65536x128.size a)
theorem k0_off39_inb : ∀ (i : grid0.Coords) (v152 : BitVec 32) (k0_hw15 : k0_chk15 i v152), ∀ (k0_h3 : k0_cond3 i = 1#1), ∀ a, S2x128.size a = 0 ∨ (k0_off39 i v152) a + (![8, 1] : Fin 2 → Nat) a * (S2x128.size a - 1) < S65536x128.size a := fun i v152 k0_hw15 k0_h3 => k0_hw15 k0_h3

def k0_off40 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c15_i32 : BitVec 32 := 15#32
  let v159 : BitVec 32 := Scalar.addi v23 c15_i32
  let v160 : Index := Scalar.indexCast v159
  ![v160.toNat]
def k0_off41 (i : grid0.Coords) (v161 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v162 : BitVec 32 := Scalar.addi v16 v161
  let v163 : Index := Scalar.indexCast v162
  let c0_46 : Index := 0#32
  ![v163.toNat, 0]

def k0_chk16 (i : grid0.Coords) (v161 : BitVec 32) : Prop :=
  (∀ (k0_h3 : k0_cond3 i = 1#1), ∀ a, S2x128.size a = 0 ∨ (k0_off41 i v161) a + (![8, 1] : Fin 2 → Nat) a * (S2x128.size a - 1) < S65536x128.size a)
theorem k0_off41_inb : ∀ (i : grid0.Coords) (v161 : BitVec 32) (k0_hw16 : k0_chk16 i v161), ∀ (k0_h3 : k0_cond3 i = 1#1), ∀ a, S2x128.size a = 0 ∨ (k0_off41 i v161) a + (![8, 1] : Fin 2 → Nat) a * (S2x128.size a - 1) < S65536x128.size a := fun i v161 k0_hw16 k0_h3 => k0_hw16 k0_h3

def k0_off42 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c16_i32 : BitVec 32 := 16#32
  let v168 : BitVec 32 := Scalar.addi v23 c16_i32
  let v169 : Index := Scalar.indexCast v168
  ![v169.toNat]
def k0_off43 (i : grid0.Coords) (v170 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v171 : BitVec 32 := Scalar.addi v16 v170
  let v172 : Index := Scalar.indexCast v171
  let c0_48 : Index := 0#32
  ![v172.toNat, 0]

def k0_chk17 (i : grid0.Coords) (v170 : BitVec 32) : Prop :=
  (∀ (k0_h3 : k0_cond3 i = 1#1), ∀ a, S2x128.size a = 0 ∨ (k0_off43 i v170) a + (![8, 1] : Fin 2 → Nat) a * (S2x128.size a - 1) < S65536x128.size a)
theorem k0_off43_inb : ∀ (i : grid0.Coords) (v170 : BitVec 32) (k0_hw17 : k0_chk17 i v170), ∀ (k0_h3 : k0_cond3 i = 1#1), ∀ a, S2x128.size a = 0 ∨ (k0_off43 i v170) a + (![8, 1] : Fin 2 → Nat) a * (S2x128.size a - 1) < S65536x128.size a := fun i v170 k0_hw17 k0_h3 => k0_hw17 k0_h3

def k0_off44 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c17_i32 : BitVec 32 := 17#32
  let v177 : BitVec 32 := Scalar.addi v23 c17_i32
  let v178 : Index := Scalar.indexCast v177
  ![v178.toNat]
def k0_off45 (i : grid0.Coords) (v179 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v180 : BitVec 32 := Scalar.addi v16 v179
  let v181 : Index := Scalar.indexCast v180
  let c0_50 : Index := 0#32
  ![v181.toNat, 0]

def k0_chk18 (i : grid0.Coords) (v179 : BitVec 32) : Prop :=
  (∀ (k0_h3 : k0_cond3 i = 1#1), ∀ a, S2x128.size a = 0 ∨ (k0_off45 i v179) a + (![8, 1] : Fin 2 → Nat) a * (S2x128.size a - 1) < S65536x128.size a)
theorem k0_off45_inb : ∀ (i : grid0.Coords) (v179 : BitVec 32) (k0_hw18 : k0_chk18 i v179), ∀ (k0_h3 : k0_cond3 i = 1#1), ∀ a, S2x128.size a = 0 ∨ (k0_off45 i v179) a + (![8, 1] : Fin 2 → Nat) a * (S2x128.size a - 1) < S65536x128.size a := fun i v179 k0_hw18 k0_h3 => k0_hw18 k0_h3

def k0_off46 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c18_i32 : BitVec 32 := 18#32
  let v186 : BitVec 32 := Scalar.addi v23 c18_i32
  let v187 : Index := Scalar.indexCast v186
  ![v187.toNat]
def k0_off47 (i : grid0.Coords) (v188 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v189 : BitVec 32 := Scalar.addi v16 v188
  let v190 : Index := Scalar.indexCast v189
  let c0_52 : Index := 0#32
  ![v190.toNat, 0]

def k0_chk19 (i : grid0.Coords) (v188 : BitVec 32) : Prop :=
  (∀ (k0_h3 : k0_cond3 i = 1#1), ∀ a, S2x128.size a = 0 ∨ (k0_off47 i v188) a + (![8, 1] : Fin 2 → Nat) a * (S2x128.size a - 1) < S65536x128.size a)
theorem k0_off47_inb : ∀ (i : grid0.Coords) (v188 : BitVec 32) (k0_hw19 : k0_chk19 i v188), ∀ (k0_h3 : k0_cond3 i = 1#1), ∀ a, S2x128.size a = 0 ∨ (k0_off47 i v188) a + (![8, 1] : Fin 2 → Nat) a * (S2x128.size a - 1) < S65536x128.size a := fun i v188 k0_hw19 k0_h3 => k0_hw19 k0_h3

def k0_off48 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c19_i32 : BitVec 32 := 19#32
  let v195 : BitVec 32 := Scalar.addi v23 c19_i32
  let v196 : Index := Scalar.indexCast v195
  ![v196.toNat]
def k0_off49 (i : grid0.Coords) (v197 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v198 : BitVec 32 := Scalar.addi v16 v197
  let v199 : Index := Scalar.indexCast v198
  let c0_54 : Index := 0#32
  ![v199.toNat, 0]

def k0_chk20 (i : grid0.Coords) (v197 : BitVec 32) : Prop :=
  (∀ (k0_h3 : k0_cond3 i = 1#1), ∀ a, S2x128.size a = 0 ∨ (k0_off49 i v197) a + (![8, 1] : Fin 2 → Nat) a * (S2x128.size a - 1) < S65536x128.size a)
theorem k0_off49_inb : ∀ (i : grid0.Coords) (v197 : BitVec 32) (k0_hw20 : k0_chk20 i v197), ∀ (k0_h3 : k0_cond3 i = 1#1), ∀ a, S2x128.size a = 0 ∨ (k0_off49 i v197) a + (![8, 1] : Fin 2 → Nat) a * (S2x128.size a - 1) < S65536x128.size a := fun i v197 k0_hw20 k0_h3 => k0_hw20 k0_h3

def k0_off50 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c20_i32 : BitVec 32 := 20#32
  let v204 : BitVec 32 := Scalar.addi v23 c20_i32
  let v205 : Index := Scalar.indexCast v204
  ![v205.toNat]
def k0_off51 (i : grid0.Coords) (v206 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v207 : BitVec 32 := Scalar.addi v16 v206
  let v208 : Index := Scalar.indexCast v207
  let c0_56 : Index := 0#32
  ![v208.toNat, 0]

def k0_chk21 (i : grid0.Coords) (v206 : BitVec 32) : Prop :=
  (∀ (k0_h3 : k0_cond3 i = 1#1), ∀ a, S2x128.size a = 0 ∨ (k0_off51 i v206) a + (![8, 1] : Fin 2 → Nat) a * (S2x128.size a - 1) < S65536x128.size a)
theorem k0_off51_inb : ∀ (i : grid0.Coords) (v206 : BitVec 32) (k0_hw21 : k0_chk21 i v206), ∀ (k0_h3 : k0_cond3 i = 1#1), ∀ a, S2x128.size a = 0 ∨ (k0_off51 i v206) a + (![8, 1] : Fin 2 → Nat) a * (S2x128.size a - 1) < S65536x128.size a := fun i v206 k0_hw21 k0_h3 => k0_hw21 k0_h3

def k0_off52 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c21_i32 : BitVec 32 := 21#32
  let v213 : BitVec 32 := Scalar.addi v23 c21_i32
  let v214 : Index := Scalar.indexCast v213
  ![v214.toNat]
def k0_off53 (i : grid0.Coords) (v215 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v216 : BitVec 32 := Scalar.addi v16 v215
  let v217 : Index := Scalar.indexCast v216
  let c0_58 : Index := 0#32
  ![v217.toNat, 0]

def k0_chk22 (i : grid0.Coords) (v215 : BitVec 32) : Prop :=
  (∀ (k0_h3 : k0_cond3 i = 1#1), ∀ a, S2x128.size a = 0 ∨ (k0_off53 i v215) a + (![8, 1] : Fin 2 → Nat) a * (S2x128.size a - 1) < S65536x128.size a)
theorem k0_off53_inb : ∀ (i : grid0.Coords) (v215 : BitVec 32) (k0_hw22 : k0_chk22 i v215), ∀ (k0_h3 : k0_cond3 i = 1#1), ∀ a, S2x128.size a = 0 ∨ (k0_off53 i v215) a + (![8, 1] : Fin 2 → Nat) a * (S2x128.size a - 1) < S65536x128.size a := fun i v215 k0_hw22 k0_h3 => k0_hw22 k0_h3

def k0_off54 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c22_i32 : BitVec 32 := 22#32
  let v222 : BitVec 32 := Scalar.addi v23 c22_i32
  let v223 : Index := Scalar.indexCast v222
  ![v223.toNat]
def k0_off55 (i : grid0.Coords) (v224 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v225 : BitVec 32 := Scalar.addi v16 v224
  let v226 : Index := Scalar.indexCast v225
  let c0_60 : Index := 0#32
  ![v226.toNat, 0]

def k0_chk23 (i : grid0.Coords) (v224 : BitVec 32) : Prop :=
  (∀ (k0_h3 : k0_cond3 i = 1#1), ∀ a, S2x128.size a = 0 ∨ (k0_off55 i v224) a + (![8, 1] : Fin 2 → Nat) a * (S2x128.size a - 1) < S65536x128.size a)
theorem k0_off55_inb : ∀ (i : grid0.Coords) (v224 : BitVec 32) (k0_hw23 : k0_chk23 i v224), ∀ (k0_h3 : k0_cond3 i = 1#1), ∀ a, S2x128.size a = 0 ∨ (k0_off55 i v224) a + (![8, 1] : Fin 2 → Nat) a * (S2x128.size a - 1) < S65536x128.size a := fun i v224 k0_hw23 k0_h3 => k0_hw23 k0_h3

def k0_off56 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c23_i32 : BitVec 32 := 23#32
  let v231 : BitVec 32 := Scalar.addi v23 c23_i32
  let v232 : Index := Scalar.indexCast v231
  ![v232.toNat]
def k0_off57 (i : grid0.Coords) (v233 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v234 : BitVec 32 := Scalar.addi v16 v233
  let v235 : Index := Scalar.indexCast v234
  let c0_62 : Index := 0#32
  ![v235.toNat, 0]

def k0_chk24 (i : grid0.Coords) (v233 : BitVec 32) : Prop :=
  (∀ (k0_h3 : k0_cond3 i = 1#1), ∀ a, S2x128.size a = 0 ∨ (k0_off57 i v233) a + (![8, 1] : Fin 2 → Nat) a * (S2x128.size a - 1) < S65536x128.size a)
theorem k0_off57_inb : ∀ (i : grid0.Coords) (v233 : BitVec 32) (k0_hw24 : k0_chk24 i v233), ∀ (k0_h3 : k0_cond3 i = 1#1), ∀ a, S2x128.size a = 0 ∨ (k0_off57 i v233) a + (![8, 1] : Fin 2 → Nat) a * (S2x128.size a - 1) < S65536x128.size a := fun i v233 k0_hw24 k0_h3 => k0_hw24 k0_h3

def k0_off58 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c24_i32 : BitVec 32 := 24#32
  let v240 : BitVec 32 := Scalar.addi v23 c24_i32
  let v241 : Index := Scalar.indexCast v240
  ![v241.toNat]
def k0_off59 (i : grid0.Coords) (v242 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v243 : BitVec 32 := Scalar.addi v16 v242
  let v244 : Index := Scalar.indexCast v243
  let c0_64 : Index := 0#32
  ![v244.toNat, 0]

def k0_chk25 (i : grid0.Coords) (v242 : BitVec 32) : Prop :=
  (∀ (k0_h3 : k0_cond3 i = 1#1), ∀ a, S2x128.size a = 0 ∨ (k0_off59 i v242) a + (![8, 1] : Fin 2 → Nat) a * (S2x128.size a - 1) < S65536x128.size a)
theorem k0_off59_inb : ∀ (i : grid0.Coords) (v242 : BitVec 32) (k0_hw25 : k0_chk25 i v242), ∀ (k0_h3 : k0_cond3 i = 1#1), ∀ a, S2x128.size a = 0 ∨ (k0_off59 i v242) a + (![8, 1] : Fin 2 → Nat) a * (S2x128.size a - 1) < S65536x128.size a := fun i v242 k0_hw25 k0_h3 => k0_hw25 k0_h3

def k0_off60 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c25_i32 : BitVec 32 := 25#32
  let v249 : BitVec 32 := Scalar.addi v23 c25_i32
  let v250 : Index := Scalar.indexCast v249
  ![v250.toNat]
def k0_off61 (i : grid0.Coords) (v251 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v252 : BitVec 32 := Scalar.addi v16 v251
  let v253 : Index := Scalar.indexCast v252
  let c0_66 : Index := 0#32
  ![v253.toNat, 0]

def k0_chk26 (i : grid0.Coords) (v251 : BitVec 32) : Prop :=
  (∀ (k0_h3 : k0_cond3 i = 1#1), ∀ a, S2x128.size a = 0 ∨ (k0_off61 i v251) a + (![8, 1] : Fin 2 → Nat) a * (S2x128.size a - 1) < S65536x128.size a)
theorem k0_off61_inb : ∀ (i : grid0.Coords) (v251 : BitVec 32) (k0_hw26 : k0_chk26 i v251), ∀ (k0_h3 : k0_cond3 i = 1#1), ∀ a, S2x128.size a = 0 ∨ (k0_off61 i v251) a + (![8, 1] : Fin 2 → Nat) a * (S2x128.size a - 1) < S65536x128.size a := fun i v251 k0_hw26 k0_h3 => k0_hw26 k0_h3

def k0_off62 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c26_i32 : BitVec 32 := 26#32
  let v258 : BitVec 32 := Scalar.addi v23 c26_i32
  let v259 : Index := Scalar.indexCast v258
  ![v259.toNat]
def k0_off63 (i : grid0.Coords) (v260 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v261 : BitVec 32 := Scalar.addi v16 v260
  let v262 : Index := Scalar.indexCast v261
  let c0_68 : Index := 0#32
  ![v262.toNat, 0]

def k0_chk27 (i : grid0.Coords) (v260 : BitVec 32) : Prop :=
  (∀ (k0_h3 : k0_cond3 i = 1#1), ∀ a, S2x128.size a = 0 ∨ (k0_off63 i v260) a + (![8, 1] : Fin 2 → Nat) a * (S2x128.size a - 1) < S65536x128.size a)
theorem k0_off63_inb : ∀ (i : grid0.Coords) (v260 : BitVec 32) (k0_hw27 : k0_chk27 i v260), ∀ (k0_h3 : k0_cond3 i = 1#1), ∀ a, S2x128.size a = 0 ∨ (k0_off63 i v260) a + (![8, 1] : Fin 2 → Nat) a * (S2x128.size a - 1) < S65536x128.size a := fun i v260 k0_hw27 k0_h3 => k0_hw27 k0_h3

def k0_off64 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c27_i32 : BitVec 32 := 27#32
  let v267 : BitVec 32 := Scalar.addi v23 c27_i32
  let v268 : Index := Scalar.indexCast v267
  ![v268.toNat]
def k0_off65 (i : grid0.Coords) (v269 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v270 : BitVec 32 := Scalar.addi v16 v269
  let v271 : Index := Scalar.indexCast v270
  let c0_70 : Index := 0#32
  ![v271.toNat, 0]

def k0_chk28 (i : grid0.Coords) (v269 : BitVec 32) : Prop :=
  (∀ (k0_h3 : k0_cond3 i = 1#1), ∀ a, S2x128.size a = 0 ∨ (k0_off65 i v269) a + (![8, 1] : Fin 2 → Nat) a * (S2x128.size a - 1) < S65536x128.size a)
theorem k0_off65_inb : ∀ (i : grid0.Coords) (v269 : BitVec 32) (k0_hw28 : k0_chk28 i v269), ∀ (k0_h3 : k0_cond3 i = 1#1), ∀ a, S2x128.size a = 0 ∨ (k0_off65 i v269) a + (![8, 1] : Fin 2 → Nat) a * (S2x128.size a - 1) < S65536x128.size a := fun i v269 k0_hw28 k0_h3 => k0_hw28 k0_h3

def k0_off66 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c28_i32 : BitVec 32 := 28#32
  let v276 : BitVec 32 := Scalar.addi v23 c28_i32
  let v277 : Index := Scalar.indexCast v276
  ![v277.toNat]
def k0_off67 (i : grid0.Coords) (v278 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v279 : BitVec 32 := Scalar.addi v16 v278
  let v280 : Index := Scalar.indexCast v279
  let c0_72 : Index := 0#32
  ![v280.toNat, 0]

def k0_chk29 (i : grid0.Coords) (v278 : BitVec 32) : Prop :=
  (∀ (k0_h3 : k0_cond3 i = 1#1), ∀ a, S2x128.size a = 0 ∨ (k0_off67 i v278) a + (![8, 1] : Fin 2 → Nat) a * (S2x128.size a - 1) < S65536x128.size a)
theorem k0_off67_inb : ∀ (i : grid0.Coords) (v278 : BitVec 32) (k0_hw29 : k0_chk29 i v278), ∀ (k0_h3 : k0_cond3 i = 1#1), ∀ a, S2x128.size a = 0 ∨ (k0_off67 i v278) a + (![8, 1] : Fin 2 → Nat) a * (S2x128.size a - 1) < S65536x128.size a := fun i v278 k0_hw29 k0_h3 => k0_hw29 k0_h3

def k0_off68 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c29_i32 : BitVec 32 := 29#32
  let v285 : BitVec 32 := Scalar.addi v23 c29_i32
  let v286 : Index := Scalar.indexCast v285
  ![v286.toNat]
def k0_off69 (i : grid0.Coords) (v287 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v288 : BitVec 32 := Scalar.addi v16 v287
  let v289 : Index := Scalar.indexCast v288
  let c0_74 : Index := 0#32
  ![v289.toNat, 0]

def k0_chk30 (i : grid0.Coords) (v287 : BitVec 32) : Prop :=
  (∀ (k0_h3 : k0_cond3 i = 1#1), ∀ a, S2x128.size a = 0 ∨ (k0_off69 i v287) a + (![8, 1] : Fin 2 → Nat) a * (S2x128.size a - 1) < S65536x128.size a)
theorem k0_off69_inb : ∀ (i : grid0.Coords) (v287 : BitVec 32) (k0_hw30 : k0_chk30 i v287), ∀ (k0_h3 : k0_cond3 i = 1#1), ∀ a, S2x128.size a = 0 ∨ (k0_off69 i v287) a + (![8, 1] : Fin 2 → Nat) a * (S2x128.size a - 1) < S65536x128.size a := fun i v287 k0_hw30 k0_h3 => k0_hw30 k0_h3

def k0_off70 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c30_i32 : BitVec 32 := 30#32
  let v294 : BitVec 32 := Scalar.addi v23 c30_i32
  let v295 : Index := Scalar.indexCast v294
  ![v295.toNat]
def k0_off71 (i : grid0.Coords) (v296 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v297 : BitVec 32 := Scalar.addi v16 v296
  let v298 : Index := Scalar.indexCast v297
  let c0_76 : Index := 0#32
  ![v298.toNat, 0]

def k0_chk31 (i : grid0.Coords) (v296 : BitVec 32) : Prop :=
  (∀ (k0_h3 : k0_cond3 i = 1#1), ∀ a, S2x128.size a = 0 ∨ (k0_off71 i v296) a + (![8, 1] : Fin 2 → Nat) a * (S2x128.size a - 1) < S65536x128.size a)
theorem k0_off71_inb : ∀ (i : grid0.Coords) (v296 : BitVec 32) (k0_hw31 : k0_chk31 i v296), ∀ (k0_h3 : k0_cond3 i = 1#1), ∀ a, S2x128.size a = 0 ∨ (k0_off71 i v296) a + (![8, 1] : Fin 2 → Nat) a * (S2x128.size a - 1) < S65536x128.size a := fun i v296 k0_hw31 k0_h3 => k0_hw31 k0_h3

def k0_off72 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c31_i32 : BitVec 32 := 31#32
  let v303 : BitVec 32 := Scalar.addi v23 c31_i32
  let v304 : Index := Scalar.indexCast v303
  ![v304.toNat]
def k0_off73 (i : grid0.Coords) (v305 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v306 : BitVec 32 := Scalar.addi v16 v305
  let v307 : Index := Scalar.indexCast v306
  let c0_78 : Index := 0#32
  ![v307.toNat, 0]

def k0_chk32 (i : grid0.Coords) (v305 : BitVec 32) : Prop :=
  (∀ (k0_h3 : k0_cond3 i = 1#1), ∀ a, S2x128.size a = 0 ∨ (k0_off73 i v305) a + (![8, 1] : Fin 2 → Nat) a * (S2x128.size a - 1) < S65536x128.size a)
theorem k0_off73_inb : ∀ (i : grid0.Coords) (v305 : BitVec 32) (k0_hw32 : k0_chk32 i v305), ∀ (k0_h3 : k0_cond3 i = 1#1), ∀ a, S2x128.size a = 0 ∨ (k0_off73 i v305) a + (![8, 1] : Fin 2 → Nat) a * (S2x128.size a - 1) < S65536x128.size a := fun i v305 k0_hw32 k0_h3 => k0_hw32 k0_h3

def k0_off74 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c32_i32 : BitVec 32 := 32#32
  let v312 : BitVec 32 := Scalar.addi v23 c32_i32
  let v313 : Index := Scalar.indexCast v312
  ![v313.toNat]
def k0_off75 (i : grid0.Coords) (v314 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v315 : BitVec 32 := Scalar.addi v16 v314
  let v316 : Index := Scalar.indexCast v315
  let c0_80 : Index := 0#32
  ![v316.toNat, 0]

def k0_chk33 (i : grid0.Coords) (v314 : BitVec 32) : Prop :=
  (∀ (k0_h3 : k0_cond3 i = 1#1), ∀ a, S2x128.size a = 0 ∨ (k0_off75 i v314) a + (![8, 1] : Fin 2 → Nat) a * (S2x128.size a - 1) < S65536x128.size a)
theorem k0_off75_inb : ∀ (i : grid0.Coords) (v314 : BitVec 32) (k0_hw33 : k0_chk33 i v314), ∀ (k0_h3 : k0_cond3 i = 1#1), ∀ a, S2x128.size a = 0 ∨ (k0_off75 i v314) a + (![8, 1] : Fin 2 → Nat) a * (S2x128.size a - 1) < S65536x128.size a := fun i v314 k0_hw33 k0_h3 => k0_hw33 k0_h3

def k0_off76 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c33_i32 : BitVec 32 := 33#32
  let v321 : BitVec 32 := Scalar.addi v23 c33_i32
  let v322 : Index := Scalar.indexCast v321
  ![v322.toNat]
def k0_off77 (i : grid0.Coords) (v323 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v324 : BitVec 32 := Scalar.addi v16 v323
  let v325 : Index := Scalar.indexCast v324
  let c0_82 : Index := 0#32
  ![v325.toNat, 0]

def k0_chk34 (i : grid0.Coords) (v323 : BitVec 32) : Prop :=
  (∀ (k0_h3 : k0_cond3 i = 1#1), ∀ a, S2x128.size a = 0 ∨ (k0_off77 i v323) a + (![8, 1] : Fin 2 → Nat) a * (S2x128.size a - 1) < S65536x128.size a)
theorem k0_off77_inb : ∀ (i : grid0.Coords) (v323 : BitVec 32) (k0_hw34 : k0_chk34 i v323), ∀ (k0_h3 : k0_cond3 i = 1#1), ∀ a, S2x128.size a = 0 ∨ (k0_off77 i v323) a + (![8, 1] : Fin 2 → Nat) a * (S2x128.size a - 1) < S65536x128.size a := fun i v323 k0_hw34 k0_h3 => k0_hw34 k0_h3

def k0_off78 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c34_i32 : BitVec 32 := 34#32
  let v330 : BitVec 32 := Scalar.addi v23 c34_i32
  let v331 : Index := Scalar.indexCast v330
  ![v331.toNat]
def k0_off79 (i : grid0.Coords) (v332 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v333 : BitVec 32 := Scalar.addi v16 v332
  let v334 : Index := Scalar.indexCast v333
  let c0_84 : Index := 0#32
  ![v334.toNat, 0]

def k0_chk35 (i : grid0.Coords) (v332 : BitVec 32) : Prop :=
  (∀ (k0_h3 : k0_cond3 i = 1#1), ∀ a, S2x128.size a = 0 ∨ (k0_off79 i v332) a + (![8, 1] : Fin 2 → Nat) a * (S2x128.size a - 1) < S65536x128.size a)
theorem k0_off79_inb : ∀ (i : grid0.Coords) (v332 : BitVec 32) (k0_hw35 : k0_chk35 i v332), ∀ (k0_h3 : k0_cond3 i = 1#1), ∀ a, S2x128.size a = 0 ∨ (k0_off79 i v332) a + (![8, 1] : Fin 2 → Nat) a * (S2x128.size a - 1) < S65536x128.size a := fun i v332 k0_hw35 k0_h3 => k0_hw35 k0_h3

def k0_off80 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c35_i32 : BitVec 32 := 35#32
  let v339 : BitVec 32 := Scalar.addi v23 c35_i32
  let v340 : Index := Scalar.indexCast v339
  ![v340.toNat]
def k0_off81 (i : grid0.Coords) (v341 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v342 : BitVec 32 := Scalar.addi v16 v341
  let v343 : Index := Scalar.indexCast v342
  let c0_86 : Index := 0#32
  ![v343.toNat, 0]

def k0_chk36 (i : grid0.Coords) (v341 : BitVec 32) : Prop :=
  (∀ (k0_h3 : k0_cond3 i = 1#1), ∀ a, S2x128.size a = 0 ∨ (k0_off81 i v341) a + (![8, 1] : Fin 2 → Nat) a * (S2x128.size a - 1) < S65536x128.size a)
theorem k0_off81_inb : ∀ (i : grid0.Coords) (v341 : BitVec 32) (k0_hw36 : k0_chk36 i v341), ∀ (k0_h3 : k0_cond3 i = 1#1), ∀ a, S2x128.size a = 0 ∨ (k0_off81 i v341) a + (![8, 1] : Fin 2 → Nat) a * (S2x128.size a - 1) < S65536x128.size a := fun i v341 k0_hw36 k0_h3 => k0_hw36 k0_h3

def k0_off82 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c36_i32 : BitVec 32 := 36#32
  let v348 : BitVec 32 := Scalar.addi v23 c36_i32
  let v349 : Index := Scalar.indexCast v348
  ![v349.toNat]
def k0_off83 (i : grid0.Coords) (v350 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v351 : BitVec 32 := Scalar.addi v16 v350
  let v352 : Index := Scalar.indexCast v351
  let c0_88 : Index := 0#32
  ![v352.toNat, 0]

def k0_chk37 (i : grid0.Coords) (v350 : BitVec 32) : Prop :=
  (∀ (k0_h3 : k0_cond3 i = 1#1), ∀ a, S2x128.size a = 0 ∨ (k0_off83 i v350) a + (![8, 1] : Fin 2 → Nat) a * (S2x128.size a - 1) < S65536x128.size a)
theorem k0_off83_inb : ∀ (i : grid0.Coords) (v350 : BitVec 32) (k0_hw37 : k0_chk37 i v350), ∀ (k0_h3 : k0_cond3 i = 1#1), ∀ a, S2x128.size a = 0 ∨ (k0_off83 i v350) a + (![8, 1] : Fin 2 → Nat) a * (S2x128.size a - 1) < S65536x128.size a := fun i v350 k0_hw37 k0_h3 => k0_hw37 k0_h3

def k0_off84 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c37_i32 : BitVec 32 := 37#32
  let v357 : BitVec 32 := Scalar.addi v23 c37_i32
  let v358 : Index := Scalar.indexCast v357
  ![v358.toNat]
def k0_off85 (i : grid0.Coords) (v359 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v360 : BitVec 32 := Scalar.addi v16 v359
  let v361 : Index := Scalar.indexCast v360
  let c0_90 : Index := 0#32
  ![v361.toNat, 0]

def k0_chk38 (i : grid0.Coords) (v359 : BitVec 32) : Prop :=
  (∀ (k0_h3 : k0_cond3 i = 1#1), ∀ a, S2x128.size a = 0 ∨ (k0_off85 i v359) a + (![8, 1] : Fin 2 → Nat) a * (S2x128.size a - 1) < S65536x128.size a)
theorem k0_off85_inb : ∀ (i : grid0.Coords) (v359 : BitVec 32) (k0_hw38 : k0_chk38 i v359), ∀ (k0_h3 : k0_cond3 i = 1#1), ∀ a, S2x128.size a = 0 ∨ (k0_off85 i v359) a + (![8, 1] : Fin 2 → Nat) a * (S2x128.size a - 1) < S65536x128.size a := fun i v359 k0_hw38 k0_h3 => k0_hw38 k0_h3

def k0_off86 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c38_i32 : BitVec 32 := 38#32
  let v366 : BitVec 32 := Scalar.addi v23 c38_i32
  let v367 : Index := Scalar.indexCast v366
  ![v367.toNat]
def k0_off87 (i : grid0.Coords) (v368 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v369 : BitVec 32 := Scalar.addi v16 v368
  let v370 : Index := Scalar.indexCast v369
  let c0_92 : Index := 0#32
  ![v370.toNat, 0]

def k0_chk39 (i : grid0.Coords) (v368 : BitVec 32) : Prop :=
  (∀ (k0_h3 : k0_cond3 i = 1#1), ∀ a, S2x128.size a = 0 ∨ (k0_off87 i v368) a + (![8, 1] : Fin 2 → Nat) a * (S2x128.size a - 1) < S65536x128.size a)
theorem k0_off87_inb : ∀ (i : grid0.Coords) (v368 : BitVec 32) (k0_hw39 : k0_chk39 i v368), ∀ (k0_h3 : k0_cond3 i = 1#1), ∀ a, S2x128.size a = 0 ∨ (k0_off87 i v368) a + (![8, 1] : Fin 2 → Nat) a * (S2x128.size a - 1) < S65536x128.size a := fun i v368 k0_hw39 k0_h3 => k0_hw39 k0_h3

def k0_off88 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c39_i32 : BitVec 32 := 39#32
  let v375 : BitVec 32 := Scalar.addi v23 c39_i32
  let v376 : Index := Scalar.indexCast v375
  ![v376.toNat]
def k0_off89 (i : grid0.Coords) (v377 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v378 : BitVec 32 := Scalar.addi v16 v377
  let v379 : Index := Scalar.indexCast v378
  let c0_94 : Index := 0#32
  ![v379.toNat, 0]

def k0_chk40 (i : grid0.Coords) (v377 : BitVec 32) : Prop :=
  (∀ (k0_h3 : k0_cond3 i = 1#1), ∀ a, S2x128.size a = 0 ∨ (k0_off89 i v377) a + (![8, 1] : Fin 2 → Nat) a * (S2x128.size a - 1) < S65536x128.size a)
theorem k0_off89_inb : ∀ (i : grid0.Coords) (v377 : BitVec 32) (k0_hw40 : k0_chk40 i v377), ∀ (k0_h3 : k0_cond3 i = 1#1), ∀ a, S2x128.size a = 0 ∨ (k0_off89 i v377) a + (![8, 1] : Fin 2 → Nat) a * (S2x128.size a - 1) < S65536x128.size a := fun i v377 k0_hw40 k0_h3 => k0_hw40 k0_h3

def k0_off90 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c40_i32 : BitVec 32 := 40#32
  let v384 : BitVec 32 := Scalar.addi v23 c40_i32
  let v385 : Index := Scalar.indexCast v384
  ![v385.toNat]
def k0_off91 (i : grid0.Coords) (v386 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v387 : BitVec 32 := Scalar.addi v16 v386
  let v388 : Index := Scalar.indexCast v387
  let c0_96 : Index := 0#32
  ![v388.toNat, 0]

def k0_chk41 (i : grid0.Coords) (v386 : BitVec 32) : Prop :=
  (∀ (k0_h3 : k0_cond3 i = 1#1), ∀ a, S2x128.size a = 0 ∨ (k0_off91 i v386) a + (![8, 1] : Fin 2 → Nat) a * (S2x128.size a - 1) < S65536x128.size a)
theorem k0_off91_inb : ∀ (i : grid0.Coords) (v386 : BitVec 32) (k0_hw41 : k0_chk41 i v386), ∀ (k0_h3 : k0_cond3 i = 1#1), ∀ a, S2x128.size a = 0 ∨ (k0_off91 i v386) a + (![8, 1] : Fin 2 → Nat) a * (S2x128.size a - 1) < S65536x128.size a := fun i v386 k0_hw41 k0_h3 => k0_hw41 k0_h3

def k0_off92 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c41_i32 : BitVec 32 := 41#32
  let v393 : BitVec 32 := Scalar.addi v23 c41_i32
  let v394 : Index := Scalar.indexCast v393
  ![v394.toNat]
def k0_off93 (i : grid0.Coords) (v395 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v396 : BitVec 32 := Scalar.addi v16 v395
  let v397 : Index := Scalar.indexCast v396
  let c0_98 : Index := 0#32
  ![v397.toNat, 0]

def k0_chk42 (i : grid0.Coords) (v395 : BitVec 32) : Prop :=
  (∀ (k0_h3 : k0_cond3 i = 1#1), ∀ a, S2x128.size a = 0 ∨ (k0_off93 i v395) a + (![8, 1] : Fin 2 → Nat) a * (S2x128.size a - 1) < S65536x128.size a)
theorem k0_off93_inb : ∀ (i : grid0.Coords) (v395 : BitVec 32) (k0_hw42 : k0_chk42 i v395), ∀ (k0_h3 : k0_cond3 i = 1#1), ∀ a, S2x128.size a = 0 ∨ (k0_off93 i v395) a + (![8, 1] : Fin 2 → Nat) a * (S2x128.size a - 1) < S65536x128.size a := fun i v395 k0_hw42 k0_h3 => k0_hw42 k0_h3

def k0_off94 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c42_i32 : BitVec 32 := 42#32
  let v402 : BitVec 32 := Scalar.addi v23 c42_i32
  let v403 : Index := Scalar.indexCast v402
  ![v403.toNat]
def k0_off95 (i : grid0.Coords) (v404 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v405 : BitVec 32 := Scalar.addi v16 v404
  let v406 : Index := Scalar.indexCast v405
  let c0_100 : Index := 0#32
  ![v406.toNat, 0]

def k0_chk43 (i : grid0.Coords) (v404 : BitVec 32) : Prop :=
  (∀ (k0_h3 : k0_cond3 i = 1#1), ∀ a, S2x128.size a = 0 ∨ (k0_off95 i v404) a + (![8, 1] : Fin 2 → Nat) a * (S2x128.size a - 1) < S65536x128.size a)
theorem k0_off95_inb : ∀ (i : grid0.Coords) (v404 : BitVec 32) (k0_hw43 : k0_chk43 i v404), ∀ (k0_h3 : k0_cond3 i = 1#1), ∀ a, S2x128.size a = 0 ∨ (k0_off95 i v404) a + (![8, 1] : Fin 2 → Nat) a * (S2x128.size a - 1) < S65536x128.size a := fun i v404 k0_hw43 k0_h3 => k0_hw43 k0_h3

def k0_off96 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c43_i32 : BitVec 32 := 43#32
  let v411 : BitVec 32 := Scalar.addi v23 c43_i32
  let v412 : Index := Scalar.indexCast v411
  ![v412.toNat]
def k0_off97 (i : grid0.Coords) (v413 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v414 : BitVec 32 := Scalar.addi v16 v413
  let v415 : Index := Scalar.indexCast v414
  let c0_102 : Index := 0#32
  ![v415.toNat, 0]

def k0_chk44 (i : grid0.Coords) (v413 : BitVec 32) : Prop :=
  (∀ (k0_h3 : k0_cond3 i = 1#1), ∀ a, S2x128.size a = 0 ∨ (k0_off97 i v413) a + (![8, 1] : Fin 2 → Nat) a * (S2x128.size a - 1) < S65536x128.size a)
theorem k0_off97_inb : ∀ (i : grid0.Coords) (v413 : BitVec 32) (k0_hw44 : k0_chk44 i v413), ∀ (k0_h3 : k0_cond3 i = 1#1), ∀ a, S2x128.size a = 0 ∨ (k0_off97 i v413) a + (![8, 1] : Fin 2 → Nat) a * (S2x128.size a - 1) < S65536x128.size a := fun i v413 k0_hw44 k0_h3 => k0_hw44 k0_h3

def k0_off98 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c44_i32 : BitVec 32 := 44#32
  let v420 : BitVec 32 := Scalar.addi v23 c44_i32
  let v421 : Index := Scalar.indexCast v420
  ![v421.toNat]
def k0_off99 (i : grid0.Coords) (v422 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v423 : BitVec 32 := Scalar.addi v16 v422
  let v424 : Index := Scalar.indexCast v423
  let c0_104 : Index := 0#32
  ![v424.toNat, 0]

def k0_chk45 (i : grid0.Coords) (v422 : BitVec 32) : Prop :=
  (∀ (k0_h3 : k0_cond3 i = 1#1), ∀ a, S2x128.size a = 0 ∨ (k0_off99 i v422) a + (![8, 1] : Fin 2 → Nat) a * (S2x128.size a - 1) < S65536x128.size a)
theorem k0_off99_inb : ∀ (i : grid0.Coords) (v422 : BitVec 32) (k0_hw45 : k0_chk45 i v422), ∀ (k0_h3 : k0_cond3 i = 1#1), ∀ a, S2x128.size a = 0 ∨ (k0_off99 i v422) a + (![8, 1] : Fin 2 → Nat) a * (S2x128.size a - 1) < S65536x128.size a := fun i v422 k0_hw45 k0_h3 => k0_hw45 k0_h3

def k0_off100 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c45_i32 : BitVec 32 := 45#32
  let v429 : BitVec 32 := Scalar.addi v23 c45_i32
  let v430 : Index := Scalar.indexCast v429
  ![v430.toNat]
def k0_off101 (i : grid0.Coords) (v431 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v432 : BitVec 32 := Scalar.addi v16 v431
  let v433 : Index := Scalar.indexCast v432
  let c0_106 : Index := 0#32
  ![v433.toNat, 0]

def k0_chk46 (i : grid0.Coords) (v431 : BitVec 32) : Prop :=
  (∀ (k0_h3 : k0_cond3 i = 1#1), ∀ a, S2x128.size a = 0 ∨ (k0_off101 i v431) a + (![8, 1] : Fin 2 → Nat) a * (S2x128.size a - 1) < S65536x128.size a)
theorem k0_off101_inb : ∀ (i : grid0.Coords) (v431 : BitVec 32) (k0_hw46 : k0_chk46 i v431), ∀ (k0_h3 : k0_cond3 i = 1#1), ∀ a, S2x128.size a = 0 ∨ (k0_off101 i v431) a + (![8, 1] : Fin 2 → Nat) a * (S2x128.size a - 1) < S65536x128.size a := fun i v431 k0_hw46 k0_h3 => k0_hw46 k0_h3

def k0_off102 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c46_i32 : BitVec 32 := 46#32
  let v438 : BitVec 32 := Scalar.addi v23 c46_i32
  let v439 : Index := Scalar.indexCast v438
  ![v439.toNat]
def k0_off103 (i : grid0.Coords) (v440 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v441 : BitVec 32 := Scalar.addi v16 v440
  let v442 : Index := Scalar.indexCast v441
  let c0_108 : Index := 0#32
  ![v442.toNat, 0]

def k0_chk47 (i : grid0.Coords) (v440 : BitVec 32) : Prop :=
  (∀ (k0_h3 : k0_cond3 i = 1#1), ∀ a, S2x128.size a = 0 ∨ (k0_off103 i v440) a + (![8, 1] : Fin 2 → Nat) a * (S2x128.size a - 1) < S65536x128.size a)
theorem k0_off103_inb : ∀ (i : grid0.Coords) (v440 : BitVec 32) (k0_hw47 : k0_chk47 i v440), ∀ (k0_h3 : k0_cond3 i = 1#1), ∀ a, S2x128.size a = 0 ∨ (k0_off103 i v440) a + (![8, 1] : Fin 2 → Nat) a * (S2x128.size a - 1) < S65536x128.size a := fun i v440 k0_hw47 k0_h3 => k0_hw47 k0_h3

def k0_off104 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c47_i32 : BitVec 32 := 47#32
  let v447 : BitVec 32 := Scalar.addi v23 c47_i32
  let v448 : Index := Scalar.indexCast v447
  ![v448.toNat]
def k0_off105 (i : grid0.Coords) (v449 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v450 : BitVec 32 := Scalar.addi v16 v449
  let v451 : Index := Scalar.indexCast v450
  let c0_110 : Index := 0#32
  ![v451.toNat, 0]

def k0_chk48 (i : grid0.Coords) (v449 : BitVec 32) : Prop :=
  (∀ (k0_h3 : k0_cond3 i = 1#1), ∀ a, S2x128.size a = 0 ∨ (k0_off105 i v449) a + (![8, 1] : Fin 2 → Nat) a * (S2x128.size a - 1) < S65536x128.size a)
theorem k0_off105_inb : ∀ (i : grid0.Coords) (v449 : BitVec 32) (k0_hw48 : k0_chk48 i v449), ∀ (k0_h3 : k0_cond3 i = 1#1), ∀ a, S2x128.size a = 0 ∨ (k0_off105 i v449) a + (![8, 1] : Fin 2 → Nat) a * (S2x128.size a - 1) < S65536x128.size a := fun i v449 k0_hw48 k0_h3 => k0_hw48 k0_h3

def k0_off106 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c48_i32 : BitVec 32 := 48#32
  let v456 : BitVec 32 := Scalar.addi v23 c48_i32
  let v457 : Index := Scalar.indexCast v456
  ![v457.toNat]
def k0_off107 (i : grid0.Coords) (v458 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v459 : BitVec 32 := Scalar.addi v16 v458
  let v460 : Index := Scalar.indexCast v459
  let c0_112 : Index := 0#32
  ![v460.toNat, 0]

def k0_chk49 (i : grid0.Coords) (v458 : BitVec 32) : Prop :=
  (∀ (k0_h3 : k0_cond3 i = 1#1), ∀ a, S2x128.size a = 0 ∨ (k0_off107 i v458) a + (![8, 1] : Fin 2 → Nat) a * (S2x128.size a - 1) < S65536x128.size a)
theorem k0_off107_inb : ∀ (i : grid0.Coords) (v458 : BitVec 32) (k0_hw49 : k0_chk49 i v458), ∀ (k0_h3 : k0_cond3 i = 1#1), ∀ a, S2x128.size a = 0 ∨ (k0_off107 i v458) a + (![8, 1] : Fin 2 → Nat) a * (S2x128.size a - 1) < S65536x128.size a := fun i v458 k0_hw49 k0_h3 => k0_hw49 k0_h3

def k0_off108 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c49_i32 : BitVec 32 := 49#32
  let v465 : BitVec 32 := Scalar.addi v23 c49_i32
  let v466 : Index := Scalar.indexCast v465
  ![v466.toNat]
def k0_off109 (i : grid0.Coords) (v467 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v468 : BitVec 32 := Scalar.addi v16 v467
  let v469 : Index := Scalar.indexCast v468
  let c0_114 : Index := 0#32
  ![v469.toNat, 0]

def k0_chk50 (i : grid0.Coords) (v467 : BitVec 32) : Prop :=
  (∀ (k0_h3 : k0_cond3 i = 1#1), ∀ a, S2x128.size a = 0 ∨ (k0_off109 i v467) a + (![8, 1] : Fin 2 → Nat) a * (S2x128.size a - 1) < S65536x128.size a)
theorem k0_off109_inb : ∀ (i : grid0.Coords) (v467 : BitVec 32) (k0_hw50 : k0_chk50 i v467), ∀ (k0_h3 : k0_cond3 i = 1#1), ∀ a, S2x128.size a = 0 ∨ (k0_off109 i v467) a + (![8, 1] : Fin 2 → Nat) a * (S2x128.size a - 1) < S65536x128.size a := fun i v467 k0_hw50 k0_h3 => k0_hw50 k0_h3

def k0_off110 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c50_i32 : BitVec 32 := 50#32
  let v474 : BitVec 32 := Scalar.addi v23 c50_i32
  let v475 : Index := Scalar.indexCast v474
  ![v475.toNat]
def k0_off111 (i : grid0.Coords) (v476 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v477 : BitVec 32 := Scalar.addi v16 v476
  let v478 : Index := Scalar.indexCast v477
  let c0_116 : Index := 0#32
  ![v478.toNat, 0]

def k0_chk51 (i : grid0.Coords) (v476 : BitVec 32) : Prop :=
  (∀ (k0_h3 : k0_cond3 i = 1#1), ∀ a, S2x128.size a = 0 ∨ (k0_off111 i v476) a + (![8, 1] : Fin 2 → Nat) a * (S2x128.size a - 1) < S65536x128.size a)
theorem k0_off111_inb : ∀ (i : grid0.Coords) (v476 : BitVec 32) (k0_hw51 : k0_chk51 i v476), ∀ (k0_h3 : k0_cond3 i = 1#1), ∀ a, S2x128.size a = 0 ∨ (k0_off111 i v476) a + (![8, 1] : Fin 2 → Nat) a * (S2x128.size a - 1) < S65536x128.size a := fun i v476 k0_hw51 k0_h3 => k0_hw51 k0_h3

def k0_off112 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c51_i32 : BitVec 32 := 51#32
  let v483 : BitVec 32 := Scalar.addi v23 c51_i32
  let v484 : Index := Scalar.indexCast v483
  ![v484.toNat]
def k0_off113 (i : grid0.Coords) (v485 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v486 : BitVec 32 := Scalar.addi v16 v485
  let v487 : Index := Scalar.indexCast v486
  let c0_118 : Index := 0#32
  ![v487.toNat, 0]

def k0_chk52 (i : grid0.Coords) (v485 : BitVec 32) : Prop :=
  (∀ (k0_h3 : k0_cond3 i = 1#1), ∀ a, S2x128.size a = 0 ∨ (k0_off113 i v485) a + (![8, 1] : Fin 2 → Nat) a * (S2x128.size a - 1) < S65536x128.size a)
theorem k0_off113_inb : ∀ (i : grid0.Coords) (v485 : BitVec 32) (k0_hw52 : k0_chk52 i v485), ∀ (k0_h3 : k0_cond3 i = 1#1), ∀ a, S2x128.size a = 0 ∨ (k0_off113 i v485) a + (![8, 1] : Fin 2 → Nat) a * (S2x128.size a - 1) < S65536x128.size a := fun i v485 k0_hw52 k0_h3 => k0_hw52 k0_h3

def k0_off114 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c52_i32 : BitVec 32 := 52#32
  let v492 : BitVec 32 := Scalar.addi v23 c52_i32
  let v493 : Index := Scalar.indexCast v492
  ![v493.toNat]
def k0_off115 (i : grid0.Coords) (v494 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v495 : BitVec 32 := Scalar.addi v16 v494
  let v496 : Index := Scalar.indexCast v495
  let c0_120 : Index := 0#32
  ![v496.toNat, 0]

def k0_chk53 (i : grid0.Coords) (v494 : BitVec 32) : Prop :=
  (∀ (k0_h3 : k0_cond3 i = 1#1), ∀ a, S2x128.size a = 0 ∨ (k0_off115 i v494) a + (![8, 1] : Fin 2 → Nat) a * (S2x128.size a - 1) < S65536x128.size a)
theorem k0_off115_inb : ∀ (i : grid0.Coords) (v494 : BitVec 32) (k0_hw53 : k0_chk53 i v494), ∀ (k0_h3 : k0_cond3 i = 1#1), ∀ a, S2x128.size a = 0 ∨ (k0_off115 i v494) a + (![8, 1] : Fin 2 → Nat) a * (S2x128.size a - 1) < S65536x128.size a := fun i v494 k0_hw53 k0_h3 => k0_hw53 k0_h3

def k0_off116 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c53_i32 : BitVec 32 := 53#32
  let v501 : BitVec 32 := Scalar.addi v23 c53_i32
  let v502 : Index := Scalar.indexCast v501
  ![v502.toNat]
def k0_off117 (i : grid0.Coords) (v503 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v504 : BitVec 32 := Scalar.addi v16 v503
  let v505 : Index := Scalar.indexCast v504
  let c0_122 : Index := 0#32
  ![v505.toNat, 0]

def k0_chk54 (i : grid0.Coords) (v503 : BitVec 32) : Prop :=
  (∀ (k0_h3 : k0_cond3 i = 1#1), ∀ a, S2x128.size a = 0 ∨ (k0_off117 i v503) a + (![8, 1] : Fin 2 → Nat) a * (S2x128.size a - 1) < S65536x128.size a)
theorem k0_off117_inb : ∀ (i : grid0.Coords) (v503 : BitVec 32) (k0_hw54 : k0_chk54 i v503), ∀ (k0_h3 : k0_cond3 i = 1#1), ∀ a, S2x128.size a = 0 ∨ (k0_off117 i v503) a + (![8, 1] : Fin 2 → Nat) a * (S2x128.size a - 1) < S65536x128.size a := fun i v503 k0_hw54 k0_h3 => k0_hw54 k0_h3

def k0_off118 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c54_i32 : BitVec 32 := 54#32
  let v510 : BitVec 32 := Scalar.addi v23 c54_i32
  let v511 : Index := Scalar.indexCast v510
  ![v511.toNat]
def k0_off119 (i : grid0.Coords) (v512 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v513 : BitVec 32 := Scalar.addi v16 v512
  let v514 : Index := Scalar.indexCast v513
  let c0_124 : Index := 0#32
  ![v514.toNat, 0]

def k0_chk55 (i : grid0.Coords) (v512 : BitVec 32) : Prop :=
  (∀ (k0_h3 : k0_cond3 i = 1#1), ∀ a, S2x128.size a = 0 ∨ (k0_off119 i v512) a + (![8, 1] : Fin 2 → Nat) a * (S2x128.size a - 1) < S65536x128.size a)
theorem k0_off119_inb : ∀ (i : grid0.Coords) (v512 : BitVec 32) (k0_hw55 : k0_chk55 i v512), ∀ (k0_h3 : k0_cond3 i = 1#1), ∀ a, S2x128.size a = 0 ∨ (k0_off119 i v512) a + (![8, 1] : Fin 2 → Nat) a * (S2x128.size a - 1) < S65536x128.size a := fun i v512 k0_hw55 k0_h3 => k0_hw55 k0_h3

def k0_off120 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c55_i32 : BitVec 32 := 55#32
  let v519 : BitVec 32 := Scalar.addi v23 c55_i32
  let v520 : Index := Scalar.indexCast v519
  ![v520.toNat]
def k0_off121 (i : grid0.Coords) (v521 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v522 : BitVec 32 := Scalar.addi v16 v521
  let v523 : Index := Scalar.indexCast v522
  let c0_126 : Index := 0#32
  ![v523.toNat, 0]

def k0_chk56 (i : grid0.Coords) (v521 : BitVec 32) : Prop :=
  (∀ (k0_h3 : k0_cond3 i = 1#1), ∀ a, S2x128.size a = 0 ∨ (k0_off121 i v521) a + (![8, 1] : Fin 2 → Nat) a * (S2x128.size a - 1) < S65536x128.size a)
theorem k0_off121_inb : ∀ (i : grid0.Coords) (v521 : BitVec 32) (k0_hw56 : k0_chk56 i v521), ∀ (k0_h3 : k0_cond3 i = 1#1), ∀ a, S2x128.size a = 0 ∨ (k0_off121 i v521) a + (![8, 1] : Fin 2 → Nat) a * (S2x128.size a - 1) < S65536x128.size a := fun i v521 k0_hw56 k0_h3 => k0_hw56 k0_h3

def k0_off122 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c56_i32 : BitVec 32 := 56#32
  let v528 : BitVec 32 := Scalar.addi v23 c56_i32
  let v529 : Index := Scalar.indexCast v528
  ![v529.toNat]
def k0_off123 (i : grid0.Coords) (v530 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v531 : BitVec 32 := Scalar.addi v16 v530
  let v532 : Index := Scalar.indexCast v531
  let c0_128 : Index := 0#32
  ![v532.toNat, 0]

def k0_chk57 (i : grid0.Coords) (v530 : BitVec 32) : Prop :=
  (∀ (k0_h3 : k0_cond3 i = 1#1), ∀ a, S2x128.size a = 0 ∨ (k0_off123 i v530) a + (![8, 1] : Fin 2 → Nat) a * (S2x128.size a - 1) < S65536x128.size a)
theorem k0_off123_inb : ∀ (i : grid0.Coords) (v530 : BitVec 32) (k0_hw57 : k0_chk57 i v530), ∀ (k0_h3 : k0_cond3 i = 1#1), ∀ a, S2x128.size a = 0 ∨ (k0_off123 i v530) a + (![8, 1] : Fin 2 → Nat) a * (S2x128.size a - 1) < S65536x128.size a := fun i v530 k0_hw57 k0_h3 => k0_hw57 k0_h3

def k0_off124 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c57_i32 : BitVec 32 := 57#32
  let v537 : BitVec 32 := Scalar.addi v23 c57_i32
  let v538 : Index := Scalar.indexCast v537
  ![v538.toNat]
def k0_off125 (i : grid0.Coords) (v539 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v540 : BitVec 32 := Scalar.addi v16 v539
  let v541 : Index := Scalar.indexCast v540
  let c0_130 : Index := 0#32
  ![v541.toNat, 0]

def k0_chk58 (i : grid0.Coords) (v539 : BitVec 32) : Prop :=
  (∀ (k0_h3 : k0_cond3 i = 1#1), ∀ a, S2x128.size a = 0 ∨ (k0_off125 i v539) a + (![8, 1] : Fin 2 → Nat) a * (S2x128.size a - 1) < S65536x128.size a)
theorem k0_off125_inb : ∀ (i : grid0.Coords) (v539 : BitVec 32) (k0_hw58 : k0_chk58 i v539), ∀ (k0_h3 : k0_cond3 i = 1#1), ∀ a, S2x128.size a = 0 ∨ (k0_off125 i v539) a + (![8, 1] : Fin 2 → Nat) a * (S2x128.size a - 1) < S65536x128.size a := fun i v539 k0_hw58 k0_h3 => k0_hw58 k0_h3

def k0_off126 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c58_i32 : BitVec 32 := 58#32
  let v546 : BitVec 32 := Scalar.addi v23 c58_i32
  let v547 : Index := Scalar.indexCast v546
  ![v547.toNat]
def k0_off127 (i : grid0.Coords) (v548 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v549 : BitVec 32 := Scalar.addi v16 v548
  let v550 : Index := Scalar.indexCast v549
  let c0_132 : Index := 0#32
  ![v550.toNat, 0]

def k0_chk59 (i : grid0.Coords) (v548 : BitVec 32) : Prop :=
  (∀ (k0_h3 : k0_cond3 i = 1#1), ∀ a, S2x128.size a = 0 ∨ (k0_off127 i v548) a + (![8, 1] : Fin 2 → Nat) a * (S2x128.size a - 1) < S65536x128.size a)
theorem k0_off127_inb : ∀ (i : grid0.Coords) (v548 : BitVec 32) (k0_hw59 : k0_chk59 i v548), ∀ (k0_h3 : k0_cond3 i = 1#1), ∀ a, S2x128.size a = 0 ∨ (k0_off127 i v548) a + (![8, 1] : Fin 2 → Nat) a * (S2x128.size a - 1) < S65536x128.size a := fun i v548 k0_hw59 k0_h3 => k0_hw59 k0_h3

def k0_off128 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c59_i32 : BitVec 32 := 59#32
  let v555 : BitVec 32 := Scalar.addi v23 c59_i32
  let v556 : Index := Scalar.indexCast v555
  ![v556.toNat]
def k0_off129 (i : grid0.Coords) (v557 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v558 : BitVec 32 := Scalar.addi v16 v557
  let v559 : Index := Scalar.indexCast v558
  let c0_134 : Index := 0#32
  ![v559.toNat, 0]

def k0_chk60 (i : grid0.Coords) (v557 : BitVec 32) : Prop :=
  (∀ (k0_h3 : k0_cond3 i = 1#1), ∀ a, S2x128.size a = 0 ∨ (k0_off129 i v557) a + (![8, 1] : Fin 2 → Nat) a * (S2x128.size a - 1) < S65536x128.size a)
theorem k0_off129_inb : ∀ (i : grid0.Coords) (v557 : BitVec 32) (k0_hw60 : k0_chk60 i v557), ∀ (k0_h3 : k0_cond3 i = 1#1), ∀ a, S2x128.size a = 0 ∨ (k0_off129 i v557) a + (![8, 1] : Fin 2 → Nat) a * (S2x128.size a - 1) < S65536x128.size a := fun i v557 k0_hw60 k0_h3 => k0_hw60 k0_h3

def k0_off130 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c60_i32 : BitVec 32 := 60#32
  let v564 : BitVec 32 := Scalar.addi v23 c60_i32
  let v565 : Index := Scalar.indexCast v564
  ![v565.toNat]
def k0_off131 (i : grid0.Coords) (v566 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v567 : BitVec 32 := Scalar.addi v16 v566
  let v568 : Index := Scalar.indexCast v567
  let c0_136 : Index := 0#32
  ![v568.toNat, 0]

def k0_chk61 (i : grid0.Coords) (v566 : BitVec 32) : Prop :=
  (∀ (k0_h3 : k0_cond3 i = 1#1), ∀ a, S2x128.size a = 0 ∨ (k0_off131 i v566) a + (![8, 1] : Fin 2 → Nat) a * (S2x128.size a - 1) < S65536x128.size a)
theorem k0_off131_inb : ∀ (i : grid0.Coords) (v566 : BitVec 32) (k0_hw61 : k0_chk61 i v566), ∀ (k0_h3 : k0_cond3 i = 1#1), ∀ a, S2x128.size a = 0 ∨ (k0_off131 i v566) a + (![8, 1] : Fin 2 → Nat) a * (S2x128.size a - 1) < S65536x128.size a := fun i v566 k0_hw61 k0_h3 => k0_hw61 k0_h3

def k0_off132 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c61_i32 : BitVec 32 := 61#32
  let v573 : BitVec 32 := Scalar.addi v23 c61_i32
  let v574 : Index := Scalar.indexCast v573
  ![v574.toNat]
def k0_off133 (i : grid0.Coords) (v575 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v576 : BitVec 32 := Scalar.addi v16 v575
  let v577 : Index := Scalar.indexCast v576
  let c0_138 : Index := 0#32
  ![v577.toNat, 0]

def k0_chk62 (i : grid0.Coords) (v575 : BitVec 32) : Prop :=
  (∀ (k0_h3 : k0_cond3 i = 1#1), ∀ a, S2x128.size a = 0 ∨ (k0_off133 i v575) a + (![8, 1] : Fin 2 → Nat) a * (S2x128.size a - 1) < S65536x128.size a)
theorem k0_off133_inb : ∀ (i : grid0.Coords) (v575 : BitVec 32) (k0_hw62 : k0_chk62 i v575), ∀ (k0_h3 : k0_cond3 i = 1#1), ∀ a, S2x128.size a = 0 ∨ (k0_off133 i v575) a + (![8, 1] : Fin 2 → Nat) a * (S2x128.size a - 1) < S65536x128.size a := fun i v575 k0_hw62 k0_h3 => k0_hw62 k0_h3

def k0_off134 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c62_i32 : BitVec 32 := 62#32
  let v582 : BitVec 32 := Scalar.addi v23 c62_i32
  let v583 : Index := Scalar.indexCast v582
  ![v583.toNat]
def k0_off135 (i : grid0.Coords) (v584 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v585 : BitVec 32 := Scalar.addi v16 v584
  let v586 : Index := Scalar.indexCast v585
  let c0_140 : Index := 0#32
  ![v586.toNat, 0]

def k0_chk63 (i : grid0.Coords) (v584 : BitVec 32) : Prop :=
  (∀ (k0_h3 : k0_cond3 i = 1#1), ∀ a, S2x128.size a = 0 ∨ (k0_off135 i v584) a + (![8, 1] : Fin 2 → Nat) a * (S2x128.size a - 1) < S65536x128.size a)
theorem k0_off135_inb : ∀ (i : grid0.Coords) (v584 : BitVec 32) (k0_hw63 : k0_chk63 i v584), ∀ (k0_h3 : k0_cond3 i = 1#1), ∀ a, S2x128.size a = 0 ∨ (k0_off135 i v584) a + (![8, 1] : Fin 2 → Nat) a * (S2x128.size a - 1) < S65536x128.size a := fun i v584 k0_hw63 k0_h3 => k0_hw63 k0_h3

def k0_off136 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c63_i32 : BitVec 32 := 63#32
  let v591 : BitVec 32 := Scalar.addi v23 c63_i32
  let v592 : Index := Scalar.indexCast v591
  ![v592.toNat]
def k0_off137 (i : grid0.Coords) (v593 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v594 : BitVec 32 := Scalar.addi v16 v593
  let v595 : Index := Scalar.indexCast v594
  let c0_142 : Index := 0#32
  ![v595.toNat, 0]

def k0_chk64 (i : grid0.Coords) (v593 : BitVec 32) : Prop :=
  (∀ (k0_h3 : k0_cond3 i = 1#1), ∀ a, S2x128.size a = 0 ∨ (k0_off137 i v593) a + (![8, 1] : Fin 2 → Nat) a * (S2x128.size a - 1) < S65536x128.size a)
theorem k0_off137_inb : ∀ (i : grid0.Coords) (v593 : BitVec 32) (k0_hw64 : k0_chk64 i v593), ∀ (k0_h3 : k0_cond3 i = 1#1), ∀ a, S2x128.size a = 0 ∨ (k0_off137 i v593) a + (![8, 1] : Fin 2 → Nat) a * (S2x128.size a - 1) < S65536x128.size a := fun i v593 k0_hw64 k0_h3 => k0_hw64 k0_h3

def k0_off138 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c64_i32 : BitVec 32 := 64#32
  let v600 : BitVec 32 := Scalar.addi v23 c64_i32
  let v601 : Index := Scalar.indexCast v600
  ![v601.toNat]
def k0_off139 (i : grid0.Coords) (v602 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v603 : BitVec 32 := Scalar.addi v16 v602
  let v604 : Index := Scalar.indexCast v603
  let c0_144 : Index := 0#32
  ![v604.toNat, 0]

def k0_chk65 (i : grid0.Coords) (v602 : BitVec 32) : Prop :=
  (∀ (k0_h3 : k0_cond3 i = 1#1), ∀ a, S2x128.size a = 0 ∨ (k0_off139 i v602) a + (![8, 1] : Fin 2 → Nat) a * (S2x128.size a - 1) < S65536x128.size a)
theorem k0_off139_inb : ∀ (i : grid0.Coords) (v602 : BitVec 32) (k0_hw65 : k0_chk65 i v602), ∀ (k0_h3 : k0_cond3 i = 1#1), ∀ a, S2x128.size a = 0 ∨ (k0_off139 i v602) a + (![8, 1] : Fin 2 → Nat) a * (S2x128.size a - 1) < S65536x128.size a := fun i v602 k0_hw65 k0_h3 => k0_hw65 k0_h3

def k0_off140 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c65_i32 : BitVec 32 := 65#32
  let v609 : BitVec 32 := Scalar.addi v23 c65_i32
  let v610 : Index := Scalar.indexCast v609
  ![v610.toNat]
def k0_off141 (i : grid0.Coords) (v611 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v612 : BitVec 32 := Scalar.addi v16 v611
  let v613 : Index := Scalar.indexCast v612
  let c0_146 : Index := 0#32
  ![v613.toNat, 0]

def k0_chk66 (i : grid0.Coords) (v611 : BitVec 32) : Prop :=
  (∀ (k0_h3 : k0_cond3 i = 1#1), ∀ a, S2x128.size a = 0 ∨ (k0_off141 i v611) a + (![8, 1] : Fin 2 → Nat) a * (S2x128.size a - 1) < S65536x128.size a)
theorem k0_off141_inb : ∀ (i : grid0.Coords) (v611 : BitVec 32) (k0_hw66 : k0_chk66 i v611), ∀ (k0_h3 : k0_cond3 i = 1#1), ∀ a, S2x128.size a = 0 ∨ (k0_off141 i v611) a + (![8, 1] : Fin 2 → Nat) a * (S2x128.size a - 1) < S65536x128.size a := fun i v611 k0_hw66 k0_h3 => k0_hw66 k0_h3

def k0_off142 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c66_i32 : BitVec 32 := 66#32
  let v618 : BitVec 32 := Scalar.addi v23 c66_i32
  let v619 : Index := Scalar.indexCast v618
  ![v619.toNat]
def k0_off143 (i : grid0.Coords) (v620 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v621 : BitVec 32 := Scalar.addi v16 v620
  let v622 : Index := Scalar.indexCast v621
  let c0_148 : Index := 0#32
  ![v622.toNat, 0]

def k0_chk67 (i : grid0.Coords) (v620 : BitVec 32) : Prop :=
  (∀ (k0_h3 : k0_cond3 i = 1#1), ∀ a, S2x128.size a = 0 ∨ (k0_off143 i v620) a + (![8, 1] : Fin 2 → Nat) a * (S2x128.size a - 1) < S65536x128.size a)
theorem k0_off143_inb : ∀ (i : grid0.Coords) (v620 : BitVec 32) (k0_hw67 : k0_chk67 i v620), ∀ (k0_h3 : k0_cond3 i = 1#1), ∀ a, S2x128.size a = 0 ∨ (k0_off143 i v620) a + (![8, 1] : Fin 2 → Nat) a * (S2x128.size a - 1) < S65536x128.size a := fun i v620 k0_hw67 k0_h3 => k0_hw67 k0_h3

def k0_off144 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c67_i32 : BitVec 32 := 67#32
  let v627 : BitVec 32 := Scalar.addi v23 c67_i32
  let v628 : Index := Scalar.indexCast v627
  ![v628.toNat]
def k0_off145 (i : grid0.Coords) (v629 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v630 : BitVec 32 := Scalar.addi v16 v629
  let v631 : Index := Scalar.indexCast v630
  let c0_150 : Index := 0#32
  ![v631.toNat, 0]

def k0_chk68 (i : grid0.Coords) (v629 : BitVec 32) : Prop :=
  (∀ (k0_h3 : k0_cond3 i = 1#1), ∀ a, S2x128.size a = 0 ∨ (k0_off145 i v629) a + (![8, 1] : Fin 2 → Nat) a * (S2x128.size a - 1) < S65536x128.size a)
theorem k0_off145_inb : ∀ (i : grid0.Coords) (v629 : BitVec 32) (k0_hw68 : k0_chk68 i v629), ∀ (k0_h3 : k0_cond3 i = 1#1), ∀ a, S2x128.size a = 0 ∨ (k0_off145 i v629) a + (![8, 1] : Fin 2 → Nat) a * (S2x128.size a - 1) < S65536x128.size a := fun i v629 k0_hw68 k0_h3 => k0_hw68 k0_h3

def k0_off146 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c68_i32 : BitVec 32 := 68#32
  let v636 : BitVec 32 := Scalar.addi v23 c68_i32
  let v637 : Index := Scalar.indexCast v636
  ![v637.toNat]
def k0_off147 (i : grid0.Coords) (v638 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v639 : BitVec 32 := Scalar.addi v16 v638
  let v640 : Index := Scalar.indexCast v639
  let c0_152 : Index := 0#32
  ![v640.toNat, 0]

def k0_chk69 (i : grid0.Coords) (v638 : BitVec 32) : Prop :=
  (∀ (k0_h3 : k0_cond3 i = 1#1), ∀ a, S2x128.size a = 0 ∨ (k0_off147 i v638) a + (![8, 1] : Fin 2 → Nat) a * (S2x128.size a - 1) < S65536x128.size a)
theorem k0_off147_inb : ∀ (i : grid0.Coords) (v638 : BitVec 32) (k0_hw69 : k0_chk69 i v638), ∀ (k0_h3 : k0_cond3 i = 1#1), ∀ a, S2x128.size a = 0 ∨ (k0_off147 i v638) a + (![8, 1] : Fin 2 → Nat) a * (S2x128.size a - 1) < S65536x128.size a := fun i v638 k0_hw69 k0_h3 => k0_hw69 k0_h3

def k0_off148 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c69_i32 : BitVec 32 := 69#32
  let v645 : BitVec 32 := Scalar.addi v23 c69_i32
  let v646 : Index := Scalar.indexCast v645
  ![v646.toNat]
def k0_off149 (i : grid0.Coords) (v647 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v648 : BitVec 32 := Scalar.addi v16 v647
  let v649 : Index := Scalar.indexCast v648
  let c0_154 : Index := 0#32
  ![v649.toNat, 0]

def k0_chk70 (i : grid0.Coords) (v647 : BitVec 32) : Prop :=
  (∀ (k0_h3 : k0_cond3 i = 1#1), ∀ a, S2x128.size a = 0 ∨ (k0_off149 i v647) a + (![8, 1] : Fin 2 → Nat) a * (S2x128.size a - 1) < S65536x128.size a)
theorem k0_off149_inb : ∀ (i : grid0.Coords) (v647 : BitVec 32) (k0_hw70 : k0_chk70 i v647), ∀ (k0_h3 : k0_cond3 i = 1#1), ∀ a, S2x128.size a = 0 ∨ (k0_off149 i v647) a + (![8, 1] : Fin 2 → Nat) a * (S2x128.size a - 1) < S65536x128.size a := fun i v647 k0_hw70 k0_h3 => k0_hw70 k0_h3

def k0_off150 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c70_i32 : BitVec 32 := 70#32
  let v654 : BitVec 32 := Scalar.addi v23 c70_i32
  let v655 : Index := Scalar.indexCast v654
  ![v655.toNat]
def k0_off151 (i : grid0.Coords) (v656 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v657 : BitVec 32 := Scalar.addi v16 v656
  let v658 : Index := Scalar.indexCast v657
  let c0_156 : Index := 0#32
  ![v658.toNat, 0]

def k0_chk71 (i : grid0.Coords) (v656 : BitVec 32) : Prop :=
  (∀ (k0_h3 : k0_cond3 i = 1#1), ∀ a, S2x128.size a = 0 ∨ (k0_off151 i v656) a + (![8, 1] : Fin 2 → Nat) a * (S2x128.size a - 1) < S65536x128.size a)
theorem k0_off151_inb : ∀ (i : grid0.Coords) (v656 : BitVec 32) (k0_hw71 : k0_chk71 i v656), ∀ (k0_h3 : k0_cond3 i = 1#1), ∀ a, S2x128.size a = 0 ∨ (k0_off151 i v656) a + (![8, 1] : Fin 2 → Nat) a * (S2x128.size a - 1) < S65536x128.size a := fun i v656 k0_hw71 k0_h3 => k0_hw71 k0_h3

def k0_off152 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c71_i32 : BitVec 32 := 71#32
  let v663 : BitVec 32 := Scalar.addi v23 c71_i32
  let v664 : Index := Scalar.indexCast v663
  ![v664.toNat]
def k0_off153 (i : grid0.Coords) (v665 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v666 : BitVec 32 := Scalar.addi v16 v665
  let v667 : Index := Scalar.indexCast v666
  let c0_158 : Index := 0#32
  ![v667.toNat, 0]

def k0_chk72 (i : grid0.Coords) (v665 : BitVec 32) : Prop :=
  (∀ (k0_h3 : k0_cond3 i = 1#1), ∀ a, S2x128.size a = 0 ∨ (k0_off153 i v665) a + (![8, 1] : Fin 2 → Nat) a * (S2x128.size a - 1) < S65536x128.size a)
theorem k0_off153_inb : ∀ (i : grid0.Coords) (v665 : BitVec 32) (k0_hw72 : k0_chk72 i v665), ∀ (k0_h3 : k0_cond3 i = 1#1), ∀ a, S2x128.size a = 0 ∨ (k0_off153 i v665) a + (![8, 1] : Fin 2 → Nat) a * (S2x128.size a - 1) < S65536x128.size a := fun i v665 k0_hw72 k0_h3 => k0_hw72 k0_h3

def k0_off154 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c72_i32 : BitVec 32 := 72#32
  let v672 : BitVec 32 := Scalar.addi v23 c72_i32
  let v673 : Index := Scalar.indexCast v672
  ![v673.toNat]
def k0_off155 (i : grid0.Coords) (v674 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v675 : BitVec 32 := Scalar.addi v16 v674
  let v676 : Index := Scalar.indexCast v675
  let c0_160 : Index := 0#32
  ![v676.toNat, 0]

def k0_chk73 (i : grid0.Coords) (v674 : BitVec 32) : Prop :=
  (∀ (k0_h3 : k0_cond3 i = 1#1), ∀ a, S2x128.size a = 0 ∨ (k0_off155 i v674) a + (![8, 1] : Fin 2 → Nat) a * (S2x128.size a - 1) < S65536x128.size a)
theorem k0_off155_inb : ∀ (i : grid0.Coords) (v674 : BitVec 32) (k0_hw73 : k0_chk73 i v674), ∀ (k0_h3 : k0_cond3 i = 1#1), ∀ a, S2x128.size a = 0 ∨ (k0_off155 i v674) a + (![8, 1] : Fin 2 → Nat) a * (S2x128.size a - 1) < S65536x128.size a := fun i v674 k0_hw73 k0_h3 => k0_hw73 k0_h3

def k0_off156 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c73_i32 : BitVec 32 := 73#32
  let v681 : BitVec 32 := Scalar.addi v23 c73_i32
  let v682 : Index := Scalar.indexCast v681
  ![v682.toNat]
def k0_off157 (i : grid0.Coords) (v683 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v684 : BitVec 32 := Scalar.addi v16 v683
  let v685 : Index := Scalar.indexCast v684
  let c0_162 : Index := 0#32
  ![v685.toNat, 0]

def k0_chk74 (i : grid0.Coords) (v683 : BitVec 32) : Prop :=
  (∀ (k0_h3 : k0_cond3 i = 1#1), ∀ a, S2x128.size a = 0 ∨ (k0_off157 i v683) a + (![8, 1] : Fin 2 → Nat) a * (S2x128.size a - 1) < S65536x128.size a)
theorem k0_off157_inb : ∀ (i : grid0.Coords) (v683 : BitVec 32) (k0_hw74 : k0_chk74 i v683), ∀ (k0_h3 : k0_cond3 i = 1#1), ∀ a, S2x128.size a = 0 ∨ (k0_off157 i v683) a + (![8, 1] : Fin 2 → Nat) a * (S2x128.size a - 1) < S65536x128.size a := fun i v683 k0_hw74 k0_h3 => k0_hw74 k0_h3

def k0_off158 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c74_i32 : BitVec 32 := 74#32
  let v690 : BitVec 32 := Scalar.addi v23 c74_i32
  let v691 : Index := Scalar.indexCast v690
  ![v691.toNat]
def k0_off159 (i : grid0.Coords) (v692 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v693 : BitVec 32 := Scalar.addi v16 v692
  let v694 : Index := Scalar.indexCast v693
  let c0_164 : Index := 0#32
  ![v694.toNat, 0]

def k0_chk75 (i : grid0.Coords) (v692 : BitVec 32) : Prop :=
  (∀ (k0_h3 : k0_cond3 i = 1#1), ∀ a, S2x128.size a = 0 ∨ (k0_off159 i v692) a + (![8, 1] : Fin 2 → Nat) a * (S2x128.size a - 1) < S65536x128.size a)
theorem k0_off159_inb : ∀ (i : grid0.Coords) (v692 : BitVec 32) (k0_hw75 : k0_chk75 i v692), ∀ (k0_h3 : k0_cond3 i = 1#1), ∀ a, S2x128.size a = 0 ∨ (k0_off159 i v692) a + (![8, 1] : Fin 2 → Nat) a * (S2x128.size a - 1) < S65536x128.size a := fun i v692 k0_hw75 k0_h3 => k0_hw75 k0_h3

def k0_off160 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c75_i32 : BitVec 32 := 75#32
  let v699 : BitVec 32 := Scalar.addi v23 c75_i32
  let v700 : Index := Scalar.indexCast v699
  ![v700.toNat]
def k0_off161 (i : grid0.Coords) (v701 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v702 : BitVec 32 := Scalar.addi v16 v701
  let v703 : Index := Scalar.indexCast v702
  let c0_166 : Index := 0#32
  ![v703.toNat, 0]

def k0_chk76 (i : grid0.Coords) (v701 : BitVec 32) : Prop :=
  (∀ (k0_h3 : k0_cond3 i = 1#1), ∀ a, S2x128.size a = 0 ∨ (k0_off161 i v701) a + (![8, 1] : Fin 2 → Nat) a * (S2x128.size a - 1) < S65536x128.size a)
theorem k0_off161_inb : ∀ (i : grid0.Coords) (v701 : BitVec 32) (k0_hw76 : k0_chk76 i v701), ∀ (k0_h3 : k0_cond3 i = 1#1), ∀ a, S2x128.size a = 0 ∨ (k0_off161 i v701) a + (![8, 1] : Fin 2 → Nat) a * (S2x128.size a - 1) < S65536x128.size a := fun i v701 k0_hw76 k0_h3 => k0_hw76 k0_h3

def k0_off162 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c76_i32 : BitVec 32 := 76#32
  let v708 : BitVec 32 := Scalar.addi v23 c76_i32
  let v709 : Index := Scalar.indexCast v708
  ![v709.toNat]
def k0_off163 (i : grid0.Coords) (v710 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v711 : BitVec 32 := Scalar.addi v16 v710
  let v712 : Index := Scalar.indexCast v711
  let c0_168 : Index := 0#32
  ![v712.toNat, 0]

def k0_chk77 (i : grid0.Coords) (v710 : BitVec 32) : Prop :=
  (∀ (k0_h3 : k0_cond3 i = 1#1), ∀ a, S2x128.size a = 0 ∨ (k0_off163 i v710) a + (![8, 1] : Fin 2 → Nat) a * (S2x128.size a - 1) < S65536x128.size a)
theorem k0_off163_inb : ∀ (i : grid0.Coords) (v710 : BitVec 32) (k0_hw77 : k0_chk77 i v710), ∀ (k0_h3 : k0_cond3 i = 1#1), ∀ a, S2x128.size a = 0 ∨ (k0_off163 i v710) a + (![8, 1] : Fin 2 → Nat) a * (S2x128.size a - 1) < S65536x128.size a := fun i v710 k0_hw77 k0_h3 => k0_hw77 k0_h3

def k0_off164 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c77_i32 : BitVec 32 := 77#32
  let v717 : BitVec 32 := Scalar.addi v23 c77_i32
  let v718 : Index := Scalar.indexCast v717
  ![v718.toNat]
def k0_off165 (i : grid0.Coords) (v719 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v720 : BitVec 32 := Scalar.addi v16 v719
  let v721 : Index := Scalar.indexCast v720
  let c0_170 : Index := 0#32
  ![v721.toNat, 0]

def k0_chk78 (i : grid0.Coords) (v719 : BitVec 32) : Prop :=
  (∀ (k0_h3 : k0_cond3 i = 1#1), ∀ a, S2x128.size a = 0 ∨ (k0_off165 i v719) a + (![8, 1] : Fin 2 → Nat) a * (S2x128.size a - 1) < S65536x128.size a)
theorem k0_off165_inb : ∀ (i : grid0.Coords) (v719 : BitVec 32) (k0_hw78 : k0_chk78 i v719), ∀ (k0_h3 : k0_cond3 i = 1#1), ∀ a, S2x128.size a = 0 ∨ (k0_off165 i v719) a + (![8, 1] : Fin 2 → Nat) a * (S2x128.size a - 1) < S65536x128.size a := fun i v719 k0_hw78 k0_h3 => k0_hw78 k0_h3

def k0_off166 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c78_i32 : BitVec 32 := 78#32
  let v726 : BitVec 32 := Scalar.addi v23 c78_i32
  let v727 : Index := Scalar.indexCast v726
  ![v727.toNat]
def k0_off167 (i : grid0.Coords) (v728 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v729 : BitVec 32 := Scalar.addi v16 v728
  let v730 : Index := Scalar.indexCast v729
  let c0_172 : Index := 0#32
  ![v730.toNat, 0]

def k0_chk79 (i : grid0.Coords) (v728 : BitVec 32) : Prop :=
  (∀ (k0_h3 : k0_cond3 i = 1#1), ∀ a, S2x128.size a = 0 ∨ (k0_off167 i v728) a + (![8, 1] : Fin 2 → Nat) a * (S2x128.size a - 1) < S65536x128.size a)
theorem k0_off167_inb : ∀ (i : grid0.Coords) (v728 : BitVec 32) (k0_hw79 : k0_chk79 i v728), ∀ (k0_h3 : k0_cond3 i = 1#1), ∀ a, S2x128.size a = 0 ∨ (k0_off167 i v728) a + (![8, 1] : Fin 2 → Nat) a * (S2x128.size a - 1) < S65536x128.size a := fun i v728 k0_hw79 k0_h3 => k0_hw79 k0_h3

def k0_off168 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c79_i32 : BitVec 32 := 79#32
  let v735 : BitVec 32 := Scalar.addi v23 c79_i32
  let v736 : Index := Scalar.indexCast v735
  ![v736.toNat]
def k0_off169 (i : grid0.Coords) (v737 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v738 : BitVec 32 := Scalar.addi v16 v737
  let v739 : Index := Scalar.indexCast v738
  let c0_174 : Index := 0#32
  ![v739.toNat, 0]

def k0_chk80 (i : grid0.Coords) (v737 : BitVec 32) : Prop :=
  (∀ (k0_h3 : k0_cond3 i = 1#1), ∀ a, S2x128.size a = 0 ∨ (k0_off169 i v737) a + (![8, 1] : Fin 2 → Nat) a * (S2x128.size a - 1) < S65536x128.size a)
theorem k0_off169_inb : ∀ (i : grid0.Coords) (v737 : BitVec 32) (k0_hw80 : k0_chk80 i v737), ∀ (k0_h3 : k0_cond3 i = 1#1), ∀ a, S2x128.size a = 0 ∨ (k0_off169 i v737) a + (![8, 1] : Fin 2 → Nat) a * (S2x128.size a - 1) < S65536x128.size a := fun i v737 k0_hw80 k0_h3 => k0_hw80 k0_h3

def k0_off170 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c80_i32 : BitVec 32 := 80#32
  let v744 : BitVec 32 := Scalar.addi v23 c80_i32
  let v745 : Index := Scalar.indexCast v744
  ![v745.toNat]
def k0_off171 (i : grid0.Coords) (v746 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v747 : BitVec 32 := Scalar.addi v16 v746
  let v748 : Index := Scalar.indexCast v747
  let c0_176 : Index := 0#32
  ![v748.toNat, 0]

def k0_chk81 (i : grid0.Coords) (v746 : BitVec 32) : Prop :=
  (∀ (k0_h3 : k0_cond3 i = 1#1), ∀ a, S2x128.size a = 0 ∨ (k0_off171 i v746) a + (![8, 1] : Fin 2 → Nat) a * (S2x128.size a - 1) < S65536x128.size a)
theorem k0_off171_inb : ∀ (i : grid0.Coords) (v746 : BitVec 32) (k0_hw81 : k0_chk81 i v746), ∀ (k0_h3 : k0_cond3 i = 1#1), ∀ a, S2x128.size a = 0 ∨ (k0_off171 i v746) a + (![8, 1] : Fin 2 → Nat) a * (S2x128.size a - 1) < S65536x128.size a := fun i v746 k0_hw81 k0_h3 => k0_hw81 k0_h3

def k0_off172 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c81_i32 : BitVec 32 := 81#32
  let v753 : BitVec 32 := Scalar.addi v23 c81_i32
  let v754 : Index := Scalar.indexCast v753
  ![v754.toNat]
def k0_off173 (i : grid0.Coords) (v755 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v756 : BitVec 32 := Scalar.addi v16 v755
  let v757 : Index := Scalar.indexCast v756
  let c0_178 : Index := 0#32
  ![v757.toNat, 0]

def k0_chk82 (i : grid0.Coords) (v755 : BitVec 32) : Prop :=
  (∀ (k0_h3 : k0_cond3 i = 1#1), ∀ a, S2x128.size a = 0 ∨ (k0_off173 i v755) a + (![8, 1] : Fin 2 → Nat) a * (S2x128.size a - 1) < S65536x128.size a)
theorem k0_off173_inb : ∀ (i : grid0.Coords) (v755 : BitVec 32) (k0_hw82 : k0_chk82 i v755), ∀ (k0_h3 : k0_cond3 i = 1#1), ∀ a, S2x128.size a = 0 ∨ (k0_off173 i v755) a + (![8, 1] : Fin 2 → Nat) a * (S2x128.size a - 1) < S65536x128.size a := fun i v755 k0_hw82 k0_h3 => k0_hw82 k0_h3

def k0_off174 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c82_i32 : BitVec 32 := 82#32
  let v762 : BitVec 32 := Scalar.addi v23 c82_i32
  let v763 : Index := Scalar.indexCast v762
  ![v763.toNat]
def k0_off175 (i : grid0.Coords) (v764 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v765 : BitVec 32 := Scalar.addi v16 v764
  let v766 : Index := Scalar.indexCast v765
  let c0_180 : Index := 0#32
  ![v766.toNat, 0]

def k0_chk83 (i : grid0.Coords) (v764 : BitVec 32) : Prop :=
  (∀ (k0_h3 : k0_cond3 i = 1#1), ∀ a, S2x128.size a = 0 ∨ (k0_off175 i v764) a + (![8, 1] : Fin 2 → Nat) a * (S2x128.size a - 1) < S65536x128.size a)
theorem k0_off175_inb : ∀ (i : grid0.Coords) (v764 : BitVec 32) (k0_hw83 : k0_chk83 i v764), ∀ (k0_h3 : k0_cond3 i = 1#1), ∀ a, S2x128.size a = 0 ∨ (k0_off175 i v764) a + (![8, 1] : Fin 2 → Nat) a * (S2x128.size a - 1) < S65536x128.size a := fun i v764 k0_hw83 k0_h3 => k0_hw83 k0_h3

def k0_off176 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c83_i32 : BitVec 32 := 83#32
  let v771 : BitVec 32 := Scalar.addi v23 c83_i32
  let v772 : Index := Scalar.indexCast v771
  ![v772.toNat]
def k0_off177 (i : grid0.Coords) (v773 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v774 : BitVec 32 := Scalar.addi v16 v773
  let v775 : Index := Scalar.indexCast v774
  let c0_182 : Index := 0#32
  ![v775.toNat, 0]

def k0_chk84 (i : grid0.Coords) (v773 : BitVec 32) : Prop :=
  (∀ (k0_h3 : k0_cond3 i = 1#1), ∀ a, S2x128.size a = 0 ∨ (k0_off177 i v773) a + (![8, 1] : Fin 2 → Nat) a * (S2x128.size a - 1) < S65536x128.size a)
theorem k0_off177_inb : ∀ (i : grid0.Coords) (v773 : BitVec 32) (k0_hw84 : k0_chk84 i v773), ∀ (k0_h3 : k0_cond3 i = 1#1), ∀ a, S2x128.size a = 0 ∨ (k0_off177 i v773) a + (![8, 1] : Fin 2 → Nat) a * (S2x128.size a - 1) < S65536x128.size a := fun i v773 k0_hw84 k0_h3 => k0_hw84 k0_h3

def k0_off178 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c84_i32 : BitVec 32 := 84#32
  let v780 : BitVec 32 := Scalar.addi v23 c84_i32
  let v781 : Index := Scalar.indexCast v780
  ![v781.toNat]
def k0_off179 (i : grid0.Coords) (v782 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v783 : BitVec 32 := Scalar.addi v16 v782
  let v784 : Index := Scalar.indexCast v783
  let c0_184 : Index := 0#32
  ![v784.toNat, 0]

def k0_chk85 (i : grid0.Coords) (v782 : BitVec 32) : Prop :=
  (∀ (k0_h3 : k0_cond3 i = 1#1), ∀ a, S2x128.size a = 0 ∨ (k0_off179 i v782) a + (![8, 1] : Fin 2 → Nat) a * (S2x128.size a - 1) < S65536x128.size a)
theorem k0_off179_inb : ∀ (i : grid0.Coords) (v782 : BitVec 32) (k0_hw85 : k0_chk85 i v782), ∀ (k0_h3 : k0_cond3 i = 1#1), ∀ a, S2x128.size a = 0 ∨ (k0_off179 i v782) a + (![8, 1] : Fin 2 → Nat) a * (S2x128.size a - 1) < S65536x128.size a := fun i v782 k0_hw85 k0_h3 => k0_hw85 k0_h3

def k0_off180 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c85_i32 : BitVec 32 := 85#32
  let v789 : BitVec 32 := Scalar.addi v23 c85_i32
  let v790 : Index := Scalar.indexCast v789
  ![v790.toNat]
def k0_off181 (i : grid0.Coords) (v791 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v792 : BitVec 32 := Scalar.addi v16 v791
  let v793 : Index := Scalar.indexCast v792
  let c0_186 : Index := 0#32
  ![v793.toNat, 0]

def k0_chk86 (i : grid0.Coords) (v791 : BitVec 32) : Prop :=
  (∀ (k0_h3 : k0_cond3 i = 1#1), ∀ a, S2x128.size a = 0 ∨ (k0_off181 i v791) a + (![8, 1] : Fin 2 → Nat) a * (S2x128.size a - 1) < S65536x128.size a)
theorem k0_off181_inb : ∀ (i : grid0.Coords) (v791 : BitVec 32) (k0_hw86 : k0_chk86 i v791), ∀ (k0_h3 : k0_cond3 i = 1#1), ∀ a, S2x128.size a = 0 ∨ (k0_off181 i v791) a + (![8, 1] : Fin 2 → Nat) a * (S2x128.size a - 1) < S65536x128.size a := fun i v791 k0_hw86 k0_h3 => k0_hw86 k0_h3

def k0_off182 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c86_i32 : BitVec 32 := 86#32
  let v798 : BitVec 32 := Scalar.addi v23 c86_i32
  let v799 : Index := Scalar.indexCast v798
  ![v799.toNat]
def k0_off183 (i : grid0.Coords) (v800 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v801 : BitVec 32 := Scalar.addi v16 v800
  let v802 : Index := Scalar.indexCast v801
  let c0_188 : Index := 0#32
  ![v802.toNat, 0]

def k0_chk87 (i : grid0.Coords) (v800 : BitVec 32) : Prop :=
  (∀ (k0_h3 : k0_cond3 i = 1#1), ∀ a, S2x128.size a = 0 ∨ (k0_off183 i v800) a + (![8, 1] : Fin 2 → Nat) a * (S2x128.size a - 1) < S65536x128.size a)
theorem k0_off183_inb : ∀ (i : grid0.Coords) (v800 : BitVec 32) (k0_hw87 : k0_chk87 i v800), ∀ (k0_h3 : k0_cond3 i = 1#1), ∀ a, S2x128.size a = 0 ∨ (k0_off183 i v800) a + (![8, 1] : Fin 2 → Nat) a * (S2x128.size a - 1) < S65536x128.size a := fun i v800 k0_hw87 k0_h3 => k0_hw87 k0_h3

def k0_off184 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c87_i32 : BitVec 32 := 87#32
  let v807 : BitVec 32 := Scalar.addi v23 c87_i32
  let v808 : Index := Scalar.indexCast v807
  ![v808.toNat]
def k0_off185 (i : grid0.Coords) (v809 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v810 : BitVec 32 := Scalar.addi v16 v809
  let v811 : Index := Scalar.indexCast v810
  let c0_190 : Index := 0#32
  ![v811.toNat, 0]

def k0_chk88 (i : grid0.Coords) (v809 : BitVec 32) : Prop :=
  (∀ (k0_h3 : k0_cond3 i = 1#1), ∀ a, S2x128.size a = 0 ∨ (k0_off185 i v809) a + (![8, 1] : Fin 2 → Nat) a * (S2x128.size a - 1) < S65536x128.size a)
theorem k0_off185_inb : ∀ (i : grid0.Coords) (v809 : BitVec 32) (k0_hw88 : k0_chk88 i v809), ∀ (k0_h3 : k0_cond3 i = 1#1), ∀ a, S2x128.size a = 0 ∨ (k0_off185 i v809) a + (![8, 1] : Fin 2 → Nat) a * (S2x128.size a - 1) < S65536x128.size a := fun i v809 k0_hw88 k0_h3 => k0_hw88 k0_h3

def k0_off186 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c88_i32 : BitVec 32 := 88#32
  let v816 : BitVec 32 := Scalar.addi v23 c88_i32
  let v817 : Index := Scalar.indexCast v816
  ![v817.toNat]
def k0_off187 (i : grid0.Coords) (v818 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v819 : BitVec 32 := Scalar.addi v16 v818
  let v820 : Index := Scalar.indexCast v819
  let c0_192 : Index := 0#32
  ![v820.toNat, 0]

def k0_chk89 (i : grid0.Coords) (v818 : BitVec 32) : Prop :=
  (∀ (k0_h3 : k0_cond3 i = 1#1), ∀ a, S2x128.size a = 0 ∨ (k0_off187 i v818) a + (![8, 1] : Fin 2 → Nat) a * (S2x128.size a - 1) < S65536x128.size a)
theorem k0_off187_inb : ∀ (i : grid0.Coords) (v818 : BitVec 32) (k0_hw89 : k0_chk89 i v818), ∀ (k0_h3 : k0_cond3 i = 1#1), ∀ a, S2x128.size a = 0 ∨ (k0_off187 i v818) a + (![8, 1] : Fin 2 → Nat) a * (S2x128.size a - 1) < S65536x128.size a := fun i v818 k0_hw89 k0_h3 => k0_hw89 k0_h3

def k0_off188 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c89_i32 : BitVec 32 := 89#32
  let v825 : BitVec 32 := Scalar.addi v23 c89_i32
  let v826 : Index := Scalar.indexCast v825
  ![v826.toNat]
def k0_off189 (i : grid0.Coords) (v827 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v828 : BitVec 32 := Scalar.addi v16 v827
  let v829 : Index := Scalar.indexCast v828
  let c0_194 : Index := 0#32
  ![v829.toNat, 0]

def k0_chk90 (i : grid0.Coords) (v827 : BitVec 32) : Prop :=
  (∀ (k0_h3 : k0_cond3 i = 1#1), ∀ a, S2x128.size a = 0 ∨ (k0_off189 i v827) a + (![8, 1] : Fin 2 → Nat) a * (S2x128.size a - 1) < S65536x128.size a)
theorem k0_off189_inb : ∀ (i : grid0.Coords) (v827 : BitVec 32) (k0_hw90 : k0_chk90 i v827), ∀ (k0_h3 : k0_cond3 i = 1#1), ∀ a, S2x128.size a = 0 ∨ (k0_off189 i v827) a + (![8, 1] : Fin 2 → Nat) a * (S2x128.size a - 1) < S65536x128.size a := fun i v827 k0_hw90 k0_h3 => k0_hw90 k0_h3

def k0_off190 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c90_i32 : BitVec 32 := 90#32
  let v834 : BitVec 32 := Scalar.addi v23 c90_i32
  let v835 : Index := Scalar.indexCast v834
  ![v835.toNat]
def k0_off191 (i : grid0.Coords) (v836 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v837 : BitVec 32 := Scalar.addi v16 v836
  let v838 : Index := Scalar.indexCast v837
  let c0_196 : Index := 0#32
  ![v838.toNat, 0]

def k0_chk91 (i : grid0.Coords) (v836 : BitVec 32) : Prop :=
  (∀ (k0_h3 : k0_cond3 i = 1#1), ∀ a, S2x128.size a = 0 ∨ (k0_off191 i v836) a + (![8, 1] : Fin 2 → Nat) a * (S2x128.size a - 1) < S65536x128.size a)
theorem k0_off191_inb : ∀ (i : grid0.Coords) (v836 : BitVec 32) (k0_hw91 : k0_chk91 i v836), ∀ (k0_h3 : k0_cond3 i = 1#1), ∀ a, S2x128.size a = 0 ∨ (k0_off191 i v836) a + (![8, 1] : Fin 2 → Nat) a * (S2x128.size a - 1) < S65536x128.size a := fun i v836 k0_hw91 k0_h3 => k0_hw91 k0_h3

def k0_off192 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c91_i32 : BitVec 32 := 91#32
  let v843 : BitVec 32 := Scalar.addi v23 c91_i32
  let v844 : Index := Scalar.indexCast v843
  ![v844.toNat]
def k0_off193 (i : grid0.Coords) (v845 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v846 : BitVec 32 := Scalar.addi v16 v845
  let v847 : Index := Scalar.indexCast v846
  let c0_198 : Index := 0#32
  ![v847.toNat, 0]

def k0_chk92 (i : grid0.Coords) (v845 : BitVec 32) : Prop :=
  (∀ (k0_h3 : k0_cond3 i = 1#1), ∀ a, S2x128.size a = 0 ∨ (k0_off193 i v845) a + (![8, 1] : Fin 2 → Nat) a * (S2x128.size a - 1) < S65536x128.size a)
theorem k0_off193_inb : ∀ (i : grid0.Coords) (v845 : BitVec 32) (k0_hw92 : k0_chk92 i v845), ∀ (k0_h3 : k0_cond3 i = 1#1), ∀ a, S2x128.size a = 0 ∨ (k0_off193 i v845) a + (![8, 1] : Fin 2 → Nat) a * (S2x128.size a - 1) < S65536x128.size a := fun i v845 k0_hw92 k0_h3 => k0_hw92 k0_h3

def k0_off194 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c92_i32 : BitVec 32 := 92#32
  let v852 : BitVec 32 := Scalar.addi v23 c92_i32
  let v853 : Index := Scalar.indexCast v852
  ![v853.toNat]
def k0_off195 (i : grid0.Coords) (v854 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v855 : BitVec 32 := Scalar.addi v16 v854
  let v856 : Index := Scalar.indexCast v855
  let c0_200 : Index := 0#32
  ![v856.toNat, 0]

def k0_chk93 (i : grid0.Coords) (v854 : BitVec 32) : Prop :=
  (∀ (k0_h3 : k0_cond3 i = 1#1), ∀ a, S2x128.size a = 0 ∨ (k0_off195 i v854) a + (![8, 1] : Fin 2 → Nat) a * (S2x128.size a - 1) < S65536x128.size a)
theorem k0_off195_inb : ∀ (i : grid0.Coords) (v854 : BitVec 32) (k0_hw93 : k0_chk93 i v854), ∀ (k0_h3 : k0_cond3 i = 1#1), ∀ a, S2x128.size a = 0 ∨ (k0_off195 i v854) a + (![8, 1] : Fin 2 → Nat) a * (S2x128.size a - 1) < S65536x128.size a := fun i v854 k0_hw93 k0_h3 => k0_hw93 k0_h3

def k0_off196 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c93_i32 : BitVec 32 := 93#32
  let v861 : BitVec 32 := Scalar.addi v23 c93_i32
  let v862 : Index := Scalar.indexCast v861
  ![v862.toNat]
def k0_off197 (i : grid0.Coords) (v863 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v864 : BitVec 32 := Scalar.addi v16 v863
  let v865 : Index := Scalar.indexCast v864
  let c0_202 : Index := 0#32
  ![v865.toNat, 0]

def k0_chk94 (i : grid0.Coords) (v863 : BitVec 32) : Prop :=
  (∀ (k0_h3 : k0_cond3 i = 1#1), ∀ a, S2x128.size a = 0 ∨ (k0_off197 i v863) a + (![8, 1] : Fin 2 → Nat) a * (S2x128.size a - 1) < S65536x128.size a)
theorem k0_off197_inb : ∀ (i : grid0.Coords) (v863 : BitVec 32) (k0_hw94 : k0_chk94 i v863), ∀ (k0_h3 : k0_cond3 i = 1#1), ∀ a, S2x128.size a = 0 ∨ (k0_off197 i v863) a + (![8, 1] : Fin 2 → Nat) a * (S2x128.size a - 1) < S65536x128.size a := fun i v863 k0_hw94 k0_h3 => k0_hw94 k0_h3

def k0_off198 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c94_i32 : BitVec 32 := 94#32
  let v870 : BitVec 32 := Scalar.addi v23 c94_i32
  let v871 : Index := Scalar.indexCast v870
  ![v871.toNat]
def k0_off199 (i : grid0.Coords) (v872 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v873 : BitVec 32 := Scalar.addi v16 v872
  let v874 : Index := Scalar.indexCast v873
  let c0_204 : Index := 0#32
  ![v874.toNat, 0]

def k0_chk95 (i : grid0.Coords) (v872 : BitVec 32) : Prop :=
  (∀ (k0_h3 : k0_cond3 i = 1#1), ∀ a, S2x128.size a = 0 ∨ (k0_off199 i v872) a + (![8, 1] : Fin 2 → Nat) a * (S2x128.size a - 1) < S65536x128.size a)
theorem k0_off199_inb : ∀ (i : grid0.Coords) (v872 : BitVec 32) (k0_hw95 : k0_chk95 i v872), ∀ (k0_h3 : k0_cond3 i = 1#1), ∀ a, S2x128.size a = 0 ∨ (k0_off199 i v872) a + (![8, 1] : Fin 2 → Nat) a * (S2x128.size a - 1) < S65536x128.size a := fun i v872 k0_hw95 k0_h3 => k0_hw95 k0_h3

def k0_off200 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c95_i32 : BitVec 32 := 95#32
  let v879 : BitVec 32 := Scalar.addi v23 c95_i32
  let v880 : Index := Scalar.indexCast v879
  ![v880.toNat]
def k0_off201 (i : grid0.Coords) (v881 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v882 : BitVec 32 := Scalar.addi v16 v881
  let v883 : Index := Scalar.indexCast v882
  let c0_206 : Index := 0#32
  ![v883.toNat, 0]

def k0_chk96 (i : grid0.Coords) (v881 : BitVec 32) : Prop :=
  (∀ (k0_h3 : k0_cond3 i = 1#1), ∀ a, S2x128.size a = 0 ∨ (k0_off201 i v881) a + (![8, 1] : Fin 2 → Nat) a * (S2x128.size a - 1) < S65536x128.size a)
theorem k0_off201_inb : ∀ (i : grid0.Coords) (v881 : BitVec 32) (k0_hw96 : k0_chk96 i v881), ∀ (k0_h3 : k0_cond3 i = 1#1), ∀ a, S2x128.size a = 0 ∨ (k0_off201 i v881) a + (![8, 1] : Fin 2 → Nat) a * (S2x128.size a - 1) < S65536x128.size a := fun i v881 k0_hw96 k0_h3 => k0_hw96 k0_h3

def k0_off202 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c96_i32 : BitVec 32 := 96#32
  let v888 : BitVec 32 := Scalar.addi v23 c96_i32
  let v889 : Index := Scalar.indexCast v888
  ![v889.toNat]
def k0_off203 (i : grid0.Coords) (v890 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v891 : BitVec 32 := Scalar.addi v16 v890
  let v892 : Index := Scalar.indexCast v891
  let c0_208 : Index := 0#32
  ![v892.toNat, 0]

def k0_chk97 (i : grid0.Coords) (v890 : BitVec 32) : Prop :=
  (∀ (k0_h3 : k0_cond3 i = 1#1), ∀ a, S2x128.size a = 0 ∨ (k0_off203 i v890) a + (![8, 1] : Fin 2 → Nat) a * (S2x128.size a - 1) < S65536x128.size a)
theorem k0_off203_inb : ∀ (i : grid0.Coords) (v890 : BitVec 32) (k0_hw97 : k0_chk97 i v890), ∀ (k0_h3 : k0_cond3 i = 1#1), ∀ a, S2x128.size a = 0 ∨ (k0_off203 i v890) a + (![8, 1] : Fin 2 → Nat) a * (S2x128.size a - 1) < S65536x128.size a := fun i v890 k0_hw97 k0_h3 => k0_hw97 k0_h3

def k0_off204 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c97_i32 : BitVec 32 := 97#32
  let v897 : BitVec 32 := Scalar.addi v23 c97_i32
  let v898 : Index := Scalar.indexCast v897
  ![v898.toNat]
def k0_off205 (i : grid0.Coords) (v899 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v900 : BitVec 32 := Scalar.addi v16 v899
  let v901 : Index := Scalar.indexCast v900
  let c0_210 : Index := 0#32
  ![v901.toNat, 0]

def k0_chk98 (i : grid0.Coords) (v899 : BitVec 32) : Prop :=
  (∀ (k0_h3 : k0_cond3 i = 1#1), ∀ a, S2x128.size a = 0 ∨ (k0_off205 i v899) a + (![8, 1] : Fin 2 → Nat) a * (S2x128.size a - 1) < S65536x128.size a)
theorem k0_off205_inb : ∀ (i : grid0.Coords) (v899 : BitVec 32) (k0_hw98 : k0_chk98 i v899), ∀ (k0_h3 : k0_cond3 i = 1#1), ∀ a, S2x128.size a = 0 ∨ (k0_off205 i v899) a + (![8, 1] : Fin 2 → Nat) a * (S2x128.size a - 1) < S65536x128.size a := fun i v899 k0_hw98 k0_h3 => k0_hw98 k0_h3

def k0_off206 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c98_i32 : BitVec 32 := 98#32
  let v906 : BitVec 32 := Scalar.addi v23 c98_i32
  let v907 : Index := Scalar.indexCast v906
  ![v907.toNat]
def k0_off207 (i : grid0.Coords) (v908 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v909 : BitVec 32 := Scalar.addi v16 v908
  let v910 : Index := Scalar.indexCast v909
  let c0_212 : Index := 0#32
  ![v910.toNat, 0]

def k0_chk99 (i : grid0.Coords) (v908 : BitVec 32) : Prop :=
  (∀ (k0_h3 : k0_cond3 i = 1#1), ∀ a, S2x128.size a = 0 ∨ (k0_off207 i v908) a + (![8, 1] : Fin 2 → Nat) a * (S2x128.size a - 1) < S65536x128.size a)
theorem k0_off207_inb : ∀ (i : grid0.Coords) (v908 : BitVec 32) (k0_hw99 : k0_chk99 i v908), ∀ (k0_h3 : k0_cond3 i = 1#1), ∀ a, S2x128.size a = 0 ∨ (k0_off207 i v908) a + (![8, 1] : Fin 2 → Nat) a * (S2x128.size a - 1) < S65536x128.size a := fun i v908 k0_hw99 k0_h3 => k0_hw99 k0_h3

def k0_off208 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c99_i32 : BitVec 32 := 99#32
  let v915 : BitVec 32 := Scalar.addi v23 c99_i32
  let v916 : Index := Scalar.indexCast v915
  ![v916.toNat]
def k0_off209 (i : grid0.Coords) (v917 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v918 : BitVec 32 := Scalar.addi v16 v917
  let v919 : Index := Scalar.indexCast v918
  let c0_214 : Index := 0#32
  ![v919.toNat, 0]

def k0_chk100 (i : grid0.Coords) (v917 : BitVec 32) : Prop :=
  (∀ (k0_h3 : k0_cond3 i = 1#1), ∀ a, S2x128.size a = 0 ∨ (k0_off209 i v917) a + (![8, 1] : Fin 2 → Nat) a * (S2x128.size a - 1) < S65536x128.size a)
theorem k0_off209_inb : ∀ (i : grid0.Coords) (v917 : BitVec 32) (k0_hw100 : k0_chk100 i v917), ∀ (k0_h3 : k0_cond3 i = 1#1), ∀ a, S2x128.size a = 0 ∨ (k0_off209 i v917) a + (![8, 1] : Fin 2 → Nat) a * (S2x128.size a - 1) < S65536x128.size a := fun i v917 k0_hw100 k0_h3 => k0_hw100 k0_h3

def k0_off210 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c100_i32 : BitVec 32 := 100#32
  let v924 : BitVec 32 := Scalar.addi v23 c100_i32
  let v925 : Index := Scalar.indexCast v924
  ![v925.toNat]
def k0_off211 (i : grid0.Coords) (v926 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v927 : BitVec 32 := Scalar.addi v16 v926
  let v928 : Index := Scalar.indexCast v927
  let c0_216 : Index := 0#32
  ![v928.toNat, 0]

def k0_chk101 (i : grid0.Coords) (v926 : BitVec 32) : Prop :=
  (∀ (k0_h3 : k0_cond3 i = 1#1), ∀ a, S2x128.size a = 0 ∨ (k0_off211 i v926) a + (![8, 1] : Fin 2 → Nat) a * (S2x128.size a - 1) < S65536x128.size a)
theorem k0_off211_inb : ∀ (i : grid0.Coords) (v926 : BitVec 32) (k0_hw101 : k0_chk101 i v926), ∀ (k0_h3 : k0_cond3 i = 1#1), ∀ a, S2x128.size a = 0 ∨ (k0_off211 i v926) a + (![8, 1] : Fin 2 → Nat) a * (S2x128.size a - 1) < S65536x128.size a := fun i v926 k0_hw101 k0_h3 => k0_hw101 k0_h3

def k0_off212 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c101_i32 : BitVec 32 := 101#32
  let v933 : BitVec 32 := Scalar.addi v23 c101_i32
  let v934 : Index := Scalar.indexCast v933
  ![v934.toNat]
def k0_off213 (i : grid0.Coords) (v935 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v936 : BitVec 32 := Scalar.addi v16 v935
  let v937 : Index := Scalar.indexCast v936
  let c0_218 : Index := 0#32
  ![v937.toNat, 0]

def k0_chk102 (i : grid0.Coords) (v935 : BitVec 32) : Prop :=
  (∀ (k0_h3 : k0_cond3 i = 1#1), ∀ a, S2x128.size a = 0 ∨ (k0_off213 i v935) a + (![8, 1] : Fin 2 → Nat) a * (S2x128.size a - 1) < S65536x128.size a)
theorem k0_off213_inb : ∀ (i : grid0.Coords) (v935 : BitVec 32) (k0_hw102 : k0_chk102 i v935), ∀ (k0_h3 : k0_cond3 i = 1#1), ∀ a, S2x128.size a = 0 ∨ (k0_off213 i v935) a + (![8, 1] : Fin 2 → Nat) a * (S2x128.size a - 1) < S65536x128.size a := fun i v935 k0_hw102 k0_h3 => k0_hw102 k0_h3

def k0_off214 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c102_i32 : BitVec 32 := 102#32
  let v942 : BitVec 32 := Scalar.addi v23 c102_i32
  let v943 : Index := Scalar.indexCast v942
  ![v943.toNat]
def k0_off215 (i : grid0.Coords) (v944 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v945 : BitVec 32 := Scalar.addi v16 v944
  let v946 : Index := Scalar.indexCast v945
  let c0_220 : Index := 0#32
  ![v946.toNat, 0]

def k0_chk103 (i : grid0.Coords) (v944 : BitVec 32) : Prop :=
  (∀ (k0_h3 : k0_cond3 i = 1#1), ∀ a, S2x128.size a = 0 ∨ (k0_off215 i v944) a + (![8, 1] : Fin 2 → Nat) a * (S2x128.size a - 1) < S65536x128.size a)
theorem k0_off215_inb : ∀ (i : grid0.Coords) (v944 : BitVec 32) (k0_hw103 : k0_chk103 i v944), ∀ (k0_h3 : k0_cond3 i = 1#1), ∀ a, S2x128.size a = 0 ∨ (k0_off215 i v944) a + (![8, 1] : Fin 2 → Nat) a * (S2x128.size a - 1) < S65536x128.size a := fun i v944 k0_hw103 k0_h3 => k0_hw103 k0_h3

def k0_off216 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c103_i32 : BitVec 32 := 103#32
  let v951 : BitVec 32 := Scalar.addi v23 c103_i32
  let v952 : Index := Scalar.indexCast v951
  ![v952.toNat]
def k0_off217 (i : grid0.Coords) (v953 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v954 : BitVec 32 := Scalar.addi v16 v953
  let v955 : Index := Scalar.indexCast v954
  let c0_222 : Index := 0#32
  ![v955.toNat, 0]

def k0_chk104 (i : grid0.Coords) (v953 : BitVec 32) : Prop :=
  (∀ (k0_h3 : k0_cond3 i = 1#1), ∀ a, S2x128.size a = 0 ∨ (k0_off217 i v953) a + (![8, 1] : Fin 2 → Nat) a * (S2x128.size a - 1) < S65536x128.size a)
theorem k0_off217_inb : ∀ (i : grid0.Coords) (v953 : BitVec 32) (k0_hw104 : k0_chk104 i v953), ∀ (k0_h3 : k0_cond3 i = 1#1), ∀ a, S2x128.size a = 0 ∨ (k0_off217 i v953) a + (![8, 1] : Fin 2 → Nat) a * (S2x128.size a - 1) < S65536x128.size a := fun i v953 k0_hw104 k0_h3 => k0_hw104 k0_h3

def k0_off218 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c104_i32 : BitVec 32 := 104#32
  let v960 : BitVec 32 := Scalar.addi v23 c104_i32
  let v961 : Index := Scalar.indexCast v960
  ![v961.toNat]
def k0_off219 (i : grid0.Coords) (v962 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v963 : BitVec 32 := Scalar.addi v16 v962
  let v964 : Index := Scalar.indexCast v963
  let c0_224 : Index := 0#32
  ![v964.toNat, 0]

def k0_chk105 (i : grid0.Coords) (v962 : BitVec 32) : Prop :=
  (∀ (k0_h3 : k0_cond3 i = 1#1), ∀ a, S2x128.size a = 0 ∨ (k0_off219 i v962) a + (![8, 1] : Fin 2 → Nat) a * (S2x128.size a - 1) < S65536x128.size a)
theorem k0_off219_inb : ∀ (i : grid0.Coords) (v962 : BitVec 32) (k0_hw105 : k0_chk105 i v962), ∀ (k0_h3 : k0_cond3 i = 1#1), ∀ a, S2x128.size a = 0 ∨ (k0_off219 i v962) a + (![8, 1] : Fin 2 → Nat) a * (S2x128.size a - 1) < S65536x128.size a := fun i v962 k0_hw105 k0_h3 => k0_hw105 k0_h3

def k0_off220 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c105_i32 : BitVec 32 := 105#32
  let v969 : BitVec 32 := Scalar.addi v23 c105_i32
  let v970 : Index := Scalar.indexCast v969
  ![v970.toNat]
def k0_off221 (i : grid0.Coords) (v971 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v972 : BitVec 32 := Scalar.addi v16 v971
  let v973 : Index := Scalar.indexCast v972
  let c0_226 : Index := 0#32
  ![v973.toNat, 0]

def k0_chk106 (i : grid0.Coords) (v971 : BitVec 32) : Prop :=
  (∀ (k0_h3 : k0_cond3 i = 1#1), ∀ a, S2x128.size a = 0 ∨ (k0_off221 i v971) a + (![8, 1] : Fin 2 → Nat) a * (S2x128.size a - 1) < S65536x128.size a)
theorem k0_off221_inb : ∀ (i : grid0.Coords) (v971 : BitVec 32) (k0_hw106 : k0_chk106 i v971), ∀ (k0_h3 : k0_cond3 i = 1#1), ∀ a, S2x128.size a = 0 ∨ (k0_off221 i v971) a + (![8, 1] : Fin 2 → Nat) a * (S2x128.size a - 1) < S65536x128.size a := fun i v971 k0_hw106 k0_h3 => k0_hw106 k0_h3

def k0_off222 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c106_i32 : BitVec 32 := 106#32
  let v978 : BitVec 32 := Scalar.addi v23 c106_i32
  let v979 : Index := Scalar.indexCast v978
  ![v979.toNat]
def k0_off223 (i : grid0.Coords) (v980 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v981 : BitVec 32 := Scalar.addi v16 v980
  let v982 : Index := Scalar.indexCast v981
  let c0_228 : Index := 0#32
  ![v982.toNat, 0]

def k0_chk107 (i : grid0.Coords) (v980 : BitVec 32) : Prop :=
  (∀ (k0_h3 : k0_cond3 i = 1#1), ∀ a, S2x128.size a = 0 ∨ (k0_off223 i v980) a + (![8, 1] : Fin 2 → Nat) a * (S2x128.size a - 1) < S65536x128.size a)
theorem k0_off223_inb : ∀ (i : grid0.Coords) (v980 : BitVec 32) (k0_hw107 : k0_chk107 i v980), ∀ (k0_h3 : k0_cond3 i = 1#1), ∀ a, S2x128.size a = 0 ∨ (k0_off223 i v980) a + (![8, 1] : Fin 2 → Nat) a * (S2x128.size a - 1) < S65536x128.size a := fun i v980 k0_hw107 k0_h3 => k0_hw107 k0_h3

def k0_off224 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c107_i32 : BitVec 32 := 107#32
  let v987 : BitVec 32 := Scalar.addi v23 c107_i32
  let v988 : Index := Scalar.indexCast v987
  ![v988.toNat]
def k0_off225 (i : grid0.Coords) (v989 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v990 : BitVec 32 := Scalar.addi v16 v989
  let v991 : Index := Scalar.indexCast v990
  let c0_230 : Index := 0#32
  ![v991.toNat, 0]

def k0_chk108 (i : grid0.Coords) (v989 : BitVec 32) : Prop :=
  (∀ (k0_h3 : k0_cond3 i = 1#1), ∀ a, S2x128.size a = 0 ∨ (k0_off225 i v989) a + (![8, 1] : Fin 2 → Nat) a * (S2x128.size a - 1) < S65536x128.size a)
theorem k0_off225_inb : ∀ (i : grid0.Coords) (v989 : BitVec 32) (k0_hw108 : k0_chk108 i v989), ∀ (k0_h3 : k0_cond3 i = 1#1), ∀ a, S2x128.size a = 0 ∨ (k0_off225 i v989) a + (![8, 1] : Fin 2 → Nat) a * (S2x128.size a - 1) < S65536x128.size a := fun i v989 k0_hw108 k0_h3 => k0_hw108 k0_h3

def k0_off226 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c108_i32 : BitVec 32 := 108#32
  let v996 : BitVec 32 := Scalar.addi v23 c108_i32
  let v997 : Index := Scalar.indexCast v996
  ![v997.toNat]
def k0_off227 (i : grid0.Coords) (v998 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v999 : BitVec 32 := Scalar.addi v16 v998
  let v1000 : Index := Scalar.indexCast v999
  let c0_232 : Index := 0#32
  ![v1000.toNat, 0]

def k0_chk109 (i : grid0.Coords) (v998 : BitVec 32) : Prop :=
  (∀ (k0_h3 : k0_cond3 i = 1#1), ∀ a, S2x128.size a = 0 ∨ (k0_off227 i v998) a + (![8, 1] : Fin 2 → Nat) a * (S2x128.size a - 1) < S65536x128.size a)
theorem k0_off227_inb : ∀ (i : grid0.Coords) (v998 : BitVec 32) (k0_hw109 : k0_chk109 i v998), ∀ (k0_h3 : k0_cond3 i = 1#1), ∀ a, S2x128.size a = 0 ∨ (k0_off227 i v998) a + (![8, 1] : Fin 2 → Nat) a * (S2x128.size a - 1) < S65536x128.size a := fun i v998 k0_hw109 k0_h3 => k0_hw109 k0_h3

def k0_off228 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c109_i32 : BitVec 32 := 109#32
  let v1005 : BitVec 32 := Scalar.addi v23 c109_i32
  let v1006 : Index := Scalar.indexCast v1005
  ![v1006.toNat]
def k0_off229 (i : grid0.Coords) (v1007 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1008 : BitVec 32 := Scalar.addi v16 v1007
  let v1009 : Index := Scalar.indexCast v1008
  let c0_234 : Index := 0#32
  ![v1009.toNat, 0]

def k0_chk110 (i : grid0.Coords) (v1007 : BitVec 32) : Prop :=
  (∀ (k0_h3 : k0_cond3 i = 1#1), ∀ a, S2x128.size a = 0 ∨ (k0_off229 i v1007) a + (![8, 1] : Fin 2 → Nat) a * (S2x128.size a - 1) < S65536x128.size a)
theorem k0_off229_inb : ∀ (i : grid0.Coords) (v1007 : BitVec 32) (k0_hw110 : k0_chk110 i v1007), ∀ (k0_h3 : k0_cond3 i = 1#1), ∀ a, S2x128.size a = 0 ∨ (k0_off229 i v1007) a + (![8, 1] : Fin 2 → Nat) a * (S2x128.size a - 1) < S65536x128.size a := fun i v1007 k0_hw110 k0_h3 => k0_hw110 k0_h3

def k0_off230 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c110_i32 : BitVec 32 := 110#32
  let v1014 : BitVec 32 := Scalar.addi v23 c110_i32
  let v1015 : Index := Scalar.indexCast v1014
  ![v1015.toNat]
def k0_off231 (i : grid0.Coords) (v1016 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1017 : BitVec 32 := Scalar.addi v16 v1016
  let v1018 : Index := Scalar.indexCast v1017
  let c0_236 : Index := 0#32
  ![v1018.toNat, 0]

def k0_chk111 (i : grid0.Coords) (v1016 : BitVec 32) : Prop :=
  (∀ (k0_h3 : k0_cond3 i = 1#1), ∀ a, S2x128.size a = 0 ∨ (k0_off231 i v1016) a + (![8, 1] : Fin 2 → Nat) a * (S2x128.size a - 1) < S65536x128.size a)
theorem k0_off231_inb : ∀ (i : grid0.Coords) (v1016 : BitVec 32) (k0_hw111 : k0_chk111 i v1016), ∀ (k0_h3 : k0_cond3 i = 1#1), ∀ a, S2x128.size a = 0 ∨ (k0_off231 i v1016) a + (![8, 1] : Fin 2 → Nat) a * (S2x128.size a - 1) < S65536x128.size a := fun i v1016 k0_hw111 k0_h3 => k0_hw111 k0_h3

def k0_off232 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c111_i32 : BitVec 32 := 111#32
  let v1023 : BitVec 32 := Scalar.addi v23 c111_i32
  let v1024 : Index := Scalar.indexCast v1023
  ![v1024.toNat]
def k0_off233 (i : grid0.Coords) (v1025 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1026 : BitVec 32 := Scalar.addi v16 v1025
  let v1027 : Index := Scalar.indexCast v1026
  let c0_238 : Index := 0#32
  ![v1027.toNat, 0]

def k0_chk112 (i : grid0.Coords) (v1025 : BitVec 32) : Prop :=
  (∀ (k0_h3 : k0_cond3 i = 1#1), ∀ a, S2x128.size a = 0 ∨ (k0_off233 i v1025) a + (![8, 1] : Fin 2 → Nat) a * (S2x128.size a - 1) < S65536x128.size a)
theorem k0_off233_inb : ∀ (i : grid0.Coords) (v1025 : BitVec 32) (k0_hw112 : k0_chk112 i v1025), ∀ (k0_h3 : k0_cond3 i = 1#1), ∀ a, S2x128.size a = 0 ∨ (k0_off233 i v1025) a + (![8, 1] : Fin 2 → Nat) a * (S2x128.size a - 1) < S65536x128.size a := fun i v1025 k0_hw112 k0_h3 => k0_hw112 k0_h3

def k0_off234 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c112_i32 : BitVec 32 := 112#32
  let v1032 : BitVec 32 := Scalar.addi v23 c112_i32
  let v1033 : Index := Scalar.indexCast v1032
  ![v1033.toNat]
def k0_off235 (i : grid0.Coords) (v1034 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1035 : BitVec 32 := Scalar.addi v16 v1034
  let v1036 : Index := Scalar.indexCast v1035
  let c0_240 : Index := 0#32
  ![v1036.toNat, 0]

def k0_chk113 (i : grid0.Coords) (v1034 : BitVec 32) : Prop :=
  (∀ (k0_h3 : k0_cond3 i = 1#1), ∀ a, S2x128.size a = 0 ∨ (k0_off235 i v1034) a + (![8, 1] : Fin 2 → Nat) a * (S2x128.size a - 1) < S65536x128.size a)
theorem k0_off235_inb : ∀ (i : grid0.Coords) (v1034 : BitVec 32) (k0_hw113 : k0_chk113 i v1034), ∀ (k0_h3 : k0_cond3 i = 1#1), ∀ a, S2x128.size a = 0 ∨ (k0_off235 i v1034) a + (![8, 1] : Fin 2 → Nat) a * (S2x128.size a - 1) < S65536x128.size a := fun i v1034 k0_hw113 k0_h3 => k0_hw113 k0_h3

def k0_off236 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c113_i32 : BitVec 32 := 113#32
  let v1041 : BitVec 32 := Scalar.addi v23 c113_i32
  let v1042 : Index := Scalar.indexCast v1041
  ![v1042.toNat]
def k0_off237 (i : grid0.Coords) (v1043 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1044 : BitVec 32 := Scalar.addi v16 v1043
  let v1045 : Index := Scalar.indexCast v1044
  let c0_242 : Index := 0#32
  ![v1045.toNat, 0]

def k0_chk114 (i : grid0.Coords) (v1043 : BitVec 32) : Prop :=
  (∀ (k0_h3 : k0_cond3 i = 1#1), ∀ a, S2x128.size a = 0 ∨ (k0_off237 i v1043) a + (![8, 1] : Fin 2 → Nat) a * (S2x128.size a - 1) < S65536x128.size a)
theorem k0_off237_inb : ∀ (i : grid0.Coords) (v1043 : BitVec 32) (k0_hw114 : k0_chk114 i v1043), ∀ (k0_h3 : k0_cond3 i = 1#1), ∀ a, S2x128.size a = 0 ∨ (k0_off237 i v1043) a + (![8, 1] : Fin 2 → Nat) a * (S2x128.size a - 1) < S65536x128.size a := fun i v1043 k0_hw114 k0_h3 => k0_hw114 k0_h3

def k0_off238 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c114_i32 : BitVec 32 := 114#32
  let v1050 : BitVec 32 := Scalar.addi v23 c114_i32
  let v1051 : Index := Scalar.indexCast v1050
  ![v1051.toNat]
def k0_off239 (i : grid0.Coords) (v1052 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1053 : BitVec 32 := Scalar.addi v16 v1052
  let v1054 : Index := Scalar.indexCast v1053
  let c0_244 : Index := 0#32
  ![v1054.toNat, 0]

def k0_chk115 (i : grid0.Coords) (v1052 : BitVec 32) : Prop :=
  (∀ (k0_h3 : k0_cond3 i = 1#1), ∀ a, S2x128.size a = 0 ∨ (k0_off239 i v1052) a + (![8, 1] : Fin 2 → Nat) a * (S2x128.size a - 1) < S65536x128.size a)
theorem k0_off239_inb : ∀ (i : grid0.Coords) (v1052 : BitVec 32) (k0_hw115 : k0_chk115 i v1052), ∀ (k0_h3 : k0_cond3 i = 1#1), ∀ a, S2x128.size a = 0 ∨ (k0_off239 i v1052) a + (![8, 1] : Fin 2 → Nat) a * (S2x128.size a - 1) < S65536x128.size a := fun i v1052 k0_hw115 k0_h3 => k0_hw115 k0_h3

def k0_off240 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c115_i32 : BitVec 32 := 115#32
  let v1059 : BitVec 32 := Scalar.addi v23 c115_i32
  let v1060 : Index := Scalar.indexCast v1059
  ![v1060.toNat]
def k0_off241 (i : grid0.Coords) (v1061 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1062 : BitVec 32 := Scalar.addi v16 v1061
  let v1063 : Index := Scalar.indexCast v1062
  let c0_246 : Index := 0#32
  ![v1063.toNat, 0]

def k0_chk116 (i : grid0.Coords) (v1061 : BitVec 32) : Prop :=
  (∀ (k0_h3 : k0_cond3 i = 1#1), ∀ a, S2x128.size a = 0 ∨ (k0_off241 i v1061) a + (![8, 1] : Fin 2 → Nat) a * (S2x128.size a - 1) < S65536x128.size a)
theorem k0_off241_inb : ∀ (i : grid0.Coords) (v1061 : BitVec 32) (k0_hw116 : k0_chk116 i v1061), ∀ (k0_h3 : k0_cond3 i = 1#1), ∀ a, S2x128.size a = 0 ∨ (k0_off241 i v1061) a + (![8, 1] : Fin 2 → Nat) a * (S2x128.size a - 1) < S65536x128.size a := fun i v1061 k0_hw116 k0_h3 => k0_hw116 k0_h3

def k0_off242 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c116_i32 : BitVec 32 := 116#32
  let v1068 : BitVec 32 := Scalar.addi v23 c116_i32
  let v1069 : Index := Scalar.indexCast v1068
  ![v1069.toNat]
def k0_off243 (i : grid0.Coords) (v1070 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1071 : BitVec 32 := Scalar.addi v16 v1070
  let v1072 : Index := Scalar.indexCast v1071
  let c0_248 : Index := 0#32
  ![v1072.toNat, 0]

def k0_chk117 (i : grid0.Coords) (v1070 : BitVec 32) : Prop :=
  (∀ (k0_h3 : k0_cond3 i = 1#1), ∀ a, S2x128.size a = 0 ∨ (k0_off243 i v1070) a + (![8, 1] : Fin 2 → Nat) a * (S2x128.size a - 1) < S65536x128.size a)
theorem k0_off243_inb : ∀ (i : grid0.Coords) (v1070 : BitVec 32) (k0_hw117 : k0_chk117 i v1070), ∀ (k0_h3 : k0_cond3 i = 1#1), ∀ a, S2x128.size a = 0 ∨ (k0_off243 i v1070) a + (![8, 1] : Fin 2 → Nat) a * (S2x128.size a - 1) < S65536x128.size a := fun i v1070 k0_hw117 k0_h3 => k0_hw117 k0_h3

def k0_off244 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c117_i32 : BitVec 32 := 117#32
  let v1077 : BitVec 32 := Scalar.addi v23 c117_i32
  let v1078 : Index := Scalar.indexCast v1077
  ![v1078.toNat]
def k0_off245 (i : grid0.Coords) (v1079 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1080 : BitVec 32 := Scalar.addi v16 v1079
  let v1081 : Index := Scalar.indexCast v1080
  let c0_250 : Index := 0#32
  ![v1081.toNat, 0]

def k0_chk118 (i : grid0.Coords) (v1079 : BitVec 32) : Prop :=
  (∀ (k0_h3 : k0_cond3 i = 1#1), ∀ a, S2x128.size a = 0 ∨ (k0_off245 i v1079) a + (![8, 1] : Fin 2 → Nat) a * (S2x128.size a - 1) < S65536x128.size a)
theorem k0_off245_inb : ∀ (i : grid0.Coords) (v1079 : BitVec 32) (k0_hw118 : k0_chk118 i v1079), ∀ (k0_h3 : k0_cond3 i = 1#1), ∀ a, S2x128.size a = 0 ∨ (k0_off245 i v1079) a + (![8, 1] : Fin 2 → Nat) a * (S2x128.size a - 1) < S65536x128.size a := fun i v1079 k0_hw118 k0_h3 => k0_hw118 k0_h3

def k0_off246 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c118_i32 : BitVec 32 := 118#32
  let v1086 : BitVec 32 := Scalar.addi v23 c118_i32
  let v1087 : Index := Scalar.indexCast v1086
  ![v1087.toNat]
def k0_off247 (i : grid0.Coords) (v1088 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1089 : BitVec 32 := Scalar.addi v16 v1088
  let v1090 : Index := Scalar.indexCast v1089
  let c0_252 : Index := 0#32
  ![v1090.toNat, 0]

def k0_chk119 (i : grid0.Coords) (v1088 : BitVec 32) : Prop :=
  (∀ (k0_h3 : k0_cond3 i = 1#1), ∀ a, S2x128.size a = 0 ∨ (k0_off247 i v1088) a + (![8, 1] : Fin 2 → Nat) a * (S2x128.size a - 1) < S65536x128.size a)
theorem k0_off247_inb : ∀ (i : grid0.Coords) (v1088 : BitVec 32) (k0_hw119 : k0_chk119 i v1088), ∀ (k0_h3 : k0_cond3 i = 1#1), ∀ a, S2x128.size a = 0 ∨ (k0_off247 i v1088) a + (![8, 1] : Fin 2 → Nat) a * (S2x128.size a - 1) < S65536x128.size a := fun i v1088 k0_hw119 k0_h3 => k0_hw119 k0_h3

def k0_off248 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c119_i32 : BitVec 32 := 119#32
  let v1095 : BitVec 32 := Scalar.addi v23 c119_i32
  let v1096 : Index := Scalar.indexCast v1095
  ![v1096.toNat]
def k0_off249 (i : grid0.Coords) (v1097 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1098 : BitVec 32 := Scalar.addi v16 v1097
  let v1099 : Index := Scalar.indexCast v1098
  let c0_254 : Index := 0#32
  ![v1099.toNat, 0]

def k0_chk120 (i : grid0.Coords) (v1097 : BitVec 32) : Prop :=
  (∀ (k0_h3 : k0_cond3 i = 1#1), ∀ a, S2x128.size a = 0 ∨ (k0_off249 i v1097) a + (![8, 1] : Fin 2 → Nat) a * (S2x128.size a - 1) < S65536x128.size a)
theorem k0_off249_inb : ∀ (i : grid0.Coords) (v1097 : BitVec 32) (k0_hw120 : k0_chk120 i v1097), ∀ (k0_h3 : k0_cond3 i = 1#1), ∀ a, S2x128.size a = 0 ∨ (k0_off249 i v1097) a + (![8, 1] : Fin 2 → Nat) a * (S2x128.size a - 1) < S65536x128.size a := fun i v1097 k0_hw120 k0_h3 => k0_hw120 k0_h3

def k0_off250 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c120_i32 : BitVec 32 := 120#32
  let v1104 : BitVec 32 := Scalar.addi v23 c120_i32
  let v1105 : Index := Scalar.indexCast v1104
  ![v1105.toNat]
def k0_off251 (i : grid0.Coords) (v1106 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1107 : BitVec 32 := Scalar.addi v16 v1106
  let v1108 : Index := Scalar.indexCast v1107
  let c0_256 : Index := 0#32
  ![v1108.toNat, 0]

def k0_chk121 (i : grid0.Coords) (v1106 : BitVec 32) : Prop :=
  (∀ (k0_h3 : k0_cond3 i = 1#1), ∀ a, S2x128.size a = 0 ∨ (k0_off251 i v1106) a + (![8, 1] : Fin 2 → Nat) a * (S2x128.size a - 1) < S65536x128.size a)
theorem k0_off251_inb : ∀ (i : grid0.Coords) (v1106 : BitVec 32) (k0_hw121 : k0_chk121 i v1106), ∀ (k0_h3 : k0_cond3 i = 1#1), ∀ a, S2x128.size a = 0 ∨ (k0_off251 i v1106) a + (![8, 1] : Fin 2 → Nat) a * (S2x128.size a - 1) < S65536x128.size a := fun i v1106 k0_hw121 k0_h3 => k0_hw121 k0_h3

def k0_off252 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c121_i32 : BitVec 32 := 121#32
  let v1113 : BitVec 32 := Scalar.addi v23 c121_i32
  let v1114 : Index := Scalar.indexCast v1113
  ![v1114.toNat]
def k0_off253 (i : grid0.Coords) (v1115 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1116 : BitVec 32 := Scalar.addi v16 v1115
  let v1117 : Index := Scalar.indexCast v1116
  let c0_258 : Index := 0#32
  ![v1117.toNat, 0]

def k0_chk122 (i : grid0.Coords) (v1115 : BitVec 32) : Prop :=
  (∀ (k0_h3 : k0_cond3 i = 1#1), ∀ a, S2x128.size a = 0 ∨ (k0_off253 i v1115) a + (![8, 1] : Fin 2 → Nat) a * (S2x128.size a - 1) < S65536x128.size a)
theorem k0_off253_inb : ∀ (i : grid0.Coords) (v1115 : BitVec 32) (k0_hw122 : k0_chk122 i v1115), ∀ (k0_h3 : k0_cond3 i = 1#1), ∀ a, S2x128.size a = 0 ∨ (k0_off253 i v1115) a + (![8, 1] : Fin 2 → Nat) a * (S2x128.size a - 1) < S65536x128.size a := fun i v1115 k0_hw122 k0_h3 => k0_hw122 k0_h3

def k0_off254 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c122_i32 : BitVec 32 := 122#32
  let v1122 : BitVec 32 := Scalar.addi v23 c122_i32
  let v1123 : Index := Scalar.indexCast v1122
  ![v1123.toNat]
def k0_off255 (i : grid0.Coords) (v1124 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1125 : BitVec 32 := Scalar.addi v16 v1124
  let v1126 : Index := Scalar.indexCast v1125
  let c0_260 : Index := 0#32
  ![v1126.toNat, 0]

def k0_chk123 (i : grid0.Coords) (v1124 : BitVec 32) : Prop :=
  (∀ (k0_h3 : k0_cond3 i = 1#1), ∀ a, S2x128.size a = 0 ∨ (k0_off255 i v1124) a + (![8, 1] : Fin 2 → Nat) a * (S2x128.size a - 1) < S65536x128.size a)
theorem k0_off255_inb : ∀ (i : grid0.Coords) (v1124 : BitVec 32) (k0_hw123 : k0_chk123 i v1124), ∀ (k0_h3 : k0_cond3 i = 1#1), ∀ a, S2x128.size a = 0 ∨ (k0_off255 i v1124) a + (![8, 1] : Fin 2 → Nat) a * (S2x128.size a - 1) < S65536x128.size a := fun i v1124 k0_hw123 k0_h3 => k0_hw123 k0_h3

def k0_off256 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c123_i32 : BitVec 32 := 123#32
  let v1131 : BitVec 32 := Scalar.addi v23 c123_i32
  let v1132 : Index := Scalar.indexCast v1131
  ![v1132.toNat]
def k0_off257 (i : grid0.Coords) (v1133 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1134 : BitVec 32 := Scalar.addi v16 v1133
  let v1135 : Index := Scalar.indexCast v1134
  let c0_262 : Index := 0#32
  ![v1135.toNat, 0]

def k0_chk124 (i : grid0.Coords) (v1133 : BitVec 32) : Prop :=
  (∀ (k0_h3 : k0_cond3 i = 1#1), ∀ a, S2x128.size a = 0 ∨ (k0_off257 i v1133) a + (![8, 1] : Fin 2 → Nat) a * (S2x128.size a - 1) < S65536x128.size a)
theorem k0_off257_inb : ∀ (i : grid0.Coords) (v1133 : BitVec 32) (k0_hw124 : k0_chk124 i v1133), ∀ (k0_h3 : k0_cond3 i = 1#1), ∀ a, S2x128.size a = 0 ∨ (k0_off257 i v1133) a + (![8, 1] : Fin 2 → Nat) a * (S2x128.size a - 1) < S65536x128.size a := fun i v1133 k0_hw124 k0_h3 => k0_hw124 k0_h3

def k0_off258 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c124_i32 : BitVec 32 := 124#32
  let v1140 : BitVec 32 := Scalar.addi v23 c124_i32
  let v1141 : Index := Scalar.indexCast v1140
  ![v1141.toNat]
def k0_off259 (i : grid0.Coords) (v1142 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1143 : BitVec 32 := Scalar.addi v16 v1142
  let v1144 : Index := Scalar.indexCast v1143
  let c0_264 : Index := 0#32
  ![v1144.toNat, 0]

def k0_chk125 (i : grid0.Coords) (v1142 : BitVec 32) : Prop :=
  (∀ (k0_h3 : k0_cond3 i = 1#1), ∀ a, S2x128.size a = 0 ∨ (k0_off259 i v1142) a + (![8, 1] : Fin 2 → Nat) a * (S2x128.size a - 1) < S65536x128.size a)
theorem k0_off259_inb : ∀ (i : grid0.Coords) (v1142 : BitVec 32) (k0_hw125 : k0_chk125 i v1142), ∀ (k0_h3 : k0_cond3 i = 1#1), ∀ a, S2x128.size a = 0 ∨ (k0_off259 i v1142) a + (![8, 1] : Fin 2 → Nat) a * (S2x128.size a - 1) < S65536x128.size a := fun i v1142 k0_hw125 k0_h3 => k0_hw125 k0_h3

def k0_off260 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c125_i32 : BitVec 32 := 125#32
  let v1149 : BitVec 32 := Scalar.addi v23 c125_i32
  let v1150 : Index := Scalar.indexCast v1149
  ![v1150.toNat]
def k0_off261 (i : grid0.Coords) (v1151 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1152 : BitVec 32 := Scalar.addi v16 v1151
  let v1153 : Index := Scalar.indexCast v1152
  let c0_266 : Index := 0#32
  ![v1153.toNat, 0]

def k0_chk126 (i : grid0.Coords) (v1151 : BitVec 32) : Prop :=
  (∀ (k0_h3 : k0_cond3 i = 1#1), ∀ a, S2x128.size a = 0 ∨ (k0_off261 i v1151) a + (![8, 1] : Fin 2 → Nat) a * (S2x128.size a - 1) < S65536x128.size a)
theorem k0_off261_inb : ∀ (i : grid0.Coords) (v1151 : BitVec 32) (k0_hw126 : k0_chk126 i v1151), ∀ (k0_h3 : k0_cond3 i = 1#1), ∀ a, S2x128.size a = 0 ∨ (k0_off261 i v1151) a + (![8, 1] : Fin 2 → Nat) a * (S2x128.size a - 1) < S65536x128.size a := fun i v1151 k0_hw126 k0_h3 => k0_hw126 k0_h3

def k0_off262 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c126_i32 : BitVec 32 := 126#32
  let v1158 : BitVec 32 := Scalar.addi v23 c126_i32
  let v1159 : Index := Scalar.indexCast v1158
  ![v1159.toNat]
def k0_off263 (i : grid0.Coords) (v1160 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1161 : BitVec 32 := Scalar.addi v16 v1160
  let v1162 : Index := Scalar.indexCast v1161
  let c0_268 : Index := 0#32
  ![v1162.toNat, 0]

def k0_chk127 (i : grid0.Coords) (v1160 : BitVec 32) : Prop :=
  (∀ (k0_h3 : k0_cond3 i = 1#1), ∀ a, S2x128.size a = 0 ∨ (k0_off263 i v1160) a + (![8, 1] : Fin 2 → Nat) a * (S2x128.size a - 1) < S65536x128.size a)
theorem k0_off263_inb : ∀ (i : grid0.Coords) (v1160 : BitVec 32) (k0_hw127 : k0_chk127 i v1160), ∀ (k0_h3 : k0_cond3 i = 1#1), ∀ a, S2x128.size a = 0 ∨ (k0_off263 i v1160) a + (![8, 1] : Fin 2 → Nat) a * (S2x128.size a - 1) < S65536x128.size a := fun i v1160 k0_hw127 k0_h3 => k0_hw127 k0_h3

def k0_off264 (i : grid0.Coords) (k0_t2 : Fin k0_t2_loop.trips) : Fin 1 → Nat :=
  let arg1 : BitVec 32 := BitVec.ofNat 32 (i 1).val
  let c8_i32_11 : BitVec 32 := 8#32
  let v21 : BitVec 32 := Scalar.muli arg1 c8_i32_11
  let c0_i32_8 : BitVec 32 := 0#32
  let c1_i32_9 : BitVec 32 := 1#32
  let arg15 : BitVec 32 := Scf.iv c0_i32_8 c1_i32_9 k0_t2
  let v22 : BitVec 32 := Scalar.addi v21 arg15
  let c128_i32 : BitVec 32 := 128#32
  let v23 : BitVec 32 := Scalar.muli v22 c128_i32
  let c127_i32 : BitVec 32 := 127#32
  let v1167 : BitVec 32 := Scalar.addi v23 c127_i32
  let v1168 : Index := Scalar.indexCast v1167
  ![v1168.toNat]
def k0_off265 (i : grid0.Coords) (v1169 : BitVec 32) : Fin 2 → Nat :=
  let arg0 : BitVec 32 := BitVec.ofNat 32 (i 0).val
  let c1_i32 : BitVec 32 := 1#32
  let v14 : BitVec 32 := Scalar.subi arg0 c1_i32
  let c1_i32_7 : BitVec 32 := 1#32
  let v15 : BitVec 32 := Scalar.andi v14 c1_i32_7
  let c32768_i32 : BitVec 32 := 32768#32
  let v16 : BitVec 32 := Scalar.muli v15 c32768_i32
  let v1170 : BitVec 32 := Scalar.addi v16 v1169
  let v1171 : Index := Scalar.indexCast v1170
  let c0_270 : Index := 0#32
  ![v1171.toNat, 0]

def k0_chk128 (i : grid0.Coords) (v1169 : BitVec 32) : Prop :=
  (∀ (k0_h3 : k0_cond3 i = 1#1), ∀ a, S2x128.size a = 0 ∨ (k0_off265 i v1169) a + (![8, 1] : Fin 2 → Nat) a * (S2x128.size a - 1) < S65536x128.size a)
theorem k0_off265_inb : ∀ (i : grid0.Coords) (v1169 : BitVec 32) (k0_hw128 : k0_chk128 i v1169), ∀ (k0_h3 : k0_cond3 i = 1#1), ∀ a, S2x128.size a = 0 ∨ (k0_off265 i v1169) a + (![8, 1] : Fin 2 → Nat) a * (S2x128.size a - 1) < S65536x128.size a := fun i v1169 k0_hw128 k0_h3 => k0_hw128 k0_h3

def k0_off266 (k0_t2 : Fin k0_t2_loop.trips) : Fin 2 → Nat :=
  let c0_i32_8 : BitVec 32 := 0#32
  let c1_i32_9 : BitVec 32 := 1#32
  let arg15 : BitVec 32 := Scf.iv c0_i32_8 c1_i32_9 k0_t2
  let v1176 : Index := Scalar.indexCast arg15
  let c0_272 : Index := 0#32
  ![v1176.toNat, 0]
def k0_mult9 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c128_i32_274 : BitVec 32 := 128#32
  let v1186 : BitVec 32 := Scalar.muli arg15 c128_i32_274
  v1186
def k0_off267 (k0_t2 : Fin k0_t2_loop.trips) (c0_i32_302 : BitVec 32) : Fin 2 → Nat :=
  let c0_i32_8 : BitVec 32 := 0#32
  let c1_i32_9 : BitVec 32 := 1#32
  let arg15 : BitVec 32 := Scf.iv c0_i32_8 c1_i32_9 k0_t2
  let c128_i32_274 : BitVec 32 := 128#32
  let v1186 : BitVec 32 := Scalar.muli arg15 c128_i32_274
  let v1187 : BitVec 32 := v1186
  let v1254 : BitVec 32 := Scalar.addi v1187 c0_i32_302
  let v1255 : Index := Scalar.indexCast v1254
  let c0_303 : Index := 0#32
  ![v1255.toNat, 0]
def k0_off268 (k0_t2 : Fin k0_t2_loop.trips) (c0_i32_307 : BitVec 32) : Fin 2 → Nat :=
  let c0_i32_8 : BitVec 32 := 0#32
  let c1_i32_9 : BitVec 32 := 1#32
  let arg15 : BitVec 32 := Scf.iv c0_i32_8 c1_i32_9 k0_t2
  let c128_i32_274 : BitVec 32 := 128#32
  let v1186 : BitVec 32 := Scalar.muli arg15 c128_i32_274
  let v1187 : BitVec 32 := v1186
  let v1269 : BitVec 32 := Scalar.addi v1187 c0_i32_307
  let v1270 : Index := Scalar.indexCast v1269
  let c256_308 : Index := 256#32
  ![v1270.toNat, 256]
def k0_off269 (k0_t2 : Fin k0_t2_loop.trips) (c0_i32_312 : BitVec 32) : Fin 2 → Nat :=
  let c0_i32_8 : BitVec 32 := 0#32
  let c1_i32_9 : BitVec 32 := 1#32
  let arg15 : BitVec 32 := Scf.iv c0_i32_8 c1_i32_9 k0_t2
  let c128_i32_274 : BitVec 32 := 128#32
  let v1186 : BitVec 32 := Scalar.muli arg15 c128_i32_274
  let v1187 : BitVec 32 := v1186
  let v1284 : BitVec 32 := Scalar.addi v1187 c0_i32_312
  let v1285 : Index := Scalar.indexCast v1284
  let c512_313 : Index := 512#32
  ![v1285.toNat, 512]
def k0_off270 (k0_t2 : Fin k0_t2_loop.trips) (c0_i32_317 : BitVec 32) : Fin 2 → Nat :=
  let c0_i32_8 : BitVec 32 := 0#32
  let c1_i32_9 : BitVec 32 := 1#32
  let arg15 : BitVec 32 := Scf.iv c0_i32_8 c1_i32_9 k0_t2
  let c128_i32_274 : BitVec 32 := 128#32
  let v1186 : BitVec 32 := Scalar.muli arg15 c128_i32_274
  let v1187 : BitVec 32 := v1186
  let v1299 : BitVec 32 := Scalar.addi v1187 c0_i32_317
  let v1300 : Index := Scalar.indexCast v1299
  let c768_318 : Index := 768#32
  ![v1300.toNat, 768]
def k0_off271 (k0_t2 : Fin k0_t2_loop.trips) (c0_i32_347 : BitVec 32) : Fin 2 → Nat :=
  let c0_i32_8 : BitVec 32 := 0#32
  let c1_i32_9 : BitVec 32 := 1#32
  let arg15 : BitVec 32 := Scf.iv c0_i32_8 c1_i32_9 k0_t2
  let c128_i32_274 : BitVec 32 := 128#32
  let v1186 : BitVec 32 := Scalar.muli arg15 c128_i32_274
  let v1187 : BitVec 32 := v1186
  let v1366 : BitVec 32 := Scalar.addi v1187 c0_i32_347
  let v1367 : Index := Scalar.indexCast v1366
  let c128_348 : Index := 128#32
  ![v1367.toNat, 128]
def k0_off272 (k0_t2 : Fin k0_t2_loop.trips) (c0_i32_352 : BitVec 32) : Fin 2 → Nat :=
  let c0_i32_8 : BitVec 32 := 0#32
  let c1_i32_9 : BitVec 32 := 1#32
  let arg15 : BitVec 32 := Scf.iv c0_i32_8 c1_i32_9 k0_t2
  let c128_i32_274 : BitVec 32 := 128#32
  let v1186 : BitVec 32 := Scalar.muli arg15 c128_i32_274
  let v1187 : BitVec 32 := v1186
  let v1381 : BitVec 32 := Scalar.addi v1187 c0_i32_352
  let v1382 : Index := Scalar.indexCast v1381
  let c384_353 : Index := 384#32
  ![v1382.toNat, 384]
def k0_off273 (k0_t2 : Fin k0_t2_loop.trips) (c0_i32_357 : BitVec 32) : Fin 2 → Nat :=
  let c0_i32_8 : BitVec 32 := 0#32
  let c1_i32_9 : BitVec 32 := 1#32
  let arg15 : BitVec 32 := Scf.iv c0_i32_8 c1_i32_9 k0_t2
  let c128_i32_274 : BitVec 32 := 128#32
  let v1186 : BitVec 32 := Scalar.muli arg15 c128_i32_274
  let v1187 : BitVec 32 := v1186
  let v1396 : BitVec 32 := Scalar.addi v1187 c0_i32_357
  let v1397 : Index := Scalar.indexCast v1396
  let c640_358 : Index := 640#32
  ![v1397.toNat, 640]
def k0_off274 (k0_t2 : Fin k0_t2_loop.trips) (c0_i32_362 : BitVec 32) : Fin 2 → Nat :=
  let c0_i32_8 : BitVec 32 := 0#32
  let c1_i32_9 : BitVec 32 := 1#32
  let arg15 : BitVec 32 := Scf.iv c0_i32_8 c1_i32_9 k0_t2
  let c128_i32_274 : BitVec 32 := 128#32
  let v1186 : BitVec 32 := Scalar.muli arg15 c128_i32_274
  let v1187 : BitVec 32 := v1186
  let v1411 : BitVec 32 := Scalar.addi v1187 c0_i32_362
  let v1412 : Index := Scalar.indexCast v1411
  let c896_363 : Index := 896#32
  ![v1412.toNat, 896]
def k0_off275 (k0_t2 : Fin k0_t2_loop.trips) : Fin 2 → Nat :=
  let c0_i32_8 : BitVec 32 := 0#32
  let c1_i32_9 : BitVec 32 := 1#32
  let arg15 : BitVec 32 := Scf.iv c0_i32_8 c1_i32_9 k0_t2
  let c128_i32_274 : BitVec 32 := 128#32
  let v1186 : BitVec 32 := Scalar.muli arg15 c128_i32_274
  let v1187 : BitVec 32 := v1186
  let v2093 : Index := Scalar.indexCast v1187
  let c0_666 : Index := 0#32
  ![v2093.toNat, 0]
def k0_off276 (i : grid0.Coords) (k0_t2 : Fin k0_t2_loop.trips) : Fin 2 → Nat :=
  let arg1 : BitVec 32 := BitVec.ofNat 32 (i 1).val
  let c8_i32_670 : BitVec 32 := 8#32
  let v2100 : BitVec 32 := Scalar.muli arg1 c8_i32_670
  let c0_i32_8 : BitVec 32 := 0#32
  let c1_i32_9 : BitVec 32 := 1#32
  let arg15 : BitVec 32 := Scf.iv c0_i32_8 c1_i32_9 k0_t2
  let v2101 : BitVec 32 := Scalar.addi v2100 arg15
  let v2102 : Index := Scalar.indexCast v2101
  let c0_671 : Index := 0#32
  ![v2102.toNat, 0]
def k0_cond4 (i : grid0.Coords) : BitVec 1 :=
  let arg0 : BitVec 32 := BitVec.ofNat 32 (i 0).val
  let c7_i32_5 : BitVec 32 := 7#32
  let v11 : BitVec 1 := Scalar.cmpi .eq arg0 c7_i32_5
  let v12 : BitVec 32 := Scalar.extui v11
  let c0_i32_6 : BitVec 32 := 0#32
  let v13 : BitVec 1 := Scalar.cmpi .ne v12 c0_i32_6
  v13

def k0_mult10 (i : grid0.Coords) : BitVec 32 :=
  let arg1 : BitVec 32 := BitVec.ofNat 32 (i 1).val
  let c8_i32 : BitVec 32 := 8#32
  let v14 : BitVec 32 := Scalar.muli arg1 c8_i32
  v14
def k0_off277 (i : grid0.Coords) : Fin 2 → Nat :=
  let arg1 : BitVec 32 := BitVec.ofNat 32 (i 1).val
  let c8_i32 : BitVec 32 := 8#32
  let v14 : BitVec 32 := Scalar.muli arg1 c8_i32
  let v15 : BitVec 32 := v14
  let v19 : Index := Scalar.indexCast v15
  let c0_10 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c31_i32 : BitVec 32 := 31#32
  let v1 : BitVec 32 := Scalar.select v0 c31_i32 arg1
  let c6_i32 : BitVec 32 := 6#32
  let v2 : BitVec 32 := Scalar.minsi arg0 c6_i32
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S16384x7168 : Shape := ⟨2, ![16384, 7168]⟩
abbrev S256x128 : Shape := ⟨2, ![256, 128]⟩
abbrev S32768x7168 : Shape := ⟨2, ![32768, 7168]⟩
abbrev S32768 : Shape := ⟨1, ![32768]⟩
abbrev S_ : Shape := ⟨0, ![]⟩
abbrev S32768x1 : Shape := ⟨2, ![32768, 1]⟩

abbrev nBuf : Space → Nat
  | .hbm => 21
  | .vmem => 8
  | .smem => 0
  | _ => 0

abbrev bufTy : (tb : Table) → Fin (tcTables nBuf tb) → BufTy
  | .hbm, ⟨0, _⟩ => ⟨S16384x7168, .i8⟩
  | .hbm, ⟨1, _⟩ => ⟨S256x128, .i32⟩
  | .hbm, ⟨2, _⟩ => ⟨S32768x7168, .fp8e4m3⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i1⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S32768, .i32⟩
  | .hbm, ⟨15, _⟩ => ⟨S32768x1, .i32⟩
  | .hbm, ⟨16, _⟩ => ⟨S32768x7168, .i8⟩
  | .hbm, ⟨17, _⟩ => ⟨S32768x1, .f32⟩
  | .hbm, ⟨18, _⟩ => ⟨S32768x1, .f32⟩
  | .hbm, ⟨19, _⟩ => ⟨S32768x7168, .fp8e5m2⟩
  | .hbm, ⟨20, _⟩ => ⟨S256x128, .f32⟩
  | .local _ .vmem, ⟨0, _⟩ => ⟨S32768x7168, .i8⟩
  | .local _ .vmem, ⟨1, _⟩ => ⟨S32768x7168, .fp8e4m3⟩
  | .local _ .vmem, ⟨2, _⟩ => ⟨S32768x1, .f32⟩
  | .local _ .vmem, ⟨3, _⟩ => ⟨S32768x1, .f32⟩
  | .local _ .vmem, ⟨4, _⟩ => ⟨S256x128, .f32⟩
  | .local _ .vmem, ⟨5, _⟩ => ⟨S256x128, .f32⟩
  | .local _ .vmem, ⟨6, _⟩ => ⟨S32768x7168, .fp8e5m2⟩
  | .local _ .vmem, ⟨7, _⟩ => ⟨S256x128, .f32⟩
  | _, _ => ⟨S16384x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32768x7168 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x7168 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Dlog.lean ====
abbrev S16384x256 : Shape := ⟨2, ![16384, 256]⟩
abbrev S256x128 : Shape := ⟨2, ![256, 128]⟩
abbrev S1024x256 : Shape := ⟨2, ![1024, 256]⟩
abbrev S32903x128 : Shape := ⟨2, ![32903, 128]⟩
abbrev S128x128 : Shape := ⟨2, ![128, 128]⟩
abbrev S1x128 : Shape := ⟨2, ![1, 128]⟩
abbrev S384x128 : Shape := ⟨2, ![384, 128]⟩
abbrev S1024 : Shape := ⟨1, ![1024]⟩
abbrev S1024x1 : Shape := ⟨2, ![1024, 1]⟩
abbrev S128x256 : Shape := ⟨2, ![128, 256]⟩
abbrev S128 : Shape := ⟨1, ![128]⟩
abbrev S128x1 : Shape := ⟨2, ![128, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S256x128, .i32⟩
  | .hbm, ⟨2, _⟩ => ⟨S256x128, .f32⟩
  | .hbm, ⟨3, _⟩ => ⟨S16384x256, .f32⟩
  | .local _ .vmem, ⟨0, _⟩ => ⟨S1024x256, .f32⟩
  | .local _ .vmem, ⟨1, _⟩ => ⟨S1024x256, .f32⟩
  | .local _ .vmem, ⟨2, _⟩ => ⟨S256x128, .i32⟩
  | .local _ .vmem, ⟨3, _⟩ => ⟨S256x128, .f32⟩
  | .local _ .vmem, ⟨4, _⟩ => ⟨S1024x256, .f32⟩
  | .local _ .vmem, ⟨5, _⟩ => ⟨S1024x256, .f32⟩
  | .local _ .vmem, ⟨6, _⟩ => ⟨S32903x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3 : BitVec 32 := 0#32
  let c256_i32 : BitVec 32 := 256#32
  let v7 : BitVec 32 := Scalar.addi c0_i32_3 c256_i32
  let c1_i32 : BitVec 32 := 1#32
  ⟨c0_i32_3, v7, c1_i32⟩
def k0_off1 (k0_t1 : Fin k0_t1_loop.trips) : Fin 2 → Nat :=
  let c0_i32_3 : BitVec 32 := 0#32
  let c1_i32 : BitVec 32 := 1#32
  let arg6 : BitVec 32 := Scf.iv c0_i32_3 c1_i32 k0_t1
  let v8 : Index := Scalar.indexCast arg6
  let c0 : Index := 0#32
  ![v8.toNat, 0]
def k0_off2 (k0_t1 : Fin k0_t1_loop.trips) : Fin 2 → Nat :=
  let c0_i32_3 : BitVec 32 := 0#32
  let c1_i32 : BitVec 32 := 1#32
  let arg6 : BitVec 32 := Scf.iv c0_i32_3 c1_i32 k0_t1
  let v52 : Index := Scalar.indexCast arg6
  let c0_11 : Index := 0#32
  ![v52.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off3 (i : grid0.Coords) (c0_i32_5 : BitVec 32) : Fin 2 → Nat :=
  let arg0 : BitVec 32 := BitVec.ofNat 32 (i 0).val
  let c1_i32 : BitVec 32 := 1#32
  let v16 : BitVec 32 := Scalar.subi arg0 c1_i32
  let c8_i32 : BitVec 32 := 8#32
  let v17 : BitVec 32 := Scalar.muli v16 c8_i32
  let v18 : BitVec 32 := Scalar.addi v17 c0_i32_5
  let c257_i32 : BitVec 32 := 257#32
  let v19 : BitVec 32 := Scalar.muli v18 c257_i32
  let v20 : Index := Scalar.indexCast v19
  let c0_6 : Index := 0#32
  ![v20.toNat, 0]
def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DlogReferenceIdeal.lean ====
abbrev S16384x256 : Shape := ⟨2, ![16384, 256]⟩
abbrev S256x128 : Shape := ⟨2, ![256, 128]⟩
abbrev S_ : Shape := ⟨0, ![]⟩
abbrev S256 : Shape := ⟨1, ![256]⟩
abbrev S256x1 : Shape := ⟨2, ![256, 1]⟩
abbrev S256x128x1 : Shape := ⟨3, ![256, 128, 1]⟩
abbrev S256x128x2 : Shape := ⟨3, ![256, 128, 2]⟩
abbrev S16384 : Shape := ⟨1, ![16384]⟩
abbrev S16384x1 : Shape := ⟨2, ![16384, 1]⟩

abbrev nBuf : Space → Nat
  | .hbm => 27
  | .vmem => 3
  | .smem => 0
  | _ => 0

abbrev bufTy : (tb : Table) → Fin (tcTables nBuf tb) → BufTy
  | .hbm, ⟨0, _⟩ => ⟨S16384x256, .f32⟩
  | .hbm, ⟨1, _⟩ => ⟨S256x128, .i32⟩
  | .hbm, ⟨2, _⟩ => ⟨S256x128, .f32⟩
  | .hbm, ⟨3, _⟩ => ⟨S_, .f32⟩
  | .hbm, ⟨4, _⟩ => ⟨S16384x256, .f32⟩
  | .hbm, ⟨5, _⟩ => ⟨S256, .i32⟩
  | .hbm, ⟨6, _⟩ => ⟨S256x1, .i32⟩
  | .hbm, ⟨7, _⟩ => ⟨S_, .i32⟩
  | .hbm, ⟨8, _⟩ => ⟨S256x128, .i32⟩
  | .hbm, ⟨9, _⟩ => ⟨S256x128, .i1⟩
  | .hbm, ⟨10, _⟩ => ⟨S_, .i32⟩
  | .hbm, ⟨11, _⟩ => ⟨S256x128, .i32⟩
  | .hbm, ⟨12, _⟩ => ⟨S256x128, .i32⟩
  | .hbm, ⟨13, _⟩ => ⟨S256x128, .i32⟩
  | .hbm, ⟨14, _⟩ => ⟨S_, .i32⟩
  | .hbm, ⟨15, _⟩ => ⟨S256x1, .i32⟩
  | .hbm, ⟨16, _⟩ => ⟨S256x1, .i1⟩
  | .hbm, ⟨17, _⟩ => ⟨S_, .i32⟩
  | .hbm, ⟨18, _⟩ => ⟨S256x1, .i32⟩
  | .hbm, ⟨19, _⟩ => ⟨S256x1, .i32⟩
  | .hbm, ⟨20, _⟩ => ⟨S256x1, .i32⟩
  | .hbm, ⟨21, _⟩ => ⟨S256x128, .i32⟩
  | .hbm, ⟨22, _⟩ => ⟨S256x128x1, .i32⟩
  | .hbm, ⟨23, _⟩ => ⟨S256x128x1, .i32⟩
  | .hbm, ⟨24, _⟩ => ⟨S256x128x2, .i32⟩
  | .hbm, ⟨25, _⟩ => ⟨S16384x256, .f32⟩
  | .hbm, ⟨26, _⟩ => ⟨S16384x256, .f32⟩
  | .local _ .vmem, ⟨0, _⟩ => ⟨S16384x256, .f32⟩
  | .local _ .vmem, ⟨1, _⟩ => ⟨S16384x256, .f32⟩
  | .local _ .vmem, ⟨2, _⟩ => ⟨S16384x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16384x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Amax.lean ====
abbrev S16384x7168 : Shape := ⟨2, ![16384, 7168]⟩
abbrev S128x128 : Shape := ⟨2, ![128, 128]⟩
abbrev S1024x7168 : Shape := ⟨2, ![1024, 7168]⟩
abbrev S8x128 : Shape := ⟨2, ![8, 128]⟩
abbrev S32x128 : Shape := ⟨2, ![32, 128]⟩
abbrev S128 : Shape := ⟨1, ![128]⟩
abbrev S1x128 : Shape := ⟨2, ![1, 128]⟩

abbrev nBuf : Space → Nat
  | .hbm => 2
  | .vmem => 4
  | .smem => 0
  | _ => 0

abbrev bufTy : (tb : Table) → Fin (tcTables nBuf tb) → BufTy
  | .hbm, ⟨0, _⟩ => ⟨S16384x7168, .fp8e5m2⟩
  | .hbm, ⟨1, _⟩ => ⟨S128x128, .f32⟩
  | .local _ .vmem, ⟨0, _⟩ => ⟨S1024x7168, .fp8e5m2⟩
  | .local _ .vmem, ⟨1, _⟩ => ⟨S1024x7168, .fp8e5m2⟩
  | .local _ .vmem, ⟨2, _⟩ => ⟨S8x128, .f32⟩
  | .local _ .vmem, ⟨3, _⟩ => ⟨S8x128, .f32⟩
  | _, _ => ⟨S16384x7168, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v3 : Index := Scalar.indexCast v2
  let c0 : Index := 0#32
  ![v3.toNat, 0]
def k0_off2 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v7 : Index := Scalar.indexCast v2
  let c128 : Index := 128#32
  ![v7.toNat, 128]
def k0_off3 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v12 : Index := Scalar.indexCast v2
  let c256 : Index := 256#32
  ![v12.toNat, 256]
def k0_off4 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v17 : Index := Scalar.indexCast v2
  let c384 : Index := 384#32
  ![v17.toNat, 384]
def k0_off5 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v22 : Index := Scalar.indexCast v2
  let c512 : Index := 512#32
  ![v22.toNat, 512]
def k0_off6 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v27 : Index := Scalar.indexCast v2
  let c640 : Index := 640#32
  ![v27.toNat, 640]
def k0_off7 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v32 : Index := Scalar.indexCast v2
  let c768 : Index := 768#32
  ![v32.toNat, 768]
def k0_off8 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v37 : Index := Scalar.indexCast v2
  let c896 : Index := 896#32
  ![v37.toNat, 896]
def k0_off9 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v42 : Index := Scalar.indexCast v2
  let c1024 : Index := 1024#32
  ![v42.toNat, 1024]
def k0_off10 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v47 : Index := Scalar.indexCast v2
  let c1152 : Index := 1152#32
  ![v47.toNat, 1152]
def k0_off11 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v52 : Index := Scalar.indexCast v2
  let c1280 : Index := 1280#32
  ![v52.toNat, 1280]
def k0_off12 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v57 : Index := Scalar.indexCast v2
  let c1408 : Index := 1408#32
  ![v57.toNat, 1408]
def k0_off13 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v62 : Index := Scalar.indexCast v2
  let c1536 : Index := 1536#32
  ![v62.toNat, 1536]
def k0_off14 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v67 : Index := Scalar.indexCast v2
  let c1664 : Index := 1664#32
  ![v67.toNat, 1664]
def k0_off15 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v72 : Index := Scalar.indexCast v2
  let c1792 : Index := 1792#32
  ![v72.toNat, 1792]
def k0_off16 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v77 : Index := Scalar.indexCast v2
  let c1920 : Index := 1920#32
  ![v77.toNat, 1920]
def k0_off17 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v82 : Index := Scalar.indexCast v2
  let c2048 : Index := 2048#32
  ![v82.toNat, 2048]
def k0_off18 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v87 : Index := Scalar.indexCast v2
  let c2176 : Index := 2176#32
  ![v87.toNat, 2176]
def k0_off19 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v92 : Index := Scalar.indexCast v2
  let c2304 : Index := 2304#32
  ![v92.toNat, 2304]
def k0_off20 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v97 : Index := Scalar.indexCast v2
  let c2432 : Index := 2432#32
  ![v97.toNat, 2432]
def k0_off21 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v102 : Index := Scalar.indexCast v2
  let c2560 : Index := 2560#32
  ![v102.toNat, 2560]
def k0_off22 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v107 : Index := Scalar.indexCast v2
  let c2688 : Index := 2688#32
  ![v107.toNat, 2688]
def k0_off23 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v112 : Index := Scalar.indexCast v2
  let c2816 : Index := 2816#32
  ![v112.toNat, 2816]
def k0_off24 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v117 : Index := Scalar.indexCast v2
  let c2944 : Index := 2944#32
  ![v117.toNat, 2944]
def k0_off25 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v122 : Index := Scalar.indexCast v2
  let c3072 : Index := 3072#32
  ![v122.toNat, 3072]
def k0_off26 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v127 : Index := Scalar.indexCast v2
  let c3200 : Index := 3200#32
  ![v127.toNat, 3200]
def k0_off27 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v132 : Index := Scalar.indexCast v2
  let c3328 : Index := 3328#32
  ![v132.toNat, 3328]
def k0_off28 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v137 : Index := Scalar.indexCast v2
  let c3456 : Index := 3456#32
  ![v137.toNat, 3456]
def k0_off29 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v142 : Index := Scalar.indexCast v2
  let c3584 : Index := 3584#32
  ![v142.toNat, 3584]
def k0_off30 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v147 : Index := Scalar.indexCast v2
  let c3712 : Index := 3712#32
  ![v147.toNat, 3712]
def k0_off31 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v152 : Index := Scalar.indexCast v2
  let c3840 : Index := 3840#32
  ![v152.toNat, 3840]
def k0_off32 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v157 : Index := Scalar.indexCast v2
  let c3968 : Index := 3968#32
  ![v157.toNat, 3968]
def k0_off33 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v162 : Index := Scalar.indexCast v2
  let c4096 : Index := 4096#32
  ![v162.toNat, 4096]
def k0_off34 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v167 : Index := Scalar.indexCast v2
  let c4224 : Index := 4224#32
  ![v167.toNat, 4224]
def k0_off35 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v172 : Index := Scalar.indexCast v2
  let c4352 : Index := 4352#32
  ![v172.toNat, 4352]
def k0_off36 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v177 : Index := Scalar.indexCast v2
  let c4480 : Index := 4480#32
  ![v177.toNat, 4480]
def k0_off37 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v182 : Index := Scalar.indexCast v2
  let c4608 : Index := 4608#32
  ![v182.toNat, 4608]
def k0_off38 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v187 : Index := Scalar.indexCast v2
  let c4736 : Index := 4736#32
  ![v187.toNat, 4736]
def k0_off39 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v192 : Index := Scalar.indexCast v2
  let c4864 : Index := 4864#32
  ![v192.toNat, 4864]
def k0_off40 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v197 : Index := Scalar.indexCast v2
  let c4992 : Index := 4992#32
  ![v197.toNat, 4992]
def k0_off41 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v202 : Index := Scalar.indexCast v2
  let c5120 : Index := 5120#32
  ![v202.toNat, 5120]
def k0_off42 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v207 : Index := Scalar.indexCast v2
  let c5248 : Index := 5248#32
  ![v207.toNat, 5248]
def k0_off43 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v212 : Index := Scalar.indexCast v2
  let c5376 : Index := 5376#32
  ![v212.toNat, 5376]
def k0_off44 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v217 : Index := Scalar.indexCast v2
  let c5504 : Index := 5504#32
  ![v217.toNat, 5504]
def k0_off45 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v222 : Index := Scalar.indexCast v2
  let c5632 : Index := 5632#32
  ![v222.toNat, 5632]
def k0_off46 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v227 : Index := Scalar.indexCast v2
  let c5760 : Index := 5760#32
  ![v227.toNat, 5760]
def k0_off47 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v232 : Index := Scalar.indexCast v2
  let c5888 : Index := 5888#32
  ![v232.toNat, 5888]
def k0_off48 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v237 : Index := Scalar.indexCast v2
  let c6016 : Index := 6016#32
  ![v237.toNat, 6016]
def k0_off49 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v242 : Index := Scalar.indexCast v2
  let c6144 : Index := 6144#32
  ![v242.toNat, 6144]
def k0_off50 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v247 : Index := Scalar.indexCast v2
  let c6272 : Index := 6272#32
  ![v247.toNat, 6272]
def k0_off51 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v252 : Index := Scalar.indexCast v2
  let c6400 : Index := 6400#32
  ![v252.toNat, 6400]
def k0_off52 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v257 : Index := Scalar.indexCast v2
  let c6528 : Index := 6528#32
  ![v257.toNat, 6528]
def k0_off53 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v262 : Index := Scalar.indexCast v2
  let c6656 : Index := 6656#32
  ![v262.toNat, 6656]
def k0_off54 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v267 : Index := Scalar.indexCast v2
  let c6784 : Index := 6784#32
  ![v267.toNat, 6784]
def k0_off55 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v272 : Index := Scalar.indexCast v2
  let c6912 : Index := 6912#32
  ![v272.toNat, 6912]
def k0_off56 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := Scalar.addi v1 c0_i32_1
  let v277 : Index := Scalar.indexCast v2
  let c7040 : Index := 7040#32
  ![v277.toNat, 7040]
def k0_off57 (k0_t1 : Fin k0_t1_loop.trips) : Fin 2 → Nat :=
  let c0_i32 : BitVec 32 := 0#32
  let c1_i32 : BitVec 32 := 1#32
  let arg3 : BitVec 32 := Scf.iv c0_i32 c1_i32 k0_t1
  let v1133 : Index := Scalar.indexCast arg3
  let c0_173 : Index := 0#32
  ![v1133.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x7168 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== AmaxReferenceIdeal.lean ====
abbrev S16384x7168 : Shape := ⟨2, ![16384, 7168]⟩
abbrev S128x128x7168 : Shape := ⟨3, ![128, 128, 7168]⟩
abbrev S128x128 : Shape := ⟨2, ![128, 128]⟩

abbrev nBuf : Space → Nat
  | .hbm => 3
  | .vmem => 2
  | .smem => 0
  | _ => 0

abbrev bufTy : (tb : Table) → Fin (tcTables nBuf tb) → BufTy
  | .hbm, ⟨0, _⟩ => ⟨S16384x7168, .fp8e5m2⟩
  | .hbm, ⟨1, _⟩ => ⟨S128x128x7168, .fp8e5m2⟩
  | .hbm, ⟨2, _⟩ => ⟨S128x128, .f32⟩
  | .local _ .vmem, ⟨0, _⟩ => ⟨S128x128x7168, .fp8e5m2⟩
  | .local _ .vmem, ⟨1, _⟩ => ⟨S128x128, .f32⟩
  | _, _ => ⟨S16384x7168, .fp8e5m2⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x128x7168 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Model.lean ====
/-
A trip of the kernel's loop over experts, as a program in loops: 128 gathered words, then for each of four groups of
slots and each of two row parities the byte transpose of four blocks and the four pairs of stores it feeds, then the
product with the expert's rows and its diagonal. The printed region is this program by unfolding.
-/
module

public import proofs.«01_k».proof.Proof.Gen.KernelIdeal.Skeleton
public import Idealize.ShloMosaic.Lib.Tactic
public import Idealize.ShloMosaic.Lib.Pipeline.Regions

@[expose] public section

noncomputable section

namespace Cert.KernelIdeal.Trip

open Idealize.ShloMosaic Idealize.SL.Sem Cert.KernelIdeal Cert.KernelIdeal.Gen

variable {F : FTy → Type} [FloatOps F]

/-- Programs of the kernel's core. -/
abbrev PR (F : FTy → Type) := Prog (TpuEff nD τ sig (Elt F) Λ₀ .tc) Unit

/-- `f s (f (s + 1) (… κ))`, `n` times. -/
def iterN {α : Type 1} (f : ℕ → α → α) (n s : ℕ) (κ : α) : α :=
  Nat.rec (motive := fun _ => ℕ → α) (fun _ => κ) (fun _ ih s => f s (ih (s + 1))) n s

theorem iterN_zero {α : Type 1} (f : ℕ → α → α) (s : ℕ) (κ : α) : iterN f 0 s κ = κ := rfl
theorem iterN_succ {α : Type 1} (f : ℕ → α → α) (n s : ℕ) (κ : α) : iterN f (n + 1) s κ = f s (iterN f n (s + 1) κ) := rfl

/-- Where the word of slot `s` of the trip's expert is in the table. -/
def tOff (i : grid0.Coords) (t : Fin k0_t2_loop.trips) (s : ℕ) : Fin 1 → ℕ :=
  ![(Scalar.indexCast (Scalar.addi (Scalar.muli (Scalar.addi (Scalar.muli (BitVec.ofNat 32 (i 1).val) 8#32)
      (Scf.iv 0#32 1#32 t)) 128#32) (BitVec.ofNat 32 (s % 128)))).toNat]

/-- Where the gathered rows of slot `s` go. -/
def gOff (s : ℕ) : Fin 2 → ℕ := ![64 * (s % 128 / 32) + 16 * (s % 4) + s % 32 / 4, 0]

theorem gOff_inb (s : ℕ) : ∀ a, S2x128.size a = 0 ∨ gOff s a + (![8, 1] : Fin 2 → ℕ) a * (S2x128.size a - 1) < S256x128.size a := by
  intro a; right; fin_cases a
  · show 64 * (s % 128 / 32) + 16 * (s % 4) + s % 32 / 4 + 8 * (2 - 1) < 256; omega
  · show 0 + 1 * (128 - 1) < 128; omega

theorem tOff_eq (i : grid0.Coords) (t : Fin k0_t2_loop.trips) (s : ℕ) :
    tOff i t s = ![1024 * (i 1).val + 128 * t.val + s % 128] := by
  have h1 : (i 1).val < 32 := (i 1).isLt
  have h2 : t.val < 8 := t.isLt
  unfold tOff
  congr 1
  simp only [Scalar.indexCast, Scalar.addi, Scalar.muli, Scf.iv, IntOp.addi, IntOp.muli, BitVec.toNat_add, BitVec.toNat_mul, BitVec.toNat_ofNat]
  omega

theorem tOff_inb (i : grid0.Coords) (t : Fin k0_t2_loop.trips) (s : ℕ) : ∀ a, tOff i t s a + S1.size a ≤ S32768.size a := by
  intro a
  have h1 : (i 1).val < 32 := (i 1).isLt
  have h2 : t.val < 8 := t.isLt
  rw [tOff_eq]; fin_cases a
  show 1024 * (i 1).val + 128 * t.val + s % 128 + 1 ≤ 32768
  omega

/-- One gathered slot: its word, the check of it, the two rows it names, their copy. -/
def gather (i : grid0.Coords) (arg2 : Memref sig .tc .smem S32768 .i32) (arg11 : Memref sig .tc .vmem S65536x128 .i32)
    (arg12 : Memref sig .tc .vmem S256x128 .i32) (k0_h3 : k0_cond3 i = 1#1) (t : Fin k0_t2_loop.trips) (s : ℕ) (κ : PR F) : PR F :=
  smemLoadElt arg2 (Rect.unit (s := S32768) (tOff i t s) S1.size (tOff_inb i t s)) (View.loads_smem_one rfl numel1_S1)
    (Shape.Idx.first (numel1_S1.symm ▸ Nat.one_pos)) fun (v : Elt F .i32) =>
  .op (.assume (k0_chk1 i v) (k0_chk1.dec i v)) fun h =>
  .op (.load arg11 (⟨k0_off11 i v, S2x128.size, ![8, 1], k0_off11_inb i v h.down k0_h3⟩ : LoadRect S65536x128) (View.loadsAt_vmem h_S2x128)) fun (x : Vec F S2x128 .i32) =>
  .op (.load arg12 (⟨gOff s, S2x128.size, ![8, 1], gOff_inb s⟩ : LoadRect S256x128) (View.loadsAt_vmem h_S2x128)) fun _ =>
  .op (.store arg12 ⟨(⟨gOff s, S2x128.size, ![8, 1], gOff_inb s⟩ : LoadRect S256x128), spos_8_1⟩ (k0_pay38 x) Finset.univ
    (View.stores_vmem_bits_univ h_S2x128 rfl) (.inl rfl)) fun _ => κ

/-- The byte transpose's first stage, low halves. -/
def lo16 (x y : IVec S8x128 32) : IVec S8x128 32 :=
  ori (andi x (broadcast S8x128 65535#32)) (shli y (broadcast S8x128 16#32))
def hi16 (x y : IVec S8x128 32) : IVec S8x128 32 :=
  ori (shrui x (broadcast S8x128 16#32)) (andi y (broadcast S8x128 4294901760#32))
def lo8 (x y : IVec S8x128 32) : IVec S8x128 32 :=
  ori (andi x (broadcast S8x128 16711935#32)) (shli (andi y (broadcast S8x128 16711935#32)) (broadcast S8x128 8#32))
def hi8 (x y : IVec S8x128 32) : IVec S8x128 32 :=
  ori (andi (shrui x (broadcast S8x128 8#32)) (broadcast S8x128 16711935#32)) (andi y (broadcast S8x128 4278255360#32))

/-- The byte transpose of four words: byte `j` of result `k` is byte `k` of word `j`. -/
def bt (w0 w1 w2 w3 : IVec S8x128 32) (m : ℕ) : IVec S8x128 32 :=
  Nat.casesOn m (lo8 (lo16 w0 w2) (lo16 w1 w3)) fun m => Nat.casesOn m (hi8 (lo16 w0 w2) (lo16 w1 w3)) fun m =>
    Nat.casesOn m (lo8 (hi16 w0 w2) (hi16 w1 w3)) fun _ => hi8 (hi16 w0 w2) (hi16 w1 w3)

/-- Words as 32 rows of codes. -/
def code (w : IVec S8x128 32) : FVec F S32x128 .fp8e5m2 :=
  bitcastToFloat .fp8e5m2 (bitcast S32x128 8 w bitcasts_S8x128_w32_S32x128_w8)

theorem slicesG (g : ℕ) : S128x128.Slices (![32 * (g % 4), 0] : Fin 2 → ℕ) S32x128 := by
  have : ∀ g : Fin 4, S128x128.Slices (![32 * g.val, 0] : Fin 2 → ℕ) S32x128 := by decide
  exact this ⟨g % 4, Nat.mod_lt _ (by decide)⟩

/-- Group `g`'s 32 factors, one a row. -/
def col (g : ℕ) (x : Vec F S1x128 .f32) : FVec F S32x128 .f32 :=
  extractStridedSlice S32x128 ![32 * (g % 4), 0] (k0_pay166 x) (slicesG g)

/-- The scaled, clipped and rounded gradient. -/
def outv (c : FVec F S32x128 .fp8e5m2) (a b : FVec F S32x128 .f32) : FVec F S32x128 .fp8e5m2 :=
  truncf .fp8e5m2 (minimumf (broadcast S32x128 (Scalar.ofBits .f32 0x47600000#32 : F .f32))
    (maximumf (broadcast S32x128 (Scalar.ofBits .f32 0xC7600000#32 : F .f32)) (mulf (mulf (extf .f32 c bitsLt_fp8e5m2_f32) a) b))) bitsLt_fp8e5m2_f32

/-- Where the codes of group `g`, parity `r`, byte `m` go in the gathered matrix. -/
def cOff (g r m : ℕ) : Fin 2 → ℕ := ![32 * (g % 4), 128 * (2 * (m % 4) + r % 2)]
/-- Where the scaled codes go in the result's block. -/
def dOff (t : Fin k0_t2_loop.trips) (g r m : ℕ) : Fin 2 → ℕ :=
  ![(Scalar.indexCast (Scalar.addi (Scalar.muli (Scf.iv 0#32 1#32 t) 128#32) (BitVec.ofNat 32 (32 * (g % 4))))).toNat, 128 * (2 * (m % 4) + r % 2)]
/-- Where block `k` of group `g`, parity `r` is among the gathered rows. -/
def wOff (g r k : ℕ) : Fin 2 → ℕ := ![64 * (g % 4) + 16 * (k % 4) + 8 * (r % 2), 0]

theorem cOff_inb (g r m : ℕ) : ∀ a, cOff g r m a + S32x128.size a ≤ S128x1024.size a := by
  intro a; fin_cases a
  · show 32 * (g % 4) + 32 ≤ 128; omega
  · show 128 * (2 * (m % 4) + r % 2) + 128 ≤ 1024; omega

theorem wOff_inb (g r k : ℕ) : ∀ a, wOff g r k a + S8x128.size a ≤ S256x128.size a := by
  intro a; fin_cases a
  · show 64 * (g % 4) + 16 * (k % 4) + 8 * (r % 2) + 8 ≤ 256; omega
  · show 0 + 128 ≤ 128; omega

theorem dOff_eq (t : Fin k0_t2_loop.trips) (g r m : ℕ) : dOff t g r m = ![128 * t.val + 32 * (g % 4), 128 * (2 * (m % 4) + r % 2)] := by
  have h2 : t.val < 8 := t.isLt
  unfold dOff
  congr 1
  simp only [Scalar.indexCast, Scalar.addi, Scalar.muli, Scf.iv, IntOp.addi, IntOp.muli, BitVec.toNat_add, BitVec.toNat_mul, BitVec.toNat_ofNat]
  omega

theorem dOff_inb (t : Fin k0_t2_loop.trips) (g r m : ℕ) : ∀ a, dOff t g r m a + S32x128.size a ≤ S1024x1024.size a := by
  intro a
  have h2 : t.val < 8 := t.isLt
  rw [dOff_eq]; fin_cases a
  · show 128 * t.val + 32 * (g % 4) + 32 ≤ 1024; omega
  · show 128 * (2 * (m % 4) + r % 2) + 128 ≤ 1024; omega

theorem cOff_packed (g r m : ℕ) : (Rect.unit (s := S128x1024) (cOff g r m) S32x128.size (cOff_inb g r m)).PackedRows (EltTy.packing .fp8e5m2) := by
  have : ∀ (g : Fin 4) (x : Fin 8), S128x1024.PackedRowsAt (EltTy.packing .fp8e5m2) ![32 * g.val, 128 * x.val] S32x128.size (fun _ => 1) := by decide
  exact this ⟨g % 4, Nat.mod_lt _ (by decide)⟩ ⟨2 * (m % 4) + r % 2, by omega⟩

theorem dOff_packed (t : Fin k0_t2_loop.trips) (g r m : ℕ) :
    (Rect.unit (s := S1024x1024) (dOff t g r m) S32x128.size (dOff_inb t g r m)).PackedRows (EltTy.packing .fp8e5m2) := by
  have : ∀ (t : Fin 8) (g : Fin 4) (x : Fin 8), S1024x1024.PackedRowsAt (EltTy.packing .fp8e5m2) ![128 * t.val + 32 * g.val, 128 * x.val] S32x128.size (fun _ => 1) := by decide
  have h := this ⟨t.val, t.isLt⟩ ⟨g % 4, Nat.mod_lt _ (by decide)⟩ ⟨2 * (m % 4) + r % 2, by omega⟩
  rw [Rect.packedRows_iff_at]
  show S1024x1024.PackedRowsAt (EltTy.packing .fp8e5m2) (dOff t g r m) S32x128.size (fun _ => 1)
  rw [dOff_eq]; exact h

/-- The two stores of group `g`, parity `r`, byte `m`: the codes, and their scaled values. -/
def pair (arg9 : Memref sig .tc .vmem S1024x1024 .fp8e5m2) (harg9 : arg9.IsWhole) (arg13 : Memref sig .tc .vmem S128x1024 .fp8e5m2) (harg13 : arg13.IsWhole)
    (t : Fin k0_t2_loop.trips) (g r : ℕ) (a b : FVec F S32x128 .f32) (w0 w1 w2 w3 : IVec S8x128 32) (m : ℕ) (κ : PR F) : PR F :=
  .op (.load arg13 (Rect.unit (s := S128x1024) (cOff g r m) S32x128.size (cOff_inb g r m)).toLoadRect (View.loadsAt_vmem h_S32x128)) fun _ =>
  .op (.store arg13 (Rect.unit (s := S128x1024) (cOff g r m) S32x128.size (cOff_inb g r m)) (k0_pay6 (code (bt w0 w1 w2 w3 m))) Finset.univ
    (View.stores_vmem h_S32x128 (harg13.storeExact_slice rfl _ (cOff_packed g r m)) (fun _ => rfl)) (.inl rfl)) fun _ =>
  .op (.load arg9 (Rect.unit (s := S1024x1024) (dOff t g r m) S32x128.size (dOff_inb t g r m)).toLoadRect (View.loadsAt_vmem h_S32x128)) fun _ =>
  .op (.store arg9 (Rect.unit (s := S1024x1024) (dOff t g r m) S32x128.size (dOff_inb t g r m)) (outv (code (bt w0 w1 w2 w3 m)) a b) Finset.univ
    (View.stores_vmem h_S32x128 (harg9.storeExact_slice rfl _ (dOff_packed t g r m)) (fun _ => rfl)) (.inl rfl)) fun _ => κ

/-- Group `g`, parity `r`: four blocks of gathered words, transposed, and their four pairs of stores. -/
def block (arg9 : Memref sig .tc .vmem S1024x1024 .fp8e5m2) (harg9 : arg9.IsWhole) (arg12 : Memref sig .tc .vmem S256x128 .i32)
    (arg13 : Memref sig .tc .vmem S128x1024 .fp8e5m2) (harg13 : arg13.IsWhole)
    (t : Fin k0_t2_loop.trips) (x y : Vec F S1x128 .f32) (g r : ℕ) (κ : PR F) : PR F :=
  .op (.load arg12 (Rect.unit (s := S256x128) (wOff g r 0) S8x128.size (wOff_inb g r 0)).toLoadRect (View.loadsAt_vmem h_S8x128)) fun (w0 : Vec F S8x128 .i32) =>
  .op (.load arg12 (Rect.unit (s := S256x128) (wOff g r 1) S8x128.size (wOff_inb g r 1)).toLoadRect (View.loadsAt_vmem h_S8x128)) fun (w1 : Vec F S8x128 .i32) =>
  .op (.load arg12 (Rect.unit (s := S256x128) (wOff g r 2) S8x128.size (wOff_inb g r 2)).toLoadRect (View.loadsAt_vmem h_S8x128)) fun (w2 : Vec F S8x128 .i32) =>
  .op (.load arg12 (Rect.unit (s := S256x128) (wOff g r 3) S8x128.size (wOff_inb g r 3)).toLoadRect (View.loadsAt_vmem h_S8x128)) fun (w3 : Vec F S8x128 .i32) =>
  iterN (pair arg9 harg9 arg13 harg13 t g r (col g x) (col g y) w0 w1 w2 w3) 4 0 κ

/-- The product with the expert's rows, its diagonal added to the expert's sums. -/
def dots (i : grid0.Coords) (arg4 : Memref sig .tc .vmem S1024x1024 .fp8e4m3) (arg13 : Memref sig .tc .vmem S128x1024 .fp8e5m2)
    (arg14 : Memref sig .tc .vmem S256x128 .f32) (k0_h3 : k0_cond3 i = 1#1) (t : Fin k0_t2_loop.trips) (κ : PR F) : PR F :=
  .op (.load arg13 (Rect.unit (s := S128x1024) ![0, 0] S128x1024.size inb_S128x1024_S128x1024_0_0).toLoadRect (View.loadsAt_vmem h_S128x1024)) fun (g : Vec F S128x1024 .fp8e5m2) =>
  .op (.load arg4 (Rect.unit (s := S1024x1024) (k0_off275 t) S128x1024.size (k0_off275_inb i t k0_h3)).toLoadRect (View.loadsAt_vmem h_S128x1024)) fun (o : Vec F S128x1024 .fp8e4m3) =>
  .op (.load arg14 (Rect.unit (s := S256x128) (k0_off276 i t) S1x128.size (k0_off276_inb i t k0_h3)).toLoadRect (View.loadsAt_vmem h_S1x128)) fun (z : Vec F S1x128 .f32) =>
  .op (.load arg14 (Rect.unit (s := S256x128) (k0_off276 i t) S1x128.size (k0_off276_inb i t k0_h3)).toLoadRect (View.loadsAt_vmem h_S1x128)) fun _ =>
  .op (.store arg14 (Rect.unit (s := S256x128) (k0_off276 i t) S1x128.size (k0_off276_inb i t k0_h3)) (k0_pay8 g o z) Finset.univ
    (View.stores_vmem_bits_univ h_S1x128 rfl) (.inl rfl)) fun _ => κ

/-- The trip. -/
def trip (i : grid0.Coords) (arg2 : Memref sig .tc .smem S32768 .i32) (arg4 : Memref sig .tc .vmem S1024x1024 .fp8e4m3)
    (arg5 arg6 : Memref sig .tc .vmem S8x128 .f32) (arg9 : Memref sig .tc .vmem S1024x1024 .fp8e5m2) (harg9 : arg9.IsWhole)
    (arg11 : Memref sig .tc .vmem S65536x128 .i32) (arg12 : Memref sig .tc .vmem S256x128 .i32)
    (arg13 : Memref sig .tc .vmem S128x1024 .fp8e5m2) (harg13 : arg13.IsWhole) (arg14 : Memref sig .tc .vmem S256x128 .f32)
    (k0_h3 : k0_cond3 i = 1#1) (t : Fin k0_t2_loop.trips) : PR F :=
  iterN (gather i arg2 arg11 arg12 k0_h3 t) 128 0 <|
  .op (.load arg5 (Rect.unit (s := S8x128) (k0_off266 t) S1x128.size (k0_off266_inb i t k0_h3)).toLoadRect (View.loadsAt_vmem h_S1x128)) fun (x : Vec F S1x128 .f32) =>
  .op (.load arg6 (Rect.unit (s := S8x128) (k0_off266 t) S1x128.size (k0_off266_inb i t k0_h3)).toLoadRect (View.loadsAt_vmem h_S1x128)) fun (y : Vec F S1x128 .f32) =>
  iterN (fun g => iterN (block arg9 harg9 arg12 arg13 harg13 t x y g) 2 0) 4 0 <|
  dots i arg4 arg13 arg14 k0_h3 t (.ret ())

set_option maxRecDepth 100000 in
theorem body_eq (i : grid0.Coords) (arg2 : Memref sig .tc .smem S32768 .i32) (harg2 : arg2.IsWhole) (arg3 : Memref sig .tc .vmem S512x1024 .i8) (harg3 : arg3.IsWhole) (arg4 : Memref sig .tc .vmem S1024x1024 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1024x1024 .fp8e5m2) (harg9 : arg9.IsWhole) (arg10 : Memref sig .tc .vmem S256x128 .f32) (harg10 : arg10.IsWhole) (arg11 : Memref sig .tc .vmem S65536x128 .i32) (harg11 : arg11.IsWhole) (arg12 : Memref sig .tc .vmem S256x128 .i32) (harg12 : arg12.IsWhole) (arg13 : Memref sig .tc .vmem S128x1024 .fp8e5m2) (harg13 : arg13.IsWhole) (arg14 : Memref sig .tc .vmem S256x128 .f32) (harg14 : arg14.IsWhole) (k0_h3 : k0_cond3 i = 1#1) (v16 : BitVec 32) (t : Fin k0_t2_loop.trips) :
    k0_t2_body (F := F) i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k0_h3 v16 t ()
      = trip i arg2 arg4 arg5 arg6 arg9 harg9 arg11 arg12 arg13 harg13 arg14 k0_h3 t := by
  chain_rfl

end Cert.KernelIdeal.Trip
-- ==== Proof.Own.lean ====
/-
Loads, stores and checks at the head of a program, over memrefs owned at named contents; and programs that repeat a
step, by an invariant.
-/
module

public import proofs.«01_k».proof.Proof.Model
public import Idealize.ShloMosaic.Lib.MemrefSat
public import Idealize.ShloMosaic.Lib.Pipeline.Frame

@[expose] public section

noncomputable section

namespace Cert.KernelIdeal.Trip

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ (UR sig nD τ) ℕ

variable (c : Dev nD)

/-- The weakest precondition of a program of the kernel's core. -/
abbrev wpK (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

section Rules

theorem ld {α : Type} {Q : α → sProp 𝕄} {sp : CoreSpace} {s : Shape} {e : EltTy} {m : Memref sig .tc sp s e} {r : LoadRect s} {hl : m.view.LoadsAt r}
    {k : (r.shape.Idx → Elt F e) → Prog (TpuEff nD τ sig (Elt F) Λ₀ .tc) α} {q : PosShare TreeShare} {X : s.Idx → Elt F e} :
    (owns (c : Thread nD τ) m q X : sProp 𝕄)
      ⊢ iprop((owns (c : Thread nD τ) m q X -∗ wpK (F := F) c (k fun x => X (r.idx x)) Q) -∗ wpK (F := F) c (.op (.load m r hl) k) Q) := by
  have hS : m.view.setOn r.set ⊆ m.view.set := Finset.map_subset_map.mpr (Finset.subset_univ _)
  unfold owns
  iintro ⟨%f, %hf, H⟩ HK
  iapply (wp_load Variants.none (c : Thread nD τ) none Set.univ (m := m) (r := r) hS) $$ H
  iintro H
  have e : m.view.readAt (Elt F) r f = fun x => X (r.idx x) := by funext x; rw [View.readAt_apply, hf]
  rw [e]
  iapply HK
  iexists f
  isplitr
  · ipureintro; exact hf
  · iexact H

theorem sld {α : Type} {Q : α → sProp 𝕄} {s : Shape} {e : EltTy} {m : Memref sig .tc .smem s e} {r : Rect s} {hl : (m.access r).Loads} {x : r.shape.Idx}
    {k : Elt F e → Prog (TpuEff nD τ sig (Elt F) Λ₀ .tc) α} {q : PosShare TreeShare} {X : s.Idx → Elt F e} :
    (owns (c : Thread nD τ) m q X : sProp 𝕄)
      ⊢ iprop((owns (c : Thread nD τ) m q X -∗ wpK (F := F) c (k (X (r.idx x))) Q) -∗ wpK (F := F) c (smemLoadElt m r hl x k) Q) := by
  unfold smemLoadElt
  exact ld (F := F) c (r := r.toLoadRect) (k := fun f => k (f x))

/-- `X'` is `X` with `w` stored at `r`. -/
def StoredAt {s : Shape} {α : Type} (r : Rect s) (w : r.shape.Idx → α) (X X' : s.Idx → α) : Prop :=
  (∀ x, X' (r.emb x) = w x) ∧ ∀ y, y ∉ r.set → X' y = X y

theorem st {α : Type} {Q : α → sProp 𝕄} {sp : CoreSpace} {s : Shape} {e : EltTy} {m : Memref sig .tc sp s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} {X : s.Idx → Elt F e} :
    (owns (c : Thread nD τ) m fullShare X : sProp 𝕄)
      ⊢ iprop((∀ X', ⌜StoredAt r w X X'⌝ -∗ owns (c : Thread nD τ) m fullShare X' -∗ wpK c (k ⟨⟩) Q)
          -∗ wpK c (.op (.store m r w Finset.univ hx hm) k) Q) := by
  unfold owns
  iintro ⟨%f, %hf, H⟩ HK
  iapply (wp_store Variants.none (c : Thread nD τ) none Set.univ (m := m) (r := r) (Mk := Finset.univ) (Memref.setOn_access_subset m r _)) $$ H
  iintro H
  iapply HK
  rotate_left
  · iexists ((m.access r).write (Elt F) f w Finset.univ)
    isplitr
    · ipureintro; rfl
    · iexact H
  · ipureintro
    refine ⟨fun x => View.read_slice_write_emb _ _ _ (Finset.mem_univ _), fun y hy => ?_⟩
    rw [← hf]
    exact View.read_slice_write_of_not_mem _ _ _ _ (by rwa [Rect.map_emb_univ])

theorem asm {α : Type} {Q : α → sProp 𝕄} {P : Prop} {d : Decidable P} {k : PLift P → Prog (TpuEff nD τ sig (Elt F) Λ₀ .tc) α} (h : P) :
    wpK c (k ⟨h⟩) Q ⊢ wpK c (.op (.assume P d) k) Q :=
  wp_assume Variants.none (c : Thread nD τ) none Set.univ h

end Rules

/-- A repeated step, by an invariant of the number of steps done. -/
theorem wp_iterN {Q : Unit → sProp 𝕄} (f : ℕ → PR F → PR F) (I : ℕ → sProp 𝕄) (N : ℕ)
    (h : ∀ s κ, s < N → (I (s + 1) ⊢ wpK c κ Q) → (I s ⊢ wpK c (f s κ) Q)) :
    ∀ n s κ, s + n = N → (I N ⊢ wpK c κ Q) → (I s ⊢ wpK c (iterN f n s κ) Q)
  | 0, s, κ, e, hk => by rw [iterN_zero]; rw [Nat.add_zero] at e; rw [e]; exact hk
  | n + 1, s, κ, e, hk => by
    rw [iterN_succ]
    exact h s _ (by omega) (wp_iterN f I N h n (s + 1) κ (by omega) hk)

end Cert.KernelIdeal.Trip
-- ==== Proof.Gather.lean ====
/-
The gathering of a trip's 128 slots: the two rows each slot's word names, copied to where the transposes read them.
-/
module

public import proofs.«01_k».proof.Proof.Own
public import Idealize.ShloMosaic.Lib.Pipeline.Value

@[expose] public section

noncomputable section

namespace Cert.KernelIdeal.Trip

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ (UR sig nD τ) ℕ

/-- The index of row `i`, column `j`. -/
def nix (S : Shape) (h : S.rank = 2) (hp : ∀ a, 0 < S.size a) (i j : ℕ) : S.Idx :=
  fun a => ⟨(if a.val = 0 then i else j) % S.size a, Nat.mod_lt _ (hp a)⟩

theorem idx_ext2 {a b : ℕ} {x y : (⟨2, ![a, b]⟩ : Shape).Idx} (h0 : (x 0).val = (y 0).val) (h1 : (x 1).val = (y 1).val) : x = y := by
  funext k; apply Fin.ext; fin_cases k
  · exact h0
  · exact h1

theorem nix_0 {a b : ℕ} (hp : ∀ k, 0 < (⟨2, ![a, b]⟩ : Shape).size k) (i j : ℕ) (h : i < a) : ((nix ⟨2, ![a, b]⟩ rfl hp i j) 0).val = i :=
  Nat.mod_eq_of_lt h
theorem nix_1 {a b : ℕ} (hp : ∀ k, 0 < (⟨2, ![a, b]⟩ : Shape).size k) (i j : ℕ) (h : j < b) : ((nix ⟨2, ![a, b]⟩ rfl hp i j) 1).val = j :=
  Nat.mod_eq_of_lt h

/-- Row `i`, lane `j` of the table of words. -/
abbrev fix' (i j : ℕ) : S65536x128.Idx := nix S65536x128 rfl (by decide) i j

theorem fix'_0 (i j : ℕ) (h : i < 65536) : ((fix' i j) 0).val = i := Nat.mod_eq_of_lt h
theorem fix'_1 (i j : ℕ) (h : j < 128) : ((fix' i j) 1).val = j := Nat.mod_eq_of_lt h

/-- The slot and the parity of a gathered row. -/
def gslot (ρ : ℕ) : ℕ := 32 * (ρ / 64) + 4 * (ρ % 8) + ρ % 64 / 16
def gpar (ρ : ℕ) : ℕ := ρ % 16 / 8

theorem gslot_row : ∀ s < 128, ∀ j < 2, gslot (64 * (s % 128 / 32) + 16 * (s % 4) + s % 32 / 4 + 8 * j) = s := by decide +kernel
theorem row_gslot : ∀ ρ < 256, 64 * (gslot ρ % 128 / 32) + 16 * (gslot ρ % 4) + gslot ρ % 32 / 4 + 8 * gpar ρ = ρ ∧ gslot ρ < 128 := by decide +kernel

/-- The word of slot `s`. -/
def word (i : grid0.Coords) (t : Fin k0_t2_loop.trips) (T : Vec F S32768 .i32) (s : ℕ) : BitVec 32 :=
  T ((Rect.unit (s := S32768) (tOff i t s) S1.size (tOff_inb i t s)).idx (Shape.Idx.first (numel1_S1.symm ▸ Nat.one_pos)))

/-- The first of the two rows it names. -/
def wrow (i : grid0.Coords) (t : Fin k0_t2_loop.trips) (T : Vec F S32768 .i32) (s : ℕ) : ℕ := k0_off11 i (word i t T s) 0

/-- Slots below `n` are gathered. -/
def Gathered (rw : ℕ → ℕ) (X : Vec F S65536x128 .i32) (n : ℕ) (G : Vec F S256x128 .i32) : Prop :=
  ∀ y : S256x128.Idx, gslot (y 0).val < n → G y = X (fix' (rw (gslot (y 0).val) + 8 * gpar (y 0).val) (y 1).val)

theorem gathered_step {i : grid0.Coords} {t : Fin k0_t2_loop.trips} {T : Vec F S32768 .i32} {X : Vec F S65536x128 .i32} {s : ℕ} (hs : s < 128)
    (k0_h3 : k0_cond3 i = 1#1) (hc : k0_chk1 i (word i t T s)) {G G' : Vec F S256x128 .i32} (hG : Gathered (wrow i t T) X s G)
    (hX : StoredAt ⟨(⟨gOff s, S2x128.size, ![8, 1], gOff_inb s⟩ : LoadRect S256x128), spos_8_1⟩
      (k0_pay38 (F := F) fun x => X ((⟨k0_off11 i (word i t T s), S2x128.size, ![8, 1], k0_off11_inb i (word i t T s) hc k0_h3⟩ : LoadRect S65536x128).idx x)) G G') :
    Gathered (wrow i t T) X (s + 1) G' := by
  intro y hy
  have y0 : (y 0).val < 256 := (y 0).isLt
  have y1 : (y 1).val < 128 := (y 1).isLt
  by_cases e : gslot (y 0).val = s
  · have hp : gpar (y 0).val < 2 := by unfold gpar; omega
    obtain ⟨x, hx⟩ : ∃ x : S2x128.Idx, x 0 = ⟨gpar (y 0).val, hp⟩ ∧ x 1 = ⟨(y 1).val, y1⟩ :=
      ⟨fun a => match a with | ⟨0, _⟩ => ⟨gpar (y 0).val, hp⟩ | ⟨1, _⟩ => ⟨(y 1).val, y1⟩, rfl, rfl⟩
    have hxy : y = (Rect.emb ⟨(⟨gOff s, S2x128.size, ![8, 1], gOff_inb s⟩ : LoadRect S256x128), spos_8_1⟩ : S2x128.Idx ↪ _) x := by
      refine idx_ext2 ?_ ?_
      · rw [Rect.emb_apply]
        show _ = (64 * (s % 128 / 32) + 16 * (s % 4) + s % 32 / 4) + 8 * (x 0).val
        rw [hx.1]; show _ = _ + 8 * gpar (y 0).val
        rw [← e]; exact (row_gslot _ y0).1.symm
      · rw [Rect.emb_apply]
        show _ = 0 + 1 * (x 1).val
        rw [hx.2]; show _ = 0 + 1 * (y 1).val; omega
    have := hX.1 x
    rw [← hxy] at this
    rw [this]
    have hr : k0_off11 i (word i t T s) 0 + 8 * (2 - 1) < 65536 := by
      rcases hc k0_h3 0 with h | h
      · exact absurd h (by decide)
      · exact h
    rw [e]
    show k0_pay38 (F := F) _ x = _
    have hpay : ∀ v : Vec F S2x128 .i32, k0_pay38 v = v := fun v => shapeCast_self v _
    rw [hpay]
    congr 1
    refine idx_ext2 ?_ ?_
    · show k0_off11 i (word i t T s) 0 + 8 * (x 0).val = (wrow i t T s + 8 * gpar (y 0).val) % 65536
      rw [hx.1]
      show k0_off11 i (word i t T s) 0 + 8 * gpar (y 0).val = (k0_off11 i (word i t T s) 0 + 8 * gpar (y 0).val) % 65536
      omega
    · show 0 + 1 * (x 1).val = (y 1).val % 128
      rw [hx.2]; show 0 + 1 * (y 1).val = _; omega
  · rw [hX.2 y ?_]
    · exact hG y (by omega)
    · intro hm
      rw [LoadRect.mem_set] at hm
      obtain ⟨j, hj, hj'⟩ := hm 0
      have hj2 : j < 2 := hj
      have : (y 0).val = (64 * (s % 128 / 32) + 16 * (s % 4) + s % 32 / 4) + 8 * j := hj'
      exact e (by rw [this]; exact gslot_row s hs j hj2)

variable (c : Dev nD)

theorem wp_gathers {Q : Unit → sProp 𝕄} (i : grid0.Coords) (arg2 : Memref sig .tc .smem S32768 .i32) (arg11 : Memref sig .tc .vmem S65536x128 .i32)
    (arg12 : Memref sig .tc .vmem S256x128 .i32) (k0_h3 : k0_cond3 i = 1#1) (t : Fin k0_t2_loop.trips)
    (q : PosShare TreeShare) (T : Vec F S32768 .i32) (X : Vec F S65536x128 .i32) (hc : ∀ s < 128, k0_chk1 i (word i t T s)) (R : sProp 𝕄) (κ : PR F)
    (hκ : iprop(owns (c : Thread nD τ) arg2 q T ∗ owns (c : Thread nD τ) arg11 fullShare X
      ∗ (∃ G, ⌜Gathered (wrow i t T) X 128 G⌝ ∗ owns (c : Thread nD τ) arg12 fullShare G) ∗ R) ⊢ wpK c κ Q) :
    iprop(owns (c : Thread nD τ) arg2 q T ∗ owns (c : Thread nD τ) arg11 fullShare X
      ∗ (∃ G, owns (c : Thread nD τ) arg12 fullShare G) ∗ R) ⊢ wpK c (iterN (gather i arg2 arg11 arg12 k0_h3 t) 128 0 κ) Q := by
  have key := wp_iterN c (gather i arg2 arg11 arg12 k0_h3 t) (fun s => iprop(owns (c : Thread nD τ) arg2 q T ∗ owns (c : Thread nD τ) arg11 fullShare X
      ∗ (∃ G, ⌜Gathered (wrow i t T) X s G⌝ ∗ owns (c : Thread nD τ) arg12 fullShare G) ∗ R)) 128 (Q := Q) ?_ 128 0 κ rfl hκ
  · refine .trans ?_ key
    iintro ⟨H2, H11, ⟨%G, H12⟩, HR⟩
    iframe H2 H11 HR
    iexists G
    iframe H12
    ipureintro
    intro y hy; omega
  · intro s κ hs h
    iintro ⟨H2, H11, ⟨%G, %hG, H12⟩, HR⟩
    unfold gather
    iapply (sld c) $$ H2
    iintro H2
    iapply (asm c (hc s hs))
    iapply (ld c) $$ H11
    iintro H11
    iapply (ld c) $$ H12
    iintro H12
    iapply (st c) $$ H12
    iintro %G' %hG' H12
    iapply h
    iframe H2 H11 HR
    iexists G'
    iframe H12
    ipureintro
    exact gathered_step hs k0_h3 (hc s hs) hG hG'

end Cert.KernelIdeal.Trip
-- ==== Proof.Bytes.lean ====
/-
Bytes of words: the byte transpose of four words, and words read as rows of bytes.
-/
module

public import proofs.«01_k».proof.Proof.Gather
public import Idealize.ShloMosaic.Lib.BitcastFour
public import Idealize.ShloMosaic.Lib.Pointwise

@[expose] public section

noncomputable section

namespace Cert.KernelIdeal.Trip

open Idealize.ShloMosaic Idealize.SL.Sem Cert.KernelIdeal Cert.KernelIdeal.Gen

variable {F : FTy → Type} [FloatOps F]

/-- Byte `m` of a word. -/
def byteAt (w : BitVec 32) (m : ℕ) : BitVec 8 := w.extractLsb' (8 * m) 8

theorem byteAt_getLsbD (w : BitVec 32) (m q : ℕ) (hq : q < 8) : (byteAt w m).getLsbD q = w.getLsbD (8 * m + q) := by
  unfold byteAt; rw [BitVec.getLsbD_extractLsb']; simp [hq]

theorem byteAt_ext {v w : BitVec 32} (h : ∀ m < 4, byteAt v m = byteAt w m) : v = w := by
  apply BitVec.eq_of_getLsbD_eq
  intro i hi
  have e := congrArg (fun b : BitVec 8 => b.getLsbD (i % 8)) (h (i / 8) (by omega))
  simp only [byteAt_getLsbD _ _ _ (Nat.mod_lt i (show 0 < 8 by decide))] at e
  rwa [Nat.div_add_mod] at e

section Masks

theorem m1 : ∀ i < 32, (65535#32).getLsbD i = decide (i < 16) := by decide
theorem m2 : ∀ i < 32, (4294901760#32).getLsbD i = decide (16 ≤ i) := by decide
theorem m3 : ∀ i < 32, (16711935#32).getLsbD i = decide (i % 16 < 8) := by decide
theorem m4 : ∀ i < 32, (4278255360#32).getLsbD i = decide (8 ≤ i % 16) := by decide

variable (x y : IVec S8x128 32) (j : S8x128.Idx) (i : ℕ) (hi : i < 32)
include hi

theorem shl_bit (k : ℕ) (hk : k < 32) (v : BitVec 32) :
    (IntOp.shli .vector v (BitVec.ofNat 32 k)).getLsbD i = (decide (k ≤ i) && v.getLsbD (i - k)) := by
  have e : (BitVec.ofNat 32 k).toNat = k := by simp; omega
  unfold IntOp.shli; rw [e, if_pos hk, BitVec.shiftLeft_eq', e, BitVec.getLsbD_shiftLeft]
  by_cases h : i < k
  · simp [h, hi]
  · have : k ≤ i := by omega
    simp [h, hi, this]

theorem shr_bit (k : ℕ) (hk : k < 32) (v : BitVec 32) :
    (IntOp.shrui .vector v (BitVec.ofNat 32 k)).getLsbD i = v.getLsbD (k + i) := by
  have e : (BitVec.ofNat 32 k).toNat = k := by simp; omega
  unfold IntOp.shrui; rw [e, if_pos hk, BitVec.ushiftRight_eq', e, BitVec.getLsbD_ushiftRight]

theorem lo16_bit : (lo16 x y j).getLsbD i = if i < 16 then (x j).getLsbD i else (y j).getLsbD (i - 16) := by
  show ((x j &&& 65535#32) ||| IntOp.shli .vector (y j) (BitVec.ofNat 32 16)).getLsbD i = _
  rw [BitVec.getLsbD_or, BitVec.getLsbD_and, m1 i hi, shl_bit i hi 16 (by decide)]
  by_cases h : i < 16
  · have : ¬ 16 ≤ i := by omega
    simp [h, this]
  · have : 16 ≤ i := by omega
    simp [h, this]

theorem hi16_bit : (hi16 x y j).getLsbD i = if i < 16 then (x j).getLsbD (16 + i) else (y j).getLsbD i := by
  show (IntOp.shrui .vector (x j) (BitVec.ofNat 32 16) ||| (y j &&& 4294901760#32)).getLsbD i = _
  rw [BitVec.getLsbD_or, BitVec.getLsbD_and, m2 i hi, shr_bit i hi 16 (by decide)]
  by_cases h : i < 16
  · have : ¬ 16 ≤ i := by omega
    simp [h, this]
  · have h' : 16 ≤ i := by omega
    have : (x j).getLsbD (16 + i) = false := BitVec.getLsbD_of_ge _ _ (by omega)
    simp [h, h', this]

theorem lo8_bit : (lo8 x y j).getLsbD i = if i % 16 < 8 then (x j).getLsbD i else (y j).getLsbD (i - 8) := by
  show ((x j &&& 16711935#32) ||| IntOp.shli .vector (y j &&& 16711935#32) (BitVec.ofNat 32 8)).getLsbD i = _
  rw [BitVec.getLsbD_or, BitVec.getLsbD_and, m3 i hi, shl_bit i hi 8 (by decide), BitVec.getLsbD_and, m3 (i - 8) (by omega)]
  by_cases h : i % 16 < 8
  · by_cases h8 : 8 ≤ i
    · have : ¬ (i - 8) % 16 < 8 := by omega
      simp [h, this]
    · simp [h, h8]
  · have h8 : 8 ≤ i := by omega
    have : (i - 8) % 16 < 8 := by omega
    simp [h, h8, this]

theorem hi8_bit : (hi8 x y j).getLsbD i = if i % 16 < 8 then (x j).getLsbD (8 + i) else (y j).getLsbD i := by
  show ((IntOp.shrui .vector (x j) (BitVec.ofNat 32 8) &&& 16711935#32) ||| (y j &&& 4278255360#32)).getLsbD i = _
  rw [BitVec.getLsbD_or, BitVec.getLsbD_and, BitVec.getLsbD_and, m3 i hi, m4 i hi, shr_bit i hi 8 (by decide)]
  by_cases h : i % 16 < 8
  · have : ¬ 8 ≤ i % 16 := by omega
    simp [h, this]
  · have : 8 ≤ i % 16 := by omega
    simp [h, this]

end Masks

/-- One of four. -/
def pick {α : Type} (w0 w1 w2 w3 : α) (k : ℕ) : α := if k = 0 then w0 else if k = 1 then w1 else if k = 2 then w2 else w3

/-- Byte `k` of result `m` of the transpose is byte `m` of word `k`. -/
theorem bt_byte (w0 w1 w2 w3 : IVec S8x128 32) (j : S8x128.Idx) (m k : ℕ) (hm : m < 4) (hk : k < 4) :
    byteAt (bt w0 w1 w2 w3 m j) k = byteAt (pick w0 w1 w2 w3 k j) m := by
  apply BitVec.eq_of_getLsbD_eq
  intro q hq
  rw [byteAt_getLsbD _ _ _ hq, byteAt_getLsbD _ _ _ hq]
  have e0 : bt w0 w1 w2 w3 0 = lo8 (lo16 w0 w2) (lo16 w1 w3) := rfl
  have e1 : bt w0 w1 w2 w3 1 = hi8 (lo16 w0 w2) (lo16 w1 w3) := rfl
  have e2 : bt w0 w1 w2 w3 2 = lo8 (hi16 w0 w2) (hi16 w1 w3) := rfl
  have e3 : bt w0 w1 w2 w3 3 = hi8 (hi16 w0 w2) (hi16 w1 w3) := rfl
  have p0 : pick w0 w1 w2 w3 0 = w0 := rfl
  have p1 : pick w0 w1 w2 w3 1 = w1 := rfl
  have p2 : pick w0 w1 w2 w3 2 = w2 := rfl
  have p3 : pick w0 w1 w2 w3 3 = w3 := rfl
  interval_cases m <;> interval_cases k <;>
    simp only [e0, e1, e2, e3, p0, p1, p2, p3] <;>
    (repeat (first
      | rw [lo8_bit _ _ _ _ (by omega)] | rw [hi8_bit _ _ _ _ (by omega)] | rw [lo16_bit _ _ _ _ (by omega)] | rw [hi16_bit _ _ _ _ (by omega)]
      | rw [if_pos (by omega)] | rw [if_neg (by omega)])) <;> (first | rfl | (congr 1; omega))

/-- Row `a` of the codes of a vector of words is byte `a % 4` of its row `a / 4`. -/
theorem code_apply (w : IVec S8x128 32) (y : S32x128.Idx) (x : S8x128.Idx) (h0 : (x 0).val = (y 0).val / 4) (h1 : (x 1).val = (y 1).val) :
    code (F := F) w y = FloatOps.ofBits .fp8e5m2 (byteAt (w x) ((y 0).val % 4)) := by
  show FloatOps.ofBits .fp8e5m2 (bitcast S32x128 8 w bitcasts_S8x128_w32_S32x128_w8 y) = _
  congr 1
  apply BitVec.eq_of_getLsbD_eq
  intro q hq
  rw [bitcast_getLsbD w _ y q hq (by decide), byteAt_getLsbD _ _ _ hq]
  have hr : S32x128.row y = (y 0).val := rfl
  have ex : (bitcasts_S8x128_w32_S32x128_w8).srcIdx y ((S32x128.row y * 8 + q) / 32)
      (by intro a ha; have : a = 0 := Fin.ext (by have h : a.val + 2 = 2 := ha; show a.val = 0; omega); subst this
          have : (y 0).val < 32 := (y 0).isLt; show _ / 32 < 8; rw [hr]; omega) = x := by
    refine idx_ext2 ?_ ?_
    · rw [Shape.Bitcasts.srcIdx_row _ _ _ _ _ rfl, h0, hr]; omega
    · rw [Shape.Bitcasts.srcIdx_other _ _ _ _ _ (by decide), h1]; rfl
  rw [ex, hr]
  congr 1; omega

/-- Row `a` of a vector of words read from rows of bytes is rows `4 a` to `4 a + 3`. -/
theorem words_apply (v : S32x128.Idx → BitVec 8) (x : S8x128.Idx) (k : ℕ) (hk : k < 4) (y : S32x128.Idx)
    (h0 : (y 0).val = 4 * (x 0).val + k) (h1 : (y 1).val = (x 1).val) :
    byteAt (bitcast S8x128 32 v bitcasts_S32x128_w8_S8x128_w32 x) k = v y := by
  apply BitVec.eq_of_getLsbD_eq
  intro q hq
  have hr : S8x128.row x = (x 0).val := rfl
  rw [byteAt_getLsbD _ _ _ hq, bitcast_8_32_getLsbD v _ x (8 * k + q) (by omega)]
  have ex : (bitcasts_S32x128_w8_S8x128_w32).srcIdx x (4 * S8x128.row x + (8 * k + q) / 8)
      ((bitcasts_S32x128_w8_S8x128_w32).four_lt x _ (by omega)) = y := by
    refine idx_ext2 ?_ ?_
    · rw [Shape.Bitcasts.srcIdx_row _ _ _ _ _ rfl, h0, hr]; omega
    · rw [Shape.Bitcasts.srcIdx_other _ _ _ _ _ (by decide), h1]; rfl
  rw [ex]
  congr 1; omega

end Cert.KernelIdeal.Trip
-- ==== Proof.Blocks.lean ====
/-
The transposes of a trip: from the gathered rows, the codes of the expert's 128 slots and their scaled, clipped values.
-/
module

public import proofs.«01_k».proof.Proof.Bytes

@[expose] public section

noncomputable section

namespace Cert.KernelIdeal.Trip

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ (UR sig nD τ) ℕ

/-- After a store through a block, an element is of the block, at the stored value, or outside it, as it was. -/
theorem stored_unit {s : Shape} {α : Type} {off size : Fin s.rank → ℕ} {inb : ∀ a, off a + size a ≤ s.size a}
    {w : (Rect.unit (s := s) off size inb).shape.Idx → α} {X X' : s.Idx → α} (h : StoredAt (Rect.unit (s := s) off size inb) w X X') (y : s.Idx) :
    (∃ x : (⟨s.rank, size⟩ : Shape).Idx, (∀ a, (y a).val = off a + (x a).val) ∧ X' y = w x)
      ∨ ((¬ ∀ a, off a ≤ (y a).val ∧ (y a).val < off a + size a) ∧ X' y = X y) := by
  by_cases hm : y ∈ (Rect.unit (s := s) off size inb).set
  · obtain ⟨x, rfl⟩ := LoadRect.exists_idx_of_mem _ hm
    refine Or.inl ⟨x, fun a => ?_, h.1 x⟩
    show off a + 1 * (x a).val = _
    rw [Nat.one_mul]
  · exact Or.inr ⟨fun hn => hm (Rect.mem_set_unit.mpr hn), h.2 y hm⟩

/-- The code of slot `a` in column `b` of the chunk. -/
def cval (X : Vec F S65536x128 .i32) (rw : ℕ → ℕ) (a b : ℕ) : F .fp8e5m2 :=
  FloatOps.ofBits .fp8e5m2 (byteAt (X (fix' (rw a + 8 * (b / 128 % 2)) (b % 128))) (b / 256))

/-- The scaled, clipped and rounded value of one code. -/
def outs (c : F .fp8e5m2) (a b : F .f32) : F .fp8e5m2 :=
  FloatOps.truncf .fp8e5m2 bitsLt_fp8e5m2_f32 (FloatOps.minimumf (Scalar.ofBits .f32 0x47600000#32 : F .f32)
    (FloatOps.maximumf (Scalar.ofBits .f32 0xC7600000#32 : F .f32) (FloatOps.mulf (FloatOps.mulf (FloatOps.extf .f32 bitsLt_fp8e5m2_f32 c) a) b)))

theorem outv_apply (c : FVec F S32x128 .fp8e5m2) (a b : FVec F S32x128 .f32) (y : S32x128.Idx) : outv c a b y = outs (c y) (a y) (b y) := rfl

/-- In what order the codes are stored. -/
def key (a b : ℕ) : ℕ := 8 * (a / 32) + 4 * (b / 128 % 2) + b / 256

theorem key_split {A q s g r m : ℕ} (hq : q < 2) (hs : s < 4) (hr : r < 2) (hm : m < 4) (h : 8 * A + 4 * q + s = 8 * g + 4 * r + m) :
    A = g ∧ q = r ∧ s = m := by omega

theorem col_split {b r m : ℕ} (hr : b / 128 % 2 = r) (hm : b / 256 = m) : b / 128 = 2 * m + r := by omega

def Codes (X : Vec F S65536x128 .i32) (rw : ℕ → ℕ) (n : ℕ) (C : Vec F S128x1024 .fp8e5m2) : Prop :=
  ∀ y : S128x1024.Idx, key (y 0).val (y 1).val < n → C y = cval X rw (y 0).val (y 1).val

def Outs (O : Vec F S1024x1024 .fp8e5m2) (t n : ℕ) (D : Vec F S1024x1024 .fp8e5m2) : Prop :=
  ∀ z : S1024x1024.Idx, 32 * ((z 0).val / 128) + key ((z 0).val % 128) (z 1).val < 32 * t + n → D z = O z

/-- Four vectors of words hold the gathered rows of group `g`, parity `r`. -/
def Words (X : Vec F S65536x128 .i32) (rw : ℕ → ℕ) (g r : ℕ) (w0 w1 w2 w3 : IVec S8x128 32) : Prop :=
  ∀ k < 4, ∀ x : S8x128.Idx, pick w0 w1 w2 w3 k x = X (fix' (rw (32 * g + 4 * (x 0).val + k) + 8 * r) (x 1).val)

section Step

variable {X : Vec F S65536x128 .i32} {rw : ℕ → ℕ} {g r m : ℕ} (hg : g < 4) (hr : r < 2) (hm : m < 4) {w0 w1 w2 w3 : IVec S8x128 32}
  (hw : Words X rw g r w0 w1 w2 w3)
include hg hr hm hw

theorem code_val (x : S32x128.Idx) :
    code (F := F) (bt w0 w1 w2 w3 m) x = cval X rw (32 * g + (x 0).val) (128 * (2 * m + r) + (x 1).val) := by
  have x1 : (x 1).val < 128 := (x 1).isLt
  have x0 : (x 0).val < 32 := (x 0).isLt
  let x' : S8x128.Idx := nix S8x128 rfl (by decide) ((x 0).val / 4) (x 1).val
  have e0 : (x' 0).val = (x 0).val / 4 := Nat.mod_eq_of_lt (show (x 0).val / 4 < 8 by omega)
  have e1 : (x' 1).val = (x 1).val := Nat.mod_eq_of_lt (show (x 1).val < 128 by omega)
  rw [code_apply _ x x' e0 e1, bt_byte _ _ _ _ _ _ _ hm (by omega), hw _ (by omega), e0, e1]
  unfold cval
  have h1 : 32 * g + 4 * ((x 0).val / 4) + (x 0).val % 4 = 32 * g + (x 0).val := by omega
  have h2 : (128 * (2 * m + r) + (x 1).val) / 128 % 2 = r := by omega
  have h3 : (128 * (2 * m + r) + (x 1).val) % 128 = (x 1).val := by omega
  have h4 : (128 * (2 * m + r) + (x 1).val) / 256 = m := by omega
  rw [h1, h2, h3, h4]

theorem codes_step {C C' : Vec F S128x1024 .fp8e5m2} (hC : Codes X rw (8 * g + 4 * r + m) C)
    (hS : StoredAt (Rect.unit (s := S128x1024) (cOff g r m) S32x128.size (cOff_inb g r m)) (k0_pay6 (code (bt w0 w1 w2 w3 m))) C C') :
    Codes X rw (8 * g + 4 * r + m + 1) C' := by
  intro y hy
  have y1 : (y 1).val < 1024 := (y 1).isLt
  rcases stored_unit hS y with ⟨x, hx, e⟩ | ⟨hn, e⟩
  · have h0 : (y 0).val = 32 * (g % 4) + (x 0).val := hx 0
    have h1 : (y 1).val = 128 * (2 * (m % 4) + r % 2) + (x 1).val := hx 1
    rw [Nat.mod_eq_of_lt hg] at h0
    rw [Nat.mod_eq_of_lt hm, Nat.mod_eq_of_lt hr] at h1
    rw [e, h0, h1]
    have hpay : ∀ v : FVec F S32x128 .fp8e5m2, k0_pay6 v = v := fun v => shapeCast_self v _
    rw [hpay]
    exact code_val hg hr hm hw x
  · rw [e]
    refine hC y ?_
    by_contra hk
    refine hn fun a => ?_
    unfold key at hy hk
    obtain ⟨q0, q1, q2⟩ := key_split (A := (y 0).val / 32) (q := (y 1).val / 128 % 2) (s := (y 1).val / 256) (by omega) (by omega) hr hm
      (Nat.le_antisymm (Nat.le_of_lt_succ hy) (Nat.le_of_not_lt hk))
    have q3 := col_split q1 q2
    fin_cases a
    · show 32 * (g % 4) ≤ (y 0).val ∧ (y 0).val < 32 * (g % 4) + 32; omega
    · show 128 * (2 * (m % 4) + r % 2) ≤ (y 1).val ∧ (y 1).val < 128 * (2 * (m % 4) + r % 2) + 128; omega

theorem outs_step {O : Vec F S1024x1024 .fp8e5m2} {t : Fin k0_t2_loop.trips} {cf iv : ℕ → F .f32}
    (hO : ∀ z : S1024x1024.Idx, (z 0).val / 128 = t.val → O z = outs (cval X rw ((z 0).val % 128) (z 1).val) (cf ((z 0).val % 128)) (iv ((z 0).val % 128)))
    {a b : FVec F S32x128 .f32} (ha : ∀ x, a x = cf (32 * g + (x 0).val)) (hb : ∀ x, b x = iv (32 * g + (x 0).val))
    {D D' : Vec F S1024x1024 .fp8e5m2} (hD : Outs O t.val (8 * g + 4 * r + m) D)
    (hS : StoredAt (Rect.unit (s := S1024x1024) (dOff t g r m) S32x128.size (dOff_inb t g r m)) (outv (code (bt w0 w1 w2 w3 m)) a b) D D') :
    Outs O t.val (8 * g + 4 * r + m + 1) D' := by
  intro z hz
  have z1 : (z 1).val < 1024 := (z 1).isLt
  have e0 : dOff t g r m 0 = 128 * t.val + 32 * (g % 4) := congrFun (dOff_eq t g r m) 0
  have e1 : dOff t g r m 1 = 128 * (2 * (m % 4) + r % 2) := congrFun (dOff_eq t g r m) 1
  rcases stored_unit hS z with ⟨x, hx, e⟩ | ⟨hn, e⟩
  · have h0 := hx 0
    have h1 := hx 1
    rw [e0, Nat.mod_eq_of_lt hg] at h0
    rw [e1, Nat.mod_eq_of_lt hm, Nat.mod_eq_of_lt hr] at h1
    have x0 : (x 0).val < 32 := (x 0).isLt
    rw [e, outv_apply, code_val hg hr hm hw x, ha, hb, hO z (by omega)]
    have : (z 0).val % 128 = 32 * g + (x 0).val := by omega
    rw [this, h1]
  · rw [e]
    refine hD z ?_
    by_contra hk
    refine hn fun a => ?_
    unfold key at hz hk
    obtain ⟨q0, q1, q2⟩ := key_split (A := 4 * ((z 0).val / 128) + (z 0).val % 128 / 32) (q := (z 1).val / 128 % 2) (s := (z 1).val / 256)
      (g := 4 * t.val + g) (r := r) (m := m) (by omega) (by omega) hr hm (by omega)
    have q3 := col_split q1 q2
    have q4 : (z 0).val / 32 = 4 * t.val + g := by omega
    clear hz hk hn q0 q1 q2
    fin_cases a
    · show dOff t g r m 0 ≤ (z 0).val ∧ (z 0).val < dOff t g r m 0 + 32
      rw [e0]; omega
    · show dOff t g r m 1 ≤ (z 1).val ∧ (z 1).val < dOff t g r m 1 + 128
      rw [e1]; omega

end Step

theorem words_of {X : Vec F S65536x128 .i32} {rw : ℕ → ℕ} {G : Vec F S256x128 .i32} (hG : Gathered rw X 128 G) {g r : ℕ} (hg : g < 4) (hr : r < 2) :
    Words X rw g r (fun x => G ((Rect.unit (s := S256x128) (wOff g r 0) S8x128.size (wOff_inb g r 0)).idx x))
      (fun x => G ((Rect.unit (s := S256x128) (wOff g r 1) S8x128.size (wOff_inb g r 1)).idx x))
      (fun x => G ((Rect.unit (s := S256x128) (wOff g r 2) S8x128.size (wOff_inb g r 2)).idx x))
      (fun x => G ((Rect.unit (s := S256x128) (wOff g r 3) S8x128.size (wOff_inb g r 3)).idx x)) := by
  have key : ∀ k < 4, ∀ x : S8x128.Idx, G ((Rect.unit (s := S256x128) (wOff g r k) S8x128.size (wOff_inb g r k)).idx x)
      = X (fix' (rw (32 * g + 4 * (x 0).val + k) + 8 * r) (x 1).val) := by
    intro k hk x
    have x0 : (x 0).val < 8 := (x 0).isLt
    have h0 : ((((Rect.unit (s := S256x128) (wOff g r k) S8x128.size (wOff_inb g r k)).idx x) 0 : Fin _) : ℕ) = 64 * g + 16 * k + 8 * r + (x 0).val := by
      show 64 * (g % 4) + 16 * (k % 4) + 8 * (r % 2) + 1 * (x 0).val = _; omega
    have h1 : ((((Rect.unit (s := S256x128) (wOff g r k) S8x128.size (wOff_inb g r k)).idx x) 1 : Fin _) : ℕ) = (x 1).val := by
      show 0 + 1 * (x 1).val = _; omega
    have hs : gslot (64 * g + 16 * k + 8 * r + (x 0).val) = 32 * g + 4 * (x 0).val + k := by
      unfold gslot
      have a1 : (64 * g + 16 * k + 8 * r + (x 0).val) / 64 = g := by omega
      have a2 : (64 * g + 16 * k + 8 * r + (x 0).val) % 8 = (x 0).val := by omega
      have a3 : (64 * g + 16 * k + 8 * r + (x 0).val) % 64 = 16 * k + 8 * r + (x 0).val := by omega
      rw [a1, a2, a3]; omega
    have hp : gpar (64 * g + 16 * k + 8 * r + (x 0).val) = r := by
      unfold gpar
      have a1 : (64 * g + 16 * k + 8 * r + (x 0).val) % 16 = 8 * r + (x 0).val := by omega
      rw [a1]; omega
    rw [hG _ (by rw [h0, hs]; omega), h0, h1, hs, hp]
  intro k hk x
  interval_cases k
  · exact key 0 hk x
  · exact key 1 hk x
  · exact key 2 hk x
  · exact key 3 hk x

/-- Row `a` of a group's factors is the expert's factor of slot `32 g + a`. -/
theorem col_apply {g : ℕ} (hg : g < 4) (v : Vec F S1x128 .f32) (x : S32x128.Idx) :
    col g v x = v (nix S1x128 rfl (by decide) 0 (32 * g + (x 0).val)) := by
  have x0 : (x 0).val < 32 := (x 0).isLt
  let k : S128x128.Idx := nix S128x128 rfl (by decide) (32 * g + (x 0).val) (x 1).val
  let l : S128x128.Idx := nix S128x128 rfl (by decide) (x 1).val (32 * g + (x 0).val)
  have x1 : (x 1).val < 128 := (x 1).isLt
  have k0 : (k 0).val = 32 * g + (x 0).val := nix_0 (a := 128) (b := 128) _ _ _ (by omega)
  have k1 : (k 1).val = (x 1).val := nix_1 (a := 128) (b := 128) _ _ _ x1
  have l0 : (l 0).val = (x 1).val := nix_0 (a := 128) (b := 128) _ _ _ x1
  have l1 : (l 1).val = 32 * g + (x 0).val := nix_1 (a := 128) (b := 128) _ _ _ (by omega)
  unfold col
  rw [extractStridedSlice_apply _ _ _ x k]
  · unfold k0_pay166
    dsimp only
    rw [transpose_apply _ _ _ k l]
    · rw [broadcastTo_apply _ _ l (nix S1x128 rfl (by decide) 0 (32 * g + (x 0).val)), shapeCast_self]
      intro a; fin_cases a
      · rfl
      · show (32 * g + (x 0).val) % 128 = (l 1).val
        rw [l1]; omega
    · intro b; fin_cases b
      · show (l 1).val = (k 0).val; rw [l1, k0]
      · show (l 0).val = (k 1).val; rw [l0, k1]
  · intro a; fin_cases a
    · show (k 0).val = 32 * (g % 4) + (x 0).val; rw [k0]; omega
    · show (k 1).val = 0 + (x 1).val; rw [k1]; omega

variable (c : Dev nD)

section Wp

variable (arg9 : Memref sig .tc .vmem S1024x1024 .fp8e5m2) (harg9 : arg9.IsWhole) (arg12 : Memref sig .tc .vmem S256x128 .i32)
  (arg13 : Memref sig .tc .vmem S128x1024 .fp8e5m2) (harg13 : arg13.IsWhole) (t : Fin k0_t2_loop.trips)
  (X : Vec F S65536x128 .i32) (rw : ℕ → ℕ) (O : Vec F S1024x1024 .fp8e5m2) (cf iv : ℕ → F .f32)
  (hO : ∀ z : S1024x1024.Idx, (z 0).val / 128 = t.val → O z = outs (cval X rw ((z 0).val % 128) (z 1).val) (cf ((z 0).val % 128)) (iv ((z 0).val % 128)))

/-- What the transposes hold after `n` of the 32 pairs of stores. -/
def Inv (R : sProp 𝕄) (n : ℕ) : sProp 𝕄 :=
  iprop((∃ C, ⌜Codes X rw n C⌝ ∗ owns (c : Thread nD τ) arg13 fullShare C) ∗ (∃ D, ⌜Outs O t.val n D⌝ ∗ owns (c : Thread nD τ) arg9 fullShare D) ∗ R)

include hO in
theorem wp_pair {Q : Unit → sProp 𝕄} {g r m : ℕ} (hg : g < 4) (hr : r < 2) (hm : m < 4) {w0 w1 w2 w3 : IVec S8x128 32}
    (hw : Words X rw g r w0 w1 w2 w3) {a b : FVec F S32x128 .f32} (ha : ∀ x, a x = cf (32 * g + (x 0).val)) (hb : ∀ x, b x = iv (32 * g + (x 0).val))
    (R : sProp 𝕄) (κ : PR F) (hκ : Inv c arg9 arg13 t X rw O R (8 * g + 4 * r + m + 1) ⊢ wpK c κ Q) :
    Inv c arg9 arg13 t X rw O R (8 * g + 4 * r + m) ⊢ wpK c (pair arg9 harg9 arg13 harg13 t g r a b w0 w1 w2 w3 m κ) Q := by
  unfold Inv pair
  iintro ⟨⟨%C, %hC, H13⟩, ⟨%D, %hD, H9⟩, HR⟩
  iapply (ld c) $$ H13
  iintro H13
  iapply (st c) $$ H13
  iintro %C' %hC' H13
  iapply (ld c) $$ H9
  iintro H9
  iapply (st c) $$ H9
  iintro %D' %hD' H9
  iapply hκ
  unfold Inv
  iframe HR
  isplitl [H13]
  · iexists C'
    iframe H13
    ipureintro
    exact codes_step hg hr hm hw hC hC'
  · iexists D'
    iframe H9
    ipureintro
    exact outs_step hg hr hm hw hO ha hb hD hD'

include hO in
theorem wp_block {Q : Unit → sProp 𝕄} {g r : ℕ} (hg : g < 4) (hr : r < 2) {x y : Vec F S1x128 .f32}
    (hx : ∀ j < 128, x (nix S1x128 rfl (by decide) 0 j) = cf j) (hy : ∀ j < 128, y (nix S1x128 rfl (by decide) 0 j) = iv j)
    {G : Vec F S256x128 .i32} (hG : Gathered rw X 128 G)
    (R : sProp 𝕄) (κ : PR F)
    (hκ : Inv c arg9 arg13 t X rw O iprop(owns (c : Thread nD τ) arg12 fullShare G ∗ R) (8 * g + 4 * r + 4) ⊢ wpK c κ Q) :
    Inv c arg9 arg13 t X rw O iprop(owns (c : Thread nD τ) arg12 fullShare G ∗ R) (8 * g + 4 * r)
      ⊢ wpK c (block arg9 harg9 arg12 arg13 harg13 t x y g r κ) Q := by
  have key := wp_iterN c (pair arg9 harg9 arg13 harg13 t g r (col g x) (col g y)
      (fun x => G ((Rect.unit (s := S256x128) (wOff g r 0) S8x128.size (wOff_inb g r 0)).idx x))
      (fun x => G ((Rect.unit (s := S256x128) (wOff g r 1) S8x128.size (wOff_inb g r 1)).idx x))
      (fun x => G ((Rect.unit (s := S256x128) (wOff g r 2) S8x128.size (wOff_inb g r 2)).idx x))
      (fun x => G ((Rect.unit (s := S256x128) (wOff g r 3) S8x128.size (wOff_inb g r 3)).idx x)))
    (fun m => Inv c arg9 arg13 t X rw O iprop(owns (c : Thread nD τ) arg12 fullShare G ∗ R) (8 * g + 4 * r + m)) 4 (Q := Q)
    (fun m κ hm h => wp_pair c arg9 harg9 arg13 harg13 t X rw O cf iv hO hg hr hm (words_of hG hg hr)
      (fun z => by have z0 : (z 0).val < 32 := (z 0).isLt; rw [col_apply hg, hx _ (by omega)])
      (fun z => by have z0 : (z 0).val < 32 := (z 0).isLt; rw [col_apply hg, hy _ (by omega)]) _ κ h) 4 0 κ rfl hκ
  unfold block
  unfold Inv at key ⊢
  iintro ⟨H13, H9, H12, HR⟩
  iapply (ld c) $$ H12
  iintro H12
  iapply (ld c) $$ H12
  iintro H12
  iapply (ld c) $$ H12
  iintro H12
  iapply (ld c) $$ H12
  iintro H12
  iapply key
  iframe H13 H9 H12 HR

end Wp

end Cert.KernelIdeal.Trip
-- ==== Proof.Relay.lean ====
/-
The relayout of a block of codes: 32 rows of a trip, in two parities of column blocks, become rows of words whose four
bytes are one row's codes in four column blocks.
-/
module

public import proofs.«01_k».proof.Proof.Blocks

@[expose] public section

noncomputable section

namespace Cert.KernelIdeal.Trip

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ (UR sig nD τ) ℕ

/-- Where a trip reads the codes of column block `2 k + r`. -/
def rOff (t : Fin k0_t1_loop.trips) (k r : ℕ) : Fin 2 → ℕ :=
  ![(Scalar.indexCast (Scalar.muli (Scf.iv 0#32 1#32 t) 32#32)).toNat, 128 * (2 * (k % 4) + r % 2)]

theorem rOff_eq (t : Fin k0_t1_loop.trips) (k r : ℕ) : rOff t k r = ![32 * t.val, 128 * (2 * (k % 4) + r % 2)] := by
  have h2 : t.val < 16 := t.isLt
  unfold rOff
  congr 1
  simp only [Scalar.indexCast, Scalar.muli, Scf.iv, IntOp.addi, IntOp.muli, BitVec.toNat_add, BitVec.toNat_mul, BitVec.toNat_ofNat]
  omega

theorem rOff_inb (t : Fin k0_t1_loop.trips) (k r : ℕ) : ∀ a, rOff t k r a + S32x128.size a ≤ S512x1024.size a := by
  intro a
  have h2 : t.val < 16 := t.isLt
  rw [rOff_eq]; fin_cases a
  · show 32 * t.val + 32 ≤ 512; omega
  · show 128 * (2 * (k % 4) + r % 2) + 128 ≤ 1024; omega

/-- One of the two rows-of-words parities' four stores. -/
def put (i : grid0.Coords) (arg11 : Memref sig .tc .vmem S65536x128 .i32) (k0_h1 : k0_cond1 i = 1#1) (t : Fin k0_t1_loop.trips) (r : ℕ)
    (w0 w1 w2 w3 : IVec S8x128 32) (m : ℕ) (κ : PR F) : PR F :=
  .op (.load arg11 (Rect.unit (s := S65536x128) (k0_off5 i t (BitVec.ofNat 32 (8 * ((2 * m + r) % 8)))) S8x128.size
    (k0_off5_inb i t k0_h1 ⟨(2 * m + r) % 8, Nat.mod_lt _ (by decide)⟩)).toLoadRect (View.loadsAt_vmem h_S8x128)) fun _ =>
  .op (.store arg11 (Rect.unit (s := S65536x128) (k0_off5 i t (BitVec.ofNat 32 (8 * ((2 * m + r) % 8)))) S8x128.size
    (k0_off5_inb i t k0_h1 ⟨(2 * m + r) % 8, Nat.mod_lt _ (by decide)⟩)) (k0_pay1 (bt w0 w1 w2 w3 m)) Finset.univ
    (View.stores_vmem_bits_univ h_S8x128 rfl) (.inl rfl)) fun _ => κ

/-- 32 rows of codes as eight rows of words. -/
def wrd (v : Vec F S32x128 .i8) : IVec S8x128 32 := bitcast S8x128 32 v bitcasts_S32x128_w8_S8x128_w32

def relay (i : grid0.Coords) (arg3 : Memref sig .tc .vmem S512x1024 .i8) (arg11 : Memref sig .tc .vmem S65536x128 .i32)
    (k0_h1 : k0_cond1 i = 1#1) (t : Fin k0_t1_loop.trips) (r : ℕ) (κ : PR F) : PR F :=
  .op (.load arg3 (Rect.unit (s := S512x1024) (rOff t 0 r) S32x128.size (rOff_inb t 0 r)).toLoadRect (View.loadsAt_vmem h_S32x128)) fun (v0 : Vec F S32x128 .i8) =>
  .op (.load arg3 (Rect.unit (s := S512x1024) (rOff t 1 r) S32x128.size (rOff_inb t 1 r)).toLoadRect (View.loadsAt_vmem h_S32x128)) fun (v1 : Vec F S32x128 .i8) =>
  .op (.load arg3 (Rect.unit (s := S512x1024) (rOff t 2 r) S32x128.size (rOff_inb t 2 r)).toLoadRect (View.loadsAt_vmem h_S32x128)) fun (v2 : Vec F S32x128 .i8) =>
  .op (.load arg3 (Rect.unit (s := S512x1024) (rOff t 3 r) S32x128.size (rOff_inb t 3 r)).toLoadRect (View.loadsAt_vmem h_S32x128)) fun (v3 : Vec F S32x128 .i8) =>
  iterN (put i arg11 k0_h1 t r (wrd v0) (wrd v1) (wrd v2) (wrd v3)) 4 0 κ

set_option maxRecDepth 100000 in
theorem body1_eq (i : grid0.Coords) (arg2 : Memref sig .tc .smem S32768 .i32) (harg2 : arg2.IsWhole) (arg3 : Memref sig .tc .vmem S512x1024 .i8) (harg3 : arg3.IsWhole) (arg4 : Memref sig .tc .vmem S1024x1024 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1024x1024 .fp8e5m2) (harg9 : arg9.IsWhole) (arg10 : Memref sig .tc .vmem S256x128 .f32) (harg10 : arg10.IsWhole) (arg11 : Memref sig .tc .vmem S65536x128 .i32) (harg11 : arg11.IsWhole) (arg12 : Memref sig .tc .vmem S256x128 .i32) (harg12 : arg12.IsWhole) (arg13 : Memref sig .tc .vmem S128x1024 .fp8e5m2) (harg13 : arg13.IsWhole) (arg14 : Memref sig .tc .vmem S256x128 .f32) (harg14 : arg14.IsWhole) (k0_h1 : k0_cond1 i = 1#1) (v17 : BitVec 32) (t : Fin k0_t1_loop.trips) :
    k0_t1_body (F := F) i arg2 harg2 arg3 harg3 arg4 harg4 arg5 harg5 arg6 harg6 arg7 harg7 arg8 harg8 arg9 harg9 arg10 harg10 arg11 harg11 arg12 harg12 arg13 harg13 arg14 harg14 k0_h1 v17 t ()
      = iterN (relay i arg3 arg11 k0_h1 t) 2 0 (.ret ()) := by
  chain_rfl

theorem sOff_eq (i : grid0.Coords) (t : Fin k0_t1_loop.trips) (q : ℕ) (hq : q < 8) :
    k0_off5 i t (BitVec.ofNat 32 (8 * q)) = ![(i 0).val % 2 * 32768 + (i 1).val * 1024 + 64 * t.val + 8 * q, 0] := by
  have h0 : (i 0).val < 8 := (i 0).isLt
  have h1 : (i 1).val < 32 := (i 1).isLt
  have h2 : t.val < 16 := t.isLt
  unfold k0_off5
  dsimp only
  congr 1
  simp only [Scalar.indexCast, Scalar.addi, Scalar.muli, Scalar.andi, Scf.iv, IntOp.addi, IntOp.muli, IntOp.andi, BitVec.toNat_add, BitVec.toNat_mul,
    BitVec.toNat_ofNat, BitVec.toNat_and]
  have e1 : 1 % 2 ^ 32 = 1 := rfl
  rw [e1, Nat.and_one_is_mod]
  omega

/-- Where the block's rows of words begin. -/
def rbase (i : grid0.Coords) : ℕ := (i 0).val % 2 * 32768 + (i 1).val * 1024

/-- In what order the rows are stored. -/
def rkey (ρ : ℕ) : ℕ := 8 * (ρ / 64) + 4 * (ρ % 16 / 8) + ρ % 64 / 16

/-- Column of byte `k` of lane `l` at parity `r`. -/
abbrev dix (a b : ℕ) : S512x1024.Idx := nix S512x1024 rfl (by decide) a b

/-- After `n` stores the rows stored hold the block's codes, and rows outside the block are as they were. -/
def Relaid (i : grid0.Coords) (Y : Vec F S512x1024 .i8) (X0 : Vec F S65536x128 .i32) (n : ℕ) (X : Vec F S65536x128 .i32) : Prop :=
  (∀ ρ < 1024, rkey ρ < n → ∀ l < 128, ∀ k < 4, byteAt (X (fix' (rbase i + ρ) l)) k = Y (dix (gslot ρ) (128 * (2 * k + gpar ρ) + l)))
    ∧ ∀ y : S65536x128.Idx, ¬ (rbase i ≤ (y 0).val ∧ (y 0).val < rbase i + 1024) → X y = X0 y

theorem rkey_split {ρ t r m : ℕ} (hr : r < 2) (hm : m < 4) (h : rkey ρ = 8 * t + 4 * r + m) : ρ = 64 * t + 16 * m + 8 * r + ρ % 8 := by
  unfold rkey at h
  have := key_split (A := ρ / 64) (q := ρ % 16 / 8) (s := ρ % 64 / 16) (by omega) (by omega) hr hm h
  omega

section Step

variable {i : grid0.Coords} {k0_h1 : k0_cond1 i = 1#1} {t : Fin k0_t1_loop.trips} {r m : ℕ} (hr : r < 2) (hm : m < 4)
  {w0 w1 w2 w3 : IVec S8x128 32} {Y : Vec F S512x1024 .i8} {X0 : Vec F S65536x128 .i32}
  (hw : ∀ k < 4, ∀ x : S8x128.Idx, ∀ b < 4, byteAt (pick w0 w1 w2 w3 k x) b = Y (dix (32 * t.val + 4 * (x 0).val + b) (128 * (2 * k + r) + (x 1).val)))
include hr hm hw

theorem relaid_step {X X' : Vec F S65536x128 .i32} (hX : Relaid i Y X0 (8 * t.val + 4 * r + m) X)
    (hS : StoredAt (Rect.unit (s := S65536x128) (k0_off5 i t (BitVec.ofNat 32 (8 * ((2 * m + r) % 8)))) S8x128.size
      (k0_off5_inb i t k0_h1 ⟨(2 * m + r) % 8, Nat.mod_lt _ (by decide)⟩)) (k0_pay1 (bt w0 w1 w2 w3 m)) X X') :
    Relaid i Y X0 (8 * t.val + 4 * r + m + 1) X' := by
  have b0 : (i 0).val % 2 < 2 := Nat.mod_lt _ (by decide)
  have b1 : (i 1).val < 32 := (i 1).isLt
  have b2 : t.val < 16 := t.isLt
  have hb : rbase i + 1024 ≤ 65536 := by unfold rbase; omega
  have eo := sOff_eq i t ((2 * m + r) % 8) (Nat.mod_lt _ (by decide))
  have e0 : k0_off5 i t (BitVec.ofNat 32 (8 * ((2 * m + r) % 8))) 0 = rbase i + (64 * t.val + 16 * m + 8 * r) := by
    rw [eo]; show (i 0).val % 2 * 32768 + (i 1).val * 1024 + 64 * t.val + 8 * ((2 * m + r) % 8) = _
    unfold rbase; omega
  have e1 : k0_off5 i t (BitVec.ofNat 32 (8 * ((2 * m + r) % 8))) 1 = 0 := by rw [eo]; rfl
  refine ⟨fun ρ hρ hk l hl k hk4 => ?_, fun y hy => ?_⟩
  · have f0 : ((fix' (rbase i + ρ) l) 0).val = rbase i + ρ := fix'_0 _ _ (by omega)
    have f1 : ((fix' (rbase i + ρ) l) 1).val = l := fix'_1 _ _ hl
    rcases stored_unit hS (fix' (rbase i + ρ) l) with ⟨x, hx, e⟩ | ⟨hn, e⟩
    · have h0 := hx 0
      have h1 := hx 1
      rw [f0, e0] at h0
      rw [f1, e1] at h1
      have x0 : (x 0).val < 8 := (x 0).isLt
      have hpay : ∀ v : IVec S8x128 32, k0_pay1 v = v := fun v => shapeCast_self v _
      rw [e, hpay, bt_byte _ _ _ _ _ _ _ hm hk4, hw k hk4 _ m hm]
      have hρ' : ρ = 64 * t.val + 16 * m + 8 * r + (x 0).val := by omega
      have g1 : gslot ρ = 32 * t.val + 4 * (x 0).val + m := by
        unfold gslot
        have a1 : ρ / 64 = t.val := by omega
        have a2 : ρ % 8 = (x 0).val := by omega
        have a3 : ρ % 64 = 16 * m + 8 * r + (x 0).val := by omega
        rw [a1, a2, a3]; omega
      have g2 : gpar ρ = r := by
        unfold gpar
        have a1 : ρ % 16 = 8 * r + (x 0).val := by omega
        rw [a1]; omega
      rw [g1, g2]
      congr 2
      omega
    · rw [e]
      refine hX.1 ρ hρ ?_ l hl k hk4
      by_contra hk'
      have hρ' := rkey_split hr hm (Nat.le_antisymm (Nat.le_of_lt_succ hk) (Nat.le_of_not_lt hk'))
      refine hn fun a => ?_
      fin_cases a
      · show k0_off5 _ _ _ 0 ≤ ((fix' (rbase i + ρ) l) 0).val ∧ ((fix' (rbase i + ρ) l) 0).val < k0_off5 _ _ _ 0 + 8
        rw [e0, f0]; omega
      · show k0_off5 _ _ _ 1 ≤ ((fix' (rbase i + ρ) l) 1).val ∧ ((fix' (rbase i + ρ) l) 1).val < k0_off5 _ _ _ 1 + 128
        rw [e1, f1]; omega
  · rw [← hX.2 y hy]
    rcases stored_unit hS y with ⟨x, hx, e⟩ | ⟨hn, e⟩
    · have h0 := hx 0
      rw [e0] at h0
      have x0 : (x 0).val < 8 := (x 0).isLt
      exact absurd ⟨by omega, by omega⟩ hy
    · exact e

end Step

variable (c : Dev nD)

theorem wpK_ret {α : Type} {a : α} {P : sProp 𝕄} {Q : α → sProp 𝕄} (h : P ⊢ Q a) : P ⊢ wpK (F := F) c (.ret a) Q := by
  unfold wpK
  rw [wp_ret]
  iintro H
  imodintro
  iapply h
  iexact H

theorem wp_relay {Q : Unit → sProp 𝕄} (i : grid0.Coords) (arg3 : Memref sig .tc .vmem S512x1024 .i8) (arg11 : Memref sig .tc .vmem S65536x128 .i32)
    (k0_h1 : k0_cond1 i = 1#1) (t : Fin k0_t1_loop.trips) (q : PosShare TreeShare) (Y : Vec F S512x1024 .i8) (X0 : Vec F S65536x128 .i32)
    {r : ℕ} (hr : r < 2) (κ : PR F)
    (hκ : iprop(owns (c : Thread nD τ) arg3 q Y ∗ (∃ X, ⌜Relaid i Y X0 (8 * t.val + 4 * r + 4) X⌝ ∗ owns (c : Thread nD τ) arg11 fullShare X)) ⊢ wpK c κ Q) :
    iprop(owns (c : Thread nD τ) arg3 q Y ∗ (∃ X, ⌜Relaid i Y X0 (8 * t.val + 4 * r) X⌝ ∗ owns (c : Thread nD τ) arg11 fullShare X))
      ⊢ wpK c (relay i arg3 arg11 k0_h1 t r κ) Q := by
  have hw : ∀ k < 4, ∀ x : S8x128.Idx, ∀ b < 4,
      byteAt (wrd (F := F) (fun x => Y ((Rect.unit (s := S512x1024) (rOff t k r) S32x128.size (rOff_inb t k r)).idx x)) x) b
        = Y (dix (32 * t.val + 4 * (x 0).val + b) (128 * (2 * k + r) + (x 1).val)) := by
    intro k hk x b hb
    have x0 : (x 0).val < 8 := (x 0).isLt
    have x1 : (x 1).val < 128 := (x 1).isLt
    have b2 : t.val < 16 := t.isLt
    let z : S32x128.Idx := nix S32x128 rfl (by decide) (4 * (x 0).val + b) (x 1).val
    have z0 : (z 0).val = 4 * (x 0).val + b := nix_0 (a := 32) (b := 128) _ _ _ (by omega)
    have z1 : (z 1).val = (x 1).val := nix_1 (a := 32) (b := 128) _ _ _ x1
    unfold wrd
    rw [words_apply _ x b hb z z0 z1]
    congr 1
    refine idx_ext2 (a := 512) (b := 1024) ?_ ?_
    · refine Eq.trans ?_ (nix_0 (a := 512) (b := 1024) _ _ _ (by omega)).symm
      show rOff t k r 0 + 1 * (z 0).val = _
      rw [rOff_eq, z0]; show 32 * t.val + _ = _; omega
    · refine Eq.trans ?_ (nix_1 (a := 512) (b := 1024) _ _ _ (by omega)).symm
      show rOff t k r 1 + 1 * (z 1).val = _
      rw [rOff_eq, z1]; show 128 * (2 * (k % 4) + r % 2) + _ = _; omega
  have key := wp_iterN c (put i arg11 k0_h1 t r
      (wrd (F := F) (fun x => Y ((Rect.unit (s := S512x1024) (rOff t 0 r) S32x128.size (rOff_inb t 0 r)).idx x)))
      (wrd (F := F) (fun x => Y ((Rect.unit (s := S512x1024) (rOff t 1 r) S32x128.size (rOff_inb t 1 r)).idx x)))
      (wrd (F := F) (fun x => Y ((Rect.unit (s := S512x1024) (rOff t 2 r) S32x128.size (rOff_inb t 2 r)).idx x)))
      (wrd (F := F) (fun x => Y ((Rect.unit (s := S512x1024) (rOff t 3 r) S32x128.size (rOff_inb t 3 r)).idx x))))
    (fun m => iprop(owns (c : Thread nD τ) arg3 q Y ∗ (∃ X, ⌜Relaid i Y X0 (8 * t.val + 4 * r + m) X⌝ ∗ owns (c : Thread nD τ) arg11 fullShare X))) 4 (Q := Q)
    ?_ 4 0 κ rfl hκ
  · unfold relay
    iintro ⟨H3, H11⟩
    iapply (ld c) $$ H3
    iintro H3
    iapply (ld c) $$ H3
    iintro H3
    iapply (ld c) $$ H3
    iintro H3
    iapply (ld c) $$ H3
    iintro H3
    iapply key
    iframe H3 H11
  · intro m κ hm h
    unfold put
    iintro ⟨H3, ⟨%X, %hX, H11⟩⟩
    iapply (ld c) $$ H11
    iintro H11
    iapply (st c) $$ H11
    iintro %X' %hX' H11
    iapply h
    iframe H3
    iexists X'
    iframe H11
    ipureintro
    refine relaid_step (k0_h1 := k0_h1) hr hm ?_ hX hX'
    intro k hk
    interval_cases k
    · exact hw 0 hk
    · exact hw 1 hk
    · exact hw 2 hk
    · exact hw 3 hk

theorem wp_loop1 {α : Type} {Q : α → sProp 𝕄} (i : grid0.Coords) (arg2 : Memref sig .tc .smem S32768 .i32) (harg2 : arg2.IsWhole) (arg3 : Memref sig .tc .vmem S512x1024 .i8) (harg3 : arg3.IsWhole) (arg4 : Memref sig .tc .vmem S1024x1024 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1024x1024 .fp8e5m2) (harg9 : arg9.IsWhole) (arg10 : Memref sig .tc .vmem S256x128 .f32) (harg10 : arg10.IsWhole) (arg11 : Memref sig .tc .vmem S65536x128 .i32) (harg11 : arg11.IsWhole) (arg12 : Memref sig .tc .vmem S256x128 .i32) (harg12 : arg12.IsWhole) (arg13 : Memref sig .tc .vmem S128x1024 .fp8e5m2) (harg13 : arg13.IsWhole) (arg14 : Memref sig .tc .vmem S256x128 .f32) (harg14 : arg14.IsWhole) (k0_h1 : k0_cond1 i = 1#1) (v17 : BitVec 32)
    (q : PosShare TreeShare) (Y : Vec F S512x1024 .i8) (X0 : Vec F S65536x128 .i32) (kk : Unit → Prog (TpuEff nD τ sig (Elt F) Λ₀ .tc) α) :
    iprop(owns (c : Thread nD τ) arg3 q Y ∗ owns (c : Thread nD τ) arg11 fullShare X0)
      ⊢ iprop(((owns (c : Thread nD τ) arg3 q Y ∗ (∃ X, ⌜Relaid i Y X0 128 X⌝ ∗ owns (c : Thread nD τ) arg11 fullShare X)) -∗ wpK (F := F) c (kk ()) Q)
        -∗ wpK (F := F) c (Scf.Loop.for k0_t1_loop (k0_t1_ok i k0_h1) () (k0_t1_body i arg2 harg2 arg3 harg3 arg4 harg4 arg5 harg5 arg6 harg6 arg7 harg7 arg8 harg8 arg9 harg9 arg10 harg10 arg11 harg11 arg12 harg12 arg13 harg13 arg14 harg14 k0_h1 v17) >>= kk) Q) := by
  have key := Scf.wp_for_bind (M := 𝕄) frame (wpE (defs₀ (F := F)) Variants.none (c : Thread nD τ) none) Set.univ
    k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 arg10 harg10 arg11 harg11 arg12 harg12 arg13 harg13 arg14 harg14 k0_h1 v17)
    (fun n _ => iprop(owns (c : Thread nD τ) arg3 q Y ∗ (∃ X, ⌜Relaid i Y X0 (8 * n) X⌝ ∗ owns (c : Thread nD τ) arg11 fullShare X)))
    ?_ (kk := kk) (Q := Q)
  · iintro ⟨H3, H11⟩ HK
    iapply key $$ [H3 H11]
    · iframe H3
      iexists X0
      iframe H11
      ipureintro
      exact ⟨fun ρ _ h => absurd h (by omega), fun _ _ => rfl⟩
    · iintro %acc H
      iapply HK
      iexact H
  · intro t acc
    rw [show k0_t1_body (F := F) i arg2 harg2 arg3 harg3 arg4 harg4 arg5 harg5 arg6 harg6 arg7 harg7 arg8 harg8 arg9 harg9 arg10 harg10 arg11 harg11 arg12 harg12 arg13 harg13 arg14 harg14 k0_h1 v17 t acc = iterN (relay i arg3 arg11 k0_h1 t) 2 0 (.ret ()) from
      body1_eq i arg2 harg2 arg3 harg3 arg4 harg4 arg5 harg5 arg6 harg6 arg7 harg7 arg8 harg8 arg9 harg9 arg10 harg10 arg11 harg11 arg12 harg12 arg13 harg13 arg14 harg14 k0_h1 v17 t]
    refine wp_iterN c (relay i arg3 arg11 k0_h1 t)
      (fun r => iprop(owns (c : Thread nD τ) arg3 q Y ∗ (∃ X, ⌜Relaid i Y X0 (8 * t.val + 4 * r) X⌝ ∗ owns (c : Thread nD τ) arg11 fullShare X))) 2
      (fun r κ hr h => wp_relay c i arg3 arg11 k0_h1 t q Y X0 hr κ ?_) 2 0 _ rfl ?_
    · have e : 8 * t.val + 4 * (r + 1) = 8 * t.val + 4 * r + 4 := by omega
      rw [← e]; exact h
    · have e : 8 * (t.val + 1) = 8 * t.val + 4 * 2 := by omega
      rw [e]
      exact wpK_ret c .rfl

end Cert.KernelIdeal.Trip
-- ==== Proof.Trip.lean ====
/-
A trip over one expert, whole, and the loop over a grid point's eight experts: the scaled codes of their slots, and
their rows of sums each advanced by the diagonal of the product of codes and rows.
-/
module

public import proofs.«01_k».proof.Proof.Relay

@[expose] public section

noncomputable section

namespace Cert.KernelIdeal.Trip

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ (UR sig nD τ) ℕ

/-- Trip `n` of a point's eight. -/
def tt (n : ℕ) : Fin k0_t2_loop.trips := ⟨n % 8, show n % 8 < 8 from Nat.mod_lt _ (by decide)⟩

theorem tt_val (t : Fin k0_t2_loop.trips) : tt t.val = t := Fin.ext (Nat.mod_eq_of_lt (show t.val < 8 from t.isLt))

/-- The codes of an expert's 128 slots in a chunk's 1024 columns. -/
def gmat (X : Vec F S65536x128 .i32) (rw : ℕ → ℕ) : Vec F S128x1024 .fp8e5m2 := fun y => cval X rw (y 0).val (y 1).val
/-- The expert's rows of the second operand. -/
def orow (ob : Vec F S1024x1024 .fp8e4m3) (t : ℕ) : Vec F S128x1024 .fp8e4m3 :=
  fun x => ob (nix S1024x1024 rfl (by decide) (128 * t + (x 0).val) (x 1).val)
/-- The expert's row of sums. -/
def arow (A : Vec F S256x128 .f32) (e : ℕ) : Vec F S1x128 .f32 := fun x => A (nix S256x128 rfl (by decide) e (x 1).val)

/-- The advanced sum of expert `e`, slot `l`. -/
def accv (i : grid0.Coords) (T : Vec F S32768 .i32) (X : Vec F S65536x128 .i32) (ob : Vec F S1024x1024 .fp8e4m3) (A : Vec F S256x128 .f32) (e l : ℕ) : F .f32 :=
  k0_pay8 (gmat X (wrow i (tt e) T)) (orow ob (e % 8)) (arow A e) (nix S1x128 rfl (by decide) 0 l)

/-- The scaled codes of the point's block. -/
def outO (i : grid0.Coords) (T : Vec F S32768 .i32) (X : Vec F S65536x128 .i32) (cb vb : Vec F S8x128 .f32) : Vec F S1024x1024 .fp8e5m2 :=
  fun z => outs (cval X (wrow i (tt ((z 0).val / 128)) T) ((z 0).val % 128) (z 1).val)
    (cb (nix S8x128 rfl (by decide) ((z 0).val / 128) ((z 0).val % 128))) (vb (nix S8x128 rfl (by decide) ((z 0).val / 128) ((z 0).val % 128)))

/-- The first `n` of the point's experts have their sums advanced. -/
def Accs (i : grid0.Coords) (T : Vec F S32768 .i32) (X : Vec F S65536x128 .i32) (ob : Vec F S1024x1024 .fp8e4m3) (A0 : Vec F S256x128 .f32) (n : ℕ)
    (A : Vec F S256x128 .f32) : Prop :=
  ∀ y : S256x128.Idx, (8 * (i 1).val ≤ (y 0).val ∧ (y 0).val < 8 * (i 1).val + n → A y = accv i T X ob A0 (y 0).val (y 1).val)
    ∧ (¬ (8 * (i 1).val ≤ (y 0).val ∧ (y 0).val < 8 * (i 1).val + n) → A y = A0 y)

section Dots

variable {i : grid0.Coords} {k0_h3 : k0_cond3 i = 1#1} {t : Fin k0_t2_loop.trips} {T : Vec F S32768 .i32} {X : Vec F S65536x128 .i32}
  {ob : Vec F S1024x1024 .fp8e4m3} {A0 A : Vec F S256x128 .f32}

theorem codes_all {rw : ℕ → ℕ} {C : Vec F S128x1024 .fp8e5m2} (hC : Codes X rw 32 C) :
    (fun x => C ((Rect.unit (s := S128x1024) ![0, 0] S128x1024.size inb_S128x1024_S128x1024_0_0).idx x)) = gmat X rw := by
  funext x
  have x0 : (x 0).val < 128 := (x 0).isLt
  have x1 : (x 1).val < 1024 := (x 1).isLt
  have e : (Rect.unit (s := S128x1024) ![0, 0] S128x1024.size inb_S128x1024_S128x1024_0_0).idx x = x := by
    refine idx_ext2 (a := 128) (b := 1024) ?_ ?_
    · show 0 + 1 * (x 0).val = _; omega
    · show 0 + 1 * (x 1).val = _; omega
  rw [e]
  refine hC x ?_
  unfold key
  omega

theorem orow_eq : (fun x => ob ((Rect.unit (s := S1024x1024) (k0_off275 t) S128x1024.size (k0_off275_inb i t k0_h3)).idx x)) = orow ob t.val := by
  funext x
  have ht : t.val < 8 := t.isLt
  have x0 : (x 0).val < 128 := (x 0).isLt
  have x1 : (x 1).val < 1024 := (x 1).isLt
  unfold orow
  congr 1
  refine idx_ext2 (a := 1024) (b := 1024) ?_ ?_
  · refine Eq.trans ?_ (nix_0 (a := 1024) (b := 1024) _ _ _ (by omega)).symm
    show k0_off275 t 0 + 1 * (x 0).val = _
    rw [show k0_off275 t 0 = 128 * t.val from congrFun (k0_off275_eq t) 0]; show 128 * t.val + 1 * (x 0).val = _; omega
  · refine Eq.trans ?_ (nix_1 (a := 1024) (b := 1024) _ _ _ x1).symm
    show k0_off275 t 1 + 1 * (x 1).val = _
    rw [show k0_off275 t 1 = 0 from congrFun (k0_off275_eq t) 1]; show 0 + 1 * (x 1).val = _; omega

theorem arow_eq (hA : Accs i T X ob A0 t.val A) :
    (fun x => A ((Rect.unit (s := S256x128) (k0_off276 i t) S1x128.size (k0_off276_inb i t k0_h3)).idx x)) = arow A0 (8 * (i 1).val + t.val) := by
  funext x
  have ht : t.val < 8 := t.isLt
  have h1 : (i 1).val < 32 := (i 1).isLt
  have x0 : (x 0).val < 1 := (x 0).isLt
  have x1 : (x 1).val < 128 := (x 1).isLt
  have e : (Rect.unit (s := S256x128) (k0_off276 i t) S1x128.size (k0_off276_inb i t k0_h3)).idx x
      = nix S256x128 rfl (by decide) (8 * (i 1).val + t.val) (x 1).val := by
    refine idx_ext2 (a := 256) (b := 128) ?_ ?_
    · refine Eq.trans ?_ (nix_0 (a := 256) (b := 128) _ _ _ (by omega)).symm
      show k0_off276 i t 0 + 1 * (x 0).val = _
      rw [show k0_off276 i t 0 = 8 * (i 1).val + t.val from congrFun (k0_off276_eq i t) 0]; show 8 * (i 1).val + t.val + 1 * (x 0).val = _; omega
    · refine Eq.trans ?_ (nix_1 (a := 256) (b := 128) _ _ _ x1).symm
      show k0_off276 i t 1 + 1 * (x 1).val = _
      rw [show k0_off276 i t 1 = 0 from congrFun (k0_off276_eq i t) 1]; show 0 + 1 * (x 1).val = _; omega
  rw [e]
  unfold arow
  refine (hA _).2 ?_
  rw [nix_0 (a := 256) (b := 128) _ _ _ (by omega)]
  omega

theorem accs_step {A' : Vec F S256x128 .f32} (hA : Accs i T X ob A0 t.val A)
    (hS : StoredAt (Rect.unit (s := S256x128) (k0_off276 i t) S1x128.size (k0_off276_inb i t k0_h3))
      (k0_pay8 (gmat X (wrow i t T)) (orow ob t.val) (arow A0 (8 * (i 1).val + t.val))) A A') : Accs i T X ob A0 (t.val + 1) A' := by
  intro y
  have ht : t.val < 8 := t.isLt
  have e0 : k0_off276 i t 0 = 8 * (i 1).val + t.val := congrFun (k0_off276_eq i t) 0
  have e1 : k0_off276 i t 1 = 0 := congrFun (k0_off276_eq i t) 1
  have y1 : (y 1).val < 128 := (y 1).isLt
  rcases stored_unit hS y with ⟨x, hx, e⟩ | ⟨hn, e⟩
  · have h0 := hx 0
    have h1 := hx 1
    rw [e0] at h0
    rw [e1] at h1
    have x0 : (x 0).val < 1 := (x 0).isLt
    have hy : (y 0).val = 8 * (i 1).val + t.val := by omega
    refine ⟨fun _ => ?_, fun h => absurd ⟨by omega, by omega⟩ h⟩
    have q1 : (8 * (i 1).val + t.val) % 8 = t.val := by omega
    have q2 : tt (8 * (i 1).val + t.val) = t := Fin.ext q1
    rw [e, hy]
    unfold accv
    rw [q1, q2]
    congr 1
    refine idx_ext2 (a := 1) (b := 128) ?_ ?_
    · refine Eq.trans ?_ (nix_0 (a := 1) (b := 128) _ _ _ (by omega)).symm
      omega
    · refine Eq.trans ?_ (nix_1 (a := 1) (b := 128) _ _ _ y1).symm
      omega
  · have hne : (y 0).val ≠ 8 * (i 1).val + t.val := by
      intro h
      refine hn fun a => ?_
      fin_cases a
      · show k0_off276 i t 0 ≤ (y 0).val ∧ (y 0).val < k0_off276 i t 0 + 1
        rw [e0]; omega
      · show k0_off276 i t 1 ≤ (y 1).val ∧ (y 1).val < k0_off276 i t 1 + 128
        rw [e1]; omega
    rw [e]
    exact ⟨fun h => (hA y).1 ⟨h.1, by omega⟩, fun h => (hA y).2 (by omega)⟩

end Dots

/-- Row `t` of a block of factors, at lane `j`. -/
theorem row_apply {i : grid0.Coords} {t : Fin k0_t2_loop.trips} {k0_h3 : k0_cond3 i = 1#1} (cb : Vec F S8x128 .f32) {j : ℕ} (hj : j < 128) :
    cb ((Rect.unit (s := S8x128) (k0_off266 t) S1x128.size (k0_off266_inb i t k0_h3)).idx (nix S1x128 rfl (by decide) 0 j))
      = cb (nix S8x128 rfl (by decide) t.val j) := by
  have ht : t.val < 8 := t.isLt
  congr 1
  refine idx_ext2 (a := 8) (b := 128) ?_ ?_
  · refine Eq.trans ?_ (nix_0 (a := 8) (b := 128) _ _ _ ht).symm
    show k0_off266 t 0 + 1 * ((nix S1x128 rfl (by decide) 0 j) 0).val = _
    rw [show k0_off266 t 0 = t.val from congrFun (k0_off266_eq t) 0]; show t.val + 1 * (0 % 1) = _; omega
  · refine Eq.trans ?_ (nix_1 (a := 8) (b := 128) _ _ _ hj).symm
    show k0_off266 t 1 + 1 * ((nix S1x128 rfl (by decide) 0 j) 1).val = _
    rw [show k0_off266 t 1 = 0 from congrFun (k0_off266_eq t) 1]; show 0 + 1 * (j % 128) = _; omega

attribute [local irreducible] iterN gather block dots

variable (c : Dev nD)

section Wp

variable (i : grid0.Coords) (arg2 : Memref sig .tc .smem S32768 .i32) (harg2 : arg2.IsWhole) (arg3 : Memref sig .tc .vmem S512x1024 .i8) (harg3 : arg3.IsWhole) (arg4 : Memref sig .tc .vmem S1024x1024 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1024x1024 .fp8e5m2) (harg9 : arg9.IsWhole) (arg10 : Memref sig .tc .vmem S256x128 .f32) (harg10 : arg10.IsWhole) (arg11 : Memref sig .tc .vmem S65536x128 .i32) (harg11 : arg11.IsWhole) (arg12 : Memref sig .tc .vmem S256x128 .i32) (harg12 : arg12.IsWhole) (arg13 : Memref sig .tc .vmem S128x1024 .fp8e5m2) (harg13 : arg13.IsWhole) (arg14 : Memref sig .tc .vmem S256x128 .f32) (harg14 : arg14.IsWhole) (k0_h3 : k0_cond3 i = 1#1)
  (q2 q4 q5 q6 : PosShare TreeShare) (T : Vec F S32768 .i32) (ob : Vec F S1024x1024 .fp8e4m3) (cb vb : Vec F S8x128 .f32) (X : Vec F S65536x128 .i32)
  (A0 : Vec F S256x128 .f32)

/-- What the loop over experts holds before trip `n`. -/
def Ex (n : ℕ) : sProp 𝕄 :=
  iprop(owns (c : Thread nD τ) arg2 q2 T ∗ owns (c : Thread nD τ) arg4 q4 ob ∗ owns (c : Thread nD τ) arg5 q5 cb ∗ owns (c : Thread nD τ) arg6 q6 vb
    ∗ owns (c : Thread nD τ) arg11 fullShare X ∗ (∃ G, owns (c : Thread nD τ) arg12 fullShare G) ∗ (∃ C, owns (c : Thread nD τ) arg13 fullShare C)
    ∗ (∃ D, ⌜Outs (outO i T X cb vb) n 0 D⌝ ∗ owns (c : Thread nD τ) arg9 fullShare D)
    ∗ (∃ A, ⌜Accs i T X ob A0 n A⌝ ∗ owns (c : Thread nD τ) arg14 fullShare A))

theorem wp_trip (t : Fin k0_t2_loop.trips) (hc : ∀ s < 128, k0_chk1 i (word i t T s)) :
    Ex c i arg2 arg4 arg5 arg6 arg9 arg11 arg12 arg13 arg14 q2 q4 q5 q6 T ob cb vb X A0 t.val
      ⊢ wpK c (trip i arg2 arg4 arg5 arg6 arg9 harg9 arg11 arg12 arg13 harg13 arg14 k0_h3 t)
        (fun _ => Ex c i arg2 arg4 arg5 arg6 arg9 arg11 arg12 arg13 arg14 q2 q4 q5 q6 T ob cb vb X A0 (t.val + 1)) := by
  have ht : t.val < 8 := t.isLt
  have hO : ∀ z : S1024x1024.Idx, (z 0).val / 128 = t.val → outO i T X cb vb z = outs (cval X (wrow i t T) ((z 0).val % 128) (z 1).val)
      (cb (nix S8x128 rfl (by decide) t.val ((z 0).val % 128))) (vb (nix S8x128 rfl (by decide) t.val ((z 0).val % 128))) := by
    intro z hz
    unfold outO
    rw [hz, tt_val]
  unfold trip
  have K0 := wp_gathers c i arg2 arg11 arg12 k0_h3 t q2 T X hc
    iprop(owns (c : Thread nD τ) arg4 q4 ob ∗ owns (c : Thread nD τ) arg5 q5 cb ∗ owns (c : Thread nD τ) arg6 q6 vb ∗ (∃ C, owns (c : Thread nD τ) arg13 fullShare C)
      ∗ (∃ D, ⌜Outs (outO i T X cb vb) t.val 0 D⌝ ∗ owns (c : Thread nD τ) arg9 fullShare D)
      ∗ (∃ A, ⌜Accs i T X ob A0 t.val A⌝ ∗ owns (c : Thread nD τ) arg14 fullShare A))
    (Q := fun _ => Ex c i arg2 arg4 arg5 arg6 arg9 arg11 arg12 arg13 arg14 q2 q4 q5 q6 T ob cb vb X A0 (t.val + 1))
  refine .trans ?_ (K0 _ ?_)
  · unfold Ex
    iintro ⟨H2, H4, H5, H6, H11, H12, H13, H9, H14⟩
    iframe H2 H11 H12 H4 H5 H6 H13 H9 H14
  · iintro ⟨H2, H11, ⟨%G, %hG, H12⟩, H4, H5, H6, ⟨%C, H13⟩, H9, H14⟩
    iapply (ld c) $$ H5
    iintro H5
    iapply (ld c) $$ H6
    iintro H6
    have K1 := wp_iterN c (fun g => iterN (block (F := F) arg9 harg9 arg12 arg13 harg13 t
        (fun x => cb ((Rect.unit (s := S8x128) (k0_off266 t) S1x128.size (k0_off266_inb i t k0_h3)).idx x))
        (fun x => vb ((Rect.unit (s := S8x128) (k0_off266 t) S1x128.size (k0_off266_inb i t k0_h3)).idx x)) g) 2 0)
      (fun g => Inv c arg9 arg13 t X (wrow i t T) (outO i T X cb vb) iprop(owns (c : Thread nD τ) arg12 fullShare G ∗ owns (c : Thread nD τ) arg2 q2 T
        ∗ owns (c : Thread nD τ) arg4 q4 ob ∗ owns (c : Thread nD τ) arg5 q5 cb ∗ owns (c : Thread nD τ) arg6 q6 vb ∗ owns (c : Thread nD τ) arg11 fullShare X
        ∗ (∃ A, ⌜Accs i T X ob A0 t.val A⌝ ∗ owns (c : Thread nD τ) arg14 fullShare A)) (8 * g)) 4
      (Q := fun _ => Ex c i arg2 arg4 arg5 arg6 arg9 arg11 arg12 arg13 arg14 q2 q4 q5 q6 T ob cb vb X A0 (t.val + 1)) ?_ 4 0
      (dots i arg4 arg13 arg14 k0_h3 t (.ret ())) rfl ?_
    · iapply K1
      unfold Inv
      iframe H9 H12 H2 H4 H5 H6 H11 H14
      iexists C
      iframe H13
      ipureintro
      intro y hy
      exact absurd hy (by omega)
    · intro g κ hg h
      refine wp_iterN c (block (F := F) arg9 harg9 arg12 arg13 harg13 t
        (fun x => cb ((Rect.unit (s := S8x128) (k0_off266 t) S1x128.size (k0_off266_inb i t k0_h3)).idx x))
        (fun x => vb ((Rect.unit (s := S8x128) (k0_off266 t) S1x128.size (k0_off266_inb i t k0_h3)).idx x)) g)
        (fun r => Inv c arg9 arg13 t X (wrow i t T) (outO i T X cb vb) iprop(owns (c : Thread nD τ) arg12 fullShare G ∗ owns (c : Thread nD τ) arg2 q2 T
        ∗ owns (c : Thread nD τ) arg4 q4 ob ∗ owns (c : Thread nD τ) arg5 q5 cb ∗ owns (c : Thread nD τ) arg6 q6 vb ∗ owns (c : Thread nD τ) arg11 fullShare X
        ∗ (∃ A, ⌜Accs i T X ob A0 t.val A⌝ ∗ owns (c : Thread nD τ) arg14 fullShare A)) (8 * g + 4 * r)) 2
        (fun r κ hr h => wp_block c arg9 harg9 arg12 arg13 harg13 t X (wrow i t T) (outO i T X cb vb) (fun j => cb (nix S8x128 rfl (by decide) t.val j))
          (fun j => vb (nix S8x128 rfl (by decide) t.val j)) hO hg hr (fun j hj => row_apply (k0_h3 := k0_h3) cb hj) (fun j hj => row_apply (k0_h3 := k0_h3) vb hj) hG _ κ ?_) 2 0 κ rfl ?_
      · have e : 8 * g + 4 * (r + 1) = 8 * g + 4 * r + 4 := by omega
        rw [← e]; exact h
      · have e : 8 * (g + 1) = 8 * g + 4 * 2 := by omega
        rw [← e]; exact h
    · unfold Inv dots
      iintro ⟨⟨%C, %hC, H13⟩, ⟨%D, %hD, H9⟩, H12, H2, H4, H5, H6, H11, ⟨%A, %hA, H14⟩⟩
      iapply (ld c) $$ H13
      iintro H13
      iapply (ld c) $$ H4
      iintro H4
      iapply (ld c) $$ H14
      iintro H14
      iapply (ld c) $$ H14
      iintro H14
      rw [codes_all hC, orow_eq (i := i) (k0_h3 := k0_h3), arow_eq (k0_h3 := k0_h3) hA]
      iapply (st c) $$ H14
      iintro %A' %hA' H14
      iapply (wpK_ret c .rfl)
      unfold Ex
      iframe H2 H4 H5 H6 H11
      isplitl [H12]
      · iexists G
        iexact H12
      isplitl [H13]
      · iexists C
        iexact H13
      isplitl [H9]
      · iexists D
        iframe H9
        ipureintro
        intro z hz
        exact hD z (by omega)
      · iexists A'
        iframe H14
        ipureintro
        exact accs_step (k0_h3 := k0_h3) hA hA'

theorem wp_loop2 {α : Type} {Q : α → sProp 𝕄} (v16 : BitVec 32) (hc : ∀ t : Fin k0_t2_loop.trips, ∀ s < 128, k0_chk1 i (word i t T s))
    (kk : Unit → Prog (TpuEff nD τ sig (Elt F) Λ₀ .tc) α) :
    Ex c i arg2 arg4 arg5 arg6 arg9 arg11 arg12 arg13 arg14 q2 q4 q5 q6 T ob cb vb X A0 0
      ⊢ iprop((Ex c i arg2 arg4 arg5 arg6 arg9 arg11 arg12 arg13 arg14 q2 q4 q5 q6 T ob cb vb X A0 8 -∗ wpK (F := F) c (kk ()) Q)
        -∗ wpK (F := F) c (Scf.Loop.for k0_t2_loop (k0_t2_ok i k0_h3) () (k0_t2_body i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k0_h3 v16) >>= kk) Q) := by
  have key := Scf.wp_for_bind (M := 𝕄) frame (wpE (defs₀ (F := F)) Variants.none (c : Thread nD τ) none) Set.univ
    k0_t2_loop.lb k0_t2_loop.ub k0_t2_loop.st (k0_t2_ok i k0_h3) () (k0_t2_body (F := F) i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k0_h3 v16)
    (fun n _ => Ex c i arg2 arg4 arg5 arg6 arg9 arg11 arg12 arg13 arg14 q2 q4 q5 q6 T ob cb vb X A0 n)
    ?_ (kk := kk) (Q := Q)
  · iintro H HK
    iapply key $$ H
    iintro %acc H
    iapply HK
    iexact H
  · intro t acc
    rw [show k0_t2_body (F := F) i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k0_h3 v16 t acc
        = trip i arg2 arg4 arg5 arg6 arg9 harg9 arg11 arg12 arg13 harg13 arg14 k0_h3 t from
      body_eq i arg2 harg2 arg3 harg3 arg4 harg4 arg5 harg5 arg6 harg6 arg7 harg7 arg8 harg8 arg9 harg9 arg10 harg10 arg11 harg11 arg12 harg12 arg13 harg13 arg14 harg14 k0_h3 v16 t]
    exact wp_trip c i arg2 arg4 arg5 arg6 arg9 harg9 arg11 arg12 arg13 harg13 arg14 k0_h3 q2 q4 q5 q6 T ob cb vb X A0 t (hc t)

end Wp

end Cert.KernelIdeal.Trip
-- ==== Proof.Body.lean ====
/-
The kernel's body at one grid point, whole: its four conditional parts in order, what each leaves stated by the
point's coordinates.
-/
module

public import proofs.«01_k».proof.Proof.Trip

@[expose] public section

noncomputable section

namespace Cert.KernelIdeal.Trip

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ (UR sig nD τ) ℕ

/-! ## The conditions, by the coordinates -/

/-- The condition under which the sums are zeroed. -/
def cond2 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

theorem cond1_iff (i : grid0.Coords) : k0_cond1 i = 1#1 ↔ (i 0).val < 7 := by
  have h : ∀ a : Fin 8, Scalar.cmpi .ne (Scalar.extui (Scalar.cmpi .slt (BitVec.ofNat 32 a.val) 7#32) : BitVec 32) 0#32 = 1#1 ↔ a.val < 7 := by decide +kernel
  exact h (i 0)

theorem cond2_iff (i : grid0.Coords) : cond2 i = 1#1 ↔ (i 0).val = 0 ∧ (i 1).val = 0 := by
  have h : ∀ a : Fin 8, ∀ b : Fin 32, Scalar.cmpi .ne (Scalar.extui (Scalar.andi (Scalar.cmpi .eq (BitVec.ofNat 32 a.val) 0#32) (Scalar.cmpi .eq (BitVec.ofNat 32 b.val) 0#32)) : BitVec 32) 0#32 = 1#1
      ↔ a.val = 0 ∧ b.val = 0 := by decide +kernel
  exact h (i 0) (i 1)

theorem cond3_iff (i : grid0.Coords) : k0_cond3 i = 1#1 ↔ 0 < (i 0).val := by
  have h : ∀ a : Fin 8, Scalar.cmpi .ne (Scalar.extui (Scalar.cmpi .sgt (BitVec.ofNat 32 a.val) 0#32) : BitVec 32) 0#32 = 1#1 ↔ 0 < a.val := by decide +kernel
  exact h (i 0)

theorem cond4_iff (i : grid0.Coords) : k0_cond4 i = 1#1 ↔ (i 0).val = 7 := by
  have h : ∀ a : Fin 8, Scalar.cmpi .ne (Scalar.extui (Scalar.cmpi .eq (BitVec.ofNat 32 a.val) 7#32) : BitVec 32) 0#32 = 1#1 ↔ a.val = 7 := by decide +kernel
  exact h (i 0)

/-! ## The parts -/

section Parts

variable (i : grid0.Coords) (arg2 : Memref sig .tc .smem S32768 .i32) (harg2 : arg2.IsWhole) (arg3 : Memref sig .tc .vmem S512x1024 .i8) (harg3 : arg3.IsWhole) (arg4 : Memref sig .tc .vmem S1024x1024 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1024x1024 .fp8e5m2) (harg9 : arg9.IsWhole) (arg10 : Memref sig .tc .vmem S256x128 .f32) (harg10 : arg10.IsWhole) (arg11 : Memref sig .tc .vmem S65536x128 .i32) (harg11 : arg11.IsWhole) (arg12 : Memref sig .tc .vmem S256x128 .i32) (harg12 : arg12.IsWhole) (arg13 : Memref sig .tc .vmem S128x1024 .fp8e5m2) (harg13 : arg13.IsWhole) (arg14 : Memref sig .tc .vmem S256x128 .f32) (harg14 : arg14.IsWhole)

/-- The layout of the token block, while chunks remain. -/
def part1 (kk : PUnit → PR F) : PR F :=
  if h : k0_cond1 i = 1#1 then
    Scf.Loop.for k0_t1_loop (k0_t1_ok i h) () (k0_t1_body i arg2 harg2 arg3 harg3 arg4 harg4 arg5 harg5 arg6 harg6 arg7 harg7 arg8 harg8 arg9 harg9 arg10 harg10 arg11 harg11 arg12 harg12 arg13 harg13 arg14 harg14 h
      (Scalar.addi (Scalar.muli (Scalar.andi (BitVec.ofNat 32 (i 0).val) 1#32) 32768#32) (Scalar.muli (BitVec.ofNat 32 (i 1).val) 1024#32))) >>= fun _ => kk ()
  else kk ()

/-- The sums zeroed, at the first point. -/
def part2 (kk : PUnit → PR F) : PR F :=
  if h : cond2 i = 1#1 then
    .op (.load arg14 (Rect.unit (s := S256x128) ![0, 0] S256x128.size inb_S256x128_S256x128_0_0).toLoadRect (View.loadsAt_vmem h_S256x128)) fun _ =>
    .op (.store arg14 (Rect.unit (s := S256x128) ![0, 0] S256x128.size inb_S256x128_S256x128_0_0) (k0_pay5 (F := F)) Finset.univ (View.stores_vmem_bits_univ h_S256x128 rfl) (.inl rfl)) kk
  else kk ()

/-- The point's eight experts, once a chunk is laid out. -/
def part3 (kk : PUnit → PR F) : PR F :=
  if h : k0_cond3 i = 1#1 then
    Scf.Loop.for k0_t2_loop (k0_t2_ok i h) () (k0_t2_body i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) h
      (Scalar.muli (Scalar.andi (Scalar.subi (BitVec.ofNat 32 (i 0).val) 1#32) 1#32) 32768#32)) >>= fun _ => kk ()
  else kk ()

/-- The sums scaled, over the last chunk. -/
def part4 (kk : PUnit → PR F) : PR F :=
  if h : k0_cond4 i = 1#1 then
    .op (.load arg7 (Rect.unit (s := S8x128) ![0, 0] S8x128.size inb_S8x128_S8x128_0_0).toLoadRect (View.loadsAt_vmem h_S8x128)) fun v16 =>
    .op (.load arg8 (Rect.unit (s := S8x128) ![0, 0] S8x128.size inb_S8x128_S8x128_0_0).toLoadRect (View.loadsAt_vmem h_S8x128)) fun v17 =>
    .op (.load arg14 (Rect.unit (s := S256x128) (k0_off277 i) S8x128.size (k0_off277_inb i h)).toLoadRect (View.loadsAt_vmem h_S8x128)) fun v20 =>
    .op (.load arg10 (Rect.unit (s := S256x128) (k0_off277 i) S8x128.size (k0_off277_inb i h)).toLoadRect (View.loadsAt_vmem h_S8x128)) fun _ =>
    .op (.store arg10 (Rect.unit (s := S256x128) (k0_off277 i) S8x128.size (k0_off277_inb i h)) (k0_pay9 v16 v17 v20) Finset.univ (View.stores_vmem_bits_univ h_S8x128 rfl) (.inl rfl)) kk
  else kk ()

theorem body_parts : cc0__dout_body (F := F) i arg2 harg2 arg3 harg3 arg4 harg4 arg5 harg5 arg6 harg6 arg7 harg7 arg8 harg8 arg9 harg9 arg10 harg10 arg11 harg11 arg12 harg12 arg13 harg13 arg14 harg14
    = part1 i arg2 harg2 arg3 harg3 arg4 harg4 arg5 harg5 arg6 harg6 arg7 harg7 arg8 harg8 arg9 harg9 arg10 harg10 arg11 harg11 arg12 harg12 arg13 harg13 arg14 harg14 fun _ => part2 i arg14 fun _ => part3 i arg2 harg2 arg3 harg3 arg4 harg4 arg5 harg5 arg6 harg6 arg7 harg7 arg8 harg8 arg9 harg9 arg10 harg10 arg11 harg11 arg12 harg12 arg13 harg13 arg14 harg14 fun _ => part4 i arg7 arg8 arg10 arg14 fun _ => .ret () := by
  chain_rfl

end Parts

/-! ## What the parts leave -/

/-- The rows of the scaled sums that the point writes. -/
def Rows (i : grid0.Coords) (gb sb : Vec F S8x128 .f32) (A E0 E : Vec F S256x128 .f32) : Prop :=
  ∀ y : S256x128.Idx,
    (8 * (i 1).val ≤ (y 0).val ∧ (y 0).val < 8 * (i 1).val + 8 →
      E y = k0_pay9 gb sb (fun x => A (nix S256x128 rfl (by decide) (8 * (i 1).val + (x 0).val) (x 1).val))
        (nix S8x128 rfl (by decide) ((y 0).val - 8 * (i 1).val) (y 1).val))
    ∧ (¬ (8 * (i 1).val ≤ (y 0).val ∧ (y 0).val < 8 * (i 1).val + 8) → E y = E0 y)

/-- One grid point: the table of words `X`, the sums `A`, the codes `D` and the scaled sums `E` after it. -/
structure Step (i : grid0.Coords) (T : Vec F S32768 .i32) (Y : Vec F S512x1024 .i8) (ob : Vec F S1024x1024 .fp8e4m3) (cb vb gb sb : Vec F S8x128 .f32)
    (X0 X : Vec F S65536x128 .i32) (A0 A : Vec F S256x128 .f32) (D : Vec F S1024x1024 .fp8e5m2) (E0 E : Vec F S256x128 .f32) : Prop where
  lay : (i 0).val < 7 → Relaid i Y X0 128 X
  keep : ¬ (i 0).val < 7 → X = X0
  zero : (i 0).val = 0 → (i 1).val = 0 → A = k0_pay5
  same : (i 0).val = 0 → (i 1).val ≠ 0 → A = A0
  accs : 0 < (i 0).val → Accs i T X ob A0 8 A
  codes : 0 < (i 0).val → Outs (outO i T X cb vb) 8 0 D
  idle : (i 0).val ≠ 7 → E = E0
  rows : (i 0).val = 7 → Rows i gb sb A E0 E

theorem whole8_eq (b : Vec F S8x128 .f32) :
    (fun x => b ((Rect.unit (s := S8x128) ![0, 0] S8x128.size inb_S8x128_S8x128_0_0).idx x)) = b := by
  funext x
  congr 1
  refine idx_ext2 (a := 8) (b := 128) ?_ ?_
  · show 0 + 1 * (x 0).val = _; omega
  · show 0 + 1 * (x 1).val = _; omega

theorem zeroed {A A' : Vec F S256x128 .f32} (h : StoredAt (Rect.unit (s := S256x128) ![0, 0] S256x128.size inb_S256x128_S256x128_0_0) k0_pay5 A A') :
    A' = k0_pay5 := by
  funext y
  have y0 : (y 0).val < 256 := (y 0).isLt
  have y1 : (y 1).val < 128 := (y 1).isLt
  rcases stored_unit h y with ⟨x, hx, e⟩ | ⟨hn, e⟩
  · rw [e]
    congr 1
    refine idx_ext2 (a := 256) (b := 128) ?_ ?_
    · have := hx 0; show (x 0).val = (y 0).val; rw [this]; show _ = 0 + _; omega
    · have := hx 1; show (x 1).val = (y 1).val; rw [this]; show _ = 0 + _; omega
  · refine absurd (fun a => ?_) hn
    fin_cases a
    · exact ⟨Nat.zero_le _, y0⟩
    · exact ⟨Nat.zero_le _, y1⟩

theorem rows_stored {i : grid0.Coords} {h4 : k0_cond4 i = 1#1} {gb sb : Vec F S8x128 .f32} {A E0 E : Vec F S256x128 .f32}
    (h : StoredAt (Rect.unit (s := S256x128) (k0_off277 i) S8x128.size (k0_off277_inb i h4))
      (k0_pay9 gb sb (fun x => A ((Rect.unit (s := S256x128) (k0_off277 i) S8x128.size (k0_off277_inb i h4)).idx x))) E0 E) : Rows i gb sb A E0 E := by
  have e0 : k0_off277 i 0 = 8 * (i 1).val := congrFun (k0_off277_eq i) 0
  have e1 : k0_off277 i 1 = 0 := congrFun (k0_off277_eq i) 1
  have hi : (i 1).val < 32 := (i 1).isLt
  have eA : (fun x => A ((Rect.unit (s := S256x128) (k0_off277 i) S8x128.size (k0_off277_inb i h4)).idx x))
      = fun x : S8x128.Idx => A (nix S256x128 rfl (by decide) (8 * (i 1).val + (x 0).val) (x 1).val) := by
    funext x
    have x0 : (x 0).val < 8 := (x 0).isLt
    have x1 : (x 1).val < 128 := (x 1).isLt
    congr 1
    refine idx_ext2 (a := 256) (b := 128) ?_ ?_
    · refine Eq.trans ?_ (nix_0 (a := 256) (b := 128) _ _ _ (by omega)).symm
      show k0_off277 i 0 + 1 * (x 0).val = _; rw [e0]; omega
    · refine Eq.trans ?_ (nix_1 (a := 256) (b := 128) _ _ _ x1).symm
      show k0_off277 i 1 + 1 * (x 1).val = _; rw [e1]; omega
  replace h : StoredAt (Rect.unit (s := S256x128) (k0_off277 i) S8x128.size (k0_off277_inb i h4))
      (k0_pay9 gb sb (fun x : S8x128.Idx => A (nix S256x128 rfl (by decide) (8 * (i 1).val + (x 0).val) (x 1).val))) E0 E :=
    (congrArg (k0_pay9 gb sb) eA) ▸ h
  intro y
  have y1 : (y 1).val < 128 := (y 1).isLt
  rcases stored_unit h y with ⟨x, hx, e⟩ | ⟨hn, e⟩
  · have h0 := hx 0
    have h1 := hx 1
    rw [e0] at h0
    rw [e1] at h1
    have x0 : (x 0).val < 8 := (x 0).isLt
    refine ⟨fun _ => ?_, fun hh => absurd ⟨by omega, by omega⟩ hh⟩
    rw [e]
    congr 1
    refine idx_ext2 (a := 8) (b := 128) ?_ ?_
    · refine Eq.trans ?_ (nix_0 (a := 8) (b := 128) _ _ _ (by omega)).symm
      omega
    · refine Eq.trans ?_ (nix_1 (a := 8) (b := 128) _ _ _ y1).symm
      omega
  · refine ⟨fun hh => absurd (fun a => ?_) hn, fun _ => e⟩
    fin_cases a
    · show k0_off277 i 0 ≤ (y 0).val ∧ (y 0).val < k0_off277 i 0 + 8
      rw [e0]; omega
    · show k0_off277 i 1 ≤ (y 1).val ∧ (y 1).val < k0_off277 i 1 + 128
      rw [e1]; omega

/-! ## The parts, run -/

variable (c : Dev nD)

section Run

variable (i : grid0.Coords) (arg2 : Memref sig .tc .smem S32768 .i32) (harg2 : arg2.IsWhole) (arg3 : Memref sig .tc .vmem S512x1024 .i8) (harg3 : arg3.IsWhole) (arg4 : Memref sig .tc .vmem S1024x1024 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1024x1024 .fp8e5m2) (harg9 : arg9.IsWhole) (arg10 : Memref sig .tc .vmem S256x128 .f32) (harg10 : arg10.IsWhole) (arg11 : Memref sig .tc .vmem S65536x128 .i32) (harg11 : arg11.IsWhole) (arg12 : Memref sig .tc .vmem S256x128 .i32) (harg12 : arg12.IsWhole) (arg13 : Memref sig .tc .vmem S128x1024 .fp8e5m2) (harg13 : arg13.IsWhole) (arg14 : Memref sig .tc .vmem S256x128 .f32) (harg14 : arg14.IsWhole)
  (q2 q4 q5 q6 : PosShare TreeShare) (T : Vec F S32768 .i32) (Y : Vec F S512x1024 .i8) (ob : Vec F S1024x1024 .fp8e4m3) (cb vb gb sb : Vec F S8x128 .f32)
  (X0 : Vec F S65536x128 .i32) (A0 E0 : Vec F S256x128 .f32) (D0 : Vec F S1024x1024 .fp8e5m2) (kk : PUnit → PR F)

theorem wp_part1 {Q : Unit → sProp 𝕄} (q : PosShare TreeShare) :
    iprop(owns (c : Thread nD τ) arg3 q Y ∗ owns (c : Thread nD τ) arg11 fullShare X0)
      ⊢ iprop(((owns (c : Thread nD τ) arg3 q Y ∗ (∃ X, ⌜((i 0).val < 7 → Relaid i Y X0 128 X) ∧ (¬ (i 0).val < 7 → X = X0)⌝
          ∗ owns (c : Thread nD τ) arg11 fullShare X)) -∗ wpK (F := F) c (kk ()) Q)
        -∗ wpK (F := F) c (part1 i arg2 harg2 arg3 harg3 arg4 harg4 arg5 harg5 arg6 harg6 arg7 harg7 arg8 harg8 arg9 harg9 arg10 harg10 arg11 harg11 arg12 harg12 arg13 harg13 arg14 harg14 kk) Q) := by
  unfold part1
  by_cases h : k0_cond1 i = 1#1
  · have hi := (cond1_iff i).mp h
    rw [dif_pos h]
    iintro ⟨H3, H11⟩ HK
    iapply (wp_loop1 c i arg2 harg2 arg3 harg3 arg4 harg4 arg5 harg5 arg6 harg6 arg7 harg7 arg8 harg8 arg9 harg9 arg10 harg10 arg11 harg11 arg12 harg12 arg13 harg13 arg14 harg14 h _ q Y X0 (fun _ => kk ())) $$ [H3 H11]
    · iframe H3 H11
    · iintro ⟨H3, ⟨%X, %hX, H11⟩⟩
      iapply HK
      iframe H3
      iexists X
      iframe H11
      ipureintro
      exact ⟨fun _ => hX, fun hn => absurd hi hn⟩
  · have hi : ¬ (i 0).val < 7 := fun h' => h ((cond1_iff i).mpr h')
    rw [dif_neg h]
    iintro ⟨H3, H11⟩ HK
    iapply HK
    iframe H3
    iexists X0
    iframe H11
    ipureintro
    exact ⟨fun h' => absurd h' hi, fun _ => rfl⟩

theorem wp_part2 {Q : Unit → sProp 𝕄} :
    (owns (c : Thread nD τ) arg14 fullShare A0 : sProp 𝕄)
      ⊢ iprop(((∃ A, ⌜((i 0).val = 0 → (i 1).val = 0 → A = k0_pay5) ∧ (¬ ((i 0).val = 0 ∧ (i 1).val = 0) → A = A0)⌝
          ∗ owns (c : Thread nD τ) arg14 fullShare A) -∗ wpK (F := F) c (kk ()) Q)
        -∗ wpK (F := F) c (part2 i arg14 kk) Q) := by
  unfold part2
  by_cases h : cond2 i = 1#1
  · have hi := (cond2_iff i).mp h
    rw [dif_pos h]
    iintro H14 HK
    iapply (ld c) $$ H14
    iintro H14
    iapply (st c) $$ H14
    iintro %A' %hA' H14
    iapply HK
    iexists A'
    iframe H14
    ipureintro
    exact ⟨fun _ _ => zeroed hA', fun hn => absurd hi hn⟩
  · have hi : ¬ ((i 0).val = 0 ∧ (i 1).val = 0) := fun h' => h ((cond2_iff i).mpr h')
    rw [dif_neg h]
    iintro H14 HK
    iapply HK
    iexists A0
    iframe H14
    ipureintro
    exact ⟨fun h0 h1 => absurd ⟨h0, h1⟩ hi, fun _ => rfl⟩

/-- What the third part is handed and hands back beside the sums and the codes. -/
def Rest3 (X : Vec F S65536x128 .i32) : sProp 𝕄 :=
  iprop(owns (c : Thread nD τ) arg2 q2 T ∗ owns (c : Thread nD τ) arg4 q4 ob ∗ owns (c : Thread nD τ) arg5 q5 cb ∗ owns (c : Thread nD τ) arg6 q6 vb
    ∗ owns (c : Thread nD τ) arg11 fullShare X ∗ (∃ G, owns (c : Thread nD τ) arg12 fullShare G) ∗ (∃ C, owns (c : Thread nD τ) arg13 fullShare C))

theorem wp_part3 {Q : Unit → sProp 𝕄} (X : Vec F S65536x128 .i32) (hc : 0 < (i 0).val → ∀ t : Fin k0_t2_loop.trips, ∀ s < 128, k0_chk1 i (word i t T s)) :
    iprop(Rest3 c arg2 arg4 arg5 arg6 arg11 arg12 arg13 q2 q4 q5 q6 T ob cb vb X ∗ owns (c : Thread nD τ) arg9 fullShare D0 ∗ owns (c : Thread nD τ) arg14 fullShare A0)
      ⊢ iprop(((Rest3 c arg2 arg4 arg5 arg6 arg11 arg12 arg13 q2 q4 q5 q6 T ob cb vb X ∗ (∃ D, ⌜0 < (i 0).val → Outs (outO i T X cb vb) 8 0 D⌝ ∗ owns (c : Thread nD τ) arg9 fullShare D)
          ∗ (∃ A, ⌜(0 < (i 0).val → Accs i T X ob A0 8 A) ∧ (¬ 0 < (i 0).val → A = A0)⌝ ∗ owns (c : Thread nD τ) arg14 fullShare A)) -∗ wpK (F := F) c (kk ()) Q)
        -∗ wpK (F := F) c (part3 i arg2 harg2 arg3 harg3 arg4 harg4 arg5 harg5 arg6 harg6 arg7 harg7 arg8 harg8 arg9 harg9 arg10 harg10 arg11 harg11 arg12 harg12 arg13 harg13 arg14 harg14 kk) Q) := by
  unfold part3 Rest3
  by_cases h : k0_cond3 i = 1#1
  · have hi := (cond3_iff i).mp h
    rw [dif_pos h]
    have key := wp_loop2 (Q := Q) c i arg2 harg2 arg3 harg3 arg4 harg4 arg5 harg5 arg6 harg6 arg7 harg7 arg8 harg8 arg9 harg9 arg10 harg10 arg11 harg11 arg12 harg12 arg13 harg13 arg14 harg14 h q2 q4 q5 q6 T ob cb vb X A0
      (Scalar.muli (Scalar.andi (Scalar.subi (BitVec.ofNat 32 (i 0).val) 1#32) 1#32) 32768#32) (hc hi) (fun _ => kk ())
    unfold Ex at key
    iintro ⟨⟨H2, H4, H5, H6, H11, H12, H13⟩, H9, H14⟩ HK
    iapply key $$ [H2 H4 H5 H6 H11 H12 H13 H9 H14]
    · iframe H2 H4 H5 H6 H11 H12 H13
      isplitl [H9]
      · iexists D0
        iframe H9
        ipureintro
        exact fun z hz => absurd hz (by omega)
      · iexists A0
        iframe H14
        ipureintro
        exact fun y => ⟨fun hh => absurd hh (by omega), fun _ => rfl⟩
    · iintro ⟨H2, H4, H5, H6, H11, H12, H13, ⟨%D, %hD, H9⟩, ⟨%A, %hA, H14⟩⟩
      iapply HK
      iframe H2 H4 H5 H6 H11 H12 H13
      isplitl [H9]
      · iexists D
        iframe H9
        ipureintro
        exact fun _ => hD
      · iexists A
        iframe H14
        ipureintro
        exact ⟨fun _ => hA, fun hn => absurd hi hn⟩
  · have hi : ¬ 0 < (i 0).val := fun h' => h ((cond3_iff i).mpr h')
    rw [dif_neg h]
    iintro ⟨HR, H9, H14⟩ HK
    iapply HK
    iframe HR
    isplitl [H9]
    · iexists D0
      iframe H9
      ipureintro
      exact fun h' => absurd h' hi
    · iexists A0
      iframe H14
      ipureintro
      exact ⟨fun h' => absurd h' hi, fun _ => rfl⟩

theorem wp_part4 {Q : Unit → sProp 𝕄} (q7 q8 : PosShare TreeShare) :
    iprop(owns (c : Thread nD τ) arg7 q7 gb ∗ owns (c : Thread nD τ) arg8 q8 sb ∗ owns (c : Thread nD τ) arg14 fullShare A0 ∗ owns (c : Thread nD τ) arg10 fullShare E0)
      ⊢ iprop(((owns (c : Thread nD τ) arg7 q7 gb ∗ owns (c : Thread nD τ) arg8 q8 sb ∗ owns (c : Thread nD τ) arg14 fullShare A0
          ∗ (∃ E, ⌜((i 0).val ≠ 7 → E = E0) ∧ ((i 0).val = 7 → Rows i gb sb A0 E0 E)⌝ ∗ owns (c : Thread nD τ) arg10 fullShare E)) -∗ wpK (F := F) c (kk ()) Q)
        -∗ wpK (F := F) c (part4 i arg7 arg8 arg10 arg14 kk) Q) := by
  unfold part4
  by_cases h : k0_cond4 i = 1#1
  · have hi := (cond4_iff i).mp h
    rw [dif_pos h]
    iintro ⟨H7, H8, H14, H10⟩ HK
    iapply (ld c) $$ H7
    iintro H7
    iapply (ld c) $$ H8
    iintro H8
    iapply (ld c) $$ H14
    iintro H14
    iapply (ld c) $$ H10
    iintro H10
    rw [whole8_eq gb, whole8_eq sb]
    iapply (st c) $$ H10
    iintro %E' %hE' H10
    iapply HK
    iframe H7 H8 H14
    iexists E'
    iframe H10
    ipureintro
    exact ⟨fun hn => absurd hi hn, fun _ => rows_stored (h4 := h) hE'⟩
  · have hi : (i 0).val ≠ 7 := fun h' => h ((cond4_iff i).mpr h')
    rw [dif_neg h]
    iintro ⟨H7, H8, H14, H10⟩ HK
    iapply HK
    iframe H7 H8 H14
    iexists E0
    iframe H10
    ipureintro
    exact ⟨fun _ => rfl, fun h' => absurd h' hi⟩

/-- The body at a grid point. -/
theorem wp_body (q3 q7 q8 : PosShare TreeShare) (hc : 0 < (i 0).val → ∀ t : Fin k0_t2_loop.trips, ∀ s < 128, k0_chk1 i (word i t T s)) :
    iprop(owns (c : Thread nD τ) arg2 q2 T ∗ owns (c : Thread nD τ) arg3 q3 Y ∗ owns (c : Thread nD τ) arg4 q4 ob ∗ owns (c : Thread nD τ) arg5 q5 cb ∗ owns (c : Thread nD τ) arg6 q6 vb
        ∗ owns (c : Thread nD τ) arg7 q7 gb ∗ owns (c : Thread nD τ) arg8 q8 sb ∗ owns (c : Thread nD τ) arg9 fullShare D0 ∗ owns (c : Thread nD τ) arg10 fullShare E0
        ∗ owns (c : Thread nD τ) arg11 fullShare X0 ∗ (∃ G, owns (c : Thread nD τ) arg12 fullShare G) ∗ (∃ C, owns (c : Thread nD τ) arg13 fullShare C)
        ∗ owns (c : Thread nD τ) arg14 fullShare A0)
      ⊢ wpK c (cc0__dout_body i arg2 harg2 arg3 harg3 arg4 harg4 arg5 harg5 arg6 harg6 arg7 harg7 arg8 harg8 arg9 harg9 arg10 harg10 arg11 harg11 arg12 harg12 arg13 harg13 arg14 harg14) fun _ =>
      iprop(∃ X A D E, ⌜Step i T Y ob cb vb gb sb X0 X A0 A D E0 E⌝
        ∗ owns (c : Thread nD τ) arg2 q2 T ∗ owns (c : Thread nD τ) arg3 q3 Y ∗ owns (c : Thread nD τ) arg4 q4 ob ∗ owns (c : Thread nD τ) arg5 q5 cb ∗ owns (c : Thread nD τ) arg6 q6 vb
        ∗ owns (c : Thread nD τ) arg7 q7 gb ∗ owns (c : Thread nD τ) arg8 q8 sb ∗ owns (c : Thread nD τ) arg9 fullShare D ∗ owns (c : Thread nD τ) arg10 fullShare E
        ∗ owns (c : Thread nD τ) arg11 fullShare X ∗ (∃ G, owns (c : Thread nD τ) arg12 fullShare G) ∗ (∃ C, owns (c : Thread nD τ) arg13 fullShare C)
        ∗ owns (c : Thread nD τ) arg14 fullShare A) := by
  rw [body_parts]
  iintro ⟨H2, H3, H4, H5, H6, H7, H8, H9, H10, H11, H12, H13, H14⟩
  iapply (wp_part1 c i arg2 harg2 arg3 harg3 arg4 harg4 arg5 harg5 arg6 harg6 arg7 harg7 arg8 harg8 arg9 harg9 arg10 harg10 arg11 harg11 arg12 harg12 arg13 harg13 arg14 harg14 Y X0 _ q3) $$ [H3 H11]
  · iframe H3 H11
  iintro ⟨H3, ⟨%X, %hX, H11⟩⟩
  iapply (wp_part2 c i arg14 A0 _) $$ H14
  iintro ⟨%A1, %hA1, H14⟩
  iapply (wp_part3 c i arg2 harg2 arg3 harg3 arg4 harg4 arg5 harg5 arg6 harg6 arg7 harg7 arg8 harg8 arg9 harg9 arg10 harg10 arg11 harg11 arg12 harg12 arg13 harg13 arg14 harg14 q2 q4 q5 q6 T ob cb vb A1 D0 _ X hc) $$ [H2 H4 H5 H6 H11 H12 H13 H9 H14]
  · unfold Rest3
    iframe H2 H4 H5 H6 H11 H12 H13 H9 H14
  unfold Rest3
  iintro ⟨⟨H2, H4, H5, H6, H11, H12, H13⟩, ⟨%D, %hD, H9⟩, ⟨%A, %hA, H14⟩⟩
  iapply (wp_part4 c i arg7 arg8 arg10 arg14 gb sb A E0 _ q7 q8) $$ [H7 H8 H14 H10]
  · iframe H7 H8 H14 H10
  iintro ⟨H7, H8, H14, ⟨%E, %hE, H10⟩⟩
  iapply (wpK_ret c .rfl)
  iexists X, A, D, E
  iframe H2 H3 H4 H5 H6 H7 H8 H9 H10 H11 H12 H13 H14
  ipureintro
  refine ⟨hX.1, hX.2, fun h0 h1 => ?_, fun h0 h1 => ?_, fun h => ?_, hD, hE.1, hE.2⟩
  · rw [hA.2 (by omega)]; exact hA1.1 h0 h1
  · rw [hA.2 (by omega)]; exact hA1.2 (by omega)
  · rw [← hA1.2 (by omega)]; exact hA.1 h

end Run

end Cert.KernelIdeal.Trip
-- ==== Proof.Grid.lean ====
/-
What the grid computes, in terms of the launch's arrays: the table of words and the sums before each point, and what
each point's codes and scaled sums are.
-/
module

public import proofs.«01_k».proof.Proof.Body

@[expose] public section

noncomputable section

namespace Cert.KernelIdeal.Trip

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

/-- The arrays a launch reads. -/
structure Arr (F : FTy → Type) where
  dy : Vec F S16384x7168 .i8
  T : Vec F S32768 .i32
  o : Vec F S32768x7168 .fp8e4m3
  c : Vec F S256x128 .f32
  v : Vec F S256x128 .f32
  g : Vec F S256x128 .f32
  s : Vec F S256x128 .f32

abbrev ix1 (s : ℕ) : S32768.Idx := fun b => ⟨s % 32768, by fin_cases b; exact Nat.mod_lt _ (by decide)⟩
abbrev dyx (i j : ℕ) : S16384x7168.Idx := nix S16384x7168 rfl (by decide) i j
abbrev ox (i j : ℕ) : S32768x7168.Idx := nix S32768x7168 rfl (by decide) i j
abbrev ex (i j : ℕ) : S256x128.Idx := nix S256x128 rfl (by decide) i j

/-- The table's entry of slot `s`. -/
def slotw (T : Vec F S32768 .i32) (s : ℕ) : ℕ := (T (ix1 s) : BitVec 32).toNat
/-- The token whose words start at row `v`. -/
def tokOf (v : ℕ) : ℕ := 512 * (v / 1024) + gslot (v % 1024)
/-- Every entry names the first of a token's two rows. -/
def TokOK (T : Vec F S32768 .i32) : Prop := ∀ s, slotw T s < 32768 ∧ slotw T s % 16 < 8

variable (a : Arr F)

/-- The code of slot `s` at column `b` of chunk `k`. -/
def codeAt (k s b : ℕ) : F .fp8e5m2 := FloatOps.ofBits .fp8e5m2 (a.dy (dyx (tokOf (slotw a.T s)) (1024 * k + b)))
def gmatS (k e : ℕ) : Vec F S128x1024 .fp8e5m2 := fun y => codeAt a k (128 * e + (y 0).val) (y 1).val
def orowS (k e : ℕ) : Vec F S128x1024 .fp8e4m3 := fun x => a.o (ox (128 * e + (x 0).val) (1024 * k + (x 1).val))
/-- The sum of expert `e`, slot `l` after `k` chunks. -/
def sums : ℕ → ℕ → ℕ → F .f32
  | 0, e, l => k0_pay5 (ex e l)
  | k + 1, e, l => k0_pay8 (gmatS a k e) (orowS a k e) (fun x => sums k e (x 1).val) (nix S1x128 rfl (by decide) 0 l)
/-- The scaled code of row `r` at column `b` of chunk `k`. -/
def outS (k r b : ℕ) : F .fp8e5m2 := outs (codeAt a k r b) (a.c (ex (r / 128) (r % 128))) (a.v (ex (r / 128) (r % 128)))
/-- The scaled sum. -/
def dscS (e l : ℕ) : F .f32 := FloatOps.mulf (FloatOps.mulf (a.g (ex e l)) (a.s (ex e l))) (sums a 7 e l)

/-- Chunk `k` of token block `s` is laid out. -/
def Half (X : Vec F S65536x128 .i32) (k s : ℕ) : Prop :=
  ∀ ρ < 1024, ∀ l < 128, ∀ m < 4, byteAt (X (fix' (k % 2 * 32768 + s * 1024 + ρ) l)) m
    = a.dy (dyx (512 * s + gslot ρ) (1024 * k + (128 * (2 * m + gpar ρ) + l)))

/-- The table of words before point `n`: this chunk up to the point's block, and the chunk before, whole. -/
def FOK (n : ℕ) (X : Vec F S65536x128 .i32) : Prop :=
  ∀ k < 7, ∀ s < 32, (k = n / 32 ∧ s < n % 32) ∨ k + 1 = n / 32 → Half a X k s

/-- How many chunks the sums of expert `e` hold before point `n`. -/
def cnt (n e : ℕ) : ℕ := if e < 8 * (n % 32) then n / 32 else n / 32 - 1

/-- The sums before point `n`. -/
def AOK (n : ℕ) (A : Vec F S256x128 .f32) : Prop := n ≠ 0 → ∀ y : S256x128.Idx, A y = sums a (cnt n (y 0).val) (y 0).val (y 1).val

/-- The blocks a point is handed. -/
structure Blk (i : grid0.Coords) (Y : Vec F S512x1024 .i8) (ob : Vec F S1024x1024 .fp8e4m3) (cb vb gb sb : Vec F S8x128 .f32) : Prop where
  y : (i 0).val < 7 → ∀ p < 512, ∀ b < 1024, Y (dix p b) = a.dy (dyx (512 * (i 1).val + p) (1024 * (i 0).val + b))
  o : 0 < (i 0).val → ∀ x : S1024x1024.Idx, ob x = a.o (ox (1024 * (i 1).val + (x 0).val) (1024 * ((i 0).val - 1) + (x 1).val))
  c : ∀ x : S8x128.Idx, cb x = a.c (ex (8 * (i 1).val + (x 0).val) (x 1).val)
  v : ∀ x : S8x128.Idx, vb x = a.v (ex (8 * (i 1).val + (x 0).val) (x 1).val)
  g : ∀ x : S8x128.Idx, gb x = a.g (ex (8 * (i 1).val + (x 0).val) (x 1).val)
  s : ∀ x : S8x128.Idx, sb x = a.s (ex (8 * (i 1).val + (x 0).val) (x 1).val)

/-! ## Rows and codes -/

theorem gslot_lt : ∀ ρ < 1024, gslot ρ < 512 := by decide +kernel
theorem gslot_even : ∀ r < 1024, r % 16 < 8 → ∀ p < 2, gslot (r + 8 * p) = gslot r ∧ gpar (r + 8 * p) = p ∧ r + 8 * p < 1024 := by decide +kernel

theorem off11_eq (i : grid0.Coords) (hi : 0 < (i 0).val) (v : BitVec 32) (hv : v.toNat < 32768) :
    k0_off11 i v 0 = ((i 0).val - 1) % 2 * 32768 + v.toNat := by
  have h : ∀ a : Fin 8, 0 < a.val → (Scalar.muli (Scalar.andi (Scalar.subi (BitVec.ofNat 32 a.val) 1#32) 1#32) 32768#32 : BitVec 32).toNat
      = (a.val - 1) % 2 * 32768 := by decide +kernel
  have h' := h (i 0) hi
  show (Scalar.muli (Scalar.andi (Scalar.subi (BitVec.ofNat 32 (i 0).val) 1#32) 1#32) 32768#32 + v : BitVec 32).toNat = _
  rw [BitVec.toNat_add, h']
  omega

theorem word_eq (i : grid0.Coords) (t : Fin k0_t2_loop.trips) (T : Vec F S32768 .i32) {s : ℕ} (hs : s < 128) :
    (word i t T s).toNat = slotw T (1024 * (i 1).val + 128 * t.val + s) := by
  have h1 : (i 1).val < 32 := (i 1).isLt
  have h2 : t.val < 8 := t.isLt
  unfold word slotw
  congr 2
  funext b
  fin_cases b
  apply Fin.ext
  show tOff i t s 0 + 1 * 0 = (1024 * (i 1).val + 128 * t.val + s) % 32768
  rw [show tOff i t s 0 = 1024 * (i 1).val + 128 * t.val + s % 128 from congrFun (tOff_eq i t s) 0]
  omega

theorem chk_of (i : grid0.Coords) {T : Vec F S32768 .i32} (hT : TokOK T) (hi : 0 < (i 0).val) (t : Fin k0_t2_loop.trips) {s : ℕ} (hs : s < 128) :
    k0_chk1 i (word i t T s) := by
  intro h3 b
  right
  have hw := hT (1024 * (i 1).val + 128 * t.val + s)
  rw [← word_eq i t T hs] at hw
  fin_cases b
  · show k0_off11 i (word i t T s) 0 + 8 * (2 - 1) < 65536
    rw [off11_eq i hi _ hw.1]; omega
  · show 0 + 1 * (128 - 1) < 128; omega

variable {a} {i : grid0.Coords} {X0 X : Vec F S65536x128 .i32} {A0 A : Vec F S256x128 .f32} {D : Vec F S1024x1024 .fp8e5m2} {E0 E : Vec F S256x128 .f32}
  {Y : Vec F S512x1024 .i8} {ob : Vec F S1024x1024 .fp8e4m3} {cb vb gb sb : Vec F S8x128 .f32}

theorem cval_eq {k : ℕ} (hT : TokOK a.T) (hX : ∀ s < 32, Half a X k s) (rw : ℕ → ℕ) (s : ℕ) {p b : ℕ} (hb : b < 1024)
    (hr : rw p = k % 2 * 32768 + slotw a.T s) : cval X rw p b = codeAt a k s b := by
  have ht := hT s
  have ev : slotw a.T s = 1024 * (slotw a.T s / 1024) + slotw a.T s % 1024 := (Nat.div_add_mod _ _).symm
  have hm16 : slotw a.T s % 1024 % 16 < 8 := by omega
  have key := gslot_even (slotw a.T s % 1024) (Nat.mod_lt _ (by decide)) hm16 (b / 128 % 2) (Nat.mod_lt _ (by decide))
  have := hX (slotw a.T s / 1024) (by omega) (slotw a.T s % 1024 + 8 * (b / 128 % 2)) key.2.2 (b % 128) (Nat.mod_lt _ (by decide)) (b / 256) (by omega)
  unfold cval codeAt tokOf
  rw [hr, show k % 2 * 32768 + slotw a.T s + 8 * (b / 128 % 2)
      = k % 2 * 32768 + slotw a.T s / 1024 * 1024 + (slotw a.T s % 1024 + 8 * (b / 128 % 2)) by omega, this, key.1, key.2.1,
    show 128 * (2 * (b / 256) + b / 128 % 2) + b % 128 = b by omega]

section Point

variable (hB : Blk a i Y ob cb vb gb sb) (hS : Step i a.T Y ob cb vb gb sb X0 X A0 A D E0 E)
include hB hS

/-- The chunk being laid out goes beside the one being read. -/
theorem half_keep {k s : ℕ} (hk : k < 7) (hs : s < 32) (hne : k % 2 ≠ (i 0).val % 2 ∨ s ≠ (i 1).val) (h : Half a X0 k s) : Half a X k s := by
  have h1 : (i 1).val < 32 := (i 1).isLt
  by_cases hi : (i 0).val < 7
  · intro ρ hρ l hl m hm
    rw [(hS.lay hi).2 _ ?_]
    · exact h ρ hρ l hl m hm
    · rw [fix'_0 _ _ (by omega)]
      unfold rbase
      omega
  · rw [hS.keep hi]; exact h

theorem half_new (hi : (i 0).val < 7) : Half a X (i 0).val (i 1).val := by
  intro ρ hρ l hl m hm
  have hk : rkey ρ < 128 := by unfold rkey; omega
  have := (hS.lay hi).1 ρ hρ hk l hl m hm
  have hg : gpar ρ < 2 := by unfold gpar; omega
  rw [show (i 0).val % 2 * 32768 + (i 1).val * 1024 + ρ = rbase i + ρ from rfl, this,
    hB.y hi _ (gslot_lt ρ hρ) _ (by omega)]

theorem fok_step (hF : FOK a (32 * (i 0).val + (i 1).val) X0) : FOK a (32 * (i 0).val + (i 1).val + 1) X := by
  have h1 : (i 1).val < 32 := (i 1).isLt
  have d0 : (32 * (i 0).val + (i 1).val) / 32 = (i 0).val := by omega
  have d1 : (32 * (i 0).val + (i 1).val) % 32 = (i 1).val := by omega
  intro k hk s hs h
  by_cases hn : k = (i 0).val ∧ s = (i 1).val
  · rw [hn.1, hn.2]; exact half_new hB hS (by omega)
  · refine half_keep hB hS hk hs (by omega) (hF k hk s hs ?_)
    rw [d0, d1]
    omega

/-- What the gathers read: the chunk before this point's, whole. -/
theorem read_all (hi : 0 < (i 0).val) (hF : FOK a (32 * (i 0).val + (i 1).val) X0) : ∀ s < 32, Half a X ((i 0).val - 1) s := by
  have h0 : (i 0).val < 8 := (i 0).isLt
  have h1 : (i 1).val < 32 := (i 1).isLt
  intro s hs
  exact half_keep hB hS (by omega) hs (by omega) (hF _ (by omega) s hs (by omega))

theorem cval_point (hT : TokOK a.T) (hi : 0 < (i 0).val) (hF : FOK a (32 * (i 0).val + (i 1).val) X0) (t : Fin k0_t2_loop.trips) {p b : ℕ} (hp : p < 128) (hb : b < 1024) :
    cval X (wrow i t a.T) p b = codeAt a ((i 0).val - 1) (128 * (8 * (i 1).val + t.val) + p) b := by
  refine cval_eq hT (read_all hB hS hi hF) _ _ hb ?_
  have hw := hT (1024 * (i 1).val + 128 * t.val + p)
  rw [← word_eq i t a.T hp] at hw
  unfold wrow
  rw [off11_eq i hi _ hw.1, word_eq i t a.T hp]
  congr 2
  omega

theorem out_step (hT : TokOK a.T) (hi : 0 < (i 0).val) (hF : FOK a (32 * (i 0).val + (i 1).val) X0) (z : S1024x1024.Idx) :
    D z = outS a ((i 0).val - 1) (1024 * (i 1).val + (z 0).val) (z 1).val := by
  have z0 : (z 0).val < 1024 := (z 0).isLt
  have z1 : (z 1).val < 1024 := (z 1).isLt
  have hD := hS.codes hi z (by unfold key; omega)
  have ht : (tt ((z 0).val / 128)).val = (z 0).val / 128 := Nat.mod_eq_of_lt (by omega)
  rw [hD]
  unfold outO outS
  rw [cval_point hB hS hT hi hF _ (Nat.mod_lt _ (by decide)) z1, ht, hB.c, hB.v]
  rw [nix_0 (a := 8) (b := 128) _ _ _ (by omega), nix_1 (a := 8) (b := 128) _ _ _ (Nat.mod_lt _ (by decide)),
    show 128 * (8 * (i 1).val + (z 0).val / 128) + (z 0).val % 128 = 1024 * (i 1).val + (z 0).val by omega,
    show 8 * (i 1).val + (z 0).val / 128 = (1024 * (i 1).val + (z 0).val) / 128 by omega,
    show (z 0).val % 128 = (1024 * (i 1).val + (z 0).val) % 128 by omega]

theorem aok_step (hT : TokOK a.T) (hF : FOK a (32 * (i 0).val + (i 1).val) X0) (hA : AOK a (32 * (i 0).val + (i 1).val) A0) :
    AOK a (32 * (i 0).val + (i 1).val + 1) A := by
  have h0 : (i 0).val < 8 := (i 0).isLt
  have h1 : (i 1).val < 32 := (i 1).isLt
  intro _ y
  have y0 : (y 0).val < 256 := (y 0).isLt
  have y1 : (y 1).val < 128 := (y 1).isLt
  by_cases hi : (i 0).val = 0
  · have hz : cnt (32 * (i 0).val + (i 1).val + 1) (y 0).val = 0 := by unfold cnt; split <;> omega
    rw [hz]
    by_cases hj : (i 1).val = 0
    · rw [hS.zero hi hj]
      show k0_pay5 y = k0_pay5 (ex _ _)
      congr 1
      exact idx_ext2 (a := 256) (b := 128) (nix_0 (a := 256) (b := 128) _ _ _ y0).symm (nix_1 (a := 256) (b := 128) _ _ _ y1).symm
    · rw [hS.same hi hj, hA (by omega) y]
      have hz' : cnt (32 * (i 0).val + (i 1).val) (y 0).val = 0 := by unfold cnt; split <;> omega
      rw [hz']
  · have hi' : 0 < (i 0).val := by omega
    have hn : 32 * (i 0).val + (i 1).val ≠ 0 := by omega
    by_cases hy : 8 * (i 1).val ≤ (y 0).val ∧ (y 0).val < 8 * (i 1).val + 8
    · rw [(hS.accs hi' y).1 hy]
      have c0 : cnt (32 * (i 0).val + (i 1).val) (y 0).val = (i 0).val - 1 := by unfold cnt; split <;> omega
      have c1 : cnt (32 * (i 0).val + (i 1).val + 1) (y 0).val = (i 0).val - 1 + 1 := by unfold cnt; split <;> omega
      rw [c1]
      have ht : (tt (y 0).val).val = (y 0).val - 8 * (i 1).val := by show (y 0).val % 8 = _; omega
      unfold accv sums
      have e1 : gmat X (wrow i (tt (y 0).val) a.T) = gmatS a ((i 0).val - 1) (y 0).val := by
        funext x
        unfold gmat gmatS
        rw [cval_point hB hS hT hi' hF _ (show (x 0).val < 128 from (x 0).isLt) (show (x 1).val < 1024 from (x 1).isLt), ht]
        congr 2
        omega
      have e2 : orow ob ((y 0).val % 8) = orowS a ((i 0).val - 1) (y 0).val := by
        funext x
        have x0 : (x 0).val < 128 := (x 0).isLt
        have x1 : (x 1).val < 1024 := (x 1).isLt
        unfold orow orowS
        rw [hB.o hi', nix_0 (a := 1024) (b := 1024) _ _ _ (by omega), nix_1 (a := 1024) (b := 1024) _ _ _ x1]
        congr 2
        omega
      have e3 : arow A0 (y 0).val = fun x => sums a ((i 0).val - 1) (y 0).val (x 1).val := by
        funext x
        have x1 : (x 1).val < 128 := (x 1).isLt
        unfold arow
        rw [hA hn, nix_0 (a := 256) (b := 128) _ _ _ y0, nix_1 (a := 256) (b := 128) _ _ _ x1, c0]
      rw [e1, e2, e3]
    · rw [(hS.accs hi' y).2 hy, hA hn y]
      congr 1
      unfold cnt
      split <;> split <;> omega

theorem rows_step (hi : (i 0).val = 7) (hA : AOK a (32 * (i 0).val + (i 1).val + 1) A) (y : S256x128.Idx) :
    (8 * (i 1).val ≤ (y 0).val ∧ (y 0).val < 8 * (i 1).val + 8 → E y = dscS a (y 0).val (y 1).val)
      ∧ (¬ (8 * (i 1).val ≤ (y 0).val ∧ (y 0).val < 8 * (i 1).val + 8) → E y = E0 y) := by
  have h1 : (i 1).val < 32 := (i 1).isLt
  have y0 : (y 0).val < 256 := (y 0).isLt
  have y1 : (y 1).val < 128 := (y 1).isLt
  refine ⟨fun hy => ?_, (hS.rows hi y).2⟩
  rw [(hS.rows hi y).1 hy]
  show FloatOps.mulf (FloatOps.mulf (gb _) (sb _)) (A _) = _
  have n0 : ((nix S8x128 rfl (by decide) ((y 0).val - 8 * (i 1).val) (y 1).val : S8x128.Idx) 0).val = (y 0).val - 8 * (i 1).val :=
    nix_0 (a := 8) (b := 128) _ _ _ (by omega)
  have n1 : ((nix S8x128 rfl (by decide) ((y 0).val - 8 * (i 1).val) (y 1).val : S8x128.Idx) 1).val = (y 1).val :=
    nix_1 (a := 8) (b := 128) _ _ _ y1
  rw [hB.g, hB.s, n0, n1, show 8 * (i 1).val + ((y 0).val - 8 * (i 1).val) = (y 0).val by omega, hA (by omega),
    nix_0 (a := 256) (b := 128) _ _ _ y0, nix_1 (a := 256) (b := 128) _ _ _ y1]
  unfold dscS
  congr 2
  unfold cnt
  split <;> omega

end Point

end Cert.KernelIdeal.Trip
-- ==== Proof.Pipe.lean ====
/-
The pipeline's proof data on one core and the obligation of its body: what each point finds in its windows' buffers, what
it leaves there, and the invariant that carries the table of words and the sums.
-/
module

public import proofs.«01_k».proof.Proof.Grid
public import proofs.«01_k».proof.Proof.Gen.KernelIdeal.Launch
public import Idealize.ShloMosaic.Lib.Pipeline.Frame

@[expose] public section

noncomputable section

namespace Cert.KernelIdeal.Trip

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (RDat)

variable {F : FTy → Type} [FloatOps F]
local notation "𝕄" => MT nD τ sig Unit (Elt F) ℕ (UR sig nD τ) ℕ

/-- The buffers' contents on one core. -/
abbrev Bufs (F : FTy → Type) (c : Dev nD) : Type := (b : Ref sig .tc) → Buf (Elt F) ((c : Thread nD τ).loc b)

/-- The launch's arrays. -/
def arrV {c : Dev nD} (V : Bufs F c) : Arr F := ⟨V main_arg0, V main_v14, V main_arg2, V main_arg3, V main_arg4, V main_arg5, V main_arg6⟩

/-- The table, as the region reads it. -/
def adm {c : Dev nD} (V : Bufs F c) : (pcfg0 (F := F)).Adm := ⟨fun | 0 => V main_v14 | ⟨_ + 1, h⟩ => absurd h (Nat.not_lt.2 (Nat.le_add_left _ _)), trivial⟩

theorem coord0 (t : Fin grid0.N) : (grid0.coords t 0).val = t.val / 32 := by
  have : t.val < 256 := lt_of_lt_of_eq t.isLt N_0
  show t.val / grid0.stride 0 % 8 = _
  rw [show grid0.stride 0 = 32 from by decide]
  omega
theorem coord1 (t : Fin grid0.N) : (grid0.coords t 1).val = t.val % 32 := by
  show t.val / grid0.stride 1 % 32 = _
  rw [show grid0.stride 1 = 1 from by decide]
  omega

theorem index0 (i : grid0.Coords) (h : (i 0).val < 7) : cc0_transform_0 i = ![(i 1).val, (i 0).val] := by
  have h0 : ∀ a : Fin 8, ∀ b : Fin 32, a.val < 7 → (let arg0 : BitVec 32 := BitVec.ofNat 32 a.val
    let arg1 : BitVec 32 := BitVec.ofNat 32 b.val
    let v0 : BitVec 1 := Scalar.cmpi .eq arg0 7#32
    (Scalar.select v0 31#32 arg1 : BitVec 32).toNat = b.val ∧ (Scalar.minsi arg0 6#32 : BitVec 32).toNat = a.val) := by decide +kernel
  have := h0 (i 0) (i 1) h
  exact congrArg₂ (fun x y => ![x, y]) this.1 this.2
theorem index1 (i : grid0.Coords) : cc0_transform_1 i = ![if (i 0).val = 0 then 0 else (i 1).val, (i 0).val - 1] := by
  have h0 : ∀ a : Fin 8, ∀ b : Fin 32, (let arg0 : BitVec 32 := BitVec.ofNat 32 a.val
    let arg1 : BitVec 32 := BitVec.ofNat 32 b.val
    let v0 : BitVec 1 := Scalar.cmpi .eq arg0 0#32
    (Scalar.select v0 0#32 arg1 : BitVec 32).toNat = (if a.val = 0 then 0 else b.val) ∧ (Scalar.maxsi (Scalar.subi arg0 1#32) 0#32 : BitVec 32).toNat = a.val - 1) := by decide +kernel
  have := h0 (i 0) (i 1)
  exact congrArg₂ (fun x y => ![x, y]) this.1 this.2
theorem index6 (i : grid0.Coords) : cc0_transform_6 i = ![if (i 0).val = 0 then 0 else (i 1).val, (i 0).val - 1] := index1 i
theorem index2 (i : grid0.Coords) : cc0_transform_2 i = ![(i 1).val, 0] := by
  have : (BitVec.ofNat 32 (i 1).val).toNat = (i 1).val := by
    have : (i 1).val < 32 := (i 1).isLt
    rw [BitVec.toNat_ofNat]; omega
  exact congrArg (fun x => ![x, 0]) this

variable (ad : (pcfg0 (F := F)).Adm) {c : Dev nD} (V : Bufs F c)

/-- The pipeline at a table's contents. -/
abbrev cfgV : Pipeline.Cfg sig Λ₀ := cfg0 ad

/-- The invariant before point `t`. -/
def PhiV (t : ℕ) : sProp 𝕄 :=
  iprop((∃ r, prngReg c r) ∗ owns (c : Thread nD τ) (Memref.whole main_v14) fullShare.right (V main_v14)
    ∗ (∃ X, ⌜FOK (arrV V) t X⌝ ∗ owns (c : Thread nD τ) (Memref.whole cc0_scratch0) fullShare X)
    ∗ (∃ G, owns (c : Thread nD τ) (Memref.whole cc0_scratch1) fullShare G)
    ∗ (∃ C, owns (c : Thread nD τ) (Memref.whole cc0_scratch2) fullShare C)
    ∗ (∃ A, ⌜AOK (arrV V) t A⌝ ∗ owns (c : Thread nD τ) (Memref.whole cc0_scratch3) fullShare A))

/-- What a point leaves in the codes' block. -/
def Out6 (i : grid0.Coords) (D : Vec F S1024x1024 .fp8e5m2) : Prop :=
  0 < (i 0).val → ∀ z : S1024x1024.Idx, D z = outS (arrV V) ((i 0).val - 1) (1024 * (i 1).val + (z 0).val) (z 1).val
/-- What a point leaves in the sums' block. -/
def Out7 (i : grid0.Coords) (E0 E : Vec F S256x128 .f32) : Prop :=
  ((i 0).val ≠ 7 → E = E0) ∧ ((i 0).val = 7 → ∀ y : S256x128.Idx,
    (8 * (i 1).val ≤ (y 0).val ∧ (y 0).val < 8 * (i 1).val + 8 → E y = dscS (arrV V) (y 0).val (y 1).val)
      ∧ (¬ (8 * (i 1).val ≤ (y 0).val ∧ (y 0).val < 8 * (i 1).val + 8) → E y = E0 y))

/-- The proof data: the arrays, what each point leaves, the invariant. -/
def rdat : RDat τ (Elt F) Unit ℕ (UR sig nD τ) ℕ (cfgV ad) c where
  A w := V (Pipeline.arrRef (cfgV ad).spec w)
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun t _ X => Out6 V (grid0.coords t) X
    | 7 => fun t Y X => Out7 V (grid0.coords t) Y X
    | ⟨_ + 8, h⟩ => absurd h (Nat.not_lt.2 (Nat.le_add_left _ _))
  Φ t := PhiV V t.val
  q _ := fullShare
  owed _ := 0

theorem N_V : (cfgV ad).N = 256 := N_0
theorem lt_N (t : Fin (cfgV ad).N) : t.val < 256 := lt_of_lt_of_eq t.isLt (N_V ad)

section Found

variable (t : Fin (cfgV ad).N)

theorem found0 (Y) (h : (rdat ad V).Finds 0 t Y) (hi : ((grid0.coords t) 0).val < 7) (x : S512x1024.Idx) :
    (Y : Vec F S512x1024 .i8) x = V main_arg0 (dyx (512 * ((grid0.coords t) 1).val + (x 0).val) (1024 * ((grid0.coords t) 0).val + (x 1).val)) := by
  have h1 : ((grid0.coords t) 1).val < 32 := ((grid0.coords t) 1).isLt
  have x0 : (x 0).val < 512 := (x 0).isLt
  have x1 : (x 1).val < 1024 := (x 1).isLt
  obtain ⟨d, hd⟩ := (rdat ad V).finds_in_eq_fetched 0 rfl (fun _ _ _ => rfl) (fun _ _ _ h => h) t Y h
  subst hd
  show V main_arg0 _ = V main_arg0 _
  congr 1
  refine idx_ext2 (a := 16384) (b := 7168) ?_ ?_
  · show cc0_transform_0 (grid0.coords t) 0 * 512 + 1 * (x 0).val = _
    rw [nix_0 (a := 16384) (b := 7168) _ _ _ (by omega), index0 _ hi]
    show ((grid0.coords t) 1).val * 512 + 1 * (x 0).val = _
    omega
  · show cc0_transform_0 (grid0.coords t) 1 * 1024 + 1 * (x 1).val = _
    rw [nix_1 (a := 16384) (b := 7168) _ _ _ (by omega), index0 _ hi]
    show ((grid0.coords t) 0).val * 1024 + 1 * (x 1).val = _
    omega

theorem found1 (Y) (h : (rdat ad V).Finds 1 t Y) (hi : 0 < ((grid0.coords t) 0).val) (x : S1024x1024.Idx) :
    (Y : Vec F S1024x1024 .fp8e4m3) x = V main_arg2 (ox (1024 * ((grid0.coords t) 1).val + (x 0).val) (1024 * (((grid0.coords t) 0).val - 1) + (x 1).val)) := by
  have h0 : ((grid0.coords t) 0).val < 8 := ((grid0.coords t) 0).isLt
  have h1 : ((grid0.coords t) 1).val < 32 := ((grid0.coords t) 1).isLt
  have x0 : (x 0).val < 1024 := (x 0).isLt
  have x1 : (x 1).val < 1024 := (x 1).isLt
  obtain ⟨d, hd⟩ := (rdat ad V).finds_in_eq_fetched 1 rfl (fun _ _ _ => rfl) (fun _ _ _ h => h) t Y h
  subst hd
  show V main_arg2 _ = V main_arg2 _
  congr 1
  refine idx_ext2 (a := 32768) (b := 7168) ?_ ?_
  · show cc0_transform_1 (grid0.coords t) 0 * 1024 + 1 * (x 0).val = _
    rw [nix_0 (a := 32768) (b := 7168) _ _ _ (by omega), index1]
    show (if ((grid0.coords t) 0).val = 0 then 0 else ((grid0.coords t) 1).val) * 1024 + 1 * (x 0).val = _
    rw [if_neg (by omega)]
    omega
  · show cc0_transform_1 (grid0.coords t) 1 * 1024 + 1 * (x 1).val = _
    rw [nix_1 (a := 32768) (b := 7168) _ _ _ (by omega), index1]
    show (((grid0.coords t) 0).val - 1) * 1024 + 1 * (x 1).val = _
    omega

/-- A factor's block. -/
theorem factor_idx (x : S8x128.Idx) (y : S256x128.Idx) (h0 : (y 0).val = cc0_transform_2 (grid0.coords t) 0 * 8 + 1 * (x 0).val)
    (h1 : (y 1).val = cc0_transform_2 (grid0.coords t) 1 * 128 + 1 * (x 1).val) : y = ex (8 * ((grid0.coords t) 1).val + (x 0).val) (x 1).val := by
  have i1 : ((grid0.coords t) 1).val < 32 := ((grid0.coords t) 1).isLt
  have x0 : (x 0).val < 8 := (x 0).isLt
  have x1 : (x 1).val < 128 := (x 1).isLt
  rw [index2] at h0 h1
  replace h0 : (y 0).val = ((grid0.coords t) 1).val * 8 + 1 * (x 0).val := h0
  replace h1 : (y 1).val = 0 * 128 + 1 * (x 1).val := h1
  refine idx_ext2 (a := 256) (b := 128) ?_ ?_
  · rw [nix_0 (a := 256) (b := 128) _ _ _ (by omega), h0]; omega
  · rw [nix_1 (a := 256) (b := 128) _ _ _ (by omega), h1]; omega

theorem found2 (Y) (h : (rdat ad V).Finds 2 t Y) (x : S8x128.Idx) :
    (Y : Vec F S8x128 .f32) x = V main_arg3 (ex (8 * ((grid0.coords t) 1).val + (x 0).val) (x 1).val) := by
  obtain ⟨d, hd⟩ := (rdat ad V).finds_in_eq_fetched 2 rfl (fun _ _ _ => rfl) (fun _ _ _ h => h) t Y h
  subst hd
  exact congrArg (V main_arg3) (factor_idx ad t x _ rfl rfl)
theorem found3 (Y) (h : (rdat ad V).Finds 3 t Y) (x : S8x128.Idx) :
    (Y : Vec F S8x128 .f32) x = V main_arg4 (ex (8 * ((grid0.coords t) 1).val + (x 0).val) (x 1).val) := by
  obtain ⟨d, hd⟩ := (rdat ad V).finds_in_eq_fetched 3 rfl (fun _ _ _ => rfl) (fun _ _ _ h => h) t Y h
  subst hd
  exact congrArg (V main_arg4) (factor_idx ad t x _ rfl rfl)
theorem found4 (Y) (h : (rdat ad V).Finds 4 t Y) (x : S8x128.Idx) :
    (Y : Vec F S8x128 .f32) x = V main_arg5 (ex (8 * ((grid0.coords t) 1).val + (x 0).val) (x 1).val) := by
  obtain ⟨d, hd⟩ := (rdat ad V).finds_in_eq_fetched 4 rfl (fun _ _ _ => rfl) (fun _ _ _ h => h) t Y h
  subst hd
  exact congrArg (V main_arg5) (factor_idx ad t x _ rfl rfl)
theorem found5 (Y) (h : (rdat ad V).Finds 5 t Y) (x : S8x128.Idx) :
    (Y : Vec F S8x128 .f32) x = V main_arg6 (ex (8 * ((grid0.coords t) 1).val + (x 0).val) (x 1).val) := by
  obtain ⟨d, hd⟩ := (rdat ad V).finds_in_eq_fetched 5 rfl (fun _ _ _ => rfl) (fun _ _ _ h => h) t Y h
  subst hd
  exact congrArg (V main_arg6) (factor_idx ad t x _ rfl rfl)

theorem found (Y : (w : Fin (cfgV ad).W) → ((cfgV ad).win w).block.Idx → Elt F ((cfgV ad).win w).elt) (h : ∀ w, (rdat ad V).Finds w t (Y w)) :
    Blk (arrV V) (grid0.coords t) (Y 0) (Y 1) (Y 2) (Y 3) (Y 4) (Y 5) where
  y hi p hp b hb := by
    rw [found0 ad V t _ (h 0) hi, nix_0 (a := 512) (b := 1024) _ _ _ hp, nix_1 (a := 512) (b := 1024) _ _ _ hb]
    rfl
  o hi x := found1 ad V t _ (h 1) hi x
  c x := found2 ad V t _ (h 2) x
  v x := found3 ad V t _ (h 3) x
  g x := found4 ad V t _ (h 4) x
  s x := found5 ad V t _ (h 5) x

end Found

/-! ## The body's obligation -/

theorem defs₀_row (t : Fin (cfgV ad).N) (s : (w : Fin 8) → Fin (spec0 w).nbuf) : defs₀ (F := F) .tc (cfgV ad).body ((cfgV ad).bodyArgs t s)
    = cc0__dout_body (grid0.coords t) (Memref.whole main_v14) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) := by
  unfold defs₀; rw [Defs.onTc_tc]

/-- The body at a point, its operands and the invariant in and out. -/
theorem sound_body (hT : TokOK (V main_v14)) (t : Fin grid0.N) (s : (w : Fin 8) → Fin (spec0 w).nbuf) (HO : sProp 𝕄)
    (Y : Vec F S512x1024 .i8) (ob : Vec F S1024x1024 .fp8e4m3) (cb vb gb sb : Vec F S8x128 .f32) (D0 : Vec F S1024x1024 .fp8e5m2) (E0 : Vec F S256x128 .f32)
    (hB : Blk (arrV V) (grid0.coords t) Y ob cb vb gb sb) :
    iprop(PhiV V t.val ∗ HO ∗ owns (c : Thread nD τ) (spec0_0.stage (s 0)) fullShare Y ∗ owns (c : Thread nD τ) (spec0_1.stage (s 1)) fullShare ob ∗ owns (c : Thread nD τ) (spec0_2.stage (s 2)) fullShare cb
        ∗ owns (c : Thread nD τ) (spec0_3.stage (s 3)) fullShare vb ∗ owns (c : Thread nD τ) (spec0_4.stage (s 4)) fullShare gb ∗ owns (c : Thread nD τ) (spec0_5.stage (s 5)) fullShare sb
        ∗ owns (c : Thread nD τ) (spec0_6.stage (s 6)) fullShare D0 ∗ owns (c : Thread nD τ) (spec0_7.stage (s 7)) fullShare E0)
      ⊢ wpK c (cc0__dout_body (grid0.coords t) (Memref.whole main_v14) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)) fun _ =>
      iprop(PhiV V (t.val + 1) ∗ HO ∗ (∃ X, ⌜X = Y⌝ ∗ owns (c : Thread nD τ) (spec0_0.stage (s 0)) fullShare X) ∗ (∃ X, ⌜X = ob⌝ ∗ owns (c : Thread nD τ) (spec0_1.stage (s 1)) fullShare X)
        ∗ (∃ X, ⌜X = cb⌝ ∗ owns (c : Thread nD τ) (spec0_2.stage (s 2)) fullShare X) ∗ (∃ X, ⌜X = vb⌝ ∗ owns (c : Thread nD τ) (spec0_3.stage (s 3)) fullShare X)
        ∗ (∃ X, ⌜X = gb⌝ ∗ owns (c : Thread nD τ) (spec0_4.stage (s 4)) fullShare X) ∗ (∃ X, ⌜X = sb⌝ ∗ owns (c : Thread nD τ) (spec0_5.stage (s 5)) fullShare X)
        ∗ (∃ X, ⌜Out6 V (grid0.coords t) X⌝ ∗ owns (c : Thread nD τ) (spec0_6.stage (s 6)) fullShare X) ∗ (∃ X, ⌜Out7 V (grid0.coords t) E0 X⌝ ∗ owns (c : Thread nD τ) (spec0_7.stage (s 7)) fullShare X)) := by
  have e0 := coord0 t
  have e1 := coord1 t
  have et : t.val = 32 * (grid0.coords t 0).val + (grid0.coords t 1).val := by omega
  rw [et]
  unfold PhiV
  iintro ⟨⟨Hr, H2, ⟨%X0, %hF, H11⟩, H12, H13, ⟨%A0, %hA, H14⟩⟩, HO, H3, H4, H5, H6, H7, H8, H9, H10⟩
  iapply (wp_wand_r (Q := fun _ => iprop(∃ X A D E, ⌜Step (grid0.coords t) (V main_v14) Y ob cb vb gb sb X0 X A0 A D E0 E⌝
        ∗ owns (c : Thread nD τ) (Memref.whole main_v14) fullShare.right (V main_v14)
        ∗ owns (c : Thread nD τ) (spec0_0.stage (s 0)) fullShare Y ∗ owns (c : Thread nD τ) (spec0_1.stage (s 1)) fullShare ob ∗ owns (c : Thread nD τ) (spec0_2.stage (s 2)) fullShare cb
        ∗ owns (c : Thread nD τ) (spec0_3.stage (s 3)) fullShare vb ∗ owns (c : Thread nD τ) (spec0_4.stage (s 4)) fullShare gb ∗ owns (c : Thread nD τ) (spec0_5.stage (s 5)) fullShare sb
        ∗ owns (c : Thread nD τ) (spec0_6.stage (s 6)) fullShare D ∗ owns (c : Thread nD τ) (spec0_7.stage (s 7)) fullShare E
        ∗ owns (c : Thread nD τ) (Memref.whole cc0_scratch0) fullShare X ∗ (∃ G, owns (c : Thread nD τ) (Memref.whole cc0_scratch1) fullShare G)
        ∗ (∃ C, owns (c : Thread nD τ) (Memref.whole cc0_scratch2) fullShare C) ∗ owns (c : Thread nD τ) (Memref.whole cc0_scratch3) fullShare A)) frame _ _)
  isplitl [H2 H3 H4 H5 H6 H7 H8 H9 H10 H11 H12 H13 H14]
  · iapply (wp_body c (grid0.coords t) _ _ _ _ _ _ _ _ _ _ _ _ _ _ _ _ _ _ _ _ _ _ _ _ _ _ fullShare.right fullShare fullShare fullShare (V main_v14) Y ob cb vb gb sb X0 A0 E0 D0
      fullShare fullShare fullShare fun hi tr p hp => chk_of _ hT hi tr hp) $$ [H2 H3 H4 H5 H6 H7 H8 H9 H10 H11 H12 H13 H14]
    iframe H2 H3 H4 H5 H6 H7 H8 H9 H10 H11 H12 H13 H14
  iintro %_ ⟨%X, %A, %D, %E, %hS, H2, H3, H4, H5, H6, H7, H8, H9, H10, H11, H12, H13, H14⟩
  have hA' := aok_step hB hS hT hF hA
  iframe Hr H2 H12 H13 HO
  isplitl [H11 H14]
  · isplitl [H11]
    · iexists X; iframe H11; ipureintro; exact fok_step hB hS hF
    · iexists A; iframe H14; ipureintro; exact hA'
  isplitl [H3]; · iexists Y; iframe H3; ipureintro; rfl
  isplitl [H4]; · iexists ob; iframe H4; ipureintro; rfl
  isplitl [H5]; · iexists cb; iframe H5; ipureintro; rfl
  isplitl [H6]; · iexists vb; iframe H6; ipureintro; rfl
  isplitl [H7]; · iexists gb; iframe H7; ipureintro; rfl
  isplitl [H8]; · iexists sb; iframe H8; ipureintro; rfl
  isplitl [H9]
  · iexists D; iframe H9; ipureintro; exact fun hi z => out_step hB hS hT hi hF z
  · iexists E; iframe H10; ipureintro; exact ⟨hS.idle, fun hi => rows_step hB hS hi hA'⟩

theorem Phi_cast (t : Fin (cfgV ad).N) : (rdat ad V).Φ t.castSucc = PhiV V t.val := congrArg (PhiV V) (Fin.val_castSucc t)

theorem body_obligation (hT : TokOK (V main_v14)) : (rdat ad V).BodyObligation (defs₀ (F := F)) Variants.none () Set.univ := by
  intro t Y hY
  rw [bigSep_W0, bigSep_W0, defs₀_row ad, Phi_cast]
  exact sound_body V hT t _ ((rdat ad V).owesAt () t.castSucc) (Y 0) (Y 1) (Y 2) (Y 3) (Y 4) (Y 5) (Y 6) (Y 7) (found ad V t Y hY)

end Cert.KernelIdeal.Trip
-- ==== Proof.Run.lean ====
/-
The launch: the pipeline run from any memory whose table of words names tokens, and what the two results hold after it.
-/
module

public import proofs.«01_k».proof.Proof.Pipe
public import Idealize.ShloMosaic.Lib.Pipeline.ValueKit.Geometry
public import Idealize.ShloMosaic.Lib.Pipeline.ArrRel

@[expose] public section

noncomputable section

namespace Cert.KernelIdeal.Trip

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (RDat)

variable {F : FTy → Type} [FloatOps F]
local notation "𝕄" => MT nD τ sig Unit (Elt F) ℕ (UR sig nD τ) ℕ

section Final

variable (ad : (pcfg0 (F := F)).Adm) {c : Dev nD} (V : Bufs F c)

/-! ## The two results after the run -/

theorem flush6 (t : Fin (cfgV ad).N) : ((cfgV ad).win 6).flush t = true → 32 ≤ t.val := by
  intro h
  by_contra hlt
  rw [Pipeline.Window.flush, Bool.and_eq_true, Bool.or_eq_true, decide_eq_true_iff, decide_eq_true_iff] at h
  rcases h.2 with h | ⟨h1, h⟩
  · have hN : (cfgV ad).grid.N = 256 := N_0
    omega
  · refine h ?_
    show cc0_transform_6 (grid0.coords ⟨t.val + 1, h1⟩) = cc0_transform_6 (grid0.coords t)
    rw [index6, index6, coord0, coord1, coord0, coord1]
    show (![if (t.val + 1) / 32 = 0 then 0 else (t.val + 1) % 32, (t.val + 1) / 32 - 1] : Fin 2 → ℕ) = ![if t.val / 32 = 0 then 0 else t.val % 32, t.val / 32 - 1]
    rw [if_pos (show t.val / 32 = 0 by omega), show t.val / 32 - 1 = 0 by omega, show (t.val + 1) / 32 - 1 = 0 by omega]
    split
    · rfl
    · rw [show (t.val + 1) % 32 = 0 by omega]

theorem flush6' (t : Fin (cfgV ad).N) (ht : 32 ≤ t.val) : ((cfgV ad).win 6).flush t = true := by
  rw [Pipeline.Window.flush, Bool.and_eq_true, Bool.or_eq_true, decide_eq_true_iff, decide_eq_true_iff]
  refine ⟨rfl, ?_⟩
  by_cases h : t.val + 1 = (cfgV ad).N
  · exact Or.inl h
  · have ht' := lt_N ad t
    have hN : (cfgV ad).N = 256 := N_0
    have h1 : t.val + 1 < (cfgV ad).N := by omega
    refine Or.inr ⟨h1, fun e => ?_⟩
    have e : cc0_transform_6 (grid0.coords ⟨t.val + 1, h1⟩) = cc0_transform_6 (grid0.coords t) := e
    rw [index6, index6, coord0, coord1, coord0, coord1] at e
    have e := congrFun e 0
    have e : (if (t.val + 1) / 32 = 0 then 0 else (t.val + 1) % 32) = if t.val / 32 = 0 then 0 else t.val % 32 := e
    rw [if_neg (by omega), if_neg (by omega)] at e
    omega

/-- The codes written by the points before `n`. -/
def Done6 (n : ℕ) (G : Vec F S32768x7168 .fp8e5m2) : Prop :=
  ∀ y : S32768x7168.Idx, 32 * ((y 1).val / 1024 + 1) + (y 0).val / 1024 < n → G y = outS (arrV V) ((y 1).val / 1024) (y 0).val ((y 1).val % 1024)

theorem done6 : ∀ n, n ≤ 256 → ∀ G, (rdat ad V).ArrAt 6 n G → Done6 V n G
  | 0, _, G, _ => fun y h => absurd h (Nat.not_lt_zero _)
  | n + 1, hn, G, hG => by
    have hlt : n < (cfgV ad).N := by rw [N_V]; omega
    have e0 : (grid0.coords ⟨n, hlt⟩ 0).val = n / 32 := coord0 ⟨n, hlt⟩
    have e1 : (grid0.coords ⟨n, hlt⟩ 1).val = n % 32 := coord1 ⟨n, hlt⟩
    rw [(rdat ad V).ArrAt_succ 6 ⟨n, hlt⟩] at hG
    by_cases hf : ((cfgV ad).win 6).flush ⟨n, hlt⟩ = true
    · rw [if_pos hf] at hG
      have h32 : 32 ≤ n := flush6 ad _ hf
      obtain ⟨G₀, X, hG₀, ⟨Y, -, hX⟩, rfl⟩ := hG
      have hX : Out6 V (grid0.coords ⟨n, hlt⟩) X := hX
      have ih := done6 n (by omega) G₀ hG₀
      have i0 : cc0_transform_6 (grid0.coords ⟨n, hlt⟩) 0 = n % 32 := by
        rw [index6, e0, e1]
        show (if n / 32 = 0 then 0 else n % 32) = _
        rw [if_neg (by omega)]
      have i1 : cc0_transform_6 (grid0.coords ⟨n, hlt⟩) 1 = n / 32 - 1 := by rw [index6, e0, e1]; rfl
      intro y hy
      have y0 : (y 0).val < 32768 := (y 0).isLt
      have y1 : (y 1).val < 7168 := (y 1).isLt
      by_cases hu : 32 * ((y 1).val / 1024 + 1) + (y 0).val / 1024 = n
      · have hy' : y = (((cfgV ad).win 6).blk ⟨n, hlt⟩).view.emb (nix S1024x1024 rfl (by decide) ((y 0).val % 1024) ((y 1).val % 1024)) := by
          refine idx_ext2 (a := 32768) (b := 7168) ?_ ?_
          · show _ = cc0_transform_6 (grid0.coords ⟨n, hlt⟩) 0 * 1024 + 1 * (((y 0).val % 1024) % 1024)
            rw [i0]; omega
          · show _ = cc0_transform_6 (grid0.coords ⟨n, hlt⟩) 1 * 1024 + 1 * (((y 1).val % 1024) % 1024)
            rw [i1]; omega
        have hw := View.write_emb_of_mem (Val := Elt F) (v := (((cfgV ad).win 6).blk ⟨n, hlt⟩).view) G₀ (((cfgV ad).win 6).cut (grid0.coords ⟨n, hlt⟩) X)
          (Finset.mem_univ (nix S1024x1024 rfl (by decide) ((y 0).val % 1024) ((y 1).val % 1024)))
        rw [← hy'] at hw
        refine hw.trans ((hX (by rw [e0]; omega) (nix S1024x1024 rfl (by decide) ((y 0).val % 1024) ((y 1).val % 1024))).trans ?_)
        rw [e0, e1, nix_0 (a := 1024) (b := 1024) _ _ _ (Nat.mod_lt _ (by decide)), nix_1 (a := 1024) (b := 1024) _ _ _ (Nat.mod_lt _ (by decide)),
          show n / 32 - 1 = (y 1).val / 1024 by omega, show 1024 * (n % 32) + (y 0).val % 1024 = (y 0).val by omega]
      · have hw := View.write_of_not_mem (Val := Elt F) (v := (((cfgV ad).win 6).blk ⟨n, hlt⟩).view) G₀ (((cfgV ad).win 6).cut (grid0.coords ⟨n, hlt⟩) X) Finset.univ (i := y) (by
          intro hm
          obtain ⟨x', -, hx⟩ := Finset.mem_map.mp hm
          obtain ⟨x, hxx⟩ : ∃ x : S1024x1024.Idx, x = x' := ⟨x', rfl⟩
          subst hxx
          have x0 : (x 0).val < 1024 := (x 0).isLt
          have x1 : (x 1).val < 1024 := (x 1).isLt
          have q0 : (y 0).val = cc0_transform_6 (grid0.coords ⟨n, hlt⟩) 0 * 1024 + 1 * (x 0).val := by rw [← hx]; rfl
          have q1 : (y 1).val = cc0_transform_6 (grid0.coords ⟨n, hlt⟩) 1 * 1024 + 1 * (x 1).val := by rw [← hx]; rfl
          rw [i0] at q0
          rw [i1] at q1
          omega)
        exact hw.trans (ih y (by omega))
    · rw [if_neg hf] at hG
      have h32 : n < 32 := by
        by_contra h
        exact hf (flush6' ad _ (by show 32 ≤ n; omega))
      intro y hy
      omega

/-- The sums' block is written back once, after the last point. -/
theorem flush7 (t : Fin (cfgV ad).N) : ((cfgV ad).win 7).flush t = true ↔ t.val = 255 := by
  rw [Pipeline.Window.flush, Bool.and_eq_true, Bool.or_eq_true, decide_eq_true_iff, decide_eq_true_iff]
  have hN : (cfgV ad).grid.N = 256 := N_0
  refine ⟨fun h => ?_, fun h => ⟨rfl, Or.inl (by omega)⟩⟩
  rcases h.2 with h | ⟨h1, h⟩
  · omega
  · exact absurd rfl h

theorem found7 : ∀ n, ∀ hn : n < (cfgV ad).N, ∀ E, (rdat ad V).Finds 7 ⟨n, hn⟩ E →
    224 ≤ n → ∀ y : S256x128.Idx, (y 0).val < 8 * (n - 224) → (E : Vec F S256x128 .f32) y = dscS (arrV V) (y 0).val (y 1).val
  | 0, _, _, _, h => absurd h (by decide)
  | n + 1, hn, E, hE, h => by
    intro y hy
    have hn' : n < (cfgV ad).N := by omega
    have hN := N_V (F := F) ad
    rcases ((rdat ad V).finds_of_pos (w := 7) (t := ⟨n + 1, hn⟩) rfl (Nat.succ_ne_zero n) E).mp hE with hf | ⟨Y, hY, hX⟩
    · have := (flush7 ad _).mp hf
      have : n = 255 := this
      omega
    · have hX : Out7 V (grid0.coords ⟨n, hn'⟩) Y E := hX
      have ih := found7 n hn' Y hY
      have e0 : (grid0.coords ⟨n, hn'⟩ 0).val = n / 32 := coord0 ⟨n, hn'⟩
      have e1 : (grid0.coords ⟨n, hn'⟩ 1).val = n % 32 := coord1 ⟨n, hn'⟩
      by_cases h7 : n / 32 = 7
      · have := hX.2 (by rw [e0, h7]) y
        rw [e1] at this
        by_cases hyn : 8 * (n % 32) ≤ (y 0).val ∧ (y 0).val < 8 * (n % 32) + 8
        · exact this.1 hyn
        · rw [this.2 hyn]
          exact ih (by omega) y (by omega)
      · omega

theorem final6 (G) (hG : (rdat ad V).ArrAt 6 (cfgV ad).N G) (y : S32768x7168.Idx) :
    (G : Vec F S32768x7168 .fp8e5m2) y = outS (arrV V) ((y 1).val / 1024) (y 0).val ((y 1).val % 1024) := by
  have y0 : (y 0).val < 32768 := (y 0).isLt
  have y1 : (y 1).val < 7168 := (y 1).isLt
  rw [N_V] at hG
  exact done6 ad V 256 le_rfl G hG y (by omega)

theorem final7 (G) (hG : (rdat ad V).ArrAt 7 (cfgV ad).N G) (y : S256x128.Idx) :
    (G : Vec F S256x128 .f32) y = dscS (arrV V) (y 0).val (y 1).val := by
  have hN := N_V (F := F) ad
  have y0 : (y 0).val < 256 := (y 0).isLt
  have hlt : 255 < (cfgV ad).N := by rw [N_V]; decide
  have hw : ((cfgV ad).win 7).WholeAt ⟨255, hlt⟩ := by
    refine ⟨(flush7 ad _).mpr rfl, fun t ht => Fin.ext ((flush7 ad t).mp ht), fun a => ?_⟩
    fin_cases a <;> exact ⟨rfl, rfl⟩
  obtain ⟨X, ⟨Y, hY, hX⟩, he⟩ := hG.emb_eq_of_wholeAt hw
  have hX : Out7 V (grid0.coords ⟨255, hlt⟩) Y X := hX
  have e0 : (grid0.coords ⟨255, hlt⟩ 0).val = 7 := (coord0 ⟨255, hlt⟩).trans (show 255 / 32 = 7 by decide)
  have e1 : (grid0.coords ⟨255, hlt⟩ 1).val = 31 := (coord1 ⟨255, hlt⟩).trans (show 255 % 32 = 31 by decide)
  refine (he y).trans ?_
  show X _ = _
  have := hX.2 e0 y
  rw [e1] at this
  by_cases hy : 248 ≤ (y 0).val
  · exact this.1 ⟨by omega, by omega⟩
  · refine (this.2 (by omega)).trans ?_
    exact found7 ad V 255 hlt Y hY (by decide) y (by omega)

end Final

/-! ## The launch -/

variable (m : (ℓ : Loc nD τ sig) → Buf (Elt F) ℓ) (ρ : Dev nD → PrngReg)

/-- The buffers' contents when the region is entered: after the operations that build the table. -/
abbrev VV (c : Dev nD) : Bufs F c := fun b => StableHlo.after hostOps0 (fun b => m (c, b)) b

theorem hostOps0_fresh : (hostOps0 : List (HloOp τ sig (Elt F))).Forall fun op => op.fresh = ∅ := by
  simp only [hostOps0, List.Forall]
  repeat' constructor

theorem ΦT_eq {c : Dev nD} (V : Bufs F c) : (Pipeline.ΦT pre0 (adm V).1 c : sProp 𝕄) = owns (c : Thread nD τ) (Memref.whole main_v14) fullShare.right (V main_v14) := by
  rw [owns_whole]
  unfold Pipeline.ΦT Pipeline.prefHeld
  rw [BI.bigSep_univ_eq_bigSepL [(0 : Fin 1)] (by decide) (by decide)]
  rfl

theorem phi_in {c : Dev nD} (V : Bufs F c) : iprop(Pipeline.ΦA spec0 c ∗ Pipeline.ΦT pre0 (adm V).1 c) ⊢ (PhiV V 0 : sProp 𝕄) := by
  rw [ΦT_eq]
  unfold Pipeline.ΦA PhiV
  rw [scopedRest0_eq]
  iintro ⟨⟨⟨⟨%X, H0⟩, ⟨%G, H1⟩, ⟨%C, H2⟩, ⟨%A, H3⟩⟩, Hr⟩, HT⟩
  iframe Hr HT
  isplitl [H0]
  · iexists X
    isplitr
    · ipureintro; intro k hk s hs h; omega
    · rw [owns_whole]; iexact H0
  isplitl [H1]
  · iexists G; rw [owns_whole]; iexact H1
  isplitl [H2]
  · iexists C; rw [owns_whole]; iexact H2
  · iexists A
    isplitr
    · ipureintro; exact fun h => absurd rfl h
    · rw [owns_whole]; iexact H3

theorem phi_out {c : Dev nD} (V : Bufs F c) (n : ℕ) : (PhiV V n : sProp 𝕄) ⊢ Pipeline.ΦA spec0 c := by
  unfold Pipeline.ΦA PhiV
  rw [scopedRest0_eq]
  simp only [owns_whole]
  iintro ⟨Hr, -, ⟨%X, -, H0⟩, ⟨%G, H1⟩, ⟨%C, H2⟩, ⟨%A, -, H3⟩⟩
  iframe Hr
  isplitl [H0]; · iexists X; iexact H0
  isplitl [H1]; · iexists G; iexact H1
  isplitl [H2]; · iexists C; iexact H2
  iexists A; iexact H3

set_option backward.isDefEq.respectTransparency.types false in
/-- Every run ends, the arrays as the proof data have them, the counters at zero. -/
theorem run_main (hT : ∀ c, TokOK (VV m c main_v14)) :
    θ_run defs (onTc (τ := τ) (main (F := F))) (s₀ m ρ)
      (fun r => RDat.FramePost (cfgV (adm (VV m 0))) (fun c => rdat (adm (VV m 0)) (VV m c)) (VV m) r ∧ r.2.sem = fun _ => 0) :=
  Pipeline.RDat.θ_run_frameP_track (Q' := _) pcfgs (fun _ => adm (VV m 0)) (0 : Fin 1) launch0 defs₀ Variants.none
    (fun c => rdat (adm (VV m 0)) (VV m c)) m ρ main
    (hbody := fun c => body_obligation _ (VV m c) (hT c)) (hshare := fun c w => by unfold RDat.share; split <;> rfl)
    (howed := fun _ _ => rfl) (V := VV m) (hmain := Pipeline.hmainP_prefix pcfgs 0 defs₀ Variants.none m main hostOps0 hostOps0_sub hostOps0_fresh main_chain)
    (hA := fun _ _ => rfl) (hpf := fun c k => by obtain rfl := Subsingleton.elim c 0; fin_cases k; rfl)
    (hin := fun c => by obtain rfl := Subsingleton.elim c 0; exact phi_in (VV m 0)) (hout := fun c => phi_out (VV m c) _)
    (hQ' := fun _ h => h)

end Cert.KernelIdeal.Trip
-- ==== Proof.Table.lean ====
/-
The table of words: from a token number within range, the host's arithmetic computes the row of its first word.
-/
module

public import proofs.«01_k».proof.Proof.Run
public import proofs.«01_k».proof.Proof.Gen.Pre_tokens_in_range
public import Idealize.ShloMosaic.Lib.StableHlo.ReadAt

@[expose] public section

noncomputable section

namespace Cert.KernelIdeal.Trip

open Idealize.ShloMosaic Idealize.SL.Sem Cert.KernelIdeal Cert.KernelIdeal.Gen
open Idealize.ShloMosaic.TcCoe
open Idealize.ShloMosaic.Pipeline (RDat)

variable {F : FTy → Type} [FloatOps F]

/-- The host's arithmetic on one token number. -/
def tabw (x : BitVec 32) : BitVec 32 :=
  IntOp.addi (IntOp.addi (IntOp.muli (IntOp.shrsi .host x 5#32) 64#32) (IntOp.muli (IntOp.andi x 3#32) 16#32))
    (IntOp.andi (IntOp.shrsi .host x 2#32) 7#32)

theorem tabw_ok : ∀ a b : Fin 128, (tabw (BitVec.ofNat 32 (128 * a.val + b.val))).toNat < 32768
    ∧ (tabw (BitVec.ofNat 32 (128 * a.val + b.val))).toNat % 16 < 8
    ∧ tokOf (tabw (BitVec.ofNat 32 (128 * a.val + b.val))).toNat = 128 * a.val + b.val := by decide +kernel

theorem tabw_spec {x : BitVec 32} (h : x.toNat < 16384) :
    (tabw x).toNat < 32768 ∧ (tabw x).toNat % 16 < 8 ∧ tokOf (tabw x).toNat = x.toNat := by
  have := tabw_ok ⟨x.toNat / 128, by omega⟩ ⟨x.toNat % 128, by omega⟩
  rwa [show 128 * (x.toNat / 128) + x.toNat % 128 = x.toNat by omega, BitVec.ofNat_toNat, BitVec.setWidth_eq] at this

theorem range_of {x : BitVec 32} (h : IntOp.andi (IntOp.cmpi .sge x 0#32) (IntOp.cmpi .slt x 16384#32) = 1#1) : x.toNat < 16384 := by
  have h' : ((0#32).sle x && x.slt 16384#32) = true := by
    have h : BitVec.ofBool ((0#32).sle x) &&& BitVec.ofBool (x.slt 16384#32) = 1#1 := h
    revert h
    cases (0#32).sle x <;> cases x.slt 16384#32 <;> decide
  rw [Bool.and_eq_true] at h'
  obtain ⟨h0, h1⟩ := h'
  rw [BitVec.sle_iff_toInt_le] at h0
  rw [BitVec.slt_iff_toInt_lt] at h1
  have e0 : (0#32).toInt = 0 := by decide
  have e1 : (16384#32).toInt = 16384 := by decide
  rw [e0] at h0; rw [e1] at h1
  rw [BitVec.toInt_eq_toNat_cond] at h0 h1
  split at h0 <;> omega

/-- Every token number is within range. -/
theorem pre_range {a0 a1 a2 a3 a4 a5 a6} (h : Cert.Pre_tokens_in_range.fn (F := F) a0 a1 a2 a3 a4 a5 a6 = fun _ => 1#1) (x : S256x128.Idx) :
    BitVec.toNat (a1 x) < 16384 := range_of (congrFun h x)

section Entry

variable (m : (ℓ : Loc nD τ sig) → Buf (Elt F) ℓ) (c : Dev nD)

/-- The region finds a buffer that no host operation writes as launched. -/
theorem VV_of {b : Ref sig .tc} (h : ∀ x ∈ [main_v0, main_c, main_v1, main_v2, main_c_0, main_v3, main_v4, main_c_1, main_v5, main_v6, main_c_2, main_v7, main_v8,
    main_v9, main_c_3, main_v10, main_v11, main_c_4, main_v12, main_v13, main_v14], b ≠ x) : VV m c b = m ((c : Thread nD τ).loc b) :=
  StableHlo.after_of_forall_not_mem (b := Proc.devRef .tc b) _ _ (List.forall_iff_forall_mem.mp (by
    simp only [List.mem_cons, List.not_mem_nil, or_false, forall_eq_or_imp, forall_eq] at h
    simp only [hostOps0, List.Forall, StableHlo.nullary_writes, StableHlo.unary_writes, StableHlo.binary_writes, StableHlo.reshape_writes, Finset.mem_singleton]
    repeat' apply And.intro
    all_goals (refine StableHlo.devRef_ne_of_ne ?_; simp only [h, ne_eq, not_false_eq_true])))

theorem VV_v14 (s : ℕ) (hs : s < 32768) :
    VV m c main_v14 (ix1 s) = tabw (m ((c : Thread nD τ).loc main_arg1) (ex (s / 128) (s % 128))) := by
  unfold VV
  after_reads_at
  refine congrArg (fun y : S256x128.Idx => tabw (m ((c : Thread nD τ).loc main_arg1) y)) (idx_ext2 ?_ ?_)
  · show s % 32768 / 128 = s / 128 % 256
    omega
  · show s % 32768 % 128 = s % 128 % 128
    omega

variable (hx : ∀ x : S256x128.Idx, BitVec.toNat (m ((c : Thread nD τ).loc main_arg1) x) < 16384)
include hx

theorem slotw_eq (s : ℕ) (hs : s < 32768) :
    slotw (F := F) (VV m c main_v14) s = (tabw (m ((c : Thread nD τ).loc main_arg1) (ex (s / 128) (s % 128)))).toNat := by
  unfold slotw
  rw [VV_v14 m c s hs]

theorem tok_ok : TokOK (F := F) (VV m c main_v14) := by
  intro s
  have e : slotw (F := F) (VV m c main_v14) s = slotw (F := F) (VV m c main_v14) (s % 32768) := by
    unfold slotw ix1
    simp only [Nat.mod_mod]
  rw [e, slotw_eq m c hx _ (Nat.mod_lt _ (by decide))]
  have := tabw_spec (hx (ex (s % 32768 / 128) (s % 32768 % 128)))
  exact ⟨this.1, this.2.1⟩

/-- The entry of a slot names the slot's token. -/
theorem tokOf_slot (s : ℕ) (hs : s < 32768) :
    tokOf (slotw (F := F) (VV m c main_v14) s) = BitVec.toNat (m ((c : Thread nD τ).loc main_arg1) (ex (s / 128) (s % 128))) := by
  rw [slotw_eq m c hx s hs]
  exact (tabw_spec (hx _)).2.2

end Entry

section Run

variable (m : (ℓ : Loc nD τ sig) → Buf (Elt F) ℓ) (ρ : Dev nD → PrngReg)

/-- The run, with both results named and the arguments unchanged. -/
theorem run_value (hx : ∀ (c : Dev nD) (x : S256x128.Idx), BitVec.toNat (m ((c : Thread nD τ).loc main_arg1) x) < 16384) :
    θ_run (defs (F := F)) (onTc (main (F := F))) ⟨m, fun _ => 0, ρ⟩ (fun r => (∀ c : Dev nD,
      (∀ y : S32768x7168.Idx, r.2.mem ((c : Thread nD τ).loc main_v15_0) y = outS (arrV (VV m c)) ((y 1).val / 1024) (y 0).val ((y 1).val % 1024))
      ∧ (∀ y : S256x128.Idx, r.2.mem ((c : Thread nD τ).loc main_v15_1) y = dscS (arrV (VV m c)) (y 0).val (y 1).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) := by
  refine (run_main m ρ fun c => tok_ok m c (hx c)).mono ?_
  rintro r ⟨h, hs⟩
  refine ⟨fun c => ⟨fun y => final6 _ (VV m c) _ ((h c).1 6) y, fun y => final7 _ (VV m c) _ ((h c).1 7) y, ?_, ?_, ?_, ?_, ?_, ?_, ?_⟩, hs⟩
  · exact (RDat.FramePost.arr_in h c 0 rfl).trans (VV_of (b := main_arg0) m c (by decide))
  · exact ((h c).2 main_arg1 (Pipeline.mem_restRefs_of (win := spec0) main_arg1 (by decide) (by decide))).trans (VV_of (b := main_arg1) m c (by decide))
  · exact (RDat.FramePost.arr_in h c 1 rfl).trans (VV_of (b := main_arg2) m c (by decide))
  · exact (RDat.FramePost.arr_in h c 2 rfl).trans (VV_of (b := main_arg3) m c (by decide))
  · exact (RDat.FramePost.arr_in h c 3 rfl).trans (VV_of (b := main_arg4) m c (by decide))
  · exact (RDat.FramePost.arr_in h c 4 rfl).trans (VV_of (b := main_arg5) m c (by decide))
  · exact (RDat.FramePost.arr_in h c 5 rfl).trans (VV_of (b := main_arg6) m c (by decide))

end Run

end Cert.KernelIdeal.Trip
-- ==== Proof.Frame.lean ====
/-
The two frames of the kernel. The kernel's two printed programs are one text, so the run at the machine's bits is the generic run read
at `Bits`: the two statements are equal by unfolding.
-/
module

public import proofs.«01_k».proof.Proof.Table
public import proofs.«01_k».proof.Proof.Gen.Kernel
public import proofs.«01_k».proof.Proof.Gen.ReferenceIdeal
public import proofs.«01_k».proof.Defs

@[expose] public section

noncomputable section

namespace Cert.KernelIdeal.Trip

open Idealize.ShloMosaic Idealize.SL.Sem Cert.KernelIdeal Cert.KernelIdeal.Gen
open Idealize.ShloMosaic.TcCoe

/-- The frame, at either reading of the floats: from token numbers within range, the run keeps its arguments and ends quiescent. -/
def FrameAt (F : FTy → Type) [FloatOps F] : Prop :=
  ∀ (m : (ℓ : Loc nD τ sig) → Buf (Elt F) ℓ) (ρ : Dev nD → PrngReg),
    (∀ c : Dev nD, (Cert.Pre_tokens_in_range.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))) = (fun _ => 1#1)) →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem frameAt (F : FTy → Type) [FloatOps F] : FrameAt F := by
  intro m ρ hp
  refine (run_value m ρ fun c x => pre_range (hp c) x).mono ?_
  rintro r ⟨h, hs⟩
  exact ⟨fun c => (h c).2.2, hs⟩

theorem frame_ideal : Cert.quiescent_KernelIdeal := frameAt Ideal

theorem frame_bits_eq : Cert.quiescent_Kernel (hKernel := Cert.Kernel.Gen.facts) = FrameAt Bits := by chain_rfl
theorem frame_bits : Cert.quiescent_Kernel := frame_bits_eq.mpr (frameAt Bits)

end Cert.KernelIdeal.Trip
-- ==== Proof.Ref.lean ====
/-
The reference after its run: both results at an index, as functions of the arguments.
-/
module

public import proofs.«01_k».proof.Proof.Frame
public import proofs.«01_k».proof.Proof.Gen.ReferenceIdeal.Frame
public import Idealize.ShloMosaic.Lib.Pipeline.Value
public import Idealize.ShloMosaic.Lib.StableHlo.ReadAt
public import Idealize.ShloMosaic.Lib.Routing.Ops

@[expose] public section

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)
open Cert.KernelIdeal.Trip (nix idx_ext2 nix_0 nix_1 range_of)

section Generic

variable {F : FTy → Type} [FloatOps F]
variable (m : (ℓ : Loc nD τ sig) → Buf (Elt F) ℓ) (c : Dev nD)

/-! ## The windows are whole arrays -/

theorem iblk0 (t : Fin cfg0.N) : iblk m c 0 t = V m c main_v7 := by
  funext y
  refine congrArg (V m c main_v7) (idx_ext2 ?_ ?_)
  · show 0 * 32768 + 1 * (y 0).val = (y 0).val; omega
  · show 0 * 7168 + 1 * (y 1).val = (y 1).val; omega
theorem iblk1 (t : Fin cfg0.N) : iblk m c 1 t = V m c main_arg2 := by
  funext y
  refine congrArg (V m c main_arg2) (idx_ext2 ?_ ?_)
  · show 0 * 32768 + 1 * (y 0).val = (y 0).val; omega
  · show 0 * 7168 + 1 * (y 1).val = (y 1).val; omega
theorem iblk2 (t : Fin cfg0.N) : iblk m c 2 t = V m c main_v8 := by
  funext y
  refine congrArg (V m c main_v8) (idx_ext2 ?_ ?_)
  · show 0 * 32768 + 1 * (y 0).val = (y 0).val; omega
  · show 0 * 1 + 1 * (y 1).val = (y 1).val; omega
theorem iblk3 (t : Fin cfg0.N) : iblk m c 3 t = V m c main_v9 := by
  funext y
  refine congrArg (V m c main_v9) (idx_ext2 ?_ ?_)
  · show 0 * 32768 + 1 * (y 0).val = (y 0).val; omega
  · show 0 * 1 + 1 * (y 1).val = (y 1).val; omega
theorem iblk4 (t : Fin cfg0.N) : iblk m c 4 t = V m c main_arg5 := by
  funext y
  refine congrArg (V m c main_arg5) (idx_ext2 ?_ ?_)
  · show 0 * 256 + 1 * (y 0).val = (y 0).val; omega
  · show 0 * 128 + 1 * (y 1).val = (y 1).val; omega
theorem iblk5 (t : Fin cfg0.N) : iblk m c 5 t = V m c main_arg6 := by
  funext y
  refine congrArg (V m c main_arg6) (idx_ext2 ?_ ?_)
  · show 0 * 256 + 1 * (y 0).val = (y 0).val; omega
  · show 0 * 128 + 1 * (y 1).val = (y 1).val; omega

/-- A load of a whole block is the block. -/
theorem ld_r0_0 {e : EltTy} (x : Vec F S32768x7168 e) : View.ld x r0_0 = x := by
  funext y
  refine congrArg x (idx_ext2 ?_ ?_)
  · show 0 + 1 * (y 0).val = (y 0).val; omega
  · show 0 + 1 * (y 1).val = (y 1).val; omega
theorem ld_r0_1 {e : EltTy} (x : Vec F S256x128 e) : View.ld x r0_1 = x := by
  funext y
  refine congrArg x (idx_ext2 ?_ ?_)
  · show 0 + 1 * (y 0).val = (y 0).val; omega
  · show 0 + 1 * (y 1).val = (y 1).val; omega
theorem ld_r0_2 {e : EltTy} (x : Vec F S32768x1 e) : View.ld x r0_2 = x := by
  funext y
  refine congrArg x (idx_ext2 ?_ ?_)
  · show 0 + 1 * (y 0).val = (y 0).val; omega
  · show 0 + 1 * (y 1).val = (y 1).val; omega

/-- One store of a whole block leaves its payload. -/
theorem canon_r0_0 (w : Vec F S32768x7168 .fp8e5m2) (y : S32768x7168.Idx) :
    View.canon (Val := Elt F) [(⟨r0_0, w⟩ : View.Piece (Elt F) S32768x7168 .fp8e5m2)] y = w y := by
  have e : r0_0.emb y = y := idx_ext2 (show 0 + 1 * (y 0).val = (y 0).val by omega) (show 0 + 1 * (y 1).val = (y 1).val by omega)
  conv_lhs => rw [← e]
  exact View.canon_cons_emb r0_0 w [] y
theorem canon_r0_1 (w : Vec F S256x128 .f32) (y : S256x128.Idx) :
    View.canon (Val := Elt F) [(⟨r0_1, w⟩ : View.Piece (Elt F) S256x128 .f32)] y = w y := by
  have e : r0_1.emb y = y := idx_ext2 (show 0 + 1 * (y 0).val = (y 0).val by omega) (show 0 + 1 * (y 1).val = (y 1).val by omega)
  conv_lhs => rw [← e]
  exact View.canon_cons_emb r0_1 w [] y

/-! ## The two arrays after the run -/

theorem N_one : cfg0.N = 1 := by decide
theorem only (t t' : Fin cfg0.N) : t = t' := by
  have h := lt_of_lt_of_eq t.isLt N_one
  have h' := lt_of_lt_of_eq t'.isLt N_one
  exact Fin.ext (by omega)

abbrev t0 : Fin cfg0.N := ⟨0, by rw [N_one]; exact Nat.one_pos⟩

theorem arr6 (y : S32768x7168.Idx) : ((dats m 0 c).arrAt 6 cfg0.N : Vec F S32768x7168 .fp8e5m2) y
    = k0_pay3 (V m c main_v7) (V m c main_v8) (V m c main_v9) y := by
  have h := (dats m 0 c).read_blk_arrAt_eq_flushed 6 (fun t t' _ _ hne => absurd (only t t') hne) cfg0.N t0 t0.isLt (by decide)
  have h' := congrFun h y
  have e : ((cfg0.win 6).blk t0).view.emb y = y := idx_ext2 (show 0 * 32768 + 1 * (y 0).val = (y 0).val by omega) (show 0 * 7168 + 1 * (y 1).val = (y 1).val by omega)
  have h1 : ((cfg0.win 6).blk t0).view.read (Elt F) ((dats m 0 c).arrAt 6 cfg0.N) y = (dats m 0 c).arrAt 6 cfg0.N (((cfg0.win 6).blk t0).view.emb y) := by
    generalize (dats m 0 c).arrAt 6 cfg0.N = G
    rfl
  have h2 : (dats m 0 c).flushed 6 t0 y = out0_6 (iblk m c 0 t0) (iblk m c 1 t0) (iblk m c 2 t0) (iblk m c 3 t0) (iblk m c 4 t0) (iblk m c 5 t0) y := by
    show (cfg0.win 6).cut (grid0.coords t0) ((dats m 0 c).after 6 t0) y = _
    rw [after0_6]
    rfl
  rw [h1, e, h2] at h'
  rw [h', iblk0, iblk1, iblk2, iblk3, iblk4, iblk5]
  unfold out0_6
  rw [canon_r0_0, ld_r0_0, ld_r0_2, ld_r0_2]

theorem arr7 (y : S256x128.Idx) : ((dats m 0 c).arrAt 7 cfg0.N : Vec F S256x128 .f32) y
    = k0_pay2 (V m c main_v7) (V m c main_arg2) (V m c main_arg5) (V m c main_arg6) y := by
  have h := (dats m 0 c).read_blk_arrAt_eq_flushed 7 (fun t t' _ _ hne => absurd (only t t') hne) cfg0.N t0 t0.isLt (by decide)
  have h' := congrFun h y
  have e : ((cfg0.win 7).blk t0).view.emb y = y := idx_ext2 (show 0 * 256 + 1 * (y 0).val = (y 0).val by omega) (show 0 * 128 + 1 * (y 1).val = (y 1).val by omega)
  have h1 : ((cfg0.win 7).blk t0).view.read (Elt F) ((dats m 0 c).arrAt 7 cfg0.N) y = (dats m 0 c).arrAt 7 cfg0.N (((cfg0.win 7).blk t0).view.emb y) := by
    generalize (dats m 0 c).arrAt 7 cfg0.N = G
    rfl
  have h2 : (dats m 0 c).flushed 7 t0 y = out0_7 (iblk m c 0 t0) (iblk m c 1 t0) (iblk m c 2 t0) (iblk m c 3 t0) (iblk m c 4 t0) (iblk m c 5 t0) y := by
    show (cfg0.win 7).cut (grid0.coords t0) ((dats m 0 c).after 7 t0) y = _
    rw [after0_7]
    rfl
  rw [h1, e, h2] at h'
  rw [h', iblk0, iblk1, iblk2, iblk3, iblk4, iblk5]
  unfold out0_7
  rw [canon_r0_1, ld_r0_0, ld_r0_0, ld_r0_1, ld_r0_1]

theorem pay3_at (P1 : Vec F S32768x7168 .i8) (P0 P2 : Vec F S32768x1 .f32) (y : S32768x7168.Idx) :
    k0_pay3 P1 P0 P2 y = FloatOps.truncf .fp8e5m2 bitsLt_fp8e5m2_f32 (FloatOps.minimumf (FloatOps.ofBits .f32 0x47600000#32)
      (FloatOps.maximumf (FloatOps.ofBits .f32 0xC7600000#32) (FloatOps.mulf (FloatOps.mulf (P0 (ix2 (y 0) 0))
        (FloatOps.extf .f32 bitsLt_fp8e5m2_f32 (FloatOps.ofBits .fp8e5m2 (P1 y)))) (P2 (ix2 (y 0) 0))))) := by
  unfold k0_pay3 k0_pay1
  pointwise

section Run

variable (ρ : Dev nD → PrngReg)

/-- The run, both results named and the arguments as launched: a window's array by what its window leaves, any other by the launch. -/
theorem run_arrays : θ_run defs (onTc (τ := τ) (main (F := F))) ⟨m, fun _ => 0, ρ⟩ fun r => ∀ c : Dev nD,
      r.2.mem ((c : Thread nD τ).loc main_v10_0) = (dats m 0 c).arrAt 6 cfg0.N
      ∧ r.2.mem ((c : Thread nD τ).loc main_v10_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 6, (h c).1 7,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c)))⟩)
    (run_main m ρ)

end Run

/-! ## What the host operations hand to the call -/

theorem V_v7 : V m c main_v7 = Host.gather gather_S16384x7168_S32768x1_S32768x7168_1_0_n_n_0_1_17168 (m ((c : Thread nD τ).loc main_arg0)) (V m c main_v6) := by
  unfold V
  after_reads_simp

/-- The argument's entry of row `s` of the flat list. -/
abbrev flat (s : Fin 32768) : S256x128.Idx := nix S256x128 rfl (by decide) (s.val / 128) (s.val % 128)

theorem flat_eq (s : Fin 32768) (h0 h1) : (ix2 ⟨s.val / 128, h0⟩ ⟨s.val % 128, h1⟩ : S256x128.Idx) = flat s := by
  have := s.isLt
  refine idx_ext2 ?_ ?_
  · exact (Nat.mod_eq_of_lt (show s.val / 128 < 256 by omega)).symm
  · exact (Nat.mod_eq_of_lt (show s.val % 128 < 128 by omega)).symm

theorem V_v8 (s : Fin 32768) : V m c main_v8 (ix2 s 0) = m ((c : Thread nD τ).loc main_arg3) (flat s) := by
  unfold V
  after_reads_at
  exact congrArg (m ((c : Thread nD τ).loc main_arg3)) (flat_eq s _ _)

theorem V_v9 (s : Fin 32768) : V m c main_v9 (ix2 s 0) = m ((c : Thread nD τ).loc main_arg4) (flat s) := by
  unfold V
  after_reads_at
  exact congrArg (m ((c : Thread nD τ).loc main_arg4)) (flat_eq s _ _)

/-- A token number within range is not negative, so the host's wrap keeps it. -/
theorem keep {x : BitVec 32} (h : x.toNat < 16384) : Scalar.select (IntOp.cmpi .slt x 0#32) (IntOp.addi x 16384#32) x = x := by
  have e : x.slt 0#32 = false := by
    rw [Bool.eq_false_iff]
    intro h'
    rw [BitVec.slt_iff_toInt_lt, BitVec.toInt_eq_toNat_cond] at h'
    have : (0#32).toInt = 0 := by decide
    split at h' <;> omega
  have e' : IntOp.cmpi .slt x 0#32 = 0#1 := by
    show BitVec.ofBool (x.slt 0#32) = 0#1
    rw [e]; rfl
  rw [e']
  rfl

variable (hx : ∀ x : S256x128.Idx, BitVec.toNat (m ((c : Thread nD τ).loc main_arg1) x) < 16384)
include hx

theorem V_v6 (s : Fin 32768) : V m c main_v6 (ix2 s 0) = m ((c : Thread nD τ).loc main_arg1) (flat s) := by
  unfold V
  after_reads_at
  exact (keep (hx _)).trans (congrArg (m ((c : Thread nD τ).loc main_arg1)) (flat_eq s _ _))

/-- The gathered row of a slot is its token's row. -/
theorem V_v7_at (s : Fin 32768) (j : Fin 7168) :
    V m c main_v7 (ix2 s j) = m ((c : Thread nD τ).loc main_arg0) (ix2 ⟨BitVec.toNat (m ((c : Thread nD τ).loc main_arg1) (flat s)), hx _⟩ j) := by
  rw [V_v7]
  refine Routing.gather_row (nb := 16384) (B := 7168) (n := 32768) gather_S16384x7168_S32768x1_S32768x7168_1_0_n_n_0_1_17168 rfl rfl rfl rfl rfl _ _ s j ⟨_, hx _⟩ ?_ (by decide)
  refine (V_v6 m c hx s).trans ?_
  show _ = BitVec.ofNat 32 (BitVec.toNat (m ((c : Thread nD τ).loc main_arg1) (flat s)))
  rw [BitVec.ofNat_toNat, BitVec.setWidth_eq]

end Generic

section Ideal

theorem pay2_at (P2 : Vec Ideal S32768x7168 .i8) (P3 : Vec Ideal S32768x7168 .fp8e4m3) (P0 P1 : Vec Ideal S256x128 .f32) (y : S256x128.Idx) (r : Fin 32768)
    (hr : r.val = (y 0).val * 128 + (y 1).val) :
    k0_pay2 P2 P3 P0 P1 y = P0 y * P1 y * ∑ x : Fin 7168, Ideal.ofBits FTy.fp8e5m2 (P2 (ix2 r x)) * P3 (ix2 r x) := by
  have h0 : (y 0).val < 256 := (y 0).isLt
  have h1 : (y 1).val < 128 := (y 1).isLt
  have e : r = ⟨(y 0).val * 128 + (y 1).val, by omega⟩ := Fin.ext hr
  rw [e]
  unfold k0_pay2 k0_pay1
  pointwise

end Ideal

end Cert.ReferenceIdeal.Val
-- ==== Proof.Equation.lean ====
/-
Over the extended reals the kernel's two results are the reference's: the chunks' sums are one sum, and the codes are the same product.
-/
module

public import proofs.«01_k».proof.Proof.Ref

@[expose] public section

noncomputable section

namespace Cert.KernelIdeal.Trip

open Idealize.ShloMosaic Idealize.SL.Sem Cert.KernelIdeal Cert.KernelIdeal.Gen
open Idealize.ShloMosaic.TcCoe

/-! ## One chunk's step -/

theorem pay5_at (x : S256x128.Idx) : (k0_pay5 (F := Ideal)) x = 0 := by
  unfold k0_pay5
  pointwise

theorem diag {x l : Fin 128} (p : EReal) :
    Scalar.select (IntOp.cmpi .eq (BitVec.ofNat 32 x.val) (BitVec.ofNat 32 l.val)) p 0 = if x = l then p else 0 := by
  have hx := x.isLt
  have hl := l.isLt
  by_cases h : x = l
  · subst h
    rw [if_pos rfl]
    have : IntOp.cmpi .eq (BitVec.ofNat 32 x.val) (BitVec.ofNat 32 x.val) = 1#1 := by
      show BitVec.ofBool (BitVec.ofNat 32 x.val == BitVec.ofNat 32 x.val) = 1#1
      rw [beq_self_eq_true]; rfl
    rw [this]; rfl
  · rw [if_neg h]
    have : IntOp.cmpi .eq (BitVec.ofNat 32 x.val) (BitVec.ofNat 32 l.val) = 0#1 := by
      show BitVec.ofBool (BitVec.ofNat 32 x.val == BitVec.ofNat 32 l.val) = 0#1
      rw [beq_eq_false_iff_ne.mpr]
      · rfl
      · intro e
        have e := congrArg BitVec.toNat e
        rw [BitVec.toNat_ofNat, BitVec.toNat_ofNat, Nat.mod_eq_of_lt (by omega), Nat.mod_eq_of_lt (by omega)] at e
        exact h (Fin.ext e)
    rw [this]; rfl

theorem pay8_at (g : Vec Ideal S128x1024 .fp8e5m2) (o : Vec Ideal S128x1024 .fp8e4m3) (z : Vec Ideal S1x128 .f32) (l : Fin 128) :
    k0_pay8 g o z (ix2 0 l) = z (ix2 0 l) + ∑ b : Fin 1024, g (ix2 l b) * o (ix2 l b) := by
  unfold k0_pay8
  pointwise
  refine congrArg (z (ix2 0 l) + ·) ?_
  simp only [diag]
  rw [Finset.sum_ite_eq' Finset.univ l, if_pos (Finset.mem_univ l)]

/-! ## All chunks -/

variable (a : Arr Ideal)

/-- One term of a slot's sum. -/
def term (s x : ℕ) : EReal :=
  Ideal.ofBits .fp8e5m2 (a.dy (dyx (tokOf (slotw a.T s)) x)) * a.o (ox s x)

theorem sums_eq (k e l : ℕ) (he : e < 256) (hl : l < 128) :
    sums a k e l = ∑ x ∈ Finset.range (1024 * k), term a (128 * e + l) x := by
  induction k with
  | zero => exact pay5_at _
  | succ k ih =>
    have h0 : (nix S1x128 rfl (by decide) 0 l : S1x128.Idx) = ix2 0 ⟨l, hl⟩ :=
      idx_ext2 rfl (Nat.mod_eq_of_lt hl)
    show k0_pay8 (gmatS a k e) (orowS a k e) (fun x => sums a k e (x 1).val) (nix S1x128 rfl (by decide) 0 l) = _
    rw [h0, pay8_at, Nat.mul_succ, Finset.sum_range_add]
    refine congrArg₂ (· + ·) ih ?_
    rw [← Fin.sum_univ_eq_sum_range (fun b => term a (128 * e + l) (1024 * k + b)) 1024]
    rfl

theorem dsc_eq (e l : ℕ) (he : e < 256) (hl : l < 128) :
    dscS a e l = a.g (ex e l) * a.s (ex e l) * ∑ x : Fin 7168, term a (128 * e + l) x.val := by
  show a.g (ex e l) * a.s (ex e l) * sums a 7 e l = _
  rw [sums_eq a 7 e l he hl, ← Fin.sum_univ_eq_sum_range (fun x => term a (128 * e + l) x) 7168]

/-! ## Against the reference -/

theorem out_core (P1 : Vec Ideal S32768x7168 .i8) (P0 P2 : Vec Ideal Cert.ReferenceIdeal.S32768x1 .f32) (s : Fin 32768) (j : Fin 7168) {w : BitVec 8} {u v : EReal}
    (h1 : P1 (ix2 s j) = w) (h0 : P0 (ix2 s 0) = u) (h2 : P2 (ix2 s 0) = v) :
    Cert.ReferenceIdeal.Gen.k0_pay3 P1 P0 P2 (ix2 s j) = outs (F := Ideal) (FloatOps.ofBits .fp8e5m2 w) u v := by
  refine (Cert.ReferenceIdeal.Val.pay3_at P1 P0 P2 (ix2 s j)).trans ?_
  have e0 : P0 (ix2 ((ix2 s j : S32768x7168.Idx) 0) 0) = u := h0
  have e2 : P2 (ix2 ((ix2 s j : S32768x7168.Idx) 0) 0) = v := h2
  rw [e0, e2, h1]
  unfold outs
  pointwise
  rw [mul_comm u]

theorem dsc_core (P2 : Vec Ideal S32768x7168 .i8) (P3 : Vec Ideal S32768x7168 .fp8e4m3) (P0 P1 : Vec Ideal S256x128 .f32) (y : S256x128.Idx) (r : Fin 32768)
    (hr : r.val = (y 0).val * 128 + (y 1).val) {p q : EReal} {w : Fin 7168 → BitVec 8} {v : Fin 7168 → EReal}
    (h2 : ∀ x, P2 (ix2 r x) = w x) (h3 : ∀ x, P3 (ix2 r x) = v x) (h0 : P0 y = p) (h1 : P1 y = q) :
    Cert.ReferenceIdeal.Gen.k0_pay2 P2 P3 P0 P1 y = p * q * ∑ x, Ideal.ofBits .fp8e5m2 (w x) * v x := by
  rw [Cert.ReferenceIdeal.Val.pay2_at P2 P3 P0 P1 y r hr, h0, h1]
  simp only [h2, h3]

section Match

variable (m : (ℓ : Loc nD τ sig) → Buf (Elt Ideal) ℓ) (m' : (ℓ : Loc Cert.ReferenceIdeal.nD Cert.ReferenceIdeal.τ Cert.ReferenceIdeal.sig) → Buf (Elt Ideal) ℓ)
variable (c : Dev nD)
variable (hx : ∀ x : S256x128.Idx, BitVec.toNat (m ((c : Thread nD τ).loc main_arg1) x) < 16384)
include hx

/-- The kernel's code of a slot is its token's. -/
theorem dy_eq (s : Fin 32768) (j : Fin 7168) :
    (arrV (VV m c)).dy (dyx (tokOf (slotw (arrV (VV m c)).T s.val)) j.val)
      = m ((c : Thread nD τ).loc main_arg0) (ix2 ⟨BitVec.toNat (m ((c : Thread nD τ).loc main_arg1) (ex (s.val / 128) (s.val % 128))), hx _⟩ j) := by
  have e : (arrV (VV m c)).dy = m ((c : Thread nD τ).loc main_arg0) := VV_of (b := main_arg0) m c (by decide)
  rw [e]
  refine congrArg (m ((c : Thread nD τ).loc main_arg0)) (idx_ext2 ?_ ?_)
  · show tokOf (slotw (F := Ideal) (VV m c main_v14) s.val) % 16384 = _
    rw [tokOf_slot m c hx s.val s.isLt]
    exact Nat.mod_eq_of_lt (hx _)
  · exact Nat.mod_eq_of_lt j.isLt

variable (h0 : m' ((c.tc : Thread Cert.ReferenceIdeal.nD Cert.ReferenceIdeal.τ).loc Cert.ReferenceIdeal.main_arg0) = m ((c : Thread nD τ).loc main_arg0))
variable (h1 : m' ((c.tc : Thread Cert.ReferenceIdeal.nD Cert.ReferenceIdeal.τ).loc Cert.ReferenceIdeal.main_arg1) = m ((c : Thread nD τ).loc main_arg1))
variable (h2 : m' ((c.tc : Thread Cert.ReferenceIdeal.nD Cert.ReferenceIdeal.τ).loc Cert.ReferenceIdeal.main_arg2) = m ((c : Thread nD τ).loc main_arg2))
variable (h3 : m' ((c.tc : Thread Cert.ReferenceIdeal.nD Cert.ReferenceIdeal.τ).loc Cert.ReferenceIdeal.main_arg3) = m ((c : Thread nD τ).loc main_arg3))
variable (h4 : m' ((c.tc : Thread Cert.ReferenceIdeal.nD Cert.ReferenceIdeal.τ).loc Cert.ReferenceIdeal.main_arg4) = m ((c : Thread nD τ).loc main_arg4))
variable (h5 : m' ((c.tc : Thread Cert.ReferenceIdeal.nD Cert.ReferenceIdeal.τ).loc Cert.ReferenceIdeal.main_arg5) = m ((c : Thread nD τ).loc main_arg5))
variable (h6 : m' ((c.tc : Thread Cert.ReferenceIdeal.nD Cert.ReferenceIdeal.τ).loc Cert.ReferenceIdeal.main_arg6) = m ((c : Thread nD τ).loc main_arg6))

include h0 h1 in
/-- The reference's gathered code is the kernel's. -/
theorem ref_dy (s : Fin 32768) (j : Fin 7168) :
    Cert.ReferenceIdeal.Gen.V m' c Cert.ReferenceIdeal.main_v7 (ix2 s j)
      = (arrV (VV m c)).dy (dyx (tokOf (slotw (arrV (VV m c)).T s.val)) j.val) := by
  have hx' : ∀ x : S256x128.Idx, BitVec.toNat (m' ((c.tc : Thread Cert.ReferenceIdeal.nD Cert.ReferenceIdeal.τ).loc Cert.ReferenceIdeal.main_arg1) x) < 16384 := by
    rw [h1]; exact hx
  rw [dy_eq m c hx]
  refine (Cert.ReferenceIdeal.Val.V_v7_at m' c hx' s j).trans ?_
  refine (congrFun h0 _).trans (congrArg (m ((c : Thread nD τ).loc main_arg0)) (idx_ext2 ?_ rfl))
  show BitVec.toNat (m' ((c.tc : Thread Cert.ReferenceIdeal.nD Cert.ReferenceIdeal.τ).loc Cert.ReferenceIdeal.main_arg1) (Cert.ReferenceIdeal.Val.flat s)) = _
  rw [h1]
  rfl

include h0 h1 h3 h4 in
theorem out_match (y : S32768x7168.Idx) :
    Cert.ReferenceIdeal.Gen.k0_pay3 (F := Ideal) (Cert.ReferenceIdeal.Gen.V m' c Cert.ReferenceIdeal.main_v7) (Cert.ReferenceIdeal.Gen.V m' c Cert.ReferenceIdeal.main_v8)
        (Cert.ReferenceIdeal.Gen.V m' c Cert.ReferenceIdeal.main_v9) y
      = outS (arrV (VV m c)) ((y 1).val / 1024) (y 0).val ((y 1).val % 1024) := by
  obtain ⟨s, j, rfl⟩ : ∃ (s : Fin 32768) (j : Fin 7168), y = ix2 s j := ⟨y 0, y 1, idx_ext2 rfl rfl⟩
  have e3 : (arrV (VV m c)).c = m ((c : Thread nD τ).loc main_arg3) := VV_of (b := main_arg3) m c (by decide)
  have e4 : (arrV (VV m c)).v = m ((c : Thread nD τ).loc main_arg4) := VV_of (b := main_arg4) m c (by decide)
  have ec : Cert.ReferenceIdeal.Gen.V m' c Cert.ReferenceIdeal.main_v8 (ix2 s 0) = (arrV (VV m c)).c (ex (s.val / 128) (s.val % 128)) := by
    rw [e3]; exact (Cert.ReferenceIdeal.Val.V_v8 m' c s).trans (congrFun h3 _)
  have ev : Cert.ReferenceIdeal.Gen.V m' c Cert.ReferenceIdeal.main_v9 (ix2 s 0) = (arrV (VV m c)).v (ex (s.val / 128) (s.val % 128)) := by
    rw [e4]; exact (Cert.ReferenceIdeal.Val.V_v9 m' c s).trans (congrFun h4 _)
  refine (out_core _ _ _ s j (ref_dy m m' c hx h0 h1 s j) ec ev).trans ?_
  show _ = outs (codeAt (arrV (VV m c)) (j.val / 1024) s.val (j.val % 1024)) ((arrV (VV m c)).c (ex (s.val / 128) (s.val % 128))) ((arrV (VV m c)).v (ex (s.val / 128) (s.val % 128)))
  unfold codeAt
  rw [Nat.div_add_mod]

include h0 h1 h2 h5 h6 in
theorem dsc_match (y : S256x128.Idx) :
    Cert.ReferenceIdeal.Gen.k0_pay2 (F := Ideal) (Cert.ReferenceIdeal.Gen.V m' c Cert.ReferenceIdeal.main_v7) (Cert.ReferenceIdeal.Gen.V m' c Cert.ReferenceIdeal.main_arg2)
        (Cert.ReferenceIdeal.Gen.V m' c Cert.ReferenceIdeal.main_arg5) (Cert.ReferenceIdeal.Gen.V m' c Cert.ReferenceIdeal.main_arg6) y
      = dscS (arrV (VV m c)) (y 0).val (y 1).val := by
  have y0 : (y 0).val < 256 := (y 0).isLt
  have y1 : (y 1).val < 128 := (y 1).isLt
  have e2 : (arrV (VV m c)).o = m ((c : Thread nD τ).loc main_arg2) := VV_of (b := main_arg2) m c (by decide)
  have e5 : (arrV (VV m c)).g = m ((c : Thread nD τ).loc main_arg5) := VV_of (b := main_arg5) m c (by decide)
  have e6 : (arrV (VV m c)).s = m ((c : Thread nD τ).loc main_arg6) := VV_of (b := main_arg6) m c (by decide)
  have ey : ex (y 0).val (y 1).val = y := idx_ext2 (Nat.mod_eq_of_lt y0) (Nat.mod_eq_of_lt y1)
  obtain ⟨r, hr⟩ : ∃ r : Fin 32768, r.val = 128 * (y 0).val + (y 1).val := ⟨⟨128 * (y 0).val + (y 1).val, by omega⟩, rfl⟩
  refine (dsc_core _ _ _ _ y r (by omega) (ref_dy m m' c hx h0 h1 r) (v := fun x => (arrV (VV m c)).o (ox r.val x.val)) (fun x => ?_)
    (p := (arrV (VV m c)).g (ex (y 0).val (y 1).val)) (q := (arrV (VV m c)).s (ex (y 0).val (y 1).val)) ?_ ?_).trans ?_
  · rw [e2]
    refine ((congrFun (Cert.ReferenceIdeal.Gen.V_main_arg2 m' c) _).trans (congrFun h2 _)).trans ?_
    exact congrArg (m ((c : Thread nD τ).loc main_arg2)) (idx_ext2 (Nat.mod_eq_of_lt r.isLt).symm (Nat.mod_eq_of_lt x.isLt).symm)
  · rw [e5, ey]
    exact (congrFun (Cert.ReferenceIdeal.Gen.V_main_arg5 m' c) _).trans (congrFun h5 _)
  · rw [e6, ey]
    exact (congrFun (Cert.ReferenceIdeal.Gen.V_main_arg6 m' c) _).trans (congrFun h6 _)
  · rw [dsc_eq _ _ _ y0 y1, ← hr]
    rfl

end Match

end Cert.KernelIdeal.Trip
-- ==== Proof.DlogOwn.lean ====
/-
The logits kernel: loads and stores at the head of a program, over memrefs owned at named contents.
-/
module

public import proofs.«01_k».proof.Proof.Blocks
public import proofs.«01_k».proof.Proof.Gen.DlogIdeal
public import Idealize.ShloMosaic.Lib.MemrefSat
public import Idealize.ShloMosaic.Lib.Pipeline.Frame

@[expose] public section

noncomputable section

namespace Cert.DlogIdeal.Val

open Idealize.ShloMosaic Idealize.SL.Sem Cert.DlogIdeal Cert.DlogIdeal.Gen
open Idealize.ShloMosaic.TcCoe
open Idealize.SL Idealize.SL.RA Idealize.SL.BI
open scoped Idealize.SL.BI
open Idealize.SL.BI.BIBase Idealize.SL.BI.Laws Idealize.SL.ProofMode
open Cert.KernelIdeal.Trip (StoredAt)

variable {F : FTy → Type} [FloatOps F]

local notation "𝕄" => MT nD τ sig Unit (Elt F) ℕ (UR sig nD τ) ℕ

variable (c : Dev nD)

/-- The weakest precondition of a program of the kernel's core. -/
abbrev wpK (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The programs the body is made of. -/
abbrev PR (F : FTy → Type) [FloatOps F] : Type 1 := Prog (TpuEff nD τ sig (Elt F) Λ₀ .tc) PUnit

theorem wpK_ret {α : Type} {a : α} {P : sProp 𝕄} {Q : α → sProp 𝕄} (h : P ⊢ Q a) : P ⊢ wpK (F := F) c (.ret a) Q := by
  unfold wpK
  rw [wp_ret]
  iintro H
  imodintro
  iapply h
  iexact H

theorem ld {α : Type} {Q : α → sProp 𝕄} {sp : CoreSpace} {s : Shape} {e : EltTy} {m : Memref sig .tc sp s e} {r : LoadRect s} {hl : m.view.LoadsAt r}
    {k : (r.shape.Idx → Elt F e) → Prog (TpuEff nD τ sig (Elt F) Λ₀ .tc) α} {q : PosShare TreeShare} {X : s.Idx → Elt F e} :
    (owns (c : Thread nD τ) m q X : sProp 𝕄)
      ⊢ iprop((owns (c : Thread nD τ) m q X -∗ wpK (F := F) c (k fun x => X (r.idx x)) Q) -∗ wpK (F := F) c (.op (.load m r hl) k) Q) := by
  have hS : m.view.setOn r.set ⊆ m.view.set := Finset.map_subset_map.mpr (Finset.subset_univ _)
  unfold owns
  iintro ⟨%f, %hf, H⟩ HK
  iapply (wp_load Variants.none (c : Thread nD τ) none Set.univ (m := m) (r := r) hS) $$ H
  iintro H
  have e : m.view.readAt (Elt F) r f = fun x => X (r.idx x) := by funext x; rw [View.readAt_apply, hf]
  rw [e]
  iapply HK
  iexists f
  isplitr
  · ipureintro; exact hf
  · iexact H

theorem st {α : Type} {Q : α → sProp 𝕄} {sp : CoreSpace} {s : Shape} {e : EltTy} {m : Memref sig .tc sp s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} {X : s.Idx → Elt F e} :
    (owns (c : Thread nD τ) m fullShare X : sProp 𝕄)
      ⊢ iprop((∀ X', ⌜StoredAt r w X X'⌝ -∗ owns (c : Thread nD τ) m fullShare X' -∗ wpK c (k ⟨⟩) Q)
          -∗ wpK c (.op (.store m r w Finset.univ hx hm) k) Q) := by
  unfold owns
  iintro ⟨%f, %hf, H⟩ HK
  iapply (wp_store Variants.none (c : Thread nD τ) none Set.univ (m := m) (r := r) (Mk := Finset.univ) (Memref.setOn_access_subset m r _)) $$ H
  iintro H
  iapply HK
  rotate_left
  · iexists ((m.access r).write (Elt F) f w Finset.univ)
    isplitr
    · ipureintro; rfl
    · iexact H
  · ipureintro
    refine ⟨fun x => View.read_slice_write_emb _ _ _ (Finset.mem_univ _), fun y hy => ?_⟩
    rw [← hf]
    exact View.read_slice_write_of_not_mem _ _ _ _ (by rwa [Rect.map_emb_univ])

end Cert.DlogIdeal.Val
-- ==== Proof.DlogBody.lean ====
/-
The logits kernel's body at one grid point: the dense table of score gradients built at the first point, and the
1024 rows of the result written at every later one, each stated by the point's coordinate.
-/
module

public import proofs.«01_k».proof.Proof.DlogOwn
public import proofs.«01_k».proof.Proof.Gen.DlogIdeal.Skeleton

@[expose] public section

noncomputable section

namespace Cert.DlogIdeal.Val

open Idealize.ShloMosaic Idealize.SL.Sem Cert.DlogIdeal Cert.DlogIdeal.Gen
open Idealize.ShloMosaic.TcCoe
open Idealize.SL Idealize.SL.RA Idealize.SL.BI
open scoped Idealize.SL.BI
open Idealize.SL.BI.BIBase Idealize.SL.BI.Laws Idealize.SL.ProofMode
open Cert.KernelIdeal.Trip (StoredAt nix idx_ext2 nix_0 nix_1 stored_unit)

variable {F : FTy → Type} [FloatOps F]

local notation "𝕄" => MT nD τ sig Unit (Elt F) ℕ (UR sig nD τ) ℕ

/-! ## The conditions and offsets, by the coordinate -/

theorem cond1_iff (i : grid0.Coords) : k0_cond1 i = 1#1 ↔ (i 0).val = 0 := by
  have h : ∀ a : Fin 17, Scalar.cmpi .ne (Scalar.extui (Scalar.cmpi .eq (BitVec.ofNat 32 a.val) 0#32) : BitVec 32) 0#32 = 1#1 ↔ a.val = 0 := by decide +kernel
  exact h (i 0)

theorem cond2_iff (i : grid0.Coords) : k0_cond2 i = 1#1 ↔ 0 < (i 0).val := by
  have h : ∀ a : Fin 17, Scalar.cmpi .ne (Scalar.extui (Scalar.cmpi .sgt (BitVec.ofNat 32 a.val) 0#32) : BitVec 32) 0#32 = 1#1 ↔ 0 < a.val := by decide +kernel
  exact h (i 0)

theorem off3_eq (i : grid0.Coords) (h : 0 < (i 0).val) (r : Fin 8) : k0_off3 i (BitVec.ofNat 32 r.val) = ![257 * (8 * ((i 0).val - 1) + r.val), 0] := by
  have h0 : ∀ a : Fin 17, ∀ r : Fin 8, 0 < a.val → (Scalar.indexCast (Scalar.muli (Scalar.addi (Scalar.muli (Scalar.subi (BitVec.ofNat 32 a.val) 1#32) 8#32) (BitVec.ofNat 32 r.val)) 257#32) : Index).toNat
      = 257 * (8 * (a.val - 1) + r.val) := by decide +kernel
  exact congrArg (fun x => ![x, 0]) (h0 (i 0) r h)

/-! ## The dense table -/

abbrev ex (i j : ℕ) : S256x128.Idx := nix S256x128 rfl (by decide) i j
abbrev hx (i j : ℕ) : S128x128.Idx := nix S128x128 rfl (by decide) i j
abbrev sx (i j : ℕ) : S32903x128.Idx := nix S32903x128 rfl (by decide) i j

/-- Expert `e`'s column of score gradients, as the loop's step computes it: token `128 h + l` at row `h`, lane `l`. -/
def colS (T : Vec F S256x128 .i32) (D : Vec F S256x128 .f32) (e : ℕ) : FVec F S128x128 .f32 :=
  k0_pay2 (iota .tc S128x128 32 [0] iota_S128x128_d0_w32) (fun x => T (ex e (x 1).val)) (fun x => D (ex e (x 1).val))

/-- The first `n` experts' columns are in the table. -/
def TabOK (T : Vec F S256x128 .i32) (D : Vec F S256x128 .f32) (n : ℕ) (X : Vec F S32903x128 .f32) : Prop :=
  ∀ e h l : ℕ, e < n → e < 256 → h < 128 → l < 128 → X (sx (257 * h + e) l) = colS T D e (hx h l)

theorem row_eq {e : EltTy} (T : Vec F S256x128 e) (t : Fin k0_t1_loop.trips) (inb) :
    (fun x => T ((Rect.unit (s := S256x128) (k0_off1 t) S1x128.size inb).idx x)) = fun x : S1x128.Idx => T (ex t.val (x 1).val) := by
  funext x
  have ht : t.val < 256 := t.isLt
  have x0 : (x 0).val < 1 := (x 0).isLt
  have x1 : (x 1).val < 128 := (x 1).isLt
  have e0 : k0_off1 t 0 = t.val := congrFun (k0_off1_eq t) 0
  have e1 : k0_off1 t 1 = 0 := congrFun (k0_off1_eq t) 1
  congr 1
  refine idx_ext2 (a := 256) (b := 128) ?_ ?_
  · show k0_off1 t 0 + 1 * (x 0).val = _
    rw [nix_0 (a := 256) (b := 128) _ _ _ ht, e0]; omega
  · show k0_off1 t 1 + 1 * (x 1).val = _
    rw [nix_1 (a := 256) (b := 128) _ _ _ x1, e1]; omega

theorem tab_step {i : grid0.Coords} {k0_h1 : k0_cond1 i = 1#1} {t : Fin k0_t1_loop.trips} {T : Vec F S256x128 .i32} {D : Vec F S256x128 .f32}
    {X X' : Vec F S32903x128 .f32} (h : TabOK T D t.val X)
    (hX : StoredAt ⟨(⟨k0_off2 t, S128x128.size, ![257, 1], (k0_off2_inb i t k0_h1)⟩ : LoadRect S32903x128), spos_257_1⟩ (colS T D t.val) X X') :
    TabOK T D (t.val + 1) X' := by
  have ht : t.val < 256 := t.isLt
  have e0 : k0_off2 t 0 = t.val := congrFun (k0_off2_eq t) 0
  have e1 : k0_off2 t 1 = 0 := congrFun (k0_off2_eq t) 1
  intro e a l he he' ha hl
  by_cases hte : e = t.val
  · subst hte
    have hxy : sx (257 * a + t.val) l = (Rect.emb ⟨(⟨k0_off2 t, S128x128.size, ![257, 1], (k0_off2_inb i t k0_h1)⟩ : LoadRect S32903x128), spos_257_1⟩ : S128x128.Idx ↪ _) (hx a l) := by
      refine idx_ext2 (a := 32903) (b := 128) ?_ ?_
      · rw [Rect.emb_apply]
        show _ = k0_off2 t 0 + 257 * ((hx a l) 0).val
        rw [nix_0 (a := 32903) (b := 128) _ _ _ (by omega), nix_0 (a := 128) (b := 128) _ _ _ ha, e0]; omega
      · rw [Rect.emb_apply]
        show _ = k0_off2 t 1 + 1 * ((hx a l) 1).val
        rw [nix_1 (a := 32903) (b := 128) _ _ _ hl, nix_1 (a := 128) (b := 128) _ _ _ hl, e1]; omega
    rw [hxy]
    exact hX.1 (hx a l)
  · rw [hX.2 _ ?_]
    · exact h e a l (by omega) he' ha hl
    · intro hm
      obtain ⟨x, hx'⟩ := LoadRect.exists_idx_of_mem _ hm
      obtain ⟨y, hy⟩ : ∃ y : S128x128.Idx, y = x := ⟨x, rfl⟩
      subst hy
      have y0 : (y 0).val < 128 := (y 0).isLt
      have q : ((sx (257 * a + e) l) 0).val = k0_off2 t 0 + 257 * (y 0).val := by rw [← hx']; rfl
      rw [nix_0 (a := 32903) (b := 128) _ _ _ (by omega), e0] at q
      omega

/-! ## The rows of the result -/

/-- The eight groups of 128 rows, from the block's row-wise softmax and the table's rows. -/
def grp (s : FVec F S1024x256 .f32) (v : Vec F S256x128 .f32) : ℕ → FVec F S128x256 .f32
  | 2 => k0_pay6 s v
  | 3 => k0_pay7 s v
  | 4 => k0_pay8 s v
  | 5 => k0_pay9 s v
  | 6 => k0_pay10 s v
  | 7 => k0_pay1 s v
  | _ => fun _ => FloatOps.ofBits .f32 0#32

/-- The same, from the block of logits. -/
def grpL (L : Vec F S1024x256 .f32) (v : Vec F S256x128 .f32) : ℕ → FVec F S128x256 .f32
  | 0 => k0_pay4 L v
  | 1 => k0_pay5 L v
  | n + 2 => grp (k0_pay3 L) v (n + 2)

/-- The table's rows of token group `h`. -/
def rowsOf (X : Vec F S32903x128 .f32) (h : ℕ) : Vec F S256x128 .f32 := fun x => X (sx (257 * h + (x 0).val) (x 1).val)

abbrev gx (i j : ℕ) : S128x256.Idx := nix S128x256 rfl (by decide) i j

/-- The first `n` groups of rows are written. -/
def Outs (f : ℕ → FVec F S128x256 .f32) (n : ℕ) (D : Vec F S1024x256 .f32) : Prop :=
  ∀ z : S1024x256.Idx, (z 0).val < 128 * n → D z = f ((z 0).val / 128) (gx ((z 0).val % 128) (z 1).val)

theorem outs_step {f : ℕ → FVec F S128x256 .f32} {h : ℕ} {inb} {w : FVec F S128x256 .f32} (hw : w = f h)
    {D D' : Vec F S1024x256 .f32} (hD : Outs f h D) (hX : StoredAt (Rect.unit (s := S1024x256) ![128 * h, 0] S128x256.size inb) w D D') : Outs f (h + 1) D' := by
  subst hw
  intro z hz
  have z1 : (z 1).val < 256 := (z 1).isLt
  rcases stored_unit hX z with ⟨x, hx, e⟩ | ⟨hn, e⟩
  · have h0 : (z 0).val = 128 * h + (x 0).val := hx 0
    have h1 : (z 1).val = 0 + (x 1).val := hx 1
    have x0 : (x 0).val < 128 := (x 0).isLt
    rw [e, show (z 0).val / 128 = h by omega]
    congr 1
    refine idx_ext2 (a := 128) (b := 256) ?_ ?_
    · rw [nix_0 (a := 128) (b := 256) _ _ _ (Nat.mod_lt _ (by decide))]; show (x 0).val = _; omega
    · rw [nix_1 (a := 128) (b := 256) _ _ _ z1]; show (x 1).val = _; omega
  · rw [e]
    refine hD z ?_
    by_contra hlt
    refine hn fun a => ?_
    match a with
    | ⟨0, _⟩ => exact ⟨(show 128 * h ≤ (z 0).val by omega), (show (z 0).val < 128 * h + 128 by omega)⟩
    | ⟨1, _⟩ => exact ⟨Nat.zero_le _, (show (z 1).val < 0 + 256 by omega)⟩

theorem rows_eq (i : grid0.Coords) (k0_h2 : k0_cond2 i = 1#1) (r : Fin 8) (X : Vec F S32903x128 .f32) :
    (fun x => X ((Rect.unit (s := S32903x128) (k0_off3 i (BitVec.ofNat 32 r.val)) S256x128.size (k0_off3_inb i k0_h2 r)).idx x)) = rowsOf X (8 * ((i 0).val - 1) + r.val) := by
  funext x
  have hi := (cond2_iff i).mp k0_h2
  have hi' : (i 0).val < 17 := (i 0).isLt
  have hr := r.isLt
  have x0 : (x 0).val < 256 := (x 0).isLt
  have x1 : (x 1).val < 128 := (x 1).isLt
  have e0 : k0_off3 i (BitVec.ofNat 32 r.val) 0 = 257 * (8 * ((i 0).val - 1) + r.val) := congrFun (off3_eq i hi r) 0
  have e1 : k0_off3 i (BitVec.ofNat 32 r.val) 1 = 0 := congrFun (off3_eq i hi r) 1
  unfold rowsOf
  congr 1
  refine idx_ext2 (a := 32903) (b := 128) ?_ ?_
  · show k0_off3 i (BitVec.ofNat 32 r.val) 0 + 1 * (x 0).val = _
    rw [nix_0 (a := 32903) (b := 128) _ _ _ (by omega), e0]; omega
  · show k0_off3 i (BitVec.ofNat 32 r.val) 1 + 1 * (x 1).val = _
    rw [nix_1 (a := 32903) (b := 128) _ _ _ x1, e1]; omega

theorem whole_eq (L : Vec F S1024x256 .f32) (inb) : (fun x => L ((Rect.unit (s := S1024x256) ![0, 0] S1024x256.size inb).idx x)) = L := by
  funext x
  congr 1
  refine idx_ext2 (a := 1024) (b := 256) ?_ ?_
  · show 0 + 1 * (x 0).val = _; omega
  · show 0 + 1 * (x 1).val = _; omega

/-! ## The parts -/

section Parts

variable (i : grid0.Coords) (arg1 : Memref sig .tc .vmem S1024x256 .f32) (harg1 : arg1.IsWhole) (arg2 : Memref sig .tc .vmem S256x128 .i32) (harg2 : arg2.IsWhole) (arg3 : Memref sig .tc .vmem S256x128 .f32) (harg3 : arg3.IsWhole) (arg4 : Memref sig .tc .vmem S1024x256 .f32) (harg4 : arg4.IsWhole) (arg5 : Memref sig .tc .vmem S32903x128 .f32) (harg5 : arg5.IsWhole)

/-- The table built, at the first point. -/
def part1 (kk : PUnit → PR F) : PR F :=
  if h : k0_cond1 i = 1#1 then
    Scf.Loop.for k0_t1_loop (k0_t1_ok i h) () (k0_t1_body i arg1 harg1 arg2 harg2 arg3 harg3 arg4 harg4 arg5 harg5 h (iota .tc S128x128 32 [0] iota_S128x128_d0_w32)) >>= fun _ => kk ()
  else kk ()

/-- One group of 128 rows written. -/
def put (k0_h2 : k0_cond2 i = 1#1) (r : Fin 8) (off : Fin 2 → ℕ) (inb : ∀ a, off a + S128x256.size a ≤ S1024x256.size a)
    (w : Vec F S256x128 .f32 → FVec F S128x256 .f32) (κ : PR F) : PR F :=
  .op (.load arg5 (Rect.unit (s := S32903x128) (k0_off3 i (BitVec.ofNat 32 r.val)) S256x128.size (k0_off3_inb i k0_h2 r)).toLoadRect (View.loadsAt_vmem h_S256x128)) fun v =>
  .op (.load arg4 (Rect.unit (s := S1024x256) off S128x256.size inb).toLoadRect (View.loadsAt_vmem h_S128x256)) fun _ =>
  .op (.store arg4 (Rect.unit (s := S1024x256) off S128x256.size inb) (w v) Finset.univ (View.stores_vmem_bits_univ h_S128x256 rfl) (.inl rfl)) fun _ => κ

/-- The block's rows written, once the table is built. -/
def part2 (kk : PUnit → PR F) : PR F :=
  if h : k0_cond2 i = 1#1 then
    .op (.load arg1 (Rect.unit (s := S1024x256) ![0, 0] S1024x256.size inb_S1024x256_S1024x256_0_0).toLoadRect (View.loadsAt_vmem h_S1024x256)) fun L =>
    put i arg4 arg5 h 0 ![0, 0] inb_S1024x256_S128x256_0_0 (k0_pay4 L) <|
    put i arg4 arg5 h 1 ![128, 0] inb_S1024x256_S128x256_128_0 (k0_pay5 L) <|
    put i arg4 arg5 h 2 ![256, 0] inb_S1024x256_S128x256_256_0 (k0_pay6 (k0_pay3 L)) <|
    put i arg4 arg5 h 3 ![384, 0] inb_S1024x256_S128x256_384_0 (k0_pay7 (k0_pay3 L)) <|
    put i arg4 arg5 h 4 ![512, 0] inb_S1024x256_S128x256_512_0 (k0_pay8 (k0_pay3 L)) <|
    put i arg4 arg5 h 5 ![640, 0] inb_S1024x256_S128x256_640_0 (k0_pay9 (k0_pay3 L)) <|
    put i arg4 arg5 h 6 ![768, 0] inb_S1024x256_S128x256_768_0 (k0_pay10 (k0_pay3 L)) <|
    put i arg4 arg5 h 7 ![896, 0] inb_S1024x256_S128x256_896_0 (k0_pay1 (k0_pay3 L)) (kk ())
  else kk ()

theorem body_parts : cc0__dlog_body (F := F) i arg1 harg1 arg2 harg2 arg3 harg3 arg4 harg4 arg5 harg5
    = part1 i arg1 harg1 arg2 harg2 arg3 harg3 arg4 harg4 arg5 harg5 fun _ => part2 i arg1 arg4 arg5 fun _ => .ret () := by
  rw [cc0__dlog_body_eq_skeleton]
  chain_rfl

/-- One trip of the loop: the expert's tokens and gradients read, its column stored. -/
def trip (k0_h1 : k0_cond1 i = 1#1) (t : Fin k0_t1_loop.trips) (κ : PR F) : PR F :=
  .op (.load arg2 (Rect.unit (s := S256x128) (k0_off1 t) S1x128.size (k0_off1_inb i t k0_h1)).toLoadRect (View.loadsAt_vmem h_S1x128)) fun v9 =>
  .op (.load arg3 (Rect.unit (s := S256x128) (k0_off1 t) S1x128.size (k0_off1_inb i t k0_h1)).toLoadRect (View.loadsAt_vmem h_S1x128)) fun v11 =>
  .op (.load arg5 (⟨k0_off2 t, S128x128.size, ![257, 1], (k0_off2_inb i t k0_h1)⟩ : LoadRect S32903x128) (View.loadsAt_vmem h_S128x128)) fun _ =>
  .op (.store arg5 ⟨(⟨k0_off2 t, S128x128.size, ![257, 1], (k0_off2_inb i t k0_h1)⟩ : LoadRect S32903x128), spos_257_1⟩ (k0_pay2 (iota .tc S128x128 32 [0] iota_S128x128_d0_w32) v9 v11) Finset.univ (View.stores_vmem_bits_univ h_S128x128 rfl) (.inl rfl)) fun _ => κ

theorem trip_eq (k0_h1 : k0_cond1 i = 1#1) (t : Fin k0_t1_loop.trips) :
    k0_t1_body (F := F) i arg1 harg1 arg2 harg2 arg3 harg3 arg4 harg4 arg5 harg5 k0_h1 (iota .tc S128x128 32 [0] iota_S128x128_d0_w32) t () = trip i arg2 arg3 arg5 k0_h1 t (.ret ()) := by
  unfold k0_t1_body
  rw [k0_part1_eq_skeleton]
  chain_rfl

end Parts

section Wp

variable (c : Dev nD) (i : grid0.Coords) (arg1 : Memref sig .tc .vmem S1024x256 .f32) (harg1 : arg1.IsWhole) (arg2 : Memref sig .tc .vmem S256x128 .i32) (harg2 : arg2.IsWhole) (arg3 : Memref sig .tc .vmem S256x128 .f32) (harg3 : arg3.IsWhole) (arg4 : Memref sig .tc .vmem S1024x256 .f32) (harg4 : arg4.IsWhole) (arg5 : Memref sig .tc .vmem S32903x128 .f32) (harg5 : arg5.IsWhole)
  (q1 q2 q3 : PosShare TreeShare) (L : Vec F S1024x256 .f32) (T : Vec F S256x128 .i32) (D : Vec F S256x128 .f32) (X : Vec F S32903x128 .f32)

theorem wp_trip (k0_h1 : k0_cond1 i = 1#1) (t : Fin k0_t1_loop.trips) :
    iprop(owns (c : Thread nD τ) arg2 q2 T ∗ owns (c : Thread nD τ) arg3 q3 D ∗ (∃ X, ⌜TabOK T D t.val X⌝ ∗ owns (c : Thread nD τ) arg5 fullShare X))
      ⊢ wpK (F := F) c (trip i arg2 arg3 arg5 k0_h1 t (.ret ())) fun _ =>
        iprop(owns (c : Thread nD τ) arg2 q2 T ∗ owns (c : Thread nD τ) arg3 q3 D ∗ (∃ X, ⌜TabOK T D (t.val + 1) X⌝ ∗ owns (c : Thread nD τ) arg5 fullShare X)) := by
  unfold trip
  iintro ⟨H2, H3, ⟨%X, %hX, H5⟩⟩
  iapply (ld c) $$ H2
  iintro H2
  iapply (ld c) $$ H3
  iintro H3
  iapply (ld c) $$ H5
  iintro H5
  iapply (st c) $$ H5
  iintro %X' %hX' H5
  iapply (wpK_ret c .rfl)
  iframe H2 H3
  iexists X'
  iframe H5
  ipureintro
  refine tab_step (i := i) (k0_h1 := k0_h1) hX ?_
  rw [row_eq, row_eq] at hX'
  exact hX'

theorem wp_loop {α : Type} {Q : α → sProp 𝕄} (k0_h1 : k0_cond1 i = 1#1) (kk : Unit → Prog (TpuEff nD τ sig (Elt F) Λ₀ .tc) α) :
    iprop(owns (c : Thread nD τ) arg2 q2 T ∗ owns (c : Thread nD τ) arg3 q3 D ∗ owns (c : Thread nD τ) arg5 fullShare X)
      ⊢ iprop(((owns (c : Thread nD τ) arg2 q2 T ∗ owns (c : Thread nD τ) arg3 q3 D ∗ (∃ X, ⌜TabOK T D 256 X⌝ ∗ owns (c : Thread nD τ) arg5 fullShare X)) -∗ wpK (F := F) c (kk ()) Q)
        -∗ wpK (F := F) c (Scf.Loop.for k0_t1_loop (k0_t1_ok i k0_h1) () (k0_t1_body i arg1 harg1 arg2 harg2 arg3 harg3 arg4 harg4 arg5 harg5 k0_h1 (iota .tc S128x128 32 [0] iota_S128x128_d0_w32)) >>= kk) Q) := by
  have key := Scf.wp_for_bind (M := 𝕄) frame (wpE (defs₀ (F := F)) Variants.none (c : Thread nD τ) none) Set.univ
    k0_t1_loop.lb k0_t1_loop.ub k0_t1_loop.st (k0_t1_ok i k0_h1) () (k0_t1_body (F := F) i arg1 harg1 arg2 harg2 arg3 harg3 arg4 harg4 arg5 harg5 k0_h1 (iota .tc S128x128 32 [0] iota_S128x128_d0_w32))
    (fun n _ => iprop(owns (c : Thread nD τ) arg2 q2 T ∗ owns (c : Thread nD τ) arg3 q3 D ∗ (∃ X, ⌜TabOK T D n X⌝ ∗ owns (c : Thread nD τ) arg5 fullShare X)))
    ?_ (kk := kk) (Q := Q)
  · iintro ⟨H2, H3, H5⟩ HK
    iapply key $$ [H2 H3 H5]
    · iframe H2 H3
      iexists X
      iframe H5
      ipureintro
      exact fun e _ _ h => absurd h (Nat.not_lt_zero e)
    · iintro %acc H
      iapply HK
      iexact H
  · intro t acc
    rw [show k0_t1_body (F := F) i arg1 harg1 arg2 harg2 arg3 harg3 arg4 harg4 arg5 harg5 k0_h1 (iota .tc S128x128 32 [0] iota_S128x128_d0_w32) t acc = trip i arg2 arg3 arg5 k0_h1 t (.ret ()) from
      trip_eq i arg1 harg1 arg2 harg2 arg3 harg3 arg4 harg4 arg5 harg5 k0_h1 t]
    exact wp_trip c i arg2 arg3 arg5 q2 q3 T D k0_h1 t

theorem wp_put {Q : PUnit → sProp 𝕄} (k0_h2 : k0_cond2 i = 1#1) (r : Fin 8) (n n' : ℕ) (hn : r.val = n) (hn' : n' = n + 1) (off : Fin 2 → ℕ) (hoff : off = ![128 * n, 0]) (inb) (f : ℕ → FVec F S128x256 .f32) (w : Vec F S256x128 .f32 → FVec F S128x256 .f32)
    (hw : w (rowsOf X (8 * ((i 0).val - 1) + n)) = f n) (κ : PR F) :
    iprop(owns (c : Thread nD τ) arg5 fullShare X ∗ (∃ D, ⌜Outs f n D⌝ ∗ owns (c : Thread nD τ) arg4 fullShare D))
      ⊢ iprop(((owns (c : Thread nD τ) arg5 fullShare X ∗ (∃ D, ⌜Outs f n' D⌝ ∗ owns (c : Thread nD τ) arg4 fullShare D)) -∗ wpK (F := F) c κ Q)
        -∗ wpK (F := F) c (put i arg4 arg5 k0_h2 r off inb w κ) Q) := by
  subst hn hn' hoff
  unfold put
  iintro ⟨H5, ⟨%D, %hD, H4⟩⟩ HK
  iapply (ld c) $$ H5
  iintro H5
  iapply (ld c) $$ H4
  iintro H4
  iapply (st c) $$ H4
  iintro %D' %hD' H4
  iapply HK
  iframe H5
  iexists D'
  iframe H4
  ipureintro
  rw [rows_eq i k0_h2 r X] at hD'
  exact outs_step hw hD hD'

/-- One grid point: the table `X` and the block of rows `E` after it. -/
structure Step (X0 X : Vec F S32903x128 .f32) (E : Vec F S1024x256 .f32) : Prop where
  tab : (i 0).val = 0 → TabOK T D 256 X
  keep : 0 < (i 0).val → X = X0
  out : 0 < (i 0).val → Outs (fun h => grpL L (rowsOf X0 (8 * ((i 0).val - 1) + h)) h) 8 E

theorem wp_body (E : Vec F S1024x256 .f32) :
    iprop(owns (c : Thread nD τ) arg1 q1 L ∗ owns (c : Thread nD τ) arg2 q2 T ∗ owns (c : Thread nD τ) arg3 q3 D ∗ owns (c : Thread nD τ) arg4 fullShare E ∗ owns (c : Thread nD τ) arg5 fullShare X)
      ⊢ wpK (F := F) c (cc0__dlog_body i arg1 harg1 arg2 harg2 arg3 harg3 arg4 harg4 arg5 harg5) fun _ =>
        iprop(∃ X' E', ⌜Step i L T D X X' E'⌝ ∗ owns (c : Thread nD τ) arg1 q1 L ∗ owns (c : Thread nD τ) arg2 q2 T ∗ owns (c : Thread nD τ) arg3 q3 D
          ∗ owns (c : Thread nD τ) arg4 fullShare E' ∗ owns (c : Thread nD τ) arg5 fullShare X') := by
  rw [body_parts]
  by_cases hi : (i 0).val = 0
  · have h1 := (cond1_iff i).mpr hi
    have h2 : ¬ k0_cond2 i = 1#1 := fun h => absurd ((cond2_iff i).mp h) (by omega)
    unfold part1 part2
    rw [dif_pos h1]
    iintro ⟨H1, H2, H3, H4, H5⟩
    iapply (wp_loop c i arg1 harg1 arg2 harg2 arg3 harg3 arg4 harg4 arg5 harg5 q2 q3 T D X h1) $$ [H2 H3 H5]
    · iframe H2 H3 H5
    iintro ⟨H2, H3, ⟨%X', %hX', H5⟩⟩
    rw [dif_neg h2]
    iapply (wpK_ret c .rfl)
    iexists X', E
    iframe H1 H2 H3 H4 H5
    ipureintro
    exact ⟨fun _ => hX', fun h => absurd h (by omega), fun h => absurd h (by omega)⟩
  · have hp : 0 < (i 0).val := by omega
    have h1 : ¬ k0_cond1 i = 1#1 := fun h => hi ((cond1_iff i).mp h)
    have h2 := (cond2_iff i).mpr hp
    unfold part1 part2
    rw [dif_neg h1, dif_pos h2]
    iintro ⟨H1, H2, H3, H4, H5⟩
    iapply (ld c) $$ H1
    iintro H1
    rw [whole_eq]
    iapply (wp_put c i arg4 arg5 X h2 0 0 1 rfl rfl _ rfl _ (fun h => grpL L (rowsOf X (8 * ((i 0).val - 1) + h)) h) (k0_pay4 L) rfl) $$ [H4 H5]
    · iframe H5
      iexists E
      iframe H4
      ipureintro
      exact fun z hz => absurd hz (Nat.not_lt_zero _)
    iintro H
    iapply (wp_put c i arg4 arg5 X h2 1 1 2 rfl rfl _ rfl _ (fun h => grpL L (rowsOf X (8 * ((i 0).val - 1) + h)) h) (k0_pay5 L) rfl) $$ H
    iintro H
    iapply (wp_put c i arg4 arg5 X h2 2 2 3 rfl rfl _ rfl _ (fun h => grpL L (rowsOf X (8 * ((i 0).val - 1) + h)) h) (k0_pay6 (k0_pay3 L)) rfl) $$ H
    iintro H
    iapply (wp_put c i arg4 arg5 X h2 3 3 4 rfl rfl _ rfl _ (fun h => grpL L (rowsOf X (8 * ((i 0).val - 1) + h)) h) (k0_pay7 (k0_pay3 L)) rfl) $$ H
    iintro H
    iapply (wp_put c i arg4 arg5 X h2 4 4 5 rfl rfl _ rfl _ (fun h => grpL L (rowsOf X (8 * ((i 0).val - 1) + h)) h) (k0_pay8 (k0_pay3 L)) rfl) $$ H
    iintro H
    iapply (wp_put c i arg4 arg5 X h2 5 5 6 rfl rfl _ rfl _ (fun h => grpL L (rowsOf X (8 * ((i 0).val - 1) + h)) h) (k0_pay9 (k0_pay3 L)) rfl) $$ H
    iintro H
    iapply (wp_put c i arg4 arg5 X h2 6 6 7 rfl rfl _ rfl _ (fun h => grpL L (rowsOf X (8 * ((i 0).val - 1) + h)) h) (k0_pay10 (k0_pay3 L)) rfl) $$ H
    iintro H
    iapply (wp_put c i arg4 arg5 X h2 7 7 8 rfl rfl _ rfl _ (fun h => grpL L (rowsOf X (8 * ((i 0).val - 1) + h)) h) (k0_pay1 (k0_pay3 L)) rfl) $$ H
    iintro ⟨H5, ⟨%E', %hE', H4⟩⟩
    iapply (wpK_ret c .rfl)
    iexists X, E'
    iframe H1 H2 H3 H4 H5
    ipureintro
    exact ⟨fun h => absurd h hi, fun _ => rfl, fun _ => hE'⟩

end Wp

end Cert.DlogIdeal.Val
-- ==== Proof.DlogPipe.lean ====
/-
The logits kernel's launch: what each point finds in its windows' buffers and leaves there, the invariant that carries
the dense table, and what the result holds after the run.
-/
module

public import proofs.«01_k».proof.Proof.DlogBody
public import proofs.«01_k».proof.Proof.Gen.DlogIdeal.Launch
public import Idealize.ShloMosaic.Lib.Pipeline.Frame
public import Idealize.ShloMosaic.Lib.Pipeline.ValueKit.Geometry
public import Idealize.ShloMosaic.Lib.Pipeline.ArrRel

@[expose] public section

noncomputable section

namespace Cert.DlogIdeal.Val

open Idealize.ShloMosaic Idealize.SL.Sem Cert.DlogIdeal Cert.DlogIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (RDat)
open Cert.KernelIdeal.Trip (nix idx_ext2 nix_0 nix_1)

variable {F : FTy → Type} [FloatOps F]
local notation "𝕄" => MT nD τ sig Unit (Elt F) ℕ (UR sig nD τ) ℕ

/-- The buffers' contents on one core. -/
abbrev Bufs (F : FTy → Type) (c : Dev nD) : Type := (b : Ref sig .tc) → Buf (Elt F) ((c : Thread nD τ).loc b)

abbrev lx (i j : ℕ) : S16384x256.Idx := nix S16384x256 rfl (by decide) i j

/-- Block `b` of 1024 rows of logits. -/
def blkL (L : Vec F S16384x256 .f32) (b : ℕ) : Vec F S1024x256 .f32 := fun x => L (lx (1024 * b + (x 0).val) (x 1).val)

/-- The dense table's rows of token group `h`. -/
def rowsT (T : Vec F S256x128 .i32) (D : Vec F S256x128 .f32) (h : ℕ) : Vec F S256x128 .f32 := fun x => colS T D (x 0).val (hx h (x 1).val)

/-- The result at row `i` of block `b`, column `j`. -/
def outS (L : Vec F S16384x256 .f32) (T : Vec F S256x128 .i32) (D : Vec F S256x128 .f32) (b i j : ℕ) : Elt F .f32 :=
  grpL (blkL L b) (rowsT T D (8 * b + i / 128)) (i / 128) (gx (i % 128) j)

theorem rowsOf_eq {T : Vec F S256x128 .i32} {D : Vec F S256x128 .f32} {X : Vec F S32903x128 .f32} (hX : TabOK T D 256 X) {h : ℕ} (hh : h < 128) : rowsOf X h = rowsT T D h := by
  funext x
  have x0 : (x 0).val < 256 := (x 0).isLt
  have x1 : (x 1).val < 128 := (x 1).isLt
  exact hX _ _ _ x0 x0 hh x1

theorem coord0 (t : Fin grid0.N) : (grid0.coords t 0).val = t.val := by
  have : t.val < 17 := lt_of_lt_of_eq t.isLt N_0
  show t.val / grid0.stride 0 % 17 = _
  rw [show grid0.stride 0 = 1 from by decide]
  omega

theorem index0 (i : grid0.Coords) : cc0_transform_0 i = ![(i 0).val - 1, 0] := by
  have h0 : ∀ a : Fin 17, (Scalar.maxsi (Scalar.subi (BitVec.ofNat 32 a.val) 1#32) 0#32 : BitVec 32).toNat = a.val - 1 := by decide +kernel
  exact congrArg (fun x => ![x, 0]) (h0 (i 0))
theorem index3 (i : grid0.Coords) : cc0_transform_3 i = ![(i 0).val - 1, 0] := index0 i

variable {c : Dev nD} (V : Bufs F c)

/-- The invariant before point `t`: from the second point on, the table is built. -/
def PhiV (t : ℕ) : sProp 𝕄 :=
  iprop((∃ r, prngReg c r) ∗ (∃ X, ⌜0 < t → TabOK (V main_arg1) (V main_arg2) 256 X⌝ ∗ owns (c : Thread nD τ) (Memref.whole cc0_scratch0) fullShare X))

/-- What a point leaves in the result's block. -/
def Out3 (i : grid0.Coords) (E : Vec F S1024x256 .f32) : Prop :=
  0 < (i 0).val → ∀ z : S1024x256.Idx, E z = outS (V main_arg0) (V main_arg1) (V main_arg2) ((i 0).val - 1) (z 0).val (z 1).val

/-- The proof data: the arrays, what each point leaves, the invariant. -/
def rdat : RDat τ (Elt F) Unit ℕ (UR sig nD τ) ℕ cfg0 c where
  A w := V (Pipeline.arrRef cfg0.spec w)
  after := fun
    | 0 => fun _ Y X => X = Y
    | 1 => fun _ Y X => X = Y
    | 2 => fun _ Y X => X = Y
    | 3 => fun t _ X => Out3 V (grid0.coords t) X
    | ⟨_ + 4, h⟩ => absurd h (Nat.not_lt.2 (Nat.le_add_left _ _))
  Φ t := PhiV V t.val
  q _ := fullShare
  owed _ := 0

theorem N_V : cfg0.N = 17 := N_0

section Found

variable (t : Fin cfg0.N)

theorem found0 (Y) (h : (rdat V).Finds 0 t Y) : (Y : Vec F S1024x256 .f32) = blkL (V main_arg0) ((grid0.coords t 0).val - 1) := by
  funext x
  have h0 : ((grid0.coords t) 0).val < 17 := ((grid0.coords t) 0).isLt
  have x0 : (x 0).val < 1024 := (x 0).isLt
  have x1 : (x 1).val < 256 := (x 1).isLt
  obtain ⟨d, hd⟩ := (rdat V).finds_in_eq_fetched 0 rfl (fun _ _ _ => rfl) (fun _ _ _ h => h) t Y h
  subst hd
  show V main_arg0 _ = V main_arg0 _
  congr 1
  refine idx_ext2 (a := 16384) (b := 256) ?_ ?_
  · show cc0_transform_0 (grid0.coords t) 0 * 1024 + 1 * (x 0).val = _
    rw [nix_0 (a := 16384) (b := 256) _ _ _ (by omega), index0]
    show (((grid0.coords t) 0).val - 1) * 1024 + 1 * (x 0).val = _
    omega
  · show cc0_transform_0 (grid0.coords t) 1 * 256 + 1 * (x 1).val = _
    rw [nix_1 (a := 16384) (b := 256) _ _ _ (by omega), index0]
    show 0 * 256 + 1 * (x 1).val = _
    omega

theorem found1 (Y) (h : (rdat V).Finds 1 t Y) : (Y : Vec F S256x128 .i32) = V main_arg1 := by
  funext x
  obtain ⟨d, hd⟩ := (rdat V).finds_in_eq_fetched 1 rfl (fun _ _ _ => rfl) (fun _ _ _ h => h) t Y h
  subst hd
  show V main_arg1 _ = V main_arg1 _
  congr 1
  refine idx_ext2 (a := 256) (b := 128) ?_ ?_
  · show 0 * 256 + 1 * (x 0).val = _; omega
  · show 0 * 128 + 1 * (x 1).val = _; omega

theorem found2 (Y) (h : (rdat V).Finds 2 t Y) : (Y : Vec F S256x128 .f32) = V main_arg2 := by
  funext x
  obtain ⟨d, hd⟩ := (rdat V).finds_in_eq_fetched 2 rfl (fun _ _ _ => rfl) (fun _ _ _ h => h) t Y h
  subst hd
  show V main_arg2 _ = V main_arg2 _
  congr 1
  refine idx_ext2 (a := 256) (b := 128) ?_ ?_
  · show 0 * 256 + 1 * (x 0).val = _; omega
  · show 0 * 128 + 1 * (x 1).val = _; omega

end Found

/-! ## The body's obligation -/

theorem defs₀_row (t : Fin cfg0.N) (s : (w : Fin 4) → Fin (spec0 w).nbuf) : defs₀ (F := F) .tc cfg0.body (cfg0.bodyArgs t s)
    = cc0__dlog_body (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (Memref.whole cc0_scratch0) (Memref.isWhole_whole _) := by
  unfold defs₀; rw [Defs.onTc_tc]

/-- The body at a point, its operands and the invariant in and out. -/
theorem sound_body (t : Fin grid0.N) (s : (w : Fin 4) → Fin (spec0 w).nbuf) (HO : sProp 𝕄)
    (Y : Vec F S1024x256 .f32) (T : Vec F S256x128 .i32) (D : Vec F S256x128 .f32) (E0 : Vec F S1024x256 .f32)
    (hY : Y = blkL (V main_arg0) ((grid0.coords t 0).val - 1)) (hT : T = V main_arg1) (hD : D = V main_arg2) :
    iprop(PhiV V t.val ∗ HO ∗ owns (c : Thread nD τ) (win0_0.stage (s 0)) fullShare Y ∗ owns (c : Thread nD τ) (win0_1.stage (s 1)) fullShare T ∗ owns (c : Thread nD τ) (win0_2.stage (s 2)) fullShare D
        ∗ owns (c : Thread nD τ) (win0_3.stage (s 3)) fullShare E0)
      ⊢ wpK c (cc0__dlog_body (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (Memref.whole cc0_scratch0) (Memref.isWhole_whole _)) fun _ =>
      iprop(PhiV V (t.val + 1) ∗ HO ∗ (∃ X, ⌜X = Y⌝ ∗ owns (c : Thread nD τ) (win0_0.stage (s 0)) fullShare X) ∗ (∃ X, ⌜X = T⌝ ∗ owns (c : Thread nD τ) (win0_1.stage (s 1)) fullShare X)
        ∗ (∃ X, ⌜X = D⌝ ∗ owns (c : Thread nD τ) (win0_2.stage (s 2)) fullShare X) ∗ (∃ X, ⌜Out3 V (grid0.coords t) X⌝ ∗ owns (c : Thread nD τ) (win0_3.stage (s 3)) fullShare X)) := by
  subst hY hT hD
  have e0 := coord0 t
  have h17 : t.val < 17 := lt_of_lt_of_eq t.isLt N_0
  unfold PhiV
  iintro ⟨⟨Hr, ⟨%X0, %hX, H5⟩⟩, HO, H1, H2, H3, H4⟩
  iapply (wp_wand_r (Q := fun _ => iprop(∃ X' E', ⌜Step (grid0.coords t) (blkL (V main_arg0) ((grid0.coords t 0).val - 1)) (V main_arg1) (V main_arg2) X0 X' E'⌝
        ∗ owns (c : Thread nD τ) (win0_0.stage (s 0)) fullShare (blkL (V main_arg0) ((grid0.coords t 0).val - 1)) ∗ owns (c : Thread nD τ) (win0_1.stage (s 1)) fullShare (V main_arg1)
        ∗ owns (c : Thread nD τ) (win0_2.stage (s 2)) fullShare (V main_arg2) ∗ owns (c : Thread nD τ) (win0_3.stage (s 3)) fullShare E'
        ∗ owns (c : Thread nD τ) (Memref.whole cc0_scratch0) fullShare X')) frame _ _)
  isplitl [H1 H2 H3 H4 H5]
  · iapply (wp_body c (grid0.coords t) _ _ _ _ _ _ _ _ _ _ fullShare fullShare fullShare (blkL (V main_arg0) ((grid0.coords t 0).val - 1)) (V main_arg1) (V main_arg2) X0 E0) $$ [H1 H2 H3 H4 H5]
    iframe H1 H2 H3 H4 H5
  iintro %_ ⟨%X, %E, %hS, H1, H2, H3, H4, H5⟩
  iframe Hr HO
  isplitl [H5]
  · iexists X
    iframe H5
    ipureintro
    intro _
    by_cases h : (grid0.coords t 0).val = 0
    · exact hS.tab h
    · rw [hS.keep (by omega)]
      exact hX (by omega)
  isplitl [H1]; · iexists _; iframe H1; ipureintro; rfl
  isplitl [H2]; · iexists _; iframe H2; ipureintro; rfl
  isplitl [H3]; · iexists _; iframe H3; ipureintro; rfl
  iexists E
  iframe H4
  ipureintro
  intro hi z
  have z0 : (z 0).val < 1024 := (z 0).isLt
  refine (hS.out hi z (by omega)).trans ?_
  unfold outS
  beta_reduce
  rw [rowsOf_eq (hX (by omega)) (show 8 * ((grid0.coords t 0).val - 1) + (z 0).val / 128 < 128 by omega)]

theorem Phi_cast (t : Fin cfg0.N) : (rdat V).Φ t.castSucc = PhiV V t.val := congrArg (PhiV V) (Fin.val_castSucc t)

theorem body_obligation : (rdat V).BodyObligation (defs₀ (F := F)) Variants.none () Set.univ := by
  intro t Y hY
  rw [bigSep_W0, bigSep_W0, defs₀_row, Phi_cast]
  exact sound_body V t _ ((rdat V).owesAt () t.castSucc) (Y 0) (Y 1) (Y 2) (Y 3) (found0 V t _ (hY 0)) (found1 V t _ (hY 1)) (found2 V t _ (hY 2))

/-! ## The result after the run -/

theorem flush3 (t : Fin cfg0.N) : (cfg0.win 3).flush t = true ↔ 1 ≤ t.val := by
  have hN : cfg0.grid.N = 17 := N_0
  have ht : t.val < 17 := lt_of_lt_of_eq t.isLt N_0
  rw [Pipeline.Window.flush, Bool.and_eq_true, Bool.or_eq_true, decide_eq_true_iff, decide_eq_true_iff]
  constructor
  · intro h
    by_contra hlt
    rcases h.2 with h | ⟨h1, h⟩
    · omega
    · refine h ?_
      show cc0_transform_3 (grid0.coords ⟨t.val + 1, h1⟩) = cc0_transform_3 (grid0.coords t)
      rw [index3, index3, coord0, coord0]
      show (![t.val + 1 - 1, 0] : Fin 2 → ℕ) = ![t.val - 1, 0]
      rw [show t.val + 1 - 1 = t.val - 1 by omega]
  · intro h
    refine ⟨rfl, ?_⟩
    by_cases h2 : t.val + 1 = cfg0.N
    · exact Or.inl h2
    · have h1 : t.val + 1 < cfg0.N := by
        have hN' : cfg0.N = 17 := N_0
        omega
      refine Or.inr ⟨h1, fun e => ?_⟩
      have e : cc0_transform_3 (grid0.coords ⟨t.val + 1, h1⟩) = cc0_transform_3 (grid0.coords t) := e
      rw [index3, index3, coord0, coord0] at e
      have e : t.val + 1 - 1 = t.val - 1 := congrFun e 0
      omega

/-- The rows written by the points before `n`. -/
def Done3 (n : ℕ) (G : Vec F S16384x256 .f32) : Prop :=
  ∀ y : S16384x256.Idx, (y 0).val / 1024 + 1 < n → G y = outS (V main_arg0) (V main_arg1) (V main_arg2) ((y 0).val / 1024) ((y 0).val % 1024) (y 1).val

theorem done3 : ∀ n, n ≤ 17 → ∀ G, (rdat V).ArrAt 3 n G → Done3 V n G
  | 0, _, G, _ => fun y h => absurd h (Nat.not_lt_zero _)
  | n + 1, hn, G, hG => by
    have hlt : n < cfg0.N := by rw [N_V]; omega
    have e0 : (grid0.coords ⟨n, hlt⟩ 0).val = n := coord0 ⟨n, hlt⟩
    rw [(rdat V).ArrAt_succ 3 ⟨n, hlt⟩] at hG
    by_cases hf : (cfg0.win 3).flush ⟨n, hlt⟩ = true
    · rw [if_pos hf] at hG
      have h1 : 1 ≤ n := (flush3 _).mp hf
      obtain ⟨G₀, X, hG₀, ⟨Y, -, hX⟩, rfl⟩ := hG
      have hX : Out3 V (grid0.coords ⟨n, hlt⟩) X := hX
      have ih := done3 n (by omega) G₀ hG₀
      have i0 : cc0_transform_3 (grid0.coords ⟨n, hlt⟩) 0 = n - 1 := by rw [index3, e0]; rfl
      have i1 : cc0_transform_3 (grid0.coords ⟨n, hlt⟩) 1 = 0 := by rw [index3]; rfl
      intro y hy
      have y0 : (y 0).val < 16384 := (y 0).isLt
      have y1 : (y 1).val < 256 := (y 1).isLt
      by_cases hu : (y 0).val / 1024 + 1 = n
      · have hy' : y = ((cfg0.win 3).blk ⟨n, hlt⟩).view.emb (nix S1024x256 rfl (by decide) ((y 0).val % 1024) (y 1).val) := by
          refine idx_ext2 (a := 16384) (b := 256) ?_ ?_
          · show _ = cc0_transform_3 (grid0.coords ⟨n, hlt⟩) 0 * 1024 + 1 * (((y 0).val % 1024) % 1024)
            rw [i0]; omega
          · show _ = cc0_transform_3 (grid0.coords ⟨n, hlt⟩) 1 * 256 + 1 * ((y 1).val % 256)
            rw [i1]; omega
        have hw := View.write_emb_of_mem (Val := Elt F) (v := ((cfg0.win 3).blk ⟨n, hlt⟩).view) G₀ ((cfg0.win 3).cut (grid0.coords ⟨n, hlt⟩) X)
          (Finset.mem_univ (nix S1024x256 rfl (by decide) ((y 0).val % 1024) (y 1).val))
        rw [← hy'] at hw
        refine hw.trans ((hX (by rw [e0]; omega) (nix S1024x256 rfl (by decide) ((y 0).val % 1024) (y 1).val)).trans ?_)
        rw [e0, nix_0 (a := 1024) (b := 256) _ _ _ (Nat.mod_lt _ (by decide)), nix_1 (a := 1024) (b := 256) _ _ _ y1, show n - 1 = (y 0).val / 1024 by omega]
      · have hw := View.write_of_not_mem (Val := Elt F) (v := ((cfg0.win 3).blk ⟨n, hlt⟩).view) G₀ ((cfg0.win 3).cut (grid0.coords ⟨n, hlt⟩) X) Finset.univ (i := y) (by
          intro hm
          obtain ⟨x', -, hx⟩ := Finset.mem_map.mp hm
          obtain ⟨x, hxx⟩ : ∃ x : S1024x256.Idx, x = x' := ⟨x', rfl⟩
          subst hxx
          have x0 : (x 0).val < 1024 := (x 0).isLt
          have q0 : (y 0).val = cc0_transform_3 (grid0.coords ⟨n, hlt⟩) 0 * 1024 + 1 * (x 0).val := by rw [← hx]; rfl
          rw [i0] at q0
          omega)
        exact hw.trans (ih y (by omega))
    · intro y hy
      have : ¬ 1 ≤ n := fun h => hf ((flush3 _).mpr h)
      omega

theorem final3 (G) (hG : (rdat V).ArrAt 3 cfg0.N G) (y : S16384x256.Idx) :
    (G : Vec F S16384x256 .f32) y = outS (V main_arg0) (V main_arg1) (V main_arg2) ((y 0).val / 1024) ((y 0).val % 1024) (y 1).val := by
  have y0 : (y 0).val < 16384 := (y 0).isLt
  rw [N_V] at hG
  exact done3 V 17 le_rfl G hG y (by omega)

/-! ## The launch -/

variable (m : (ℓ : Loc nD τ sig) → Buf (Elt F) ℓ) (ρ : Dev nD → PrngReg)

/-- The buffers' contents when the region is entered. -/
abbrev VV (c : Dev nD) : Bufs F c := fun b => m ((c : Thread nD τ).loc b)

theorem phi_in {c : Dev nD} (V : Bufs F c) : Pipeline.ΦA spec0 c ⊢ (PhiV V 0 : sProp 𝕄) := by
  unfold Pipeline.ΦA PhiV
  rw [scopedRest0_eq]
  iintro ⟨⟨%X, H0⟩, Hr⟩
  iframe Hr
  iexists X
  isplitr
  · ipureintro; exact fun h => absurd h (Nat.lt_irrefl 0)
  · rw [owns_whole]; iexact H0

theorem phi_out {c : Dev nD} (V : Bufs F c) (n : ℕ) : (PhiV V n : sProp 𝕄) ⊢ Pipeline.ΦA spec0 c := by
  unfold Pipeline.ΦA PhiV
  rw [scopedRest0_eq]
  simp only [owns_whole]
  iintro ⟨Hr, ⟨%X, -, H0⟩⟩
  iframe Hr
  iexists X
  iexact H0

set_option backward.isDefEq.respectTransparency.types false in
/-- Every run ends, the arrays as the proof data have them, the counters at zero. -/
theorem run_main :
    θ_run defs (onTc (τ := τ) (main (F := F))) (s₀ m ρ)
      (fun r => RDat.FramePost cfg0 (fun c => rdat (VV m c)) (VV m) r ∧ r.2.sem = fun _ => 0) :=
  Pipeline.RDat.θ_run_frame_track (Q' := _) cfgs (0 : Fin 1) launch0 defs₀ Variants.none
    (fun c => rdat (VV m c)) m ρ main
    (hbody := fun c => body_obligation (VV m c)) (hshare := fun c w => by unfold RDat.share; split <;> rfl)
    (howed := fun _ _ => rfl) (V := VV m) (hmain := Pipeline.hmain_region cfgs 0 defs₀ Variants.none m main main_chain)
    (hA := fun _ _ => rfl)
    (hin := fun c => phi_in (VV m c)) (hout := fun c => phi_out (VV m c) _)
    (hQ' := fun _ h => h)

/-- What the run leaves: the result by its blocks, the arguments kept. -/
theorem run_value :
    θ_run (defs (F := F)) (onTc (main (F := F))) ⟨m, fun _ => 0, ρ⟩ (fun r => (∀ c : Dev nD,
      (∀ y : S16384x256.Idx, r.2.mem ((c : Thread nD τ).loc main_v0) y
        = outS (m ((c : Thread nD τ).loc main_arg0)) (m ((c : Thread nD τ).loc main_arg1)) (m ((c : Thread nD τ).loc main_arg2)) ((y 0).val / 1024) ((y 0).val % 1024) (y 1).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) := by
  refine (run_main m ρ).mono ?_
  rintro r ⟨h, hs⟩
  exact ⟨fun c => ⟨fun y => final3 (VV m c) _ ((h c).1 3) y, RDat.FramePost.arr_in h c 0 rfl, RDat.FramePost.arr_in h c 1 rfl, RDat.FramePost.arr_in h c 2 rfl⟩, hs⟩

end Cert.DlogIdeal.Val
-- ==== Proof.DlogVal.lean ====
/-
The logits kernel's result over the extended reals: a row of the result is the softmax's gradient, of the row of logits and the
dense table's row, and the table's three parts of a score gradient are the gradient.
-/
module

public import proofs.«01_k».proof.Proof.DlogPipe
public import Idealize.ShloMosaic.Lib.Pointwise

@[expose] public section

noncomputable section

namespace Cert.DlogIdeal.Val

open Idealize.ShloMosaic Idealize.SL.Sem Cert.DlogIdeal Cert.DlogIdeal.Gen
open Idealize.ShloMosaic.TcCoe
open Cert.KernelIdeal.Trip (nix idx_ext2 nix_0 nix_1)

/-! ## The result's rows -/

/-- The softmax of a row of 256. -/
def sm (f : Fin 256 → EReal) (j : Fin 256) : EReal :=
  Ideal.div (Ideal.exp (f j - Finset.fold max (Ideal.ofBits FTy.f32 0xFF800000#32) f Finset.univ))
    (∑ x, Ideal.exp (f x - Finset.fold max (Ideal.ofBits FTy.f32 0xFF800000#32) f Finset.univ))

/-- The gradient of a row of logits from the gradient of its softmax. -/
def gl (f g : Fin 256 → EReal) (j : Fin 256) : EReal := sm f j * (g j - ∑ x, sm f x * g x)

theorem pay3_at (L : Vec Ideal S1024x256 .f32) (r : Fin 1024) (j : Fin 256) : k0_pay3 L (ix2 r j) = sm (fun x => L (ix2 r x)) j := by
  unfold k0_pay3 sm
  pointwise

theorem grp0_at (L : Vec Ideal S1024x256 .f32) (v : Vec Ideal S256x128 .f32) (p : Fin 128) (j : Fin 256) (r : Fin 1024) (hr : r.val = 128 * 0 + p.val) :
    k0_pay4 L v (ix2 p j) = gl (fun x => L (ix2 r x)) (fun x => v (ix2 x p)) j := by
  have e : r = ⟨p.val, by omega⟩ := Fin.ext (by show r.val = p.val; omega)
  rw [e]
  unfold k0_pay4
  pointwise
  simp only [pay3_at]
  rfl

theorem grp1_at (L : Vec Ideal S1024x256 .f32) (v : Vec Ideal S256x128 .f32) (p : Fin 128) (j : Fin 256) (r : Fin 1024) (hr : r.val = 128 * 1 + p.val) :
    k0_pay5 L v (ix2 p j) = gl (fun x => L (ix2 r x)) (fun x => v (ix2 x p)) j := by
  have e : r = ⟨128 + p.val, by omega⟩ := Fin.ext (by omega)
  rw [e]
  unfold k0_pay5
  pointwise
  simp only [pay3_at]
  rfl

theorem grp2_at (L : Vec Ideal S1024x256 .f32) (v : Vec Ideal S256x128 .f32) (p : Fin 128) (j : Fin 256) (r : Fin 1024) (hr : r.val = 128 * 2 + p.val) :
    k0_pay6 (k0_pay3 L) v (ix2 p j) = gl (fun x => L (ix2 r x)) (fun x => v (ix2 x p)) j := by
  have e : r = ⟨256 + p.val, by omega⟩ := Fin.ext (by omega)
  rw [e]
  unfold k0_pay6
  pointwise
  simp only [pay3_at]
  rfl

theorem grp3_at (L : Vec Ideal S1024x256 .f32) (v : Vec Ideal S256x128 .f32) (p : Fin 128) (j : Fin 256) (r : Fin 1024) (hr : r.val = 128 * 3 + p.val) :
    k0_pay7 (k0_pay3 L) v (ix2 p j) = gl (fun x => L (ix2 r x)) (fun x => v (ix2 x p)) j := by
  have e : r = ⟨384 + p.val, by omega⟩ := Fin.ext (by omega)
  rw [e]
  unfold k0_pay7
  pointwise
  simp only [pay3_at]
  rfl

theorem grp4_at (L : Vec Ideal S1024x256 .f32) (v : Vec Ideal S256x128 .f32) (p : Fin 128) (j : Fin 256) (r : Fin 1024) (hr : r.val = 128 * 4 + p.val) :
    k0_pay8 (k0_pay3 L) v (ix2 p j) = gl (fun x => L (ix2 r x)) (fun x => v (ix2 x p)) j := by
  have e : r = ⟨512 + p.val, by omega⟩ := Fin.ext (by omega)
  rw [e]
  unfold k0_pay8
  pointwise
  simp only [pay3_at]
  rfl

theorem grp5_at (L : Vec Ideal S1024x256 .f32) (v : Vec Ideal S256x128 .f32) (p : Fin 128) (j : Fin 256) (r : Fin 1024) (hr : r.val = 128 * 5 + p.val) :
    k0_pay9 (k0_pay3 L) v (ix2 p j) = gl (fun x => L (ix2 r x)) (fun x => v (ix2 x p)) j := by
  have e : r = ⟨640 + p.val, by omega⟩ := Fin.ext (by omega)
  rw [e]
  unfold k0_pay9
  pointwise
  simp only [pay3_at]
  rfl

theorem grp6_at (L : Vec Ideal S1024x256 .f32) (v : Vec Ideal S256x128 .f32) (p : Fin 128) (j : Fin 256) (r : Fin 1024) (hr : r.val = 128 * 6 + p.val) :
    k0_pay10 (k0_pay3 L) v (ix2 p j) = gl (fun x => L (ix2 r x)) (fun x => v (ix2 x p)) j := by
  have e : r = ⟨768 + p.val, by omega⟩ := Fin.ext (by omega)
  rw [e]
  unfold k0_pay10
  pointwise
  simp only [pay3_at]
  rfl

theorem grp7_at (L : Vec Ideal S1024x256 .f32) (v : Vec Ideal S256x128 .f32) (p : Fin 128) (j : Fin 256) (r : Fin 1024) (hr : r.val = 128 * 7 + p.val) :
    k0_pay1 (k0_pay3 L) v (ix2 p j) = gl (fun x => L (ix2 r x)) (fun x => v (ix2 x p)) j := by
  have e : r = ⟨896 + p.val, by omega⟩ := Fin.ext (by omega)
  rw [e]
  unfold k0_pay1
  pointwise
  simp only [pay3_at]
  rfl

theorem grp_at (L : Vec Ideal S1024x256 .f32) (v : Vec Ideal S256x128 .f32) (h : ℕ) (hh : h < 8) (p : Fin 128) (j : Fin 256) (r : Fin 1024) (hr : r.val = 128 * h + p.val) :
    grpL L v h (ix2 p j) = gl (fun x => L (ix2 r x)) (fun x => v (ix2 x p)) j :=
  match h, hh, hr with
  | 0, _, hr => grp0_at L v p j r hr
  | 1, _, hr => grp1_at L v p j r hr
  | 2, _, hr => grp2_at L v p j r hr
  | 3, _, hr => grp3_at L v p j r hr
  | 4, _, hr => grp4_at L v p j r hr
  | 5, _, hr => grp5_at L v p j r hr
  | 6, _, hr => grp6_at L v p j r hr
  | 7, _, hr => grp7_at L v p j r hr

/-! ## The dense table -/

theorem sel_eq (a b : BitVec 32) (p q : EReal) : Scalar.select (IntOp.cmpi .eq a b) p q = if a = b then p else q := by
  by_cases h : a = b
  · subst h
    rw [if_pos rfl]
    have : IntOp.cmpi .eq a a = 1#1 := by
      show BitVec.ofBool (a == a) = 1#1
      rw [beq_self_eq_true]; rfl
    rw [this]; rfl
  · rw [if_neg h]
    have : IntOp.cmpi .eq a b = 0#1 := by
      show BitVec.ofBool (a == b) = 0#1
      rw [beq_eq_false_iff_ne.mpr h]; rfl
    rw [this]; rfl

theorem hi_eq {w : BitVec 32} (hw : w.toNat < 2 ^ 31) (h : Fin 128) : BitVec.ofNat 32 h.val = IntOp.shrsi .vector w 7#32 ↔ h.val = w.toNat / 128 := by
  have hh := h.isLt
  have e : IntOp.shrsi .vector w 7#32 = w >>> 7 := by
    unfold IntOp.shrsi
    rw [if_pos (by decide)]
    show w.sshiftRight 7 = _
    exact BitVec.sshiftRight_eq_of_msb_false (BitVec.msb_eq_false_iff_two_mul_lt.mpr (by omega))
  rw [e, ← BitVec.toNat_inj, BitVec.toNat_ofNat, BitVec.toNat_ushiftRight, Nat.shiftRight_eq_div_pow]
  omega

theorem lo_eq {w : BitVec 32} (hw : w.toNat < 2 ^ 31) (l : Fin 128) : BitVec.ofNat 32 l.val = IntOp.andi w 127#32 ↔ l.val = w.toNat % 128 := by
  have hl := l.isLt
  have e : (IntOp.andi w 127#32).toNat = w.toNat % 128 := by
    show (w &&& 127#32).toNat = _
    rw [BitVec.toNat_and]
    exact Nat.and_two_pow_sub_one_eq_mod w.toNat 7
  rw [← BitVec.toNat_inj, BitVec.toNat_ofNat, e]
  omega

theorem hit_eq {w : BitVec 32} (hw : w.toNat < 2 ^ 31) (h l : Fin 128) (d : EReal) :
    Scalar.select (IntOp.cmpi .eq (BitVec.ofNat 32 l.val) (IntOp.andi w 127#32)) (Scalar.select (IntOp.cmpi .eq (BitVec.ofNat 32 h.val) (IntOp.shrsi .vector w 7#32)) d 0) 0
      = if w.toNat = 128 * h.val + l.val then d else 0 := by
  have hl := l.isLt
  rw [sel_eq, sel_eq]
  simp only [lo_eq hw, hi_eq hw]
  by_cases h1 : l.val = w.toNat % 128
  · rw [if_pos h1]
    by_cases h2 : h.val = w.toNat / 128
    · rw [if_pos h2, if_pos (by omega)]
    · rw [if_neg h2, if_neg (by omega)]
  · rw [if_neg h1, if_neg (by omega)]

theorem col_at (T : IVec S1x128 32) (D : Vec Ideal S1x128 .f32) (hT : ∀ x, (T (ix2 0 x)).toNat < 2 ^ 31) (hD : ∀ x, D (ix2 0 x) - D (ix2 0 x) = (0 : EReal)) (h l : Fin 128) :
    k0_pay2 (iota .tc S128x128 32 [0] iota_S128x128_d0_w32) T D (ix2 h l) = ∑ x : Fin 128, if (T (ix2 0 x)).toNat = 128 * h.val + l.val then D (ix2 0 x) else 0 := by
  unfold k0_pay2
  pointwise
  have s0 : ∀ c : BitVec 1, Scalar.select c (0 : EReal) 0 = 0 := fun c => by unfold Scalar.select; exact ite_self _
  simp only [hD, hit_eq (hT _), ite_self, Finset.sum_const_zero, add_zero, sub_zero, s0]
  refine (congrArg₂ (· + ·) rfl (Finset.sum_eq_zero fun x _ => ?_)).trans (add_zero _)
  rw [dif_neg (by omega), dif_neg (by omega)]
  exact s0 _

/-- The dense table's entry at token `r`, expert `e`: the gradients of the expert's slots that name the token. -/
def dense (T : Vec Ideal S256x128 .i32) (D : Vec Ideal S256x128 .f32) (r : ℕ) (e : Fin 256) : EReal :=
  ∑ c : Fin 128, if BitVec.toNat (T (ix2 e c)) = r then D (ix2 e c) else 0

theorem outS_at (L : Vec Ideal S16384x256 .f32) (T : Vec Ideal S256x128 .i32) (D : Vec Ideal S256x128 .f32) (hT : ∀ y, BitVec.toNat (T y) < 2 ^ 31) (hD : ∀ y, D y - D y = (0 : EReal))
    (r : Fin 16384) (j : Fin 256) :
    outS L T D (r.val / 1024) (r.val % 1024) j.val = gl (fun x => L (ix2 r x)) (dense T D r.val) j := by
  have hr := r.isLt
  unfold outS
  have e : gx (r.val % 1024 % 128) j.val = ix2 (⟨r.val % 1024 % 128, by omega⟩ : Fin 128) j :=
    idx_ext2 (a := 128) (b := 256) (Nat.mod_eq_of_lt (show r.val % 1024 % 128 < 128 by omega)) (Nat.mod_eq_of_lt j.isLt)
  rw [e, grp_at _ _ _ (by omega) _ _ (⟨r.val % 1024, by omega⟩ : Fin 1024) (by show r.val % 1024 = 128 * (r.val % 1024 / 128) + r.val % 1024 % 128; omega)]
  refine congrArg₂ (fun f g => gl f g j) (funext fun x => ?_) (funext fun x => ?_)
  · refine congrArg L (idx_ext2 (a := 16384) (b := 256) ?_ ?_)
    · show (1024 * (r.val / 1024) + r.val % 1024) % 16384 = r.val; omega
    · exact Nat.mod_eq_of_lt x.isLt
  · show colS T D x.val (hx (8 * (r.val / 1024) + r.val % 1024 / 128) (r.val % 1024 % 128)) = _
    have e2 : hx (8 * (r.val / 1024) + r.val % 1024 / 128) (r.val % 1024 % 128) = ix2 (⟨8 * (r.val / 1024) + r.val % 1024 / 128, by omega⟩ : Fin 128) (⟨r.val % 1024 % 128, by omega⟩ : Fin 128) :=
      idx_ext2 (a := 128) (b := 128) (Nat.mod_eq_of_lt (show 8 * (r.val / 1024) + r.val % 1024 / 128 < 128 by omega)) (Nat.mod_eq_of_lt (show r.val % 1024 % 128 < 128 by omega))
    have e3 : ∀ c : Fin 128, ex x.val c.val = ix2 x c := fun c => idx_ext2 (a := 256) (b := 128) (Nat.mod_eq_of_lt x.isLt) (Nat.mod_eq_of_lt c.isLt)
    unfold colS
    rw [e2, col_at _ _ (fun _ => hT _) (fun _ => hD _)]
    unfold dense
    refine Finset.sum_congr rfl fun c _ => ?_
    show (if BitVec.toNat (T (ex x.val c.val)) = 128 * (8 * (r.val / 1024) + r.val % 1024 / 128) + r.val % 1024 % 128 then D (ex x.val c.val) else 0) = _
    rw [e3, show 128 * (8 * (r.val / 1024) + r.val % 1024 / 128) + r.val % 1024 % 128 = r.val by omega]

end Cert.DlogIdeal.Val
-- ==== Proof.DlogFrame.lean ====
/-
The two frames of the logits kernel. Its two printed programs are one text, so the run at the machine's bits is the
generic run read at `Bits`: the two statements are equal by unfolding.
-/
module

public import proofs.«01_k».proof.Proof.DlogPipe
public import proofs.«01_k».proof.Proof.Gen.Dlog
public import proofs.«01_k».proof.Proof.Gen.DlogReferenceIdeal
public import proofs.«01_k».proof.Proof.Gen.Pre_tokens_distinct
public import proofs.«01_k».proof.Defs

@[expose] public section

noncomputable section

namespace Cert.DlogIdeal.Val

open Idealize.ShloMosaic Idealize.SL.Sem Cert.DlogIdeal Cert.DlogIdeal.Gen
open Idealize.ShloMosaic.TcCoe

/-- The frame, at either reading of the floats: the run keeps its arguments and ends quiescent. -/
def FrameAt (F : FTy → Type) [FloatOps F] : Prop :=
  ∀ (m : (ℓ : Loc nD τ sig) → Buf (Elt F) ℓ) (ρ : Dev nD → PrngReg),
    (∀ c : Dev nD, (Cert.Pre_tokens_distinct.fn (F := F) (m ((c.tc : Thread nD τ).loc main_arg0)) (m ((c.tc : Thread nD τ).loc main_arg1)) (m ((c.tc : Thread nD τ).loc main_arg2))) = (fun _ => 1#1)) →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frameAt (F : FTy → Type) [FloatOps F] : FrameAt F := by
  intro m ρ _
  refine (run_value m ρ).mono ?_
  rintro r ⟨h, hs⟩
  exact ⟨fun c => (h c).2, hs⟩

theorem frame_ideal : Cert.quiescent_DlogIdeal := frameAt Ideal

theorem frame_bits_eq : Cert.quiescent_Dlog (hDlog := Cert.Dlog.Gen.facts) = FrameAt Bits := by chain_rfl
theorem frame_bits : Cert.quiescent_Dlog := frame_bits_eq.mpr (frameAt Bits)

end Cert.DlogIdeal.Val
-- ==== Proof.DlogEquation.lean ====
/-
The logits kernel against its reference over the extended reals: the precondition read at an entry, the reference's dense table
of score gradients, the reference's result, and the equation of the two results.
-/
module

public import proofs.«01_k».proof.Proof.DlogVal
public import proofs.«01_k».proof.Proof.DlogFrame
public import proofs.«01_k».proof.Proof.Gen.DlogReferenceIdeal.Value
public import proofs.«01_k».proof.Proof.Gen.Pre_tokens_distinct
public import Idealize.ShloMosaic.Lib.Pointwise
public import Idealize.ShloMosaic.Lib.Routing.OpsSet
public import Idealize.ShloMosaic.Lib.Routing.OpsPair
public import Idealize.ShloMosaic.Lib.Routing.OpsOrder
public import Idealize.ShloMosaic.Lib.StableHlo.ReadAt

@[expose] public section

noncomputable section

namespace Cert.DlogReferenceIdeal.Ref

open Cert.DlogReferenceIdeal Cert.DlogReferenceIdeal.Gen Idealize.ShloMosaic Idealize.SL.Sem
open Idealize.ShloMosaic.TcCoe
open Idealize.ShloMosaic.Routing
open Cert.KernelIdeal.Trip (idx_ext2)
open Cert.DlogIdeal.Val (sm gl dense)

/-! ## The precondition -/

theorem and_one {a b : BitVec 1} (h : IntOp.andi a b = 1#1) : a = 1#1 ∧ b = 1#1 := by
  revert a b; decide

theorem nonneg_of {x : BitVec 32} (h : IntOp.cmpi .sge x 0#32 = 1#1) : x.toNat < 2 ^ 31 := by
  have h' : (0#32).sle x = true := by
    have h : BitVec.ofBool ((0#32).sle x) = 1#1 := h
    revert h
    cases (0#32).sle x <;> decide
  rw [BitVec.sle_iff_toInt_le, show (0#32).toInt = 0 by decide, BitVec.toInt_eq_toNat_cond] at h'
  have := x.isLt
  split at h' <;> omega

theorem sub_self_of_abs {d : EReal} (h : (FloatOps.absf (F := Ideal) (φ := .f32) d : EReal) < Ideal.ofBits FTy.f32 2139095040#32) : d - d = 0 := by
  have e : Ideal.ofBits FTy.f32 2139095040#32 = (⊤ : EReal) := by simp [Ideal.ofBits, Ideal.ieee]
  rw [e] at h
  have h' : max d (-d) < (⊤ : EReal) := h
  refine EReal.sub_self ?_ ?_
  · rintro rfl
    simp at h'
  · rintro rfl
    simp at h'

theorem pre_at {a0 : Vec Ideal S16384x256 .f32} {a1 : Vec Ideal S256x128 .i32} {a2 : Vec Ideal S256x128 .f32} (h : Cert.Pre_tokens_distinct.fn (F := Ideal) a0 a1 a2 = fun _ => 1#1)
    (e : Fin 256) (c : Fin 128) :
    BitVec.toNat (a1 (ix2 e c)) < 2 ^ 31 ∧ (∀ x : Fin 128, a1 (ix2 e c) = a1 (ix2 e x) → c = x) ∧ a2 (ix2 e c) - a2 (ix2 e c) = (0 : EReal) := by
  have h := congrFun h (ix2 e c)
  unfold Cert.Pre_tokens_distinct.fn Cert.Pre_tokens_distinct.fn_part1 at h
  pointwise at h
  have h1 := and_one h
  have h2 := and_one h1.1
  refine ⟨nonneg_of h2.1, ?_, ?_⟩
  · intro x hx
    by_contra hne
    have hf := (fold_ori Finset.univ (fun x : Fin 128 => IntOp.andi (IntOp.cmpi CmpIPredicate.eq (a1 (ix2 e c)) (a1 (ix2 e x)))
      (IntOp.cmpi CmpIPredicate.ne (BitVec.ofNat 32 c.val) (BitVec.ofNat 32 x.val)))).mpr ⟨x, Finset.mem_univ x, by
        have q1 : IntOp.cmpi CmpIPredicate.eq (a1 (ix2 e c)) (a1 (ix2 e x)) = 1#1 := by
          rw [hx]
          show BitVec.ofBool (_ == _) = 1#1
          rw [beq_self_eq_true]; rfl
        have q2 : IntOp.cmpi CmpIPredicate.ne (BitVec.ofNat 32 c.val) (BitVec.ofNat 32 x.val) = 1#1 := by
          have hb : BitVec.ofNat 32 c.val ≠ BitVec.ofNat 32 x.val := fun hb => hne (Fin.ext (by
            have := congrArg BitVec.toNat hb
            rw [BitVec.toNat_ofNat, BitVec.toNat_ofNat] at this
            have := c.isLt; have := x.isLt
            omega))
          show BitVec.ofBool (_ != _) = 1#1
          rw [bne_iff_ne.mpr hb]; rfl
        rw [q1, q2]; rfl⟩
    have h3 := h2.2
    rw [hf] at h3
    exact absurd h3 (by decide)
  · have h3 := h1.2
    refine sub_self_of_abs ?_
    by_contra hn
    rw [decide_eq_false hn] at h3
    exact absurd h3 (by decide)

/-! ## The reference's dense table -/

section
variable (m : (ℓ : Loc nD τ sig) → Buf (Elt Ideal) ℓ) (c : Dev nD)

/-- The reference's tokens and score gradients. -/
abbrev tokV : Vec Ideal S256x128 .i32 := m ((c : Thread nD τ).loc main_arg1)
abbrev dscV : Vec Ideal S256x128 .f32 := m ((c : Thread nD τ).loc main_arg2)
/-- The scatter's row and column indices. -/
abbrev idxV : Vec Ideal S256x128x2 .i32 := V m c main_v16
abbrev zeroV : Vec Ideal S16384x256 .f32 := V m c main_v0

theorem idxV_0 (a : Fin 256) (b : Fin 128) (h : BitVec.toNat (tokV m c (ix2 a b)) < 2 ^ 31) : idxV m c (ix3 a b 0) = tokV m c (ix2 a b) := by
  unfold idxV V
  after_reads_at
  exact wrap_of_lt _ _ (by change BitVec.toNat (tokV m c (ix2 a b)) < _; omega)

theorem idxV_1 (a : Fin 256) (b : Fin 128) : idxV m c (ix3 a b 1) = BitVec.ofNat 32 a.val := by
  unfold idxV V
  after_reads_at
  exact wrap_of_lt _ _ (by rw [BitVec.toNat_ofNat]; have := a.isLt; omega)

theorem zeroV_at (y : S16384x256.Idx) : zeroV m c y = (0 : EReal) := by
  have e : y = ix2 (y 0) (y 1) := idx_ext2 rfl rfl
  rw [e]
  unfold zeroV V
  after_reads_at

theorem tableV : (V m c main_v17 : Vec Ideal S16384x256 .f32) = Host.scatter scatter_S16384x256_S256x128x2_S256x128_n_01_01_2 (fun _ b => b) (zeroV m c) (idxV m c) (dscV m c) := by
  unfold zeroV idxV V
  after_reads_simp

theorem lands (hT : ∀ y, BitVec.toNat (tokV m c y) < 2 ^ 31) (a : Fin 256) (b : Fin 128) (r : Fin 16384) (e : Fin 256) :
    scatter_S16384x256_S256x128x2_S256x128_n_01_01_2.resultIdx? (ix2 a b) (idxV m c) = some (ix2 r e) ↔ BitVec.toNat (tokV m c (ix2 a b)) = r.val ∧ a = e := by
  have h0 := hT (ix2 a b)
  have ha := a.isLt
  refine (scatter_lands2 scatter_S16384x256_S256x128x2_S256x128_n_01_01_2 rfl rfl rfl (idxV m c) a b r e).trans ?_
  have i0 : idxV m c (ValueIdx.ix3 a b 0) = tokV m c (ix2 a b) := idxV_0 m c a b h0
  have i1 : idxV m c (ValueIdx.ix3 a b 1) = BitVec.ofNat 32 a.val := idxV_1 m c a b
  rw [i0, i1, BitVec.toInt_eq_toNat_of_lt (by omega), BitVec.toInt_eq_toNat_of_lt (by rw [BitVec.toNat_ofNat]; omega), BitVec.toNat_ofNat, Nat.mod_eq_of_lt (by omega)]
  rw [Nat.cast_inj, Nat.cast_inj, Fin.ext_iff]

/-- An entry of the reference's dense table. -/
theorem table_at (hT : ∀ y, BitVec.toNat (tokV m c y) < 2 ^ 31) (hd : ∀ (e : Fin 256) (a b : Fin 128), tokV m c (ix2 e a) = tokV m c (ix2 e b) → a = b) (r : Fin 16384) (e : Fin 256) :
    (V m c main_v17 : Vec Ideal S16384x256 .f32) (ix2 r e) = dense (tokV m c) (dscV m c) r.val e := by
  rw [tableV]
  have hk : ∀ k : S256x128.Idx, k = ix2 (k 0) (k 1) := fun k => idx_ext2 rfl rfl
  unfold dense
  by_cases hx : ∃ b : Fin 128, BitVec.toNat (tokV m c (ix2 e b)) = r.val
  · obtain ⟨b, hb⟩ := hx
    have u : ∀ x : Fin 128, BitVec.toNat (tokV m c (ix2 e x)) = r.val → x = b := fun x hx => hd e x b (BitVec.eq_of_toNat_eq (hx.trans hb.symm))
    rw [Finset.sum_eq_single b (fun x _ hne => if_neg fun h => hne (u x h)) (fun h => absurd (Finset.mem_univ b) h), if_pos hb]
    refine scatter_set_hit scatter_S16384x256_S256x128x2_S256x128_n_01_01_2 (zeroV m c) (idxV m c) (dscV m c) (ix2 r e) (dscV m c (ix2 e b)) (fun k h => ?_) (ix2 e b) ((lands m c hT e b r e).mpr ⟨hb, rfl⟩)
    rw [hk k] at h ⊢
    obtain ⟨h1, h2⟩ := (lands m c hT _ _ r e).mp h
    rw [h2] at h1 ⊢
    rw [u _ h1]
    rfl
  · rw [Finset.sum_eq_zero fun x _ => if_neg fun h => hx ⟨x, h⟩]
    refine (scatter_set_miss scatter_S16384x256_S256x128x2_S256x128_n_01_01_2 (zeroV m c) (idxV m c) (dscV m c) (ix2 r e) fun k h => ?_).trans (zeroV_at m c _)
    rw [hk k] at h
    obtain ⟨h1, h2⟩ := (lands m c hT _ _ r e).mp h
    rw [h2] at h1
    exact hx ⟨_, h1⟩
end

/-! ## The reference's result -/

theorem pay_at (L D : Vec Ideal S16384x256 .f32) (r : Fin 16384) (j : Fin 256) : k0_pay1 L D D (ix2 r j) = gl (fun x => L (ix2 r x)) (fun x => D (ix2 r x)) j := by
  unfold k0_pay1 gl sm
  pointwise

section
variable {F : FTy → Type} [FloatOps F] [∀ e, Inhabited (Elt F e)]
variable (m : (ℓ : Loc nD τ sig) → Buf (Elt F) ℓ) (c : Dev nD)

theorem iblk0 (t : Fin cfg0.N) : iblk m c 0 t = (V m c main_arg0 : Vec F S16384x256 .f32) := by
  funext y
  refine congrArg (V m c main_arg0 : Vec F S16384x256 .f32) (idx_ext2 ?_ ?_)
  · show 0 * 16384 + 1 * (y 0).val = _; omega
  · show 0 * 256 + 1 * (y 1).val = _; omega
theorem iblk1 (t : Fin cfg0.N) : iblk m c 1 t = (V m c main_v17 : Vec F S16384x256 .f32) := by
  funext y
  refine congrArg (V m c main_v17 : Vec F S16384x256 .f32) (idx_ext2 ?_ ?_)
  · show 0 * 16384 + 1 * (y 0).val = _; omega
  · show 0 * 256 + 1 * (y 1).val = _; omega
theorem ld_r0_0 {e : EltTy} (x : Vec F S16384x256 e) : View.ld x r0_0 = x := by
  funext y
  refine congrArg x (idx_ext2 ?_ ?_)
  · show 0 + 1 * (y 0).val = (y 0).val; omega
  · show 0 + 1 * (y 1).val = (y 1).val; omega
theorem canon_r0_0 (w : Vec F S16384x256 .f32) (y : S16384x256.Idx) :
    View.canon (Val := Elt F) [(⟨r0_0, w⟩ : View.Piece (Elt F) S16384x256 .f32)] y = w y := by
  have e : r0_0.emb y = y := idx_ext2 (show 0 + 1 * (y 0).val = (y 0).val by omega) (show 0 + 1 * (y 1).val = (y 1).val by omega)
  conv_lhs => rw [← e]
  exact View.canon_cons_emb r0_0 w [] y

theorem N_one : cfg0.N = 1 := by decide
theorem only (t t' : Fin cfg0.N) : t = t' := by
  have h := lt_of_lt_of_eq t.isLt N_one
  have h' := lt_of_lt_of_eq t'.isLt N_one
  exact Fin.ext (by omega)

abbrev t0 : Fin cfg0.N := ⟨0, by rw [N_one]; exact Nat.one_pos⟩

theorem arr2 (y : S16384x256.Idx) : ((dats m 0 c).arrAt 2 cfg0.N : Vec F S16384x256 .f32) y = k0_pay1 (V m c main_arg0) (V m c main_v17) (V m c main_v17) y := by
  have h := (dats m 0 c).read_blk_arrAt_eq_flushed 2 (fun t t' _ _ hne => absurd (only t t') hne) cfg0.N t0 t0.isLt (by decide)
  have h' := congrFun h y
  have e : ((cfg0.win 2).blk t0).view.emb y = y := idx_ext2 (show 0 * 16384 + 1 * (y 0).val = (y 0).val by omega) (show 0 * 256 + 1 * (y 1).val = (y 1).val by omega)
  have h1 : ((cfg0.win 2).blk t0).view.read (Elt F) ((dats m 0 c).arrAt 2 cfg0.N) y = (dats m 0 c).arrAt 2 cfg0.N (((cfg0.win 2).blk t0).view.emb y) := by
    generalize (dats m 0 c).arrAt 2 cfg0.N = G
    rfl
  have h2 : (dats m 0 c).flushed 2 t0 y = out0_2 (iblk m c 0 t0) (iblk m c 1 t0) y := by
    show (cfg0.win 2).cut (grid0.coords t0) ((dats m 0 c).after 2 t0) y = _
    rw [after0_2]
    rfl
  rw [h1, e, h2] at h'
  rw [h', iblk0, iblk1]
  unfold out0_2
  rw [canon_r0_0, ld_r0_0, ld_r0_0]
end

end Cert.DlogReferenceIdeal.Ref

namespace Cert.DlogIdeal.Val

open Idealize.ShloMosaic Idealize.SL.Sem
open Cert.KernelIdeal.Trip (idx_ext2)

/-- Both runs end with the kernel's logits gradient. -/
theorem algebraic : Cert.algebraic_DlogIdeal_DlogReferenceIdeal := by
  intro m g m' g' hp ha
  refine ⟨fun c (y : Cert.DlogIdeal.S16384x256.Idx) => outS (m ((c.tc : Thread Cert.DlogIdeal.nD Cert.DlogIdeal.τ).loc Cert.DlogIdeal.main_arg0)) (m ((c.tc : Thread Cert.DlogIdeal.nD Cert.DlogIdeal.τ).loc Cert.DlogIdeal.main_arg1))
    (m ((c.tc : Thread Cert.DlogIdeal.nD Cert.DlogIdeal.τ).loc Cert.DlogIdeal.main_arg2)) ((y 0).val / 1024) ((y 0).val % 1024) (y 1).val, ?_, ?_⟩
  · refine (run_value m g).mono ?_
    rintro r ⟨h, -⟩ c
    exact ⟨funext (h c).1, (h c).2⟩
  · refine (Cert.DlogReferenceIdeal.Value.run_blocks m' g').mono ?_
    intro r h c
    obtain ⟨h2, hk⟩ := h c
    obtain ⟨a0, a1, a2⟩ := ha c
    refine ⟨h2.trans (funext fun (y : Cert.DlogIdeal.S16384x256.Idx) => ?_), hk⟩
    have hpre := Cert.DlogReferenceIdeal.Ref.pre_at (hp c)
    have hk : ∀ k : Cert.DlogIdeal.S256x128.Idx, k = ix2 (k 0) (k 1) := fun k => idx_ext2 rfl rfl
    have hy : y = ix2 (y 0) (y 1) := idx_ext2 rfl rfl
    refine (Cert.DlogReferenceIdeal.Ref.arr2 m' c y).trans ?_
    refine Eq.trans ?_ (outS_at _ _ _ (fun k => by rw [hk k]; exact (hpre _ _).1) (fun k => by rw [hk k]; exact (hpre _ _).2.2) (y 0) (y 1)).symm
    conv_lhs => rw [hy]
    refine (Cert.DlogReferenceIdeal.Ref.pay_at _ _ (y 0) (y 1)).trans ?_
    refine congrArg₂ (fun f g => gl f g (y 1)) (funext fun x => ?_) (funext fun x => ?_)
    · exact congrFun ((Cert.DlogReferenceIdeal.Gen.V_main_arg0 m' c).trans a0) (ix2 (y 0) x)
    · have e1 : Cert.DlogReferenceIdeal.Ref.tokV m' c = m ((c.tc : Thread Cert.DlogIdeal.nD Cert.DlogIdeal.τ).loc Cert.DlogIdeal.main_arg1) := a1
      have e2 : Cert.DlogReferenceIdeal.Ref.dscV m' c = m ((c.tc : Thread Cert.DlogIdeal.nD Cert.DlogIdeal.τ).loc Cert.DlogIdeal.main_arg2) := a2
      refine (Cert.DlogReferenceIdeal.Ref.table_at m' c (fun k => ?_) (fun e a b h => ?_) (y 0) x).trans ?_
      · rw [e1, hk k]; exact (hpre _ _).1
      · rw [e1] at h; exact (hpre e a).2.1 b h
      · rw [e1, e2]

end Cert.DlogIdeal.Val
-- ==== Proof.AmaxOwn.lean ====
/-
The row maxima kernel: loads and stores at the head of a program, over memrefs owned at named contents.
-/
module

public import proofs.«01_k».proof.Proof.Blocks
public import proofs.«01_k».proof.Proof.Gen.AmaxIdeal
public import Idealize.ShloMosaic.Lib.MemrefSat
public import Idealize.ShloMosaic.Lib.Pipeline.Frame

@[expose] public section

noncomputable section

namespace Cert.AmaxIdeal.Val

open Idealize.ShloMosaic Idealize.SL.Sem Cert.AmaxIdeal Cert.AmaxIdeal.Gen
open Idealize.ShloMosaic.TcCoe
open Idealize.SL Idealize.SL.RA Idealize.SL.BI
open scoped Idealize.SL.BI
open Idealize.SL.BI.BIBase Idealize.SL.BI.Laws Idealize.SL.ProofMode
open Cert.KernelIdeal.Trip (StoredAt)

variable {F : FTy → Type} [FloatOps F]

local notation "𝕄" => MT nD τ sig Unit (Elt F) ℕ (UR sig nD τ) ℕ

variable (c : Dev nD)

/-- The weakest precondition of a program of the kernel's core. -/
abbrev wpK (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The programs the body is made of. -/
abbrev PR (F : FTy → Type) [FloatOps F] : Type 1 := Prog (TpuEff nD τ sig (Elt F) Λ₀ .tc) PUnit

theorem wpK_ret {α : Type} {a : α} {P : sProp 𝕄} {Q : α → sProp 𝕄} (h : P ⊢ Q a) : P ⊢ wpK (F := F) c (.ret a) Q := by
  unfold wpK
  rw [wp_ret]
  iintro H
  imodintro
  iapply h
  iexact H

theorem ld {α : Type} {Q : α → sProp 𝕄} {sp : CoreSpace} {s : Shape} {e : EltTy} {m : Memref sig .tc sp s e} {r : LoadRect s} {hl : m.view.LoadsAt r}
    {k : (r.shape.Idx → Elt F e) → Prog (TpuEff nD τ sig (Elt F) Λ₀ .tc) α} {q : PosShare TreeShare} {X : s.Idx → Elt F e} :
    (owns (c : Thread nD τ) m q X : sProp 𝕄)
      ⊢ iprop((owns (c : Thread nD τ) m q X -∗ wpK (F := F) c (k fun x => X (r.idx x)) Q) -∗ wpK (F := F) c (.op (.load m r hl) k) Q) := by
  have hS : m.view.setOn r.set ⊆ m.view.set := Finset.map_subset_map.mpr (Finset.subset_univ _)
  unfold owns
  iintro ⟨%f, %hf, H⟩ HK
  iapply (wp_load Variants.none (c : Thread nD τ) none Set.univ (m := m) (r := r) hS) $$ H
  iintro H
  have e : m.view.readAt (Elt F) r f = fun x => X (r.idx x) := by funext x; rw [View.readAt_apply, hf]
  rw [e]
  iapply HK
  iexists f
  isplitr
  · ipureintro; exact hf
  · iexact H

theorem st {α : Type} {Q : α → sProp 𝕄} {sp : CoreSpace} {s : Shape} {e : EltTy} {m : Memref sig .tc sp s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} {X : s.Idx → Elt F e} :
    (owns (c : Thread nD τ) m fullShare X : sProp 𝕄)
      ⊢ iprop((∀ X', ⌜StoredAt r w X X'⌝ -∗ owns (c : Thread nD τ) m fullShare X' -∗ wpK c (k ⟨⟩) Q)
          -∗ wpK c (.op (.store m r w Finset.univ hx hm) k) Q) := by
  unfold owns
  iintro ⟨%f, %hf, H⟩ HK
  iapply (wp_store Variants.none (c : Thread nD τ) none Set.univ (m := m) (r := r) (Mk := Finset.univ) (Memref.setOn_access_subset m r _)) $$ H
  iintro H
  iapply HK
  rotate_left
  · iexists ((m.access r).write (Elt F) f w Finset.univ)
    isplitr
    · ipureintro; rfl
    · iexact H
  · ipureintro
    refine ⟨fun x => View.read_slice_write_emb _ _ _ (Finset.mem_univ _), fun y hy => ?_⟩
    rw [← hf]
    exact View.read_slice_write_of_not_mem _ _ _ _ (by rwa [Rect.map_emb_univ])

end Cert.AmaxIdeal.Val
-- ==== Proof.AmaxBody.lean ====
/-
The row maxima kernel's body at one grid point: a trip takes 128 rows of the block, in four groups of 32, each
group's 56 chunks of 128 columns folded by the maximum of absolute values, and writes one row of the result.
-/
module

public import proofs.«01_k».proof.Proof.AmaxOwn
public import proofs.«01_k».proof.Proof.Gen.AmaxIdeal.Skeleton

@[expose] public section

noncomputable section

namespace Cert.AmaxIdeal.Val

open Idealize.ShloMosaic Idealize.SL.Sem Cert.AmaxIdeal Cert.AmaxIdeal.Gen
open Idealize.ShloMosaic.TcCoe
open Idealize.SL Idealize.SL.RA Idealize.SL.BI
open scoped Idealize.SL.BI
open Idealize.SL.BI.BIBase Idealize.SL.BI.Laws Idealize.SL.ProofMode
open Cert.KernelIdeal.Trip (StoredAt nix idx_ext2 nix_0 nix_1 stored_unit)

variable {F : FTy → Type} [FloatOps F]

local notation "𝕄" => MT nD τ sig Unit (Elt F) ℕ (UR sig nD τ) ℕ

/-! ## The offsets -/

/-- Where trip `t` reads chunk `j` of its row group `q`. -/
def offA (t : Fin k0_t1_loop.trips) (q : Fin 4) (j : ℕ) : Fin 2 → ℕ :=
  ![(Scalar.indexCast (Scalar.addi (Scalar.muli (Scf.iv 0#32 1#32 t) 128#32) (BitVec.ofNat 32 (32 * q.val))) : Index).toNat, 128 * j]

theorem offA_0 (t : Fin k0_t1_loop.trips) (q : Fin 4) (j : ℕ) : offA t q j 0 = 128 * t.val + 32 * q.val := congrFun (k0_off1_eq t q) 0
theorem offA_1 (t : Fin k0_t1_loop.trips) (q : Fin 4) (j : ℕ) : offA t q j 1 = 128 * j := rfl

theorem offA_inb (t : Fin k0_t1_loop.trips) (q : Fin 4) (j : ℕ) (h : j < 56) (a) : offA t q j a + S32x128.size a ≤ S1024x7168.size a := by
  have ht : t.val < 8 := t.isLt
  have hq := q.isLt
  match a with
  | ⟨0, _⟩ => show offA t q j 0 + 32 ≤ 1024; rw [offA_0]; omega
  | ⟨1, _⟩ => show offA t q j 1 + 128 ≤ 7168; rw [offA_1]; omega

/-! ## The trip, as a program -/

section Parts

variable (arg1 : Memref sig .tc .vmem S1024x7168 .fp8e5m2) (arg2 : Memref sig .tc .vmem S8x128 .f32)

/-- One chunk's absolute values. -/
def absV (v : Vec F S32x128 .fp8e5m2) : FVec F S32x128 .bf16 := absf (extf .bf16 v bitsLt_fp8e5m2_bf16)

/-- `n` chunks from chunk `j` on, folded into `a`. -/
def ldMax (t : Fin k0_t1_loop.trips) (q : Fin 4) : (n j : ℕ) → j + n ≤ 56 → FVec F S32x128 .bf16 → (FVec F S32x128 .bf16 → PR F) → PR F
  | 0, _, _, a, κ => κ a
  | n + 1, j, h, a, κ =>
    .op (.load arg1 (Rect.unit (s := S1024x7168) (offA t q j) S32x128.size (offA_inb t q j (by omega))).toLoadRect (View.loadsAt_vmem h_S32x128)) fun v =>
      ldMax t q n (j + 1) (by omega) (maximumf a (absV v)) κ

/-- One group of 32 rows: the first chunk, then the other 55 folded in. -/
def group (t : Fin k0_t1_loop.trips) (q : Fin 4) (κ : FVec F S32x128 .bf16 → PR F) : PR F :=
  .op (.load arg1 (Rect.unit (s := S1024x7168) (offA t q 0) S32x128.size (offA_inb t q 0 (by decide))).toLoadRect (View.loadsAt_vmem h_S32x128)) fun v =>
    ldMax arg1 t q 55 1 (by decide) (absV v) κ

/-- The row of the result from the four groups' lane-wise maxima. -/
def rowW (a b c d : FVec F S32x128 .bf16) : FVec F S1x128 .f32 :=
  shapeCast S1x128 (multiReduction .maximumf [0] S128
    (transpose S128x128 [1, 0]
      (concatenate S128x128 0 [⟨S32x128, extf .f32 a bitsLt_bf16_f32⟩, ⟨S32x128, extf .f32 b bitsLt_bf16_f32⟩, ⟨S32x128, extf .f32 c bitsLt_bf16_f32⟩, ⟨S32x128, extf .f32 d bitsLt_bf16_f32⟩]
        concatenates_S32x128_S32x128_S32x128_S32x128_S128x128_d0)
      transposes_S128x128_p1_0_S128x128)
    0xFF800000#32 reduces_S128x128_S128 (.inl rfl) rfl) shapeCasts_S128_S1x128

/-- One trip. -/
def trip (t : Fin k0_t1_loop.trips) (κ : PR F) : PR F :=
  group arg1 t 0 fun a => group arg1 t 1 fun b => group arg1 t 2 fun c => group arg1 t 3 fun d =>
  .op (.load arg2 (Rect.unit (s := S8x128) (k0_off57 t) S1x128.size (k0_off57_inb t)).toLoadRect (View.loadsAt_vmem h_S1x128)) fun _ =>
  .op (.store arg2 (Rect.unit (s := S8x128) (k0_off57 t) S1x128.size (k0_off57_inb t)) (rowW a b c d) Finset.univ (View.stores_vmem_bits_univ h_S1x128 rfl) (.inl rfl)) fun _ => κ

variable (i : grid0.Coords) (harg1 : arg1.IsWhole) (harg2 : arg2.IsWhole)

theorem body_eq : cc0__amax_body (F := F) i arg1 harg1 arg2 harg2
    = Scf.Loop.for k0_t1_loop k0_t1_ok (⟨⟩ : PUnit) (fun t _ => trip arg1 arg2 t (.ret ⟨⟩)) >>= fun _ => .ret ⟨⟩ := by
  chain_rfl

end Parts

/-! ## What it computes -/

abbrev ax (i j : ℕ) : S1024x7168.Idx := nix S1024x7168 rfl (by decide) i j
abbrev rx (j : ℕ) : S1x128.Idx := nix S1x128 rfl (by decide) 0 j

/-- Chunk `j` of the 32 rows from row `r` on. -/
def chunk (X : Vec F S1024x7168 .fp8e5m2) (r j : ℕ) : Vec F S32x128 .fp8e5m2 := fun x => X (ax (r + (x 0).val) (128 * j + (x 1).val))

/-- `n` chunks from chunk `j` on, folded into `a`. -/
def maxC (X : Vec F S1024x7168 .fp8e5m2) (r : ℕ) : ℕ → ℕ → FVec F S32x128 .bf16 → FVec F S32x128 .bf16
  | 0, _, a => a
  | n + 1, j, a => maxC X r n (j + 1) (maximumf a (absV (chunk X r j)))

/-- The lane-wise maxima of the 32 rows from row `r` on. -/
def maxG (X : Vec F S1024x7168 .fp8e5m2) (r : ℕ) : FVec F S32x128 .bf16 := maxC X r 55 1 (absV (chunk X r 0))

/-- Row `k` of the block's result. -/
def rowV (X : Vec F S1024x7168 .fp8e5m2) (k : ℕ) : FVec F S1x128 .f32 :=
  rowW (maxG X (128 * k)) (maxG X (128 * k + 32)) (maxG X (128 * k + 64)) (maxG X (128 * k + 96))

theorem chunk_eq (X : Vec F S1024x7168 .fp8e5m2) (t : Fin k0_t1_loop.trips) (q : Fin 4) (j : ℕ) (h : j < 56) (inb) :
    (fun x => X ((Rect.unit (s := S1024x7168) (offA t q j) S32x128.size inb).idx x)) = chunk X (128 * t.val + 32 * q.val) j := by
  funext x
  have ht : t.val < 8 := t.isLt
  have hq := q.isLt
  have x0 : (x 0).val < 32 := (x 0).isLt
  have x1 : (x 1).val < 128 := (x 1).isLt
  unfold chunk
  congr 1
  refine idx_ext2 (a := 1024) (b := 7168) ?_ ?_
  · show offA t q j 0 + 1 * (x 0).val = _
    rw [nix_0 (a := 1024) (b := 7168) _ _ _ (by omega), offA_0]; omega
  · show offA t q j 1 + 1 * (x 1).val = _
    rw [nix_1 (a := 1024) (b := 7168) _ _ _ (by omega), offA_1]; omega

/-- The first `n` rows are written. -/
def Rows (X : Vec F S1024x7168 .fp8e5m2) (n : ℕ) (E : Vec F S8x128 .f32) : Prop :=
  ∀ z : S8x128.Idx, (z 0).val < n → E z = rowV X (z 0).val (rx (z 1).val)

theorem rows_step {X : Vec F S1024x7168 .fp8e5m2} {t : Fin k0_t1_loop.trips} {inb} {E E' : Vec F S8x128 .f32} (hE : Rows X t.val E)
    (hS : StoredAt (Rect.unit (s := S8x128) (k0_off57 t) S1x128.size inb) (rowV X t.val) E E') : Rows X (t.val + 1) E' := by
  intro z hz
  have e0 : k0_off57 t 0 = t.val := by
    have h : ∀ a : Fin 8, (Scalar.indexCast (Scf.iv 0#32 1#32 a) : Index).toNat = a.val := by decide +kernel
    exact h t
  have e1 : k0_off57 t 1 = 0 := rfl
  have z1 : (z 1).val < 128 := (z 1).isLt
  rcases stored_unit hS z with ⟨x, hx, e⟩ | ⟨hn, e⟩
  · have h0 : (z 0).val = k0_off57 t 0 + (x 0).val := hx 0
    have h1 : (z 1).val = k0_off57 t 1 + (x 1).val := hx 1
    have x0 : (x 0).val < 1 := (x 0).isLt
    rw [e0] at h0
    rw [e1] at h1
    rw [e, show (z 0).val = t.val by omega]
    congr 1
    refine idx_ext2 (a := 1) (b := 128) ?_ ?_
    · rw [nix_0 (a := 1) (b := 128) _ _ _ (by decide)]; show (x 0).val = _; omega
    · rw [nix_1 (a := 1) (b := 128) _ _ _ z1]; show (x 1).val = _; omega
  · rw [e]
    refine hE z ?_
    by_contra hlt
    refine hn fun a => ?_
    match a with
    | ⟨0, _⟩ => exact ⟨(show k0_off57 t 0 ≤ (z 0).val by omega), (show (z 0).val < k0_off57 t 0 + 1 by omega)⟩
    | ⟨1, _⟩ => exact ⟨(show k0_off57 t 1 ≤ (z 1).val by omega), (show (z 1).val < k0_off57 t 1 + 128 by omega)⟩

section Wp

variable (c : Dev nD) (i : grid0.Coords) (arg1 : Memref sig .tc .vmem S1024x7168 .fp8e5m2) (harg1 : arg1.IsWhole) (arg2 : Memref sig .tc .vmem S8x128 .f32) (harg2 : arg2.IsWhole)
  (q1 : PosShare TreeShare) (X : Vec F S1024x7168 .fp8e5m2)

theorem wp_ldMax {Q : PUnit → sProp 𝕄} (t : Fin k0_t1_loop.trips) (q : Fin 4) (κ : FVec F S32x128 .bf16 → PR F) :
    ∀ (n j : ℕ) (h : j + n ≤ 56) (a : FVec F S32x128 .bf16),
      (owns (c : Thread nD τ) arg1 q1 X : sProp 𝕄)
        ⊢ iprop((owns (c : Thread nD τ) arg1 q1 X -∗ wpK (F := F) c (κ (maxC X (128 * t.val + 32 * q.val) n j a)) Q) -∗ wpK (F := F) c (ldMax arg1 t q n j h a κ) Q)
  | 0, _, _, _ => by
    unfold ldMax maxC
    iintro H HK
    iapply HK
    iexact H
  | n + 1, j, h, a => by
    have ih := wp_ldMax (Q := Q) t q κ n (j + 1) (by omega) (maximumf a (absV (chunk X (128 * t.val + 32 * q.val) j)))
    unfold ldMax maxC
    iintro H HK
    iapply (ld c) $$ H
    iintro H
    rw [chunk_eq X t q j (by omega)]
    iapply ih $$ H
    iexact HK

theorem wp_group {Q : PUnit → sProp 𝕄} (t : Fin k0_t1_loop.trips) (q : Fin 4) (κ : FVec F S32x128 .bf16 → PR F) :
    (owns (c : Thread nD τ) arg1 q1 X : sProp 𝕄)
      ⊢ iprop((owns (c : Thread nD τ) arg1 q1 X -∗ wpK (F := F) c (κ (maxG X (128 * t.val + 32 * q.val))) Q) -∗ wpK (F := F) c (group arg1 t q κ) Q) := by
  unfold group maxG
  iintro H HK
  iapply (ld c) $$ H
  iintro H
  rw [chunk_eq X t q 0 (by decide)]
  iapply (wp_ldMax c arg1 q1 X t q κ 55 1 (Nat.le_refl 56) _) $$ H
  iexact HK

theorem wp_trip (t : Fin k0_t1_loop.trips) :
    iprop(owns (c : Thread nD τ) arg1 q1 X ∗ (∃ E, ⌜Rows X t.val E⌝ ∗ owns (c : Thread nD τ) arg2 fullShare E))
      ⊢ wpK (F := F) c (trip arg1 arg2 t (.ret ⟨⟩)) fun _ =>
        iprop(owns (c : Thread nD τ) arg1 q1 X ∗ (∃ E, ⌜Rows X (t.val + 1) E⌝ ∗ owns (c : Thread nD τ) arg2 fullShare E)) := by
  unfold trip
  iintro ⟨H1, ⟨%E, %hE, H2⟩⟩
  iapply (wp_group c arg1 q1 X t 0 _) $$ H1
  iintro H1
  iapply (wp_group c arg1 q1 X t 1 _) $$ H1
  iintro H1
  iapply (wp_group c arg1 q1 X t 2 _) $$ H1
  iintro H1
  iapply (wp_group c arg1 q1 X t 3 _) $$ H1
  iintro H1
  iapply (ld c) $$ H2
  iintro H2
  iapply (st c) $$ H2
  iintro %E' %hE' H2
  iapply (wpK_ret c .rfl)
  iframe H1
  iexists E'
  iframe H2
  ipureintro
  exact rows_step hE hE'

theorem wp_body (E : Vec F S8x128 .f32) :
    iprop(owns (c : Thread nD τ) arg1 q1 X ∗ owns (c : Thread nD τ) arg2 fullShare E)
      ⊢ wpK (F := F) c (cc0__amax_body i arg1 harg1 arg2 harg2) fun _ =>
        iprop(owns (c : Thread nD τ) arg1 q1 X ∗ (∃ E', ⌜Rows X 8 E'⌝ ∗ owns (c : Thread nD τ) arg2 fullShare E')) := by
  rw [body_eq]
  have key := Scf.wp_for_bind (M := 𝕄) frame (wpE (defs₀ (F := F)) Variants.none (c : Thread nD τ) none) Set.univ
    k0_t1_loop.lb k0_t1_loop.ub k0_t1_loop.st k0_t1_ok (⟨⟩ : PUnit) (fun t _ => trip (F := F) arg1 arg2 t (.ret ⟨⟩))
    (fun n _ => iprop(owns (c : Thread nD τ) arg1 q1 X ∗ (∃ E, ⌜Rows X n E⌝ ∗ owns (c : Thread nD τ) arg2 fullShare E)))
    (fun t _ => wp_trip c arg1 arg2 q1 X t) (kk := fun _ => (.ret ⟨⟩ : PR F))
    (Q := fun _ => iprop(owns (c : Thread nD τ) arg1 q1 X ∗ (∃ E', ⌜Rows X 8 E'⌝ ∗ owns (c : Thread nD τ) arg2 fullShare E')))
  iintro ⟨H1, H2⟩
  iapply key $$ [H1 H2]
  · iframe H1
    iexists E
    iframe H2
    ipureintro
    exact fun z h => absurd h (Nat.not_lt_zero _)
  · iintro %acc H
    iapply (wpK_ret c .rfl)
    iexact H

end Wp

end Cert.AmaxIdeal.Val
-- ==== Proof.AmaxPipe.lean ====
/-
The row maxima kernel's launch: what each point finds in its windows' buffers and leaves there, and what the result
holds after the run; and the kernel's two frames, one statement read at either floats.
-/
module

public import proofs.«01_k».proof.Proof.AmaxBody
public import proofs.«01_k».proof.Proof.Gen.AmaxIdeal.Launch
public import proofs.«01_k».proof.Proof.Gen.Amax
public import proofs.«01_k».proof.Defs
public import Idealize.ShloMosaic.Lib.Pipeline.Frame
public import Idealize.ShloMosaic.Lib.Pipeline.ValueKit.Geometry
public import Idealize.ShloMosaic.Lib.Pipeline.ArrRel

@[expose] public section

noncomputable section

namespace Cert.AmaxIdeal.Val

open Idealize.ShloMosaic Idealize.SL.Sem Cert.AmaxIdeal Cert.AmaxIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (RDat)
open Cert.KernelIdeal.Trip (nix idx_ext2 nix_0 nix_1)

variable {F : FTy → Type} [FloatOps F]
local notation "𝕄" => MT nD τ sig Unit (Elt F) ℕ (UR sig nD τ) ℕ

/-- The buffers' contents on one core. -/
abbrev Bufs (F : FTy → Type) (c : Dev nD) : Type := (b : Ref sig .tc) → Buf (Elt F) ((c : Thread nD τ).loc b)

abbrev yx (i j : ℕ) : S16384x7168.Idx := nix S16384x7168 rfl (by decide) i j

/-- Block `b` of 1024 rows. -/
def blkX (X : Vec F S16384x7168 .fp8e5m2) (b : ℕ) : Vec F S1024x7168 .fp8e5m2 := fun x => X (yx (1024 * b + (x 0).val) (x 1).val)

theorem coord0 (t : Fin grid0.N) : (grid0.coords t 0).val = t.val := by
  have : t.val < 16 := lt_of_lt_of_eq t.isLt N_0
  show t.val / grid0.stride 0 % 16 = _
  rw [show grid0.stride 0 = 1 from by decide]
  omega

theorem index0 (i : grid0.Coords) : cc0_transform_0 i = ![(i 0).val, 0] := by
  have h0 : ∀ a : Fin 16, (BitVec.ofNat 32 a.val).toNat = a.val := by decide +kernel
  exact congrArg (fun x => ![x, 0]) (h0 (i 0))
theorem index1 (i : grid0.Coords) : cc0_transform_1 i = ![(i 0).val, 0] := index0 i

variable {c : Dev nD} (V : Bufs F c)

/-- What a point leaves in the result's block. -/
def Out1 (i : grid0.Coords) (E : Vec F S8x128 .f32) : Prop := Rows (blkX (V main_arg0) (i 0).val) 8 E

/-- The proof data: the arrays, what each point leaves, the invariant. -/
def rdat : RDat τ (Elt F) Unit ℕ (UR sig nD τ) ℕ cfg0 c where
  A w := V (Pipeline.arrRef cfg0.spec w)
  after := fun
    | 0 => fun _ Y X => X = Y
    | 1 => fun t _ X => Out1 V (grid0.coords t) X
    | ⟨_ + 2, h⟩ => absurd h (Nat.not_lt.2 (Nat.le_add_left _ _))
  Φ _ := Pipeline.ΦA spec0 c
  q _ := fullShare
  owed _ := 0

theorem N_V : cfg0.N = 16 := N_0

theorem found0 (t : Fin cfg0.N) (Y) (h : (rdat V).Finds 0 t Y) : (Y : Vec F S1024x7168 .fp8e5m2) = blkX (V main_arg0) (grid0.coords t 0).val := by
  funext x
  have h0 : ((grid0.coords t) 0).val < 16 := ((grid0.coords t) 0).isLt
  have x0 : (x 0).val < 1024 := (x 0).isLt
  have x1 : (x 1).val < 7168 := (x 1).isLt
  obtain ⟨d, hd⟩ := (rdat V).finds_in_eq_fetched 0 rfl (fun _ _ _ => rfl) (fun _ _ _ h => h) t Y h
  subst hd
  show V main_arg0 _ = V main_arg0 _
  congr 1
  refine idx_ext2 (a := 16384) (b := 7168) ?_ ?_
  · show cc0_transform_0 (grid0.coords t) 0 * 1024 + 1 * (x 0).val = _
    rw [nix_0 (a := 16384) (b := 7168) _ _ _ (by omega), index0]
    show ((grid0.coords t) 0).val * 1024 + 1 * (x 0).val = _
    omega
  · show cc0_transform_0 (grid0.coords t) 1 * 7168 + 1 * (x 1).val = _
    rw [nix_1 (a := 16384) (b := 7168) _ _ _ (by omega), index0]
    show 0 * 7168 + 1 * (x 1).val = _
    omega

/-! ## The body's obligation -/

theorem defs₀_row (t : Fin cfg0.N) (s : (w : Fin 2) → Fin (spec0 w).nbuf) : defs₀ (F := F) .tc cfg0.body (cfg0.bodyArgs t s)
    = cc0__amax_body (grid0.coords t) (win0_0.stage (s 0)) (hstage0_0 ((s 0).cast nbuf0_0)) (win0_1.stage (s 1)) (hstage0_1 ((s 1).cast nbuf0_1)) := by
  unfold defs₀; rw [Defs.onTc_tc]

/-- The body at a point, its operands and the invariant in and out. -/
theorem sound_body (t : Fin grid0.N) (s : (w : Fin 2) → Fin (spec0 w).nbuf) (HI HO : sProp 𝕄)
    (Y : Vec F S1024x7168 .fp8e5m2) (E0 : Vec F S8x128 .f32) (hY : Y = blkX (V main_arg0) (grid0.coords t 0).val) :
    iprop(HI ∗ HO ∗ owns (c : Thread nD τ) (win0_0.stage (s 0)) fullShare Y ∗ owns (c : Thread nD τ) (win0_1.stage (s 1)) fullShare E0)
      ⊢ wpK c (cc0__amax_body (grid0.coords t) (win0_0.stage (s 0)) (hstage0_0 ((s 0).cast nbuf0_0)) (win0_1.stage (s 1)) (hstage0_1 ((s 1).cast nbuf0_1))) fun _ =>
      iprop(HI ∗ HO ∗ (∃ X, ⌜X = Y⌝ ∗ owns (c : Thread nD τ) (win0_0.stage (s 0)) fullShare X)
        ∗ (∃ X, ⌜Out1 V (grid0.coords t) X⌝ ∗ owns (c : Thread nD τ) (win0_1.stage (s 1)) fullShare X)) := by
  subst hY
  iintro ⟨HI, HO, H1, H2⟩
  iapply (wp_wand_r (Q := fun _ => iprop(owns (c : Thread nD τ) (win0_0.stage (s 0)) fullShare (blkX (V main_arg0) (grid0.coords t 0).val)
        ∗ (∃ E', ⌜Rows (blkX (V main_arg0) (grid0.coords t 0).val) 8 E'⌝ ∗ owns (c : Thread nD τ) (win0_1.stage (s 1)) fullShare E'))) frame _ _)
  isplitl [H1 H2]
  · iapply (wp_body c (grid0.coords t) _ _ _ _ fullShare (blkX (V main_arg0) (grid0.coords t 0).val) E0) $$ [H1 H2]
    iframe H1 H2
  iintro %_ ⟨H1, H2⟩
  iframe HI HO
  isplitl [H1]; · iexists _; iframe H1; ipureintro; rfl
  iexact H2

theorem body_obligation : (rdat V).BodyObligation (defs₀ (F := F)) Variants.none () Set.univ := by
  intro t Y hY
  rw [bigSep_W0, bigSep_W0, defs₀_row]
  exact sound_body V t _ (Pipeline.ΦA spec0 c) ((rdat V).owesAt () t.castSucc) (Y 0) (Y 1) (found0 V t _ (hY 0))

/-! ## The result after the run -/

theorem flush1 (t : Fin cfg0.N) : (cfg0.win 1).flush t = true := by
  have hN : cfg0.grid.N = 16 := N_0
  have ht : t.val < 16 := lt_of_lt_of_eq t.isLt N_0
  rw [Pipeline.Window.flush, Bool.and_eq_true, Bool.or_eq_true, decide_eq_true_iff, decide_eq_true_iff]
  refine ⟨rfl, ?_⟩
  by_cases h2 : t.val + 1 = cfg0.N
  · exact Or.inl h2
  · have h1 : t.val + 1 < cfg0.N := by
      have hN' : cfg0.N = 16 := N_0
      omega
    refine Or.inr ⟨h1, fun e => ?_⟩
    have e : cc0_transform_1 (grid0.coords ⟨t.val + 1, h1⟩) = cc0_transform_1 (grid0.coords t) := e
    rw [index1, index1, coord0, coord0] at e
    have e : t.val + 1 = t.val := congrFun e 0
    omega

/-- The result at an entry: row `r` of the result is of rows `128 r` and on. -/
def outS (X : Vec F S16384x7168 .fp8e5m2) (r j : ℕ) : Elt F .f32 := rowV (blkX X (r / 8)) (r % 8) (rx j)

/-- The rows written by the points before `n`. -/
def Done1 (n : ℕ) (G : Vec F S128x128 .f32) : Prop :=
  ∀ y : S128x128.Idx, (y 0).val / 8 < n → G y = outS (V main_arg0) (y 0).val (y 1).val

theorem done1 : ∀ n, n ≤ 16 → ∀ G, (rdat V).ArrAt 1 n G → Done1 V n G
  | 0, _, G, _ => fun y h => absurd h (Nat.not_lt_zero _)
  | n + 1, hn, G, hG => by
    have hlt : n < cfg0.N := by rw [N_V]; omega
    have e0 : (grid0.coords ⟨n, hlt⟩ 0).val = n := coord0 ⟨n, hlt⟩
    rw [(rdat V).ArrAt_succ 1 ⟨n, hlt⟩, if_pos (flush1 _)] at hG
    obtain ⟨G₀, X, hG₀, ⟨Y, -, hX⟩, rfl⟩ := hG
    have hX : Out1 V (grid0.coords ⟨n, hlt⟩) X := hX
    have ih := done1 n (by omega) G₀ hG₀
    have i0 : cc0_transform_1 (grid0.coords ⟨n, hlt⟩) 0 = n := by rw [index1, e0]; rfl
    have i1 : cc0_transform_1 (grid0.coords ⟨n, hlt⟩) 1 = 0 := by rw [index1]; rfl
    intro y hy
    have y0 : (y 0).val < 128 := (y 0).isLt
    have y1 : (y 1).val < 128 := (y 1).isLt
    by_cases hu : (y 0).val / 8 = n
    · have hy' : y = ((cfg0.win 1).blk ⟨n, hlt⟩).view.emb (nix S8x128 rfl (by decide) ((y 0).val % 8) (y 1).val) := by
        refine idx_ext2 (a := 128) (b := 128) ?_ ?_
        · show _ = cc0_transform_1 (grid0.coords ⟨n, hlt⟩) 0 * 8 + 1 * (((y 0).val % 8) % 8)
          rw [i0]; omega
        · show _ = cc0_transform_1 (grid0.coords ⟨n, hlt⟩) 1 * 128 + 1 * ((y 1).val % 128)
          rw [i1]; omega
      have hw := View.write_emb_of_mem (Val := Elt F) (v := ((cfg0.win 1).blk ⟨n, hlt⟩).view) G₀ ((cfg0.win 1).cut (grid0.coords ⟨n, hlt⟩) X)
        (Finset.mem_univ (nix S8x128 rfl (by decide) ((y 0).val % 8) (y 1).val))
      rw [← hy'] at hw
      have z0 := nix_0 (a := 8) (b := 128) (by decide) ((y 0).val % 8) (y 1).val (Nat.mod_lt _ (by decide))
      have z1 := nix_1 (a := 8) (b := 128) (by decide) ((y 0).val % 8) (y 1).val y1
      refine hw.trans ((hX (nix S8x128 rfl (by decide) ((y 0).val % 8) (y 1).val) (lt_of_eq_of_lt z0 (Nat.mod_lt _ (by decide)))).trans ?_)
      unfold outS
      rw [e0, z0, z1, hu]
    · have hw := View.write_of_not_mem (Val := Elt F) (v := ((cfg0.win 1).blk ⟨n, hlt⟩).view) G₀ ((cfg0.win 1).cut (grid0.coords ⟨n, hlt⟩) X) Finset.univ (i := y) (by
        intro hm
        obtain ⟨x', -, hx⟩ := Finset.mem_map.mp hm
        obtain ⟨x, hxx⟩ : ∃ x : S8x128.Idx, x = x' := ⟨x', rfl⟩
        subst hxx
        have x0 : (x 0).val < 8 := (x 0).isLt
        have q0 : (y 0).val = cc0_transform_1 (grid0.coords ⟨n, hlt⟩) 0 * 8 + 1 * (x 0).val := by rw [← hx]; rfl
        rw [i0] at q0
        omega)
      exact hw.trans (ih y (by omega))

theorem final1 (G) (hG : (rdat V).ArrAt 1 cfg0.N G) (y : S128x128.Idx) : (G : Vec F S128x128 .f32) y = outS (V main_arg0) (y 0).val (y 1).val := by
  have y0 : (y 0).val < 128 := (y 0).isLt
  rw [N_V] at hG
  exact done1 V 16 le_rfl G hG y (by omega)

/-! ## The launch -/

variable (m : (ℓ : Loc nD τ sig) → Buf (Elt F) ℓ) (ρ : Dev nD → PrngReg)

/-- The buffers' contents when the region is entered. -/
abbrev VV (c : Dev nD) : Bufs F c := fun b => m ((c : Thread nD τ).loc b)

set_option backward.isDefEq.respectTransparency.types false in
/-- Every run ends, the arrays as the proof data have them, the counters at zero. -/
theorem run_main :
    θ_run defs (onTc (τ := τ) (main (F := F))) ⟨m, fun _ => 0, ρ⟩
      (fun r => RDat.FramePost cfg0 (fun c => rdat (VV m c)) (VV m) r ∧ r.2.sem = fun _ => 0) :=
  Pipeline.RDat.θ_run_frame_track (Q' := _) cfgs (0 : Fin 1) launch0 defs₀ Variants.none
    (fun c => rdat (VV m c)) m ρ main
    (hbody := fun c => body_obligation (VV m c)) (hshare := fun c w => by unfold RDat.share; split <;> rfl)
    (howed := fun _ _ => rfl) (V := VV m) (hmain := Pipeline.hmain_region cfgs 0 defs₀ Variants.none m main main_chain)
    (hA := fun _ _ => rfl)
    (hin := fun c => .rfl) (hout := fun c => .rfl)
    (hQ' := fun _ h => h)

/-- What the run leaves: the result by its blocks, the argument kept. -/
theorem run_value :
    θ_run (defs (F := F)) (onTc (main (F := F))) ⟨m, fun _ => 0, ρ⟩ (fun r => (∀ c : Dev nD,
      (∀ y : S128x128.Idx, r.2.mem ((c : Thread nD τ).loc main_v0) y = outS (m ((c : Thread nD τ).loc main_arg0)) (y 0).val (y 1).val)
      ∧ r.2.mem ((c : Thread nD τ).loc main_arg0) = m ((c : Thread nD τ).loc main_arg0))
      ∧ r.2.sem = fun _ => 0) := by
  refine (run_main m ρ).mono ?_
  rintro r ⟨h, hs⟩
  exact ⟨fun c => ⟨fun y => final1 (VV m c) _ ((h c).1 1) y, RDat.FramePost.arr_in h c 0 rfl⟩, hs⟩

/-! ## The frames -/

/-- The frame, at either reading of the floats: the run keeps its argument and ends quiescent. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0)

theorem frameAt (F : FTy → Type) [FloatOps F] : FrameAt F := by
  intro m ρ _
  refine (run_value m ρ).mono ?_
  rintro r ⟨h, hs⟩
  exact ⟨fun c => (h c).2, hs⟩

theorem frame_ideal : Cert.quiescent_AmaxIdeal := frameAt Ideal

theorem frame_bits_eq : Cert.quiescent_Amax (hAmax := Cert.Amax.Gen.facts) = FrameAt Bits := by chain_rfl
theorem frame_bits : Cert.quiescent_Amax := frame_bits_eq.mpr (frameAt Bits)

end Cert.AmaxIdeal.Val
-- ==== Proof.AmaxEquation.lean ====
/-
The row maxima kernel against its reference over the extended reals: a bound of the kernel's entry is a bound of the
absolute values of its row, and so is a bound of the reference's entry; so the two are one number.
-/
module

public import proofs.«01_k».proof.Proof.AmaxPipe
public import proofs.«01_k».proof.Proof.Gen.AmaxReferenceIdeal.Value
public import Idealize.ShloMosaic.Lib.Pointwise
public import Idealize.ShloMosaic.Lib.StableHlo.ReadAt

@[expose] public section

noncomputable section

namespace Cert.AmaxIdeal.Val

open Idealize.ShloMosaic Idealize.SL.Sem Cert.AmaxIdeal Cert.AmaxIdeal.Gen
open Idealize.ShloMosaic.TcCoe
open Cert.KernelIdeal.Trip (nix idx_ext2 nix_0 nix_1)

/-! ## The kernel's entry -/

/-- The absolute value of an extended real. -/
def av (x : EReal) : EReal := max x (-x)

theorem absV_at (v : Vec Ideal S32x128 .fp8e5m2) (x : S32x128.Idx) : absV (F := Ideal) v x = av (v x) := rfl

theorem maxC_le (X : Vec Ideal S1024x7168 .fp8e5m2) (r : ℕ) (x : S32x128.Idx) (u : EReal) :
    ∀ (n j : ℕ) (a : Vec Ideal S32x128 .bf16), (maxC X r n j a x : EReal) ≤ u
      ↔ (a x : EReal) ≤ u ∧ ∀ k, j ≤ k → k < j + n → av (X (ax (r + (x 0).val) (128 * k + (x 1).val))) ≤ u
  | 0, j, a => by
    unfold maxC
    exact ⟨fun h => ⟨h, fun k _ _ => by omega⟩, fun h => h.1⟩
  | n + 1, j, a => by
    unfold maxC
    rw [maxC_le X r x u n (j + 1)]
    have e : ((maximumf a (absV (chunk X r j)) : Vec Ideal S32x128 .bf16) x : EReal) = max (a x : EReal) (av (X (ax (r + (x 0).val) (128 * j + (x 1).val)))) := rfl
    rw [e, max_le_iff]
    constructor
    · rintro ⟨⟨ha, hj⟩, hk⟩
      refine ⟨ha, fun k h1 h2 => ?_⟩
      rcases Nat.eq_or_lt_of_le h1 with rfl | h
      · exact hj
      · exact hk k h (by omega)
    · rintro ⟨ha, hk⟩
      exact ⟨⟨ha, hk j le_rfl (by omega)⟩, fun k h1 h2 => hk k (by omega) (by omega)⟩

theorem maxG_le (X : Vec Ideal S1024x7168 .fp8e5m2) (r : ℕ) (x : S32x128.Idx) (u : EReal) :
    (maxG X r x : EReal) ≤ u ↔ ∀ k < 56, av (X (ax (r + (x 0).val) (128 * k + (x 1).val))) ≤ u := by
  unfold maxG
  rw [maxC_le]
  have e : (absV (chunk X r 0) x : EReal) = av (X (ax (r + (x 0).val) (128 * 0 + (x 1).val))) := rfl
  rw [e]
  constructor
  · rintro ⟨h0, hk⟩ k h
    rcases Nat.eq_zero_or_pos k with rfl | hp
    · exact h0
    · exact hk k hp (by omega)
  · exact fun h => ⟨h 0 (by decide), fun k _ h2 => h k (by omega)⟩

theorem maxG_le' (X : Vec Ideal S1024x7168 .fp8e5m2) (r s : ℕ) (p : Fin 32) (l : Fin 128) (h : r + p.val = s) (u : EReal) :
    (maxG X r (ix2 p l) : EReal) ≤ u ↔ ∀ k < 56, av (X (ax s (128 * k + l.val))) ≤ u := by
  subst h
  exact maxG_le X r (ix2 p l) u

/-- The base of the maxima. -/
abbrev base : EReal := Ideal.ofBits FTy.f32 0xFF800000#32

theorem rowW_at (a b c d : Vec Ideal S32x128 .bf16) (j : Fin 128) : (rowW (F := Ideal) a b c d (ix2 0 j) : EReal)
    = Finset.fold max base (fun x : Fin 128 =>
        if h : j.val < 32 then (a (ix2 ⟨j.val, h⟩ x) : EReal)
        else if h : j.val - 32 < 32 then b (ix2 ⟨j.val - 32, h⟩ x)
        else if h : j.val - 32 - 32 < 32 then c (ix2 ⟨j.val - 32 - 32, h⟩ x) else d (ix2 ⟨j.val - 32 - 32 - 32, by omega⟩ x)) Finset.univ := by
  unfold rowW
  pointwise

theorem rowV_le (X : Vec Ideal S1024x7168 .fp8e5m2) (k : ℕ) (j : Fin 128) (u : EReal) :
    (rowV X k (ix2 0 j) : EReal) ≤ u ↔ base ≤ u ∧ ∀ l : Fin 128, ∀ q < 56, av (X (ax (128 * k + j.val) (128 * q + l.val))) ≤ u := by
  unfold rowV
  rw [rowW_at, Finset.fold_max_le]
  refine and_congr Iff.rfl ⟨fun h l => ?_, fun h l _ => ?_⟩
  · have h := h l (Finset.mem_univ l)
    split at h
    · exact (maxG_le' X _ _ _ _ rfl u).mp h
    split at h
    · exact (maxG_le' X _ _ _ _ (by show 128 * k + 32 + (j.val - 32) = _; omega) u).mp h
    split at h
    · exact (maxG_le' X _ _ _ _ (by show 128 * k + 64 + (j.val - 32 - 32) = _; omega) u).mp h
    · exact (maxG_le' X _ _ _ _ (by show 128 * k + 96 + (j.val - 32 - 32 - 32) = _; omega) u).mp h
  · have h := h l
    split
    · exact (maxG_le' X _ _ _ _ rfl u).mpr h
    split
    · exact (maxG_le' X _ _ _ _ (by show 128 * k + 32 + (j.val - 32) = _; omega) u).mpr h
    split
    · exact (maxG_le' X _ _ _ _ (by show 128 * k + 64 + (j.val - 32 - 32) = _; omega) u).mpr h
    · exact (maxG_le' X _ _ _ _ (by show 128 * k + 96 + (j.val - 32 - 32 - 32) = _; omega) u).mpr h

/-- The kernel's entry is the largest absolute value of its row. -/
theorem outS_at (X : Vec Ideal S16384x7168 .fp8e5m2) (r j : Fin 128) :
    (outS X r.val j.val : EReal) = Finset.fold max base (fun n : Fin 7168 => av (X (yx (128 * r.val + j.val) n.val))) Finset.univ := by
  have hr := r.isLt
  have hj := j.isLt
  have er : rx j.val = ix2 0 j := idx_ext2 (a := 1) (b := 128) rfl (Nat.mod_eq_of_lt hj)
  refine eq_of_forall_ge_iff fun u => ?_
  unfold outS
  rw [er, rowV_le, Finset.fold_max_le]
  have eX : ∀ n < 7168, blkX X (r.val / 8) (ax (128 * (r.val % 8) + j.val) n) = X (yx (128 * r.val + j.val) n) := by
    intro n hn
    unfold blkX
    rw [nix_0 (a := 1024) (b := 7168) _ _ _ (by omega), nix_1 (a := 1024) (b := 7168) _ _ _ hn,
      show 1024 * (r.val / 8) + (128 * (r.val % 8) + j.val) = 128 * r.val + j.val by omega]
  refine and_congr Iff.rfl ⟨fun h n _ => ?_, fun h l q hq => ?_⟩
  · have hn := n.isLt
    have h := h ⟨n.val % 128, Nat.mod_lt _ (by decide)⟩ (n.val / 128) (by omega)
    rw [show 128 * (n.val / 128) + n.val % 128 = n.val by omega, eX _ hn] at h
    exact h
  · have hl := l.isLt
    rw [eX _ (by omega)]
    exact h ⟨128 * q + l.val, by omega⟩ (Finset.mem_univ _)

end Cert.AmaxIdeal.Val

namespace Cert.AmaxReferenceIdeal.Ref

open Cert.AmaxReferenceIdeal Cert.AmaxReferenceIdeal.Gen Idealize.ShloMosaic Idealize.SL.Sem
open Idealize.ShloMosaic.TcCoe
open Cert.KernelIdeal.Trip (idx_ext2)
open Cert.AmaxIdeal.Val (av base yx)

/-! ## The reference's result -/

theorem pay_at (v : Vec Ideal S128x128x7168 .fp8e5m2) (r j : Fin 128) : (k0_pay1 v (ix2 r j) : EReal)
    = Finset.fold max base (fun n : Fin 7168 => av (v (ix3 r j n))) Finset.univ := by
  unfold k0_pay1
  pointwise
  rfl

theorem V_at (m : (ℓ : Loc nD τ sig) → Buf (Elt Ideal) ℓ) (c : Dev nD) (r j : Fin 128) (n : Fin 7168) :
    (V m c main_v0 : Vec Ideal S128x128x7168 .fp8e5m2) (ix3 r j n) = (m ((c : Thread nD τ).loc main_arg0) : Vec Ideal S16384x7168 .fp8e5m2) (yx (128 * r.val + j.val) n.val) := by
  unfold V
  after_reads_at
  refine congrArg (m ((c : Thread nD τ).loc main_arg0) : Vec Ideal S16384x7168 .fp8e5m2) (idx_ext2 ?_ ?_)
  · show r.val * 128 + j.val = (128 * r.val + j.val) % 16384; omega
  · show n.val = n.val % 7168; omega

section
variable {F : FTy → Type} [FloatOps F] [∀ e, Inhabited (Elt F e)]
variable (m : (ℓ : Loc nD τ sig) → Buf (Elt F) ℓ) (c : Dev nD)

theorem idx_ext3 {a b d : ℕ} {x y : (⟨3, ![a, b, d]⟩ : Shape).Idx} (h0 : (x 0).val = (y 0).val) (h1 : (x 1).val = (y 1).val) (h2 : (x 2).val = (y 2).val) : x = y := by
  funext k; apply Fin.ext; fin_cases k
  · exact h0
  · exact h1
  · exact h2

theorem iblk0 (t : Fin cfg0.N) : iblk m c 0 t = (V m c main_v0 : Vec F S128x128x7168 .fp8e5m2) := by
  funext y
  refine congrArg (V m c main_v0 : Vec F S128x128x7168 .fp8e5m2) (idx_ext3 ?_ ?_ ?_)
  · show 0 * 128 + 1 * (y 0).val = _; omega
  · show 0 * 128 + 1 * (y 1).val = _; omega
  · show 0 * 7168 + 1 * (y 2).val = _; omega
theorem ld_r0_0 {e : EltTy} (x : Vec F S128x128x7168 e) : View.ld x r0_0 = x := by
  funext y
  refine congrArg x (idx_ext3 ?_ ?_ ?_)
  · show 0 + 1 * (y 0).val = (y 0).val; omega
  · show 0 + 1 * (y 1).val = (y 1).val; omega
  · show 0 + 1 * (y 2).val = (y 2).val; omega
theorem canon_r0_1 (w : Vec F S128x128 .f32) (y : S128x128.Idx) :
    View.canon (Val := Elt F) [(⟨r0_1, w⟩ : View.Piece (Elt F) S128x128 .f32)] y = w y := by
  have e : r0_1.emb y = y := idx_ext2 (show 0 + 1 * (y 0).val = (y 0).val by omega) (show 0 + 1 * (y 1).val = (y 1).val by omega)
  conv_lhs => rw [← e]
  exact View.canon_cons_emb r0_1 w [] y

abbrev t0 : Fin cfg0.N := ⟨0, by decide⟩

theorem arr1 (y : S128x128.Idx) : ((dats m 0 c).arrAt 1 cfg0.N : Vec F S128x128 .f32) y = k0_pay1 (V m c main_v0) y := by
  have h := Cert.AmaxReferenceIdeal.Value.blocks1 m c t0 (by decide)
  have h' := congrFun h y
  have e : ((cfg0.win 1).blk t0).view.emb y = y := idx_ext2 (show 0 * 128 + 1 * (y 0).val = (y 0).val by omega) (show 0 * 128 + 1 * (y 1).val = (y 1).val by omega)
  have h1 : ((cfg0.win 1).blk t0).view.read (Elt F) ((dats m 0 c).arrAt 1 cfg0.N) y = (dats m 0 c).arrAt 1 cfg0.N (((cfg0.win 1).blk t0).view.emb y) := by
    generalize (dats m 0 c).arrAt 1 cfg0.N = G
    rfl
  have h2 : (dats m 0 c).flushed 1 t0 y = out0_1 (iblk m c 0 t0) y := by
    rw [Cert.AmaxReferenceIdeal.Value.flushed1]
    rfl
  rw [h1, e, h2] at h'
  rw [h', iblk0]
  unfold out0_1
  rw [canon_r0_1, ld_r0_0]
end

end Cert.AmaxReferenceIdeal.Ref

namespace Cert.AmaxIdeal.Val

open Idealize.ShloMosaic Idealize.SL.Sem
open Cert.KernelIdeal.Trip (idx_ext2)

/-- Both runs end with the kernel's row maxima. -/
theorem algebraic : Cert.algebraic_AmaxIdeal_AmaxReferenceIdeal := by
  intro m g m' g' _ ha
  refine ⟨fun c (y : Cert.AmaxIdeal.S128x128.Idx) => outS (m ((c.tc : Thread Cert.AmaxIdeal.nD Cert.AmaxIdeal.τ).loc Cert.AmaxIdeal.main_arg0)) (y 0).val (y 1).val, ?_, ?_⟩
  · refine (run_value m g).mono ?_
    rintro r ⟨h, -⟩ c
    exact ⟨funext (h c).1, (h c).2⟩
  · refine (Cert.AmaxReferenceIdeal.Value.run_blocks m' g').mono ?_
    intro r h c
    obtain ⟨h1, hk⟩ := h c
    refine ⟨h1.trans (funext fun (y : Cert.AmaxIdeal.S128x128.Idx) => ?_), hk⟩
    have hy : y = ix2 (y 0) (y 1) := idx_ext2 rfl rfl
    refine (Cert.AmaxReferenceIdeal.Ref.arr1 m' c y).trans ?_
    refine Eq.trans ?_ (outS_at _ (y 0) (y 1)).symm
    conv_lhs => rw [hy]
    refine (Cert.AmaxReferenceIdeal.Ref.pay_at _ (y 0) (y 1)).trans ?_
    congr 1
    funext n
    exact congrArg av ((Cert.AmaxReferenceIdeal.Ref.V_at m' c (y 0) (y 1) n).trans (congrFun (ha c) _))

end Cert.AmaxIdeal.Val
-- ==== Proof.lean ====
/- The proof of the claims. -/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Frame
public import proofs.«01_k».proof.Proof.Gen.Pre_tokens_in_range
public import proofs.«01_k».proof.Proof.Equation
public import proofs.«01_k».proof.Proof.DlogEquation
public import proofs.«01_k».proof.Proof.AmaxEquation
public import proofs.«01_k».proof.Proof.Gen.Dlog
public import proofs.«01_k».proof.Proof.Gen.DlogIdeal
public import proofs.«01_k».proof.Proof.Gen.DlogIdeal.Launch
public import proofs.«01_k».proof.Proof.Gen.DlogIdeal.Skeleton
public import proofs.«01_k».proof.Proof.Gen.DlogReferenceIdeal
public import proofs.«01_k».proof.Proof.Gen.DlogReferenceIdeal.Value
public import proofs.«01_k».proof.Proof.Gen.Pre_tokens_distinct
public import proofs.«01_k».proof.Proof.Gen.Amax
public import proofs.«01_k».proof.Proof.Gen.AmaxIdeal
public import proofs.«01_k».proof.Proof.Gen.AmaxIdeal.Launch
public import proofs.«01_k».proof.Proof.Gen.AmaxIdeal.Skeleton
public import proofs.«01_k».proof.Proof.Gen.AmaxReferenceIdeal
public import proofs.«01_k».proof.Proof.Gen.AmaxReferenceIdeal.Value

@[expose] public section

noncomputable section

namespace Cert.Proof

open Idealize.ShloMosaic Idealize.SL.Sem Cert.KernelIdeal.Trip

/-- Both runs end with the kernel's two arrays. -/
theorem algebraic : Cert.algebraic_KernelIdeal_ReferenceIdeal := by
  intro m g m' g' hp ha
  have hx : ∀ (c : Dev Cert.KernelIdeal.nD) x, BitVec.toNat (m ((c.tc : Thread Cert.KernelIdeal.nD Cert.KernelIdeal.τ).loc Cert.KernelIdeal.main_arg1) x) < 16384 := fun c x => pre_range (hp c) x
  refine ⟨fun c (y : Cert.KernelIdeal.S32768x7168.Idx) => outS (arrV (VV m c)) ((y 1).val / 1024) (y 0).val ((y 1).val % 1024),
    fun c (y : Cert.KernelIdeal.S256x128.Idx) => dscS (arrV (VV m c)) (y 0).val (y 1).val, ?_, ?_⟩
  · refine (run_value m g hx).mono ?_
    rintro r ⟨h, -⟩ c
    exact ⟨funext (h c).1, funext (h c).2.1, (h c).2.2⟩
  · refine (Cert.ReferenceIdeal.Val.run_arrays m' g').mono ?_
    intro r h c
    obtain ⟨h6, h7, hk⟩ := h c
    obtain ⟨a0, a1, a2, a3, a4, a5, a6⟩ := ha c
    refine ⟨h6.trans (funext fun y => ?_), h7.trans (funext fun y => ?_), hk⟩
    · exact (Cert.ReferenceIdeal.Val.arr6 m' c y).trans (out_match m m' c (hx c) a0 a1 a3 a4 y)
    · exact (Cert.ReferenceIdeal.Val.arr7 m' c y).trans (dsc_match m m' c (hx c) a0 a1 a2 a5 a6 y)

theorem claim : Cert.Claim :=
  ⟨Cert.Kernel.Gen.facts, Cert.KernelIdeal.Gen.facts, Cert.ReferenceIdeal.Gen.facts, Cert.Dlog.Gen.facts, Cert.DlogIdeal.Gen.facts, Cert.DlogReferenceIdeal.Gen.facts,
    Cert.Amax.Gen.facts, Cert.AmaxIdeal.Gen.facts, Cert.AmaxReferenceIdeal.Gen.facts, Cert.Pre_tokens_in_range.Gen.facts, Cert.Pre_tokens_distinct.Gen.facts,
    frame_bits, frame_ideal, fun m ρ _ => Cert.ReferenceIdeal.Gen.frame m ρ,
    Cert.DlogIdeal.Val.frame_bits, Cert.DlogIdeal.Val.frame_ideal, fun m ρ _ => Cert.DlogReferenceIdeal.Gen.frame m ρ,
    Cert.AmaxIdeal.Val.frame_bits, Cert.AmaxIdeal.Val.frame_ideal, fun m ρ _ => Cert.AmaxReferenceIdeal.Gen.frame m ρ,
    trivial, algebraic, trivial, Cert.DlogIdeal.Val.algebraic, trivial, Cert.AmaxIdeal.Val.algebraic⟩

end Cert.Proof

end
